-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdIdeal_out_finite [hPre_out_finite : Cert.Pre_out_finite.Facts] (m : (ℓ : Loc Cert.OutBwdIdeal.nD Cert.OutBwdIdeal.τ Cert.OutBwdIdeal.sig) → Buf (Elt Ideal) ℓ) : Prop :=
  ∀ c : Dev Cert.OutBwdIdeal.nD,
    (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))).1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))).2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))).2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))).2.2.2.1 = (fun _ => 1#1)
    ∧ (Cert.Pre_out_finite.fn (F := Ideal) (m ((c.tc : Thread Cert.OutBwdIdeal.nD Cert.OutBwdIdeal.τ).loc Cert.OutBwdIdeal.main_arg0)) (m ((c.tc : Thread Cert.OutBwdIdeal.nD Cert.OutBwdIdeal.τ).loc Cert.OutBwdIdeal.main_arg1)) (m ((c.tc : Thread Cert.OutBwdIdeal.nD Cert.OutBwdIdeal.τ).loc Cert.OutBwdIdeal.main_arg2)) (m ((c.tc : Thread Cert.OutBwdIdeal.nD Cert.OutBwdIdeal.τ).loc Cert.OutBwdIdeal.main_arg3)) (m ((c.tc : Thread Cert.OutBwdIdeal.nD Cert.OutBwdIdeal.τ).loc Cert.OutBwdIdeal.main_arg4))).2.2.2.2 = (fun _ => 1#1)

def Pre_OutBwdRefIdeal (m : (ℓ : Loc Cert.OutBwdRefIdeal.nD Cert.OutBwdRefIdeal.τ Cert.OutBwdRefIdeal.sig) → Buf (Elt Ideal) ℓ) : Prop :=
  True

def Pre_OutBwdRefIdeal_out_finite [hPre_out_finite : Cert.Pre_out_finite.Facts] (m : (ℓ : Loc Cert.OutBwdRefIdeal.nD Cert.OutBwdRefIdeal.τ Cert.OutBwdRefIdeal.sig) → Buf (Elt Ideal) ℓ) : Prop :=
  ∀ c : Dev Cert.OutBwdRefIdeal.nD,
    (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))).1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))).2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))).2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))).2.2.2.1 = (fun _ => 1#1)
    ∧ (Cert.Pre_out_finite.fn (F := Ideal) (m ((c.tc : Thread Cert.OutBwdRefIdeal.nD Cert.OutBwdRefIdeal.τ).loc Cert.OutBwdRefIdeal.main_arg0)) (m ((c.tc : Thread Cert.OutBwdRefIdeal.nD Cert.OutBwdRefIdeal.τ).loc Cert.OutBwdRefIdeal.main_arg1)) (m ((c.tc : Thread Cert.OutBwdRefIdeal.nD Cert.OutBwdRefIdeal.τ).loc Cert.OutBwdRefIdeal.main_arg2)) (m ((c.tc : Thread Cert.OutBwdRefIdeal.nD Cert.OutBwdRefIdeal.τ).loc Cert.OutBwdRefIdeal.main_arg3)) (m ((c.tc : Thread Cert.OutBwdRefIdeal.nD Cert.OutBwdRefIdeal.τ).loc Cert.OutBwdRefIdeal.main_arg4))).2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_in_finite [hPre_in_finite : Cert.Pre_in_finite.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.1 = (fun _ => 1#1)
    ∧ (Cert.Pre_in_finite.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))).2.2.2 = (fun _ => 1#1)

def Pre_InBwdRefIdeal (m : (ℓ : Loc Cert.InBwdRefIdeal.nD Cert.InBwdRefIdeal.τ Cert.InBwdRefIdeal.sig) → Buf (Elt Ideal) ℓ) : Prop :=
  True

def Pre_InBwdRefIdeal_in_finite [hPre_in_finite : Cert.Pre_in_finite.Facts] (m : (ℓ : Loc Cert.InBwdRefIdeal.nD Cert.InBwdRefIdeal.τ Cert.InBwdRefIdeal.sig) → Buf (Elt Ideal) ℓ) : Prop :=
  ∀ c : Dev Cert.InBwdRefIdeal.nD,
    (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.1 = (fun _ => 1#1)
    ∧ (Cert.Pre_in_finite.fn (F := Ideal) (m ((c.tc : Thread Cert.InBwdRefIdeal.nD Cert.InBwdRefIdeal.τ).loc Cert.InBwdRefIdeal.main_arg0)) (m ((c.tc : Thread Cert.InBwdRefIdeal.nD Cert.InBwdRefIdeal.τ).loc Cert.InBwdRefIdeal.main_arg1)) (m ((c.tc : Thread Cert.InBwdRefIdeal.nD Cert.InBwdRefIdeal.τ).loc Cert.InBwdRefIdeal.main_arg2)) (m ((c.tc : Thread Cert.InBwdRefIdeal.nD Cert.InBwdRefIdeal.τ).loc Cert.InBwdRefIdeal.main_arg3)) (m ((c.tc : Thread Cert.InBwdRefIdeal.nD Cert.InBwdRefIdeal.τ).loc Cert.InBwdRefIdeal.main_arg4))).2.2.2 = (fun _ => 1#1)

def Pre_SwaBwd (m : (ℓ : Loc Cert.SwaBwd.nD Cert.SwaBwd.τ Cert.SwaBwd.sig) → Buf (Elt Bits) ℓ) : Prop :=
  True

def Pre_SwaBwdIdeal (m : (ℓ : Loc Cert.SwaBwdIdeal.nD Cert.SwaBwdIdeal.τ Cert.SwaBwdIdeal.sig) → Buf (Elt Ideal) ℓ) : Prop :=
  True

def Pre_SwaBwdIdeal_swa_finite [hPre_swa_finite : Cert.Pre_swa_finite.Facts] (m : (ℓ : Loc Cert.SwaBwdIdeal.nD Cert.SwaBwdIdeal.τ Cert.SwaBwdIdeal.sig) → Buf (Elt Ideal) ℓ) : Prop :=
  ∀ c : Dev Cert.SwaBwdIdeal.nD,
    (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).2.1 = (fun _ => 1#1)
    ∧ (Cert.Pre_swa_finite.fn (F := Ideal) (m ((c.tc : Thread Cert.SwaBwdIdeal.nD Cert.SwaBwdIdeal.τ).loc Cert.SwaBwdIdeal.main_arg0)) (m ((c.tc : Thread Cert.SwaBwdIdeal.nD Cert.SwaBwdIdeal.τ).loc Cert.SwaBwdIdeal.main_arg1)) (m ((c.tc : Thread Cert.SwaBwdIdeal.nD Cert.SwaBwdIdeal.τ).loc Cert.SwaBwdIdeal.main_arg2))).2.2 = (fun _ => 1#1)

def Pre_SwaBwdRefIdeal (m : (ℓ : Loc Cert.SwaBwdRefIdeal.nD Cert.SwaBwdRefIdeal.τ Cert.SwaBwdRefIdeal.sig) → Buf (Elt Ideal) ℓ) : Prop :=
  True

def Pre_SwaBwdRefIdeal_swa_finite [hPre_swa_finite : Cert.Pre_swa_finite.Facts] (m : (ℓ : Loc Cert.SwaBwdRefIdeal.nD Cert.SwaBwdRefIdeal.τ Cert.SwaBwdRefIdeal.sig) → Buf (Elt Ideal) ℓ) : Prop :=
  ∀ c : Dev Cert.SwaBwdRefIdeal.nD,
    (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2))).1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2))).2.1 = (fun _ => 1#1)
    ∧ (Cert.Pre_swa_finite.fn (F := Ideal) (m ((c.tc : Thread Cert.SwaBwdRefIdeal.nD Cert.SwaBwdRefIdeal.τ).loc Cert.SwaBwdRefIdeal.main_arg0)) (m ((c.tc : Thread Cert.SwaBwdRefIdeal.nD Cert.SwaBwdRefIdeal.τ).loc Cert.SwaBwdRefIdeal.main_arg1)) (m ((c.tc : Thread Cert.SwaBwdRefIdeal.nD Cert.SwaBwdRefIdeal.τ).loc Cert.SwaBwdRefIdeal.main_arg2))).2.2 = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdRefIdeal (m : (ℓ : Loc Cert.LossBwdRefIdeal.nD Cert.LossBwdRefIdeal.τ Cert.LossBwdRefIdeal.sig) → Buf (Elt Ideal) ℓ) : Prop :=
  True

def Pre_SmallUpdate (m : (ℓ : Loc Cert.SmallUpdate.nD Cert.SmallUpdate.τ Cert.SmallUpdate.sig) → Buf (Elt Bits) ℓ) : Prop :=
  True

def Pre_SmallUpdateIdeal (m : (ℓ : Loc Cert.SmallUpdateIdeal.nD Cert.SmallUpdateIdeal.τ Cert.SmallUpdateIdeal.sig) → Buf (Elt Ideal) ℓ) : Prop :=
  True

def Pre_SmallUpdateIdeal_small_finite [hPre_small_finite : Cert.Pre_small_finite.Facts] (m : (ℓ : Loc Cert.SmallUpdateIdeal.nD Cert.SmallUpdateIdeal.τ Cert.SmallUpdateIdeal.sig) → Buf (Elt Ideal) ℓ) : Prop :=
  ∀ c : Dev Cert.SmallUpdateIdeal.nD,
    (Cert.Pre_small_finite.fn (F := Ideal) (m ((c.tc : Thread Cert.SmallUpdateIdeal.nD Cert.SmallUpdateIdeal.τ).loc Cert.SmallUpdateIdeal.main_arg0)) (m ((c.tc : Thread Cert.SmallUpdateIdeal.nD Cert.SmallUpdateIdeal.τ).loc Cert.SmallUpdateIdeal.main_arg1)) (m ((c.tc : Thread Cert.SmallUpdateIdeal.nD Cert.SmallUpdateIdeal.τ).loc Cert.SmallUpdateIdeal.main_arg2)) (m ((c.tc : Thread Cert.SmallUpdateIdeal.nD Cert.SmallUpdateIdeal.τ).loc Cert.SmallUpdateIdeal.main_arg3)) (m ((c.tc : Thread Cert.SmallUpdateIdeal.nD Cert.SmallUpdateIdeal.τ).loc Cert.SmallUpdateIdeal.main_arg4)) (m ((c.tc : Thread Cert.SmallUpdateIdeal.nD Cert.SmallUpdateIdeal.τ).loc Cert.SmallUpdateIdeal.main_arg5)) (m ((c.tc : Thread Cert.SmallUpdateIdeal.nD Cert.SmallUpdateIdeal.τ).loc Cert.SmallUpdateIdeal.main_arg6)) (m ((c.tc : Thread Cert.SmallUpdateIdeal.nD Cert.SmallUpdateIdeal.τ).loc Cert.SmallUpdateIdeal.main_arg7)) (m ((c.tc : Thread Cert.SmallUpdateIdeal.nD Cert.SmallUpdateIdeal.τ).loc Cert.SmallUpdateIdeal.main_arg8)) (m ((c.tc : Thread Cert.SmallUpdateIdeal.nD Cert.SmallUpdateIdeal.τ).loc Cert.SmallUpdateIdeal.main_arg9)) (m ((c.tc : Thread Cert.SmallUpdateIdeal.nD Cert.SmallUpdateIdeal.τ).loc Cert.SmallUpdateIdeal.main_arg10)) (m ((c.tc : Thread Cert.SmallUpdateIdeal.nD Cert.SmallUpdateIdeal.τ).loc Cert.SmallUpdateIdeal.main_arg11)) (m ((c.tc : Thread Cert.SmallUpdateIdeal.nD Cert.SmallUpdateIdeal.τ).loc Cert.SmallUpdateIdeal.main_arg12)) (m ((c.tc : Thread Cert.SmallUpdateIdeal.nD Cert.SmallUpdateIdeal.τ).loc Cert.SmallUpdateIdeal.main_arg13)) (m ((c.tc : Thread Cert.SmallUpdateIdeal.nD Cert.SmallUpdateIdeal.τ).loc Cert.SmallUpdateIdeal.main_arg14)) (m ((c.tc : Thread Cert.SmallUpdateIdeal.nD Cert.SmallUpdateIdeal.τ).loc Cert.SmallUpdateIdeal.main_arg15)) (m ((c.tc : Thread Cert.SmallUpdateIdeal.nD Cert.SmallUpdateIdeal.τ).loc Cert.SmallUpdateIdeal.main_arg16)) (m ((c.tc : Thread Cert.SmallUpdateIdeal.nD Cert.SmallUpdateIdeal.τ).loc Cert.SmallUpdateIdeal.main_arg17)) (m ((c.tc : Thread Cert.SmallUpdateIdeal.nD Cert.SmallUpdateIdeal.τ).loc Cert.SmallUpdateIdeal.main_arg18)) (m ((c.tc : Thread Cert.SmallUpdateIdeal.nD Cert.SmallUpdateIdeal.τ).loc Cert.SmallUpdateIdeal.main_arg19))).1 = (fun _ => 1#1)
    ∧ (Cert.Pre_small_finite.fn (F := Ideal) (m ((c.tc : Thread Cert.SmallUpdateIdeal.nD Cert.SmallUpdateIdeal.τ).loc Cert.SmallUpdateIdeal.main_arg0)) (m ((c.tc : Thread Cert.SmallUpdateIdeal.nD Cert.SmallUpdateIdeal.τ).loc Cert.SmallUpdateIdeal.main_arg1)) (m ((c.tc : Thread Cert.SmallUpdateIdeal.nD Cert.SmallUpdateIdeal.τ).loc Cert.SmallUpdateIdeal.main_arg2)) (m ((c.tc : Thread Cert.SmallUpdateIdeal.nD Cert.SmallUpdateIdeal.τ).loc Cert.SmallUpdateIdeal.main_arg3)) (m ((c.tc : Thread Cert.SmallUpdateIdeal.nD Cert.SmallUpdateIdeal.τ).loc Cert.SmallUpdateIdeal.main_arg4)) (m ((c.tc : Thread Cert.SmallUpdateIdeal.nD Cert.SmallUpdateIdeal.τ).loc Cert.SmallUpdateIdeal.main_arg5)) (m ((c.tc : Thread Cert.SmallUpdateIdeal.nD Cert.SmallUpdateIdeal.τ).loc Cert.SmallUpdateIdeal.main_arg6)) (m ((c.tc : Thread Cert.SmallUpdateIdeal.nD Cert.SmallUpdateIdeal.τ).loc Cert.SmallUpdateIdeal.main_arg7)) (m ((c.tc : Thread Cert.SmallUpdateIdeal.nD Cert.SmallUpdateIdeal.τ).loc Cert.SmallUpdateIdeal.main_arg8)) (m ((c.tc : Thread Cert.SmallUpdateIdeal.nD Cert.SmallUpdateIdeal.τ).loc Cert.SmallUpdateIdeal.main_arg9)) (m ((c.tc : Thread Cert.SmallUpdateIdeal.nD Cert.SmallUpdateIdeal.τ).loc Cert.SmallUpdateIdeal.main_arg10)) (m ((c.tc : Thread Cert.SmallUpdateIdeal.nD Cert.SmallUpdateIdeal.τ).loc Cert.SmallUpdateIdeal.main_arg11)) (m ((c.tc : Thread Cert.SmallUpdateIdeal.nD Cert.SmallUpdateIdeal.τ).loc Cert.SmallUpdateIdeal.main_arg12)) (m ((c.tc : Thread Cert.SmallUpdateIdeal.nD Cert.SmallUpdateIdeal.τ).loc Cert.SmallUpdateIdeal.main_arg13)) (m ((c.tc : Thread Cert.SmallUpdateIdeal.nD Cert.SmallUpdateIdeal.τ).loc Cert.SmallUpdateIdeal.main_arg14)) (m ((c.tc : Thread Cert.SmallUpdateIdeal.nD Cert.SmallUpdateIdeal.τ).loc Cert.SmallUpdateIdeal.main_arg15)) (m ((c.tc : Thread Cert.SmallUpdateIdeal.nD Cert.SmallUpdateIdeal.τ).loc Cert.SmallUpdateIdeal.main_arg16)) (m ((c.tc : Thread Cert.SmallUpdateIdeal.nD Cert.SmallUpdateIdeal.τ).loc Cert.SmallUpdateIdeal.main_arg17)) (m ((c.tc : Thread Cert.SmallUpdateIdeal.nD Cert.SmallUpdateIdeal.τ).loc Cert.SmallUpdateIdeal.main_arg18)) (m ((c.tc : Thread Cert.SmallUpdateIdeal.nD Cert.SmallUpdateIdeal.τ).loc Cert.SmallUpdateIdeal.main_arg19))).2 = (fun _ => 1#1)

def Pre_SmallUpdateRefIdeal (m : (ℓ : Loc Cert.SmallUpdateRefIdeal.nD Cert.SmallUpdateRefIdeal.τ Cert.SmallUpdateRefIdeal.sig) → Buf (Elt Ideal) ℓ) : Prop :=
  True

def Pre_SmallUpdateRefIdeal_small_finite [hPre_small_finite : Cert.Pre_small_finite.Facts] (m : (ℓ : Loc Cert.SmallUpdateRefIdeal.nD Cert.SmallUpdateRefIdeal.τ Cert.SmallUpdateRefIdeal.sig) → Buf (Elt Ideal) ℓ) : Prop :=
  ∀ c : Dev Cert.SmallUpdateRefIdeal.nD,
    (Cert.Pre_small_finite.fn (F := Ideal) (m ((c.tc : Thread Cert.SmallUpdateRefIdeal.nD Cert.SmallUpdateRefIdeal.τ).loc Cert.SmallUpdateRefIdeal.main_arg0)) (m ((c.tc : Thread Cert.SmallUpdateRefIdeal.nD Cert.SmallUpdateRefIdeal.τ).loc Cert.SmallUpdateRefIdeal.main_arg1)) (m ((c.tc : Thread Cert.SmallUpdateRefIdeal.nD Cert.SmallUpdateRefIdeal.τ).loc Cert.SmallUpdateRefIdeal.main_arg2)) (m ((c.tc : Thread Cert.SmallUpdateRefIdeal.nD Cert.SmallUpdateRefIdeal.τ).loc Cert.SmallUpdateRefIdeal.main_arg3)) (m ((c.tc : Thread Cert.SmallUpdateRefIdeal.nD Cert.SmallUpdateRefIdeal.τ).loc Cert.SmallUpdateRefIdeal.main_arg4)) (m ((c.tc : Thread Cert.SmallUpdateRefIdeal.nD Cert.SmallUpdateRefIdeal.τ).loc Cert.SmallUpdateRefIdeal.main_arg5)) (m ((c.tc : Thread Cert.SmallUpdateRefIdeal.nD Cert.SmallUpdateRefIdeal.τ).loc Cert.SmallUpdateRefIdeal.main_arg6)) (m ((c.tc : Thread Cert.SmallUpdateRefIdeal.nD Cert.SmallUpdateRefIdeal.τ).loc Cert.SmallUpdateRefIdeal.main_arg7)) (m ((c.tc : Thread Cert.SmallUpdateRefIdeal.nD Cert.SmallUpdateRefIdeal.τ).loc Cert.SmallUpdateRefIdeal.main_arg8)) (m ((c.tc : Thread Cert.SmallUpdateRefIdeal.nD Cert.SmallUpdateRefIdeal.τ).loc Cert.SmallUpdateRefIdeal.main_arg9)) (m ((c.tc : Thread Cert.SmallUpdateRefIdeal.nD Cert.SmallUpdateRefIdeal.τ).loc Cert.SmallUpdateRefIdeal.main_arg10)) (m ((c.tc : Thread Cert.SmallUpdateRefIdeal.nD Cert.SmallUpdateRefIdeal.τ).loc Cert.SmallUpdateRefIdeal.main_arg11)) (m ((c.tc : Thread Cert.SmallUpdateRefIdeal.nD Cert.SmallUpdateRefIdeal.τ).loc Cert.SmallUpdateRefIdeal.main_arg12)) (m ((c.tc : Thread Cert.SmallUpdateRefIdeal.nD Cert.SmallUpdateRefIdeal.τ).loc Cert.SmallUpdateRefIdeal.main_arg13)) (m ((c.tc : Thread Cert.SmallUpdateRefIdeal.nD Cert.SmallUpdateRefIdeal.τ).loc Cert.SmallUpdateRefIdeal.main_arg14)) (m ((c.tc : Thread Cert.SmallUpdateRefIdeal.nD Cert.SmallUpdateRefIdeal.τ).loc Cert.SmallUpdateRefIdeal.main_arg15)) (m ((c.tc : Thread Cert.SmallUpdateRefIdeal.nD Cert.SmallUpdateRefIdeal.τ).loc Cert.SmallUpdateRefIdeal.main_arg16)) (m ((c.tc : Thread Cert.SmallUpdateRefIdeal.nD Cert.SmallUpdateRefIdeal.τ).loc Cert.SmallUpdateRefIdeal.main_arg17)) (m ((c.tc : Thread Cert.SmallUpdateRefIdeal.nD Cert.SmallUpdateRefIdeal.τ).loc Cert.SmallUpdateRefIdeal.main_arg18)) (m ((c.tc : Thread Cert.SmallUpdateRefIdeal.nD Cert.SmallUpdateRefIdeal.τ).loc Cert.SmallUpdateRefIdeal.main_arg19))).1 = (fun _ => 1#1)
    ∧ (Cert.Pre_small_finite.fn (F := Ideal) (m ((c.tc : Thread Cert.SmallUpdateRefIdeal.nD Cert.SmallUpdateRefIdeal.τ).loc Cert.SmallUpdateRefIdeal.main_arg0)) (m ((c.tc : Thread Cert.SmallUpdateRefIdeal.nD Cert.SmallUpdateRefIdeal.τ).loc Cert.SmallUpdateRefIdeal.main_arg1)) (m ((c.tc : Thread Cert.SmallUpdateRefIdeal.nD Cert.SmallUpdateRefIdeal.τ).loc Cert.SmallUpdateRefIdeal.main_arg2)) (m ((c.tc : Thread Cert.SmallUpdateRefIdeal.nD Cert.SmallUpdateRefIdeal.τ).loc Cert.SmallUpdateRefIdeal.main_arg3)) (m ((c.tc : Thread Cert.SmallUpdateRefIdeal.nD Cert.SmallUpdateRefIdeal.τ).loc Cert.SmallUpdateRefIdeal.main_arg4)) (m ((c.tc : Thread Cert.SmallUpdateRefIdeal.nD Cert.SmallUpdateRefIdeal.τ).loc Cert.SmallUpdateRefIdeal.main_arg5)) (m ((c.tc : Thread Cert.SmallUpdateRefIdeal.nD Cert.SmallUpdateRefIdeal.τ).loc Cert.SmallUpdateRefIdeal.main_arg6)) (m ((c.tc : Thread Cert.SmallUpdateRefIdeal.nD Cert.SmallUpdateRefIdeal.τ).loc Cert.SmallUpdateRefIdeal.main_arg7)) (m ((c.tc : Thread Cert.SmallUpdateRefIdeal.nD Cert.SmallUpdateRefIdeal.τ).loc Cert.SmallUpdateRefIdeal.main_arg8)) (m ((c.tc : Thread Cert.SmallUpdateRefIdeal.nD Cert.SmallUpdateRefIdeal.τ).loc Cert.SmallUpdateRefIdeal.main_arg9)) (m ((c.tc : Thread Cert.SmallUpdateRefIdeal.nD Cert.SmallUpdateRefIdeal.τ).loc Cert.SmallUpdateRefIdeal.main_arg10)) (m ((c.tc : Thread Cert.SmallUpdateRefIdeal.nD Cert.SmallUpdateRefIdeal.τ).loc Cert.SmallUpdateRefIdeal.main_arg11)) (m ((c.tc : Thread Cert.SmallUpdateRefIdeal.nD Cert.SmallUpdateRefIdeal.τ).loc Cert.SmallUpdateRefIdeal.main_arg12)) (m ((c.tc : Thread Cert.SmallUpdateRefIdeal.nD Cert.SmallUpdateRefIdeal.τ).loc Cert.SmallUpdateRefIdeal.main_arg13)) (m ((c.tc : Thread Cert.SmallUpdateRefIdeal.nD Cert.SmallUpdateRefIdeal.τ).loc Cert.SmallUpdateRefIdeal.main_arg14)) (m ((c.tc : Thread Cert.SmallUpdateRefIdeal.nD Cert.SmallUpdateRefIdeal.τ).loc Cert.SmallUpdateRefIdeal.main_arg15)) (m ((c.tc : Thread Cert.SmallUpdateRefIdeal.nD Cert.SmallUpdateRefIdeal.τ).loc Cert.SmallUpdateRefIdeal.main_arg16)) (m ((c.tc : Thread Cert.SmallUpdateRefIdeal.nD Cert.SmallUpdateRefIdeal.τ).loc Cert.SmallUpdateRefIdeal.main_arg17)) (m ((c.tc : Thread Cert.SmallUpdateRefIdeal.nD Cert.SmallUpdateRefIdeal.τ).loc Cert.SmallUpdateRefIdeal.main_arg18)) (m ((c.tc : Thread Cert.SmallUpdateRefIdeal.nD Cert.SmallUpdateRefIdeal.τ).loc Cert.SmallUpdateRefIdeal.main_arg19))).2 = (fun _ => 1#1)

def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_swa_fwd_finite [hPre_swa_fwd_finite : Cert.Pre_swa_fwd_finite.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1))).1 = (fun _ => 1#1)
    ∧ (Cert.Pre_swa_fwd_finite.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1))).2 = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_swa_fwd_finite [hPre_swa_fwd_finite : Cert.Pre_swa_fwd_finite.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1))).1 = (fun _ => 1#1)
    ∧ (Cert.Pre_swa_fwd_finite.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1))).2 = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_HgrnFwd (m : (ℓ : Loc Cert.HgrnFwd.nD Cert.HgrnFwd.τ Cert.HgrnFwd.sig) → Buf (Elt Bits) ℓ) : Prop :=
  True

def Pre_HgrnFwdIdeal (m : (ℓ : Loc Cert.HgrnFwdIdeal.nD Cert.HgrnFwdIdeal.τ Cert.HgrnFwdIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdIdeal_pre_out_finite [hOutBwdIdeal : Cert.OutBwdIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal_out_finite m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_OutBwdRefIdeal_pre_out_finite [hOutBwdRefIdeal : Cert.OutBwdRefIdeal.Facts] [hPre_out_finite : Cert.Pre_out_finite.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal_out_finite m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_in_finite [hInBwdIdeal : Cert.InBwdIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_in_finite m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_InBwdRefIdeal_pre_in_finite [hInBwdRefIdeal : Cert.InBwdRefIdeal.Facts] [hPre_in_finite : Cert.Pre_in_finite.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal_in_finite m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_SwaBwd [hSwaBwd : Cert.SwaBwd.Facts] : Prop :=
  ∀ (m : (ℓ : Loc Cert.SwaBwd.nD Cert.SwaBwd.τ Cert.SwaBwd.sig) → Buf (Elt Bits) ℓ) (g : Dev Cert.SwaBwd.nD → PrngReg), Pre_SwaBwd m →
    θ_run (Cert.SwaBwd.defs (F := Bits)) (onTc (τ := Cert.SwaBwd.τ) (Cert.SwaBwd.main (F := Bits))) ⟨m, fun _ => 0, g⟩ (fun r => (∀ c : Dev Cert.SwaBwd.nD,
      r.2.mem ((c.tc : Thread Cert.SwaBwd.nD Cert.SwaBwd.τ).loc Cert.SwaBwd.main_arg0) = m ((c.tc : Thread Cert.SwaBwd.nD Cert.SwaBwd.τ).loc Cert.SwaBwd.main_arg0)
      ∧ r.2.mem ((c.tc : Thread Cert.SwaBwd.nD Cert.SwaBwd.τ).loc Cert.SwaBwd.main_arg1) = m ((c.tc : Thread Cert.SwaBwd.nD Cert.SwaBwd.τ).loc Cert.SwaBwd.main_arg1)
      ∧ r.2.mem ((c.tc : Thread Cert.SwaBwd.nD Cert.SwaBwd.τ).loc Cert.SwaBwd.main_arg2) = m ((c.tc : Thread Cert.SwaBwd.nD Cert.SwaBwd.τ).loc Cert.SwaBwd.main_arg2))
      ∧ r.2.sem = fun _ => 0)

def quiescent_SwaBwdIdeal [hSwaBwdIdeal : Cert.SwaBwdIdeal.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdIdeal_pre_swa_finite [hSwaBwdIdeal : Cert.SwaBwdIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg), Pre_SwaBwdIdeal_swa_finite m →
    θ_run (Cert.SwaBwdIdeal.defs (F := Ideal)) (onTc (τ := Cert.SwaBwdIdeal.τ) (Cert.SwaBwdIdeal.main (F := Ideal))) ⟨m, fun _ => 0, g⟩ (fun r => (∀ c : Dev Cert.SwaBwdIdeal.nD,
      r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
      ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
      ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ r.2.sem = fun _ => 0)

def quiescent_SwaBwdRefIdeal [hSwaBwdRefIdeal : Cert.SwaBwdRefIdeal.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_SwaBwdRefIdeal_pre_swa_finite [hSwaBwdRefIdeal : Cert.SwaBwdRefIdeal.Facts] [hPre_swa_finite : Cert.Pre_swa_finite.Facts] : Prop :=
  ∀ (m : (ℓ : Loc Cert.SwaBwdRefIdeal.nD Cert.SwaBwdRefIdeal.τ Cert.SwaBwdRefIdeal.sig) → Buf (Elt Ideal) ℓ) (g : Dev Cert.SwaBwdRefIdeal.nD → PrngReg), Pre_SwaBwdRefIdeal_swa_finite m →
    θ_run (Cert.SwaBwdRefIdeal.defs (F := Ideal)) (onTc (τ := Cert.SwaBwdRefIdeal.τ) (Cert.SwaBwdRefIdeal.main (F := Ideal))) ⟨m, fun _ => 0, g⟩ (fun r => (∀ c : Dev Cert.SwaBwdRefIdeal.nD,
      r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3)
      ∧ r.2.mem ((c.tc : Thread Cert.LossBwd.nD Cert.LossBwd.τ).loc Cert.LossBwd.main_arg4) = m ((c.tc : Thread Cert.LossBwd.nD Cert.LossBwd.τ).loc Cert.LossBwd.main_arg4)
      ∧ r.2.mem ((c.tc : Thread Cert.LossBwd.nD Cert.LossBwd.τ).loc Cert.LossBwd.main_arg5) = m ((c.tc : Thread Cert.LossBwd.nD Cert.LossBwd.τ).loc Cert.LossBwd.main_arg5))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
      ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
      ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ r.2.sem = fun _ => 0)

def quiescent_LossBwdRefIdeal [hLossBwdRefIdeal : Cert.LossBwdRefIdeal.Facts] : Prop :=
  ∀ (m : (ℓ : Loc Cert.LossBwdRefIdeal.nD Cert.LossBwdRefIdeal.τ Cert.LossBwdRefIdeal.sig) → Buf (Elt Ideal) ℓ) (g : Dev Cert.LossBwdRefIdeal.nD → PrngReg), Pre_LossBwdRefIdeal m →
    θ_run (Cert.LossBwdRefIdeal.defs (F := Ideal)) (onTc (τ := Cert.LossBwdRefIdeal.τ) (Cert.LossBwdRefIdeal.main (F := Ideal))) ⟨m, fun _ => 0, g⟩ (fun r => (∀ c : Dev Cert.LossBwdRefIdeal.nD,
      r.2.mem ((c.tc : Thread Cert.LossBwdRefIdeal.nD Cert.LossBwdRefIdeal.τ).loc Cert.LossBwdRefIdeal.main_arg0) = m ((c.tc : Thread Cert.LossBwdRefIdeal.nD Cert.LossBwdRefIdeal.τ).loc Cert.LossBwdRefIdeal.main_arg0)
      ∧ r.2.mem ((c.tc : Thread Cert.LossBwdRefIdeal.nD Cert.LossBwdRefIdeal.τ).loc Cert.LossBwdRefIdeal.main_arg1) = m ((c.tc : Thread Cert.LossBwdRefIdeal.nD Cert.LossBwdRefIdeal.τ).loc Cert.LossBwdRefIdeal.main_arg1)
      ∧ r.2.mem ((c.tc : Thread Cert.LossBwdRefIdeal.nD Cert.LossBwdRefIdeal.τ).loc Cert.LossBwdRefIdeal.main_arg2) = m ((c.tc : Thread Cert.LossBwdRefIdeal.nD Cert.LossBwdRefIdeal.τ).loc Cert.LossBwdRefIdeal.main_arg2)
      ∧ r.2.mem ((c.tc : Thread Cert.LossBwdRefIdeal.nD Cert.LossBwdRefIdeal.τ).loc Cert.LossBwdRefIdeal.main_arg3) = m ((c.tc : Thread Cert.LossBwdRefIdeal.nD Cert.LossBwdRefIdeal.τ).loc Cert.LossBwdRefIdeal.main_arg3)
      ∧ r.2.mem ((c.tc : Thread Cert.LossBwdRefIdeal.nD Cert.LossBwdRefIdeal.τ).loc Cert.LossBwdRefIdeal.main_arg4) = m ((c.tc : Thread Cert.LossBwdRefIdeal.nD Cert.LossBwdRefIdeal.τ).loc Cert.LossBwdRefIdeal.main_arg4)
      ∧ r.2.mem ((c.tc : Thread Cert.LossBwdRefIdeal.nD Cert.LossBwdRefIdeal.τ).loc Cert.LossBwdRefIdeal.main_arg5) = m ((c.tc : Thread Cert.LossBwdRefIdeal.nD Cert.LossBwdRefIdeal.τ).loc Cert.LossBwdRefIdeal.main_arg5))
      ∧ r.2.sem = fun _ => 0)

def quiescent_SmallUpdate [hSmallUpdate : Cert.SmallUpdate.Facts] : Prop :=
  ∀ (m : (ℓ : Loc Cert.SmallUpdate.nD Cert.SmallUpdate.τ Cert.SmallUpdate.sig) → Buf (Elt Bits) ℓ) (g : Dev Cert.SmallUpdate.nD → PrngReg), Pre_SmallUpdate m →
    θ_run (Cert.SmallUpdate.defs (F := Bits)) (onTc (τ := Cert.SmallUpdate.τ) (Cert.SmallUpdate.main (F := Bits))) ⟨m, fun _ => 0, g⟩ (fun r => (∀ c : Dev Cert.SmallUpdate.nD,
      r.2.mem ((c.tc : Thread Cert.SmallUpdate.nD Cert.SmallUpdate.τ).loc Cert.SmallUpdate.main_arg0) = m ((c.tc : Thread Cert.SmallUpdate.nD Cert.SmallUpdate.τ).loc Cert.SmallUpdate.main_arg0)
      ∧ r.2.mem ((c.tc : Thread Cert.SmallUpdate.nD Cert.SmallUpdate.τ).loc Cert.SmallUpdate.main_arg1) = m ((c.tc : Thread Cert.SmallUpdate.nD Cert.SmallUpdate.τ).loc Cert.SmallUpdate.main_arg1)
      ∧ r.2.mem ((c.tc : Thread Cert.SmallUpdate.nD Cert.SmallUpdate.τ).loc Cert.SmallUpdate.main_arg2) = m ((c.tc : Thread Cert.SmallUpdate.nD Cert.SmallUpdate.τ).loc Cert.SmallUpdate.main_arg2)
      ∧ r.2.mem ((c.tc : Thread Cert.SmallUpdate.nD Cert.SmallUpdate.τ).loc Cert.SmallUpdate.main_arg3) = m ((c.tc : Thread Cert.SmallUpdate.nD Cert.SmallUpdate.τ).loc Cert.SmallUpdate.main_arg3)
      ∧ r.2.mem ((c.tc : Thread Cert.SmallUpdate.nD Cert.SmallUpdate.τ).loc Cert.SmallUpdate.main_arg4) = m ((c.tc : Thread Cert.SmallUpdate.nD Cert.SmallUpdate.τ).loc Cert.SmallUpdate.main_arg4)
      ∧ r.2.mem ((c.tc : Thread Cert.SmallUpdate.nD Cert.SmallUpdate.τ).loc Cert.SmallUpdate.main_arg5) = m ((c.tc : Thread Cert.SmallUpdate.nD Cert.SmallUpdate.τ).loc Cert.SmallUpdate.main_arg5)
      ∧ r.2.mem ((c.tc : Thread Cert.SmallUpdate.nD Cert.SmallUpdate.τ).loc Cert.SmallUpdate.main_arg6) = m ((c.tc : Thread Cert.SmallUpdate.nD Cert.SmallUpdate.τ).loc Cert.SmallUpdate.main_arg6)
      ∧ r.2.mem ((c.tc : Thread Cert.SmallUpdate.nD Cert.SmallUpdate.τ).loc Cert.SmallUpdate.main_arg7) = m ((c.tc : Thread Cert.SmallUpdate.nD Cert.SmallUpdate.τ).loc Cert.SmallUpdate.main_arg7)
      ∧ r.2.mem ((c.tc : Thread Cert.SmallUpdate.nD Cert.SmallUpdate.τ).loc Cert.SmallUpdate.main_arg8) = m ((c.tc : Thread Cert.SmallUpdate.nD Cert.SmallUpdate.τ).loc Cert.SmallUpdate.main_arg8)
      ∧ r.2.mem ((c.tc : Thread Cert.SmallUpdate.nD Cert.SmallUpdate.τ).loc Cert.SmallUpdate.main_arg9) = m ((c.tc : Thread Cert.SmallUpdate.nD Cert.SmallUpdate.τ).loc Cert.SmallUpdate.main_arg9)
      ∧ r.2.mem ((c.tc : Thread Cert.SmallUpdate.nD Cert.SmallUpdate.τ).loc Cert.SmallUpdate.main_arg10) = m ((c.tc : Thread Cert.SmallUpdate.nD Cert.SmallUpdate.τ).loc Cert.SmallUpdate.main_arg10)
      ∧ r.2.mem ((c.tc : Thread Cert.SmallUpdate.nD Cert.SmallUpdate.τ).loc Cert.SmallUpdate.main_arg11) = m ((c.tc : Thread Cert.SmallUpdate.nD Cert.SmallUpdate.τ).loc Cert.SmallUpdate.main_arg11)
      ∧ r.2.mem ((c.tc : Thread Cert.SmallUpdate.nD Cert.SmallUpdate.τ).loc Cert.SmallUpdate.main_arg12) = m ((c.tc : Thread Cert.SmallUpdate.nD Cert.SmallUpdate.τ).loc Cert.SmallUpdate.main_arg12)
      ∧ r.2.mem ((c.tc : Thread Cert.SmallUpdate.nD Cert.SmallUpdate.τ).loc Cert.SmallUpdate.main_arg13) = m ((c.tc : Thread Cert.SmallUpdate.nD Cert.SmallUpdate.τ).loc Cert.SmallUpdate.main_arg13)
      ∧ r.2.mem ((c.tc : Thread Cert.SmallUpdate.nD Cert.SmallUpdate.τ).loc Cert.SmallUpdate.main_arg14) = m ((c.tc : Thread Cert.SmallUpdate.nD Cert.SmallUpdate.τ).loc Cert.SmallUpdate.main_arg14)
      ∧ r.2.mem ((c.tc : Thread Cert.SmallUpdate.nD Cert.SmallUpdate.τ).loc Cert.SmallUpdate.main_arg15) = m ((c.tc : Thread Cert.SmallUpdate.nD Cert.SmallUpdate.τ).loc Cert.SmallUpdate.main_arg15)
      ∧ r.2.mem ((c.tc : Thread Cert.SmallUpdate.nD Cert.SmallUpdate.τ).loc Cert.SmallUpdate.main_arg16) = m ((c.tc : Thread Cert.SmallUpdate.nD Cert.SmallUpdate.τ).loc Cert.SmallUpdate.main_arg16)
      ∧ r.2.mem ((c.tc : Thread Cert.SmallUpdate.nD Cert.SmallUpdate.τ).loc Cert.SmallUpdate.main_arg17) = m ((c.tc : Thread Cert.SmallUpdate.nD Cert.SmallUpdate.τ).loc Cert.SmallUpdate.main_arg17)
      ∧ r.2.mem ((c.tc : Thread Cert.SmallUpdate.nD Cert.SmallUpdate.τ).loc Cert.SmallUpdate.main_arg18) = m ((c.tc : Thread Cert.SmallUpdate.nD Cert.SmallUpdate.τ).loc Cert.SmallUpdate.main_arg18)
      ∧ r.2.mem ((c.tc : Thread Cert.SmallUpdate.nD Cert.SmallUpdate.τ).loc Cert.SmallUpdate.main_arg19) = m ((c.tc : Thread Cert.SmallUpdate.nD Cert.SmallUpdate.τ).loc Cert.SmallUpdate.main_arg19))
      ∧ r.2.sem = fun _ => 0)

def quiescent_SmallUpdateIdeal [hSmallUpdateIdeal : Cert.SmallUpdateIdeal.Facts] : Prop :=
  ∀ (m : (ℓ : Loc Cert.SmallUpdateIdeal.nD Cert.SmallUpdateIdeal.τ Cert.SmallUpdateIdeal.sig) → Buf (Elt Ideal) ℓ) (g : Dev Cert.SmallUpdateIdeal.nD → PrngReg), Pre_SmallUpdateIdeal m →
    θ_run (Cert.SmallUpdateIdeal.defs (F := Ideal)) (onTc (τ := Cert.SmallUpdateIdeal.τ) (Cert.SmallUpdateIdeal.main (F := Ideal))) ⟨m, fun _ => 0, g⟩ (fun r => (∀ c : Dev Cert.SmallUpdateIdeal.nD,
      r.2.mem ((c.tc : Thread Cert.SmallUpdateIdeal.nD Cert.SmallUpdateIdeal.τ).loc Cert.SmallUpdateIdeal.main_arg0) = m ((c.tc : Thread Cert.SmallUpdateIdeal.nD Cert.SmallUpdateIdeal.τ).loc Cert.SmallUpdateIdeal.main_arg0)
      ∧ r.2.mem ((c.tc : Thread Cert.SmallUpdateIdeal.nD Cert.SmallUpdateIdeal.τ).loc Cert.SmallUpdateIdeal.main_arg1) = m ((c.tc : Thread Cert.SmallUpdateIdeal.nD Cert.SmallUpdateIdeal.τ).loc Cert.SmallUpdateIdeal.main_arg1)
      ∧ r.2.mem ((c.tc : Thread Cert.SmallUpdateIdeal.nD Cert.SmallUpdateIdeal.τ).loc Cert.SmallUpdateIdeal.main_arg2) = m ((c.tc : Thread Cert.SmallUpdateIdeal.nD Cert.SmallUpdateIdeal.τ).loc Cert.SmallUpdateIdeal.main_arg2)
      ∧ r.2.mem ((c.tc : Thread Cert.SmallUpdateIdeal.nD Cert.SmallUpdateIdeal.τ).loc Cert.SmallUpdateIdeal.main_arg3) = m ((c.tc : Thread Cert.SmallUpdateIdeal.nD Cert.SmallUpdateIdeal.τ).loc Cert.SmallUpdateIdeal.main_arg3)
      ∧ r.2.mem ((c.tc : Thread Cert.SmallUpdateIdeal.nD Cert.SmallUpdateIdeal.τ).loc Cert.SmallUpdateIdeal.main_arg4) = m ((c.tc : Thread Cert.SmallUpdateIdeal.nD Cert.SmallUpdateIdeal.τ).loc Cert.SmallUpdateIdeal.main_arg4)
      ∧ r.2.mem ((c.tc : Thread Cert.SmallUpdateIdeal.nD Cert.SmallUpdateIdeal.τ).loc Cert.SmallUpdateIdeal.main_arg5) = m ((c.tc : Thread Cert.SmallUpdateIdeal.nD Cert.SmallUpdateIdeal.τ).loc Cert.SmallUpdateIdeal.main_arg5)
      ∧ r.2.mem ((c.tc : Thread Cert.SmallUpdateIdeal.nD Cert.SmallUpdateIdeal.τ).loc Cert.SmallUpdateIdeal.main_arg6) = m ((c.tc : Thread Cert.SmallUpdateIdeal.nD Cert.SmallUpdateIdeal.τ).loc Cert.SmallUpdateIdeal.main_arg6)
      ∧ r.2.mem ((c.tc : Thread Cert.SmallUpdateIdeal.nD Cert.SmallUpdateIdeal.τ).loc Cert.SmallUpdateIdeal.main_arg7) = m ((c.tc : Thread Cert.SmallUpdateIdeal.nD Cert.SmallUpdateIdeal.τ).loc Cert.SmallUpdateIdeal.main_arg7)
      ∧ r.2.mem ((c.tc : Thread Cert.SmallUpdateIdeal.nD Cert.SmallUpdateIdeal.τ).loc Cert.SmallUpdateIdeal.main_arg8) = m ((c.tc : Thread Cert.SmallUpdateIdeal.nD Cert.SmallUpdateIdeal.τ).loc Cert.SmallUpdateIdeal.main_arg8)
      ∧ r.2.mem ((c.tc : Thread Cert.SmallUpdateIdeal.nD Cert.SmallUpdateIdeal.τ).loc Cert.SmallUpdateIdeal.main_arg9) = m ((c.tc : Thread Cert.SmallUpdateIdeal.nD Cert.SmallUpdateIdeal.τ).loc Cert.SmallUpdateIdeal.main_arg9)
      ∧ r.2.mem ((c.tc : Thread Cert.SmallUpdateIdeal.nD Cert.SmallUpdateIdeal.τ).loc Cert.SmallUpdateIdeal.main_arg10) = m ((c.tc : Thread Cert.SmallUpdateIdeal.nD Cert.SmallUpdateIdeal.τ).loc Cert.SmallUpdateIdeal.main_arg10)
      ∧ r.2.mem ((c.tc : Thread Cert.SmallUpdateIdeal.nD Cert.SmallUpdateIdeal.τ).loc Cert.SmallUpdateIdeal.main_arg11) = m ((c.tc : Thread Cert.SmallUpdateIdeal.nD Cert.SmallUpdateIdeal.τ).loc Cert.SmallUpdateIdeal.main_arg11)
      ∧ r.2.mem ((c.tc : Thread Cert.SmallUpdateIdeal.nD Cert.SmallUpdateIdeal.τ).loc Cert.SmallUpdateIdeal.main_arg12) = m ((c.tc : Thread Cert.SmallUpdateIdeal.nD Cert.SmallUpdateIdeal.τ).loc Cert.SmallUpdateIdeal.main_arg12)
      ∧ r.2.mem ((c.tc : Thread Cert.SmallUpdateIdeal.nD Cert.SmallUpdateIdeal.τ).loc Cert.SmallUpdateIdeal.main_arg13) = m ((c.tc : Thread Cert.SmallUpdateIdeal.nD Cert.SmallUpdateIdeal.τ).loc Cert.SmallUpdateIdeal.main_arg13)
      ∧ r.2.mem ((c.tc : Thread Cert.SmallUpdateIdeal.nD Cert.SmallUpdateIdeal.τ).loc Cert.SmallUpdateIdeal.main_arg14) = m ((c.tc : Thread Cert.SmallUpdateIdeal.nD Cert.SmallUpdateIdeal.τ).loc Cert.SmallUpdateIdeal.main_arg14)
      ∧ r.2.mem ((c.tc : Thread Cert.SmallUpdateIdeal.nD Cert.SmallUpdateIdeal.τ).loc Cert.SmallUpdateIdeal.main_arg15) = m ((c.tc : Thread Cert.SmallUpdateIdeal.nD Cert.SmallUpdateIdeal.τ).loc Cert.SmallUpdateIdeal.main_arg15)
      ∧ r.2.mem ((c.tc : Thread Cert.SmallUpdateIdeal.nD Cert.SmallUpdateIdeal.τ).loc Cert.SmallUpdateIdeal.main_arg16) = m ((c.tc : Thread Cert.SmallUpdateIdeal.nD Cert.SmallUpdateIdeal.τ).loc Cert.SmallUpdateIdeal.main_arg16)
      ∧ r.2.mem ((c.tc : Thread Cert.SmallUpdateIdeal.nD Cert.SmallUpdateIdeal.τ).loc Cert.SmallUpdateIdeal.main_arg17) = m ((c.tc : Thread Cert.SmallUpdateIdeal.nD Cert.SmallUpdateIdeal.τ).loc Cert.SmallUpdateIdeal.main_arg17)
      ∧ r.2.mem ((c.tc : Thread Cert.SmallUpdateIdeal.nD Cert.SmallUpdateIdeal.τ).loc Cert.SmallUpdateIdeal.main_arg18) = m ((c.tc : Thread Cert.SmallUpdateIdeal.nD Cert.SmallUpdateIdeal.τ).loc Cert.SmallUpdateIdeal.main_arg18)
      ∧ r.2.mem ((c.tc : Thread Cert.SmallUpdateIdeal.nD Cert.SmallUpdateIdeal.τ).loc Cert.SmallUpdateIdeal.main_arg19) = m ((c.tc : Thread Cert.SmallUpdateIdeal.nD Cert.SmallUpdateIdeal.τ).loc Cert.SmallUpdateIdeal.main_arg19))
      ∧ r.2.sem = fun _ => 0)

def quiescent_SmallUpdateIdeal_pre_small_finite [hSmallUpdateIdeal : Cert.SmallUpdateIdeal.Facts] [hPre_small_finite : Cert.Pre_small_finite.Facts] : Prop :=
  ∀ (m : (ℓ : Loc Cert.SmallUpdateIdeal.nD Cert.SmallUpdateIdeal.τ Cert.SmallUpdateIdeal.sig) → Buf (Elt Ideal) ℓ) (g : Dev Cert.SmallUpdateIdeal.nD → PrngReg), Pre_SmallUpdateIdeal_small_finite m →
    θ_run (Cert.SmallUpdateIdeal.defs (F := Ideal)) (onTc (τ := Cert.SmallUpdateIdeal.τ) (Cert.SmallUpdateIdeal.main (F := Ideal))) ⟨m, fun _ => 0, g⟩ (fun r => (∀ c : Dev Cert.SmallUpdateIdeal.nD,
      r.2.mem ((c.tc : Thread Cert.SmallUpdateIdeal.nD Cert.SmallUpdateIdeal.τ).loc Cert.SmallUpdateIdeal.main_arg0) = m ((c.tc : Thread Cert.SmallUpdateIdeal.nD Cert.SmallUpdateIdeal.τ).loc Cert.SmallUpdateIdeal.main_arg0)
      ∧ r.2.mem ((c.tc : Thread Cert.SmallUpdateIdeal.nD Cert.SmallUpdateIdeal.τ).loc Cert.SmallUpdateIdeal.main_arg1) = m ((c.tc : Thread Cert.SmallUpdateIdeal.nD Cert.SmallUpdateIdeal.τ).loc Cert.SmallUpdateIdeal.main_arg1)
      ∧ r.2.mem ((c.tc : Thread Cert.SmallUpdateIdeal.nD Cert.SmallUpdateIdeal.τ).loc Cert.SmallUpdateIdeal.main_arg2) = m ((c.tc : Thread Cert.SmallUpdateIdeal.nD Cert.SmallUpdateIdeal.τ).loc Cert.SmallUpdateIdeal.main_arg2)
      ∧ r.2.mem ((c.tc : Thread Cert.SmallUpdateIdeal.nD Cert.SmallUpdateIdeal.τ).loc Cert.SmallUpdateIdeal.main_arg3) = m ((c.tc : Thread Cert.SmallUpdateIdeal.nD Cert.SmallUpdateIdeal.τ).loc Cert.SmallUpdateIdeal.main_arg3)
      ∧ r.2.mem ((c.tc : Thread Cert.SmallUpdateIdeal.nD Cert.SmallUpdateIdeal.τ).loc Cert.SmallUpdateIdeal.main_arg4) = m ((c.tc : Thread Cert.SmallUpdateIdeal.nD Cert.SmallUpdateIdeal.τ).loc Cert.SmallUpdateIdeal.main_arg4)
      ∧ r.2.mem ((c.tc : Thread Cert.SmallUpdateIdeal.nD Cert.SmallUpdateIdeal.τ).loc Cert.SmallUpdateIdeal.main_arg5) = m ((c.tc : Thread Cert.SmallUpdateIdeal.nD Cert.SmallUpdateIdeal.τ).loc Cert.SmallUpdateIdeal.main_arg5)
      ∧ r.2.mem ((c.tc : Thread Cert.SmallUpdateIdeal.nD Cert.SmallUpdateIdeal.τ).loc Cert.SmallUpdateIdeal.main_arg6) = m ((c.tc : Thread Cert.SmallUpdateIdeal.nD Cert.SmallUpdateIdeal.τ).loc Cert.SmallUpdateIdeal.main_arg6)
      ∧ r.2.mem ((c.tc : Thread Cert.SmallUpdateIdeal.nD Cert.SmallUpdateIdeal.τ).loc Cert.SmallUpdateIdeal.main_arg7) = m ((c.tc : Thread Cert.SmallUpdateIdeal.nD Cert.SmallUpdateIdeal.τ).loc Cert.SmallUpdateIdeal.main_arg7)
      ∧ r.2.mem ((c.tc : Thread Cert.SmallUpdateIdeal.nD Cert.SmallUpdateIdeal.τ).loc Cert.SmallUpdateIdeal.main_arg8) = m ((c.tc : Thread Cert.SmallUpdateIdeal.nD Cert.SmallUpdateIdeal.τ).loc Cert.SmallUpdateIdeal.main_arg8)
      ∧ r.2.mem ((c.tc : Thread Cert.SmallUpdateIdeal.nD Cert.SmallUpdateIdeal.τ).loc Cert.SmallUpdateIdeal.main_arg9) = m ((c.tc : Thread Cert.SmallUpdateIdeal.nD Cert.SmallUpdateIdeal.τ).loc Cert.SmallUpdateIdeal.main_arg9)
      ∧ r.2.mem ((c.tc : Thread Cert.SmallUpdateIdeal.nD Cert.SmallUpdateIdeal.τ).loc Cert.SmallUpdateIdeal.main_arg10) = m ((c.tc : Thread Cert.SmallUpdateIdeal.nD Cert.SmallUpdateIdeal.τ).loc Cert.SmallUpdateIdeal.main_arg10)
      ∧ r.2.mem ((c.tc : Thread Cert.SmallUpdateIdeal.nD Cert.SmallUpdateIdeal.τ).loc Cert.SmallUpdateIdeal.main_arg11) = m ((c.tc : Thread Cert.SmallUpdateIdeal.nD Cert.SmallUpdateIdeal.τ).loc Cert.SmallUpdateIdeal.main_arg11)
      ∧ r.2.mem ((c.tc : Thread Cert.SmallUpdateIdeal.nD Cert.SmallUpdateIdeal.τ).loc Cert.SmallUpdateIdeal.main_arg12) = m ((c.tc : Thread Cert.SmallUpdateIdeal.nD Cert.SmallUpdateIdeal.τ).loc Cert.SmallUpdateIdeal.main_arg12)
      ∧ r.2.mem ((c.tc : Thread Cert.SmallUpdateIdeal.nD Cert.SmallUpdateIdeal.τ).loc Cert.SmallUpdateIdeal.main_arg13) = m ((c.tc : Thread Cert.SmallUpdateIdeal.nD Cert.SmallUpdateIdeal.τ).loc Cert.SmallUpdateIdeal.main_arg13)
      ∧ r.2.mem ((c.tc : Thread Cert.SmallUpdateIdeal.nD Cert.SmallUpdateIdeal.τ).loc Cert.SmallUpdateIdeal.main_arg14) = m ((c.tc : Thread Cert.SmallUpdateIdeal.nD Cert.SmallUpdateIdeal.τ).loc Cert.SmallUpdateIdeal.main_arg14)
      ∧ r.2.mem ((c.tc : Thread Cert.SmallUpdateIdeal.nD Cert.SmallUpdateIdeal.τ).loc Cert.SmallUpdateIdeal.main_arg15) = m ((c.tc : Thread Cert.SmallUpdateIdeal.nD Cert.SmallUpdateIdeal.τ).loc Cert.SmallUpdateIdeal.main_arg15)
      ∧ r.2.mem ((c.tc : Thread Cert.SmallUpdateIdeal.nD Cert.SmallUpdateIdeal.τ).loc Cert.SmallUpdateIdeal.main_arg16) = m ((c.tc : Thread Cert.SmallUpdateIdeal.nD Cert.SmallUpdateIdeal.τ).loc Cert.SmallUpdateIdeal.main_arg16)
      ∧ r.2.mem ((c.tc : Thread Cert.SmallUpdateIdeal.nD Cert.SmallUpdateIdeal.τ).loc Cert.SmallUpdateIdeal.main_arg17) = m ((c.tc : Thread Cert.SmallUpdateIdeal.nD Cert.SmallUpdateIdeal.τ).loc Cert.SmallUpdateIdeal.main_arg17)
      ∧ r.2.mem ((c.tc : Thread Cert.SmallUpdateIdeal.nD Cert.SmallUpdateIdeal.τ).loc Cert.SmallUpdateIdeal.main_arg18) = m ((c.tc : Thread Cert.SmallUpdateIdeal.nD Cert.SmallUpdateIdeal.τ).loc Cert.SmallUpdateIdeal.main_arg18)
      ∧ r.2.mem ((c.tc : Thread Cert.SmallUpdateIdeal.nD Cert.SmallUpdateIdeal.τ).loc Cert.SmallUpdateIdeal.main_arg19) = m ((c.tc : Thread Cert.SmallUpdateIdeal.nD Cert.SmallUpdateIdeal.τ).loc Cert.SmallUpdateIdeal.main_arg19))
      ∧ r.2.sem = fun _ => 0)

def quiescent_SmallUpdateRefIdeal [hSmallUpdateRefIdeal : Cert.SmallUpdateRefIdeal.Facts] : Prop :=
  ∀ (m : (ℓ : Loc Cert.SmallUpdateRefIdeal.nD Cert.SmallUpdateRefIdeal.τ Cert.SmallUpdateRefIdeal.sig) → Buf (Elt Ideal) ℓ) (g : Dev Cert.SmallUpdateRefIdeal.nD → PrngReg), Pre_SmallUpdateRefIdeal m →
    θ_run (Cert.SmallUpdateRefIdeal.defs (F := Ideal)) (onTc (τ := Cert.SmallUpdateRefIdeal.τ) (Cert.SmallUpdateRefIdeal.main (F := Ideal))) ⟨m, fun _ => 0, g⟩ (fun r => (∀ c : Dev Cert.SmallUpdateRefIdeal.nD,
      r.2.mem ((c.tc : Thread Cert.SmallUpdateRefIdeal.nD Cert.SmallUpdateRefIdeal.τ).loc Cert.SmallUpdateRefIdeal.main_arg0) = m ((c.tc : Thread Cert.SmallUpdateRefIdeal.nD Cert.SmallUpdateRefIdeal.τ).loc Cert.SmallUpdateRefIdeal.main_arg0)
      ∧ r.2.mem ((c.tc : Thread Cert.SmallUpdateRefIdeal.nD Cert.SmallUpdateRefIdeal.τ).loc Cert.SmallUpdateRefIdeal.main_arg1) = m ((c.tc : Thread Cert.SmallUpdateRefIdeal.nD Cert.SmallUpdateRefIdeal.τ).loc Cert.SmallUpdateRefIdeal.main_arg1)
      ∧ r.2.mem ((c.tc : Thread Cert.SmallUpdateRefIdeal.nD Cert.SmallUpdateRefIdeal.τ).loc Cert.SmallUpdateRefIdeal.main_arg2) = m ((c.tc : Thread Cert.SmallUpdateRefIdeal.nD Cert.SmallUpdateRefIdeal.τ).loc Cert.SmallUpdateRefIdeal.main_arg2)
      ∧ r.2.mem ((c.tc : Thread Cert.SmallUpdateRefIdeal.nD Cert.SmallUpdateRefIdeal.τ).loc Cert.SmallUpdateRefIdeal.main_arg3) = m ((c.tc : Thread Cert.SmallUpdateRefIdeal.nD Cert.SmallUpdateRefIdeal.τ).loc Cert.SmallUpdateRefIdeal.main_arg3)
      ∧ r.2.mem ((c.tc : Thread Cert.SmallUpdateRefIdeal.nD Cert.SmallUpdateRefIdeal.τ).loc Cert.SmallUpdateRefIdeal.main_arg4) = m ((c.tc : Thread Cert.SmallUpdateRefIdeal.nD Cert.SmallUpdateRefIdeal.τ).loc Cert.SmallUpdateRefIdeal.main_arg4)
      ∧ r.2.mem ((c.tc : Thread Cert.SmallUpdateRefIdeal.nD Cert.SmallUpdateRefIdeal.τ).loc Cert.SmallUpdateRefIdeal.main_arg5) = m ((c.tc : Thread Cert.SmallUpdateRefIdeal.nD Cert.SmallUpdateRefIdeal.τ).loc Cert.SmallUpdateRefIdeal.main_arg5)
      ∧ r.2.mem ((c.tc : Thread Cert.SmallUpdateRefIdeal.nD Cert.SmallUpdateRefIdeal.τ).loc Cert.SmallUpdateRefIdeal.main_arg6) = m ((c.tc : Thread Cert.SmallUpdateRefIdeal.nD Cert.SmallUpdateRefIdeal.τ).loc Cert.SmallUpdateRefIdeal.main_arg6)
      ∧ r.2.mem ((c.tc : Thread Cert.SmallUpdateRefIdeal.nD Cert.SmallUpdateRefIdeal.τ).loc Cert.SmallUpdateRefIdeal.main_arg7) = m ((c.tc : Thread Cert.SmallUpdateRefIdeal.nD Cert.SmallUpdateRefIdeal.τ).loc Cert.SmallUpdateRefIdeal.main_arg7)
      ∧ r.2.mem ((c.tc : Thread Cert.SmallUpdateRefIdeal.nD Cert.SmallUpdateRefIdeal.τ).loc Cert.SmallUpdateRefIdeal.main_arg8) = m ((c.tc : Thread Cert.SmallUpdateRefIdeal.nD Cert.SmallUpdateRefIdeal.τ).loc Cert.SmallUpdateRefIdeal.main_arg8)
      ∧ r.2.mem ((c.tc : Thread Cert.SmallUpdateRefIdeal.nD Cert.SmallUpdateRefIdeal.τ).loc Cert.SmallUpdateRefIdeal.main_arg9) = m ((c.tc : Thread Cert.SmallUpdateRefIdeal.nD Cert.SmallUpdateRefIdeal.τ).loc Cert.SmallUpdateRefIdeal.main_arg9)
      ∧ r.2.mem ((c.tc : Thread Cert.SmallUpdateRefIdeal.nD Cert.SmallUpdateRefIdeal.τ).loc Cert.SmallUpdateRefIdeal.main_arg10) = m ((c.tc : Thread Cert.SmallUpdateRefIdeal.nD Cert.SmallUpdateRefIdeal.τ).loc Cert.SmallUpdateRefIdeal.main_arg10)
      ∧ r.2.mem ((c.tc : Thread Cert.SmallUpdateRefIdeal.nD Cert.SmallUpdateRefIdeal.τ).loc Cert.SmallUpdateRefIdeal.main_arg11) = m ((c.tc : Thread Cert.SmallUpdateRefIdeal.nD Cert.SmallUpdateRefIdeal.τ).loc Cert.SmallUpdateRefIdeal.main_arg11)
      ∧ r.2.mem ((c.tc : Thread Cert.SmallUpdateRefIdeal.nD Cert.SmallUpdateRefIdeal.τ).loc Cert.SmallUpdateRefIdeal.main_arg12) = m ((c.tc : Thread Cert.SmallUpdateRefIdeal.nD Cert.SmallUpdateRefIdeal.τ).loc Cert.SmallUpdateRefIdeal.main_arg12)
      ∧ r.2.mem ((c.tc : Thread Cert.SmallUpdateRefIdeal.nD Cert.SmallUpdateRefIdeal.τ).loc Cert.SmallUpdateRefIdeal.main_arg13) = m ((c.tc : Thread Cert.SmallUpdateRefIdeal.nD Cert.SmallUpdateRefIdeal.τ).loc Cert.SmallUpdateRefIdeal.main_arg13)
      ∧ r.2.mem ((c.tc : Thread Cert.SmallUpdateRefIdeal.nD Cert.SmallUpdateRefIdeal.τ).loc Cert.SmallUpdateRefIdeal.main_arg14) = m ((c.tc : Thread Cert.SmallUpdateRefIdeal.nD Cert.SmallUpdateRefIdeal.τ).loc Cert.SmallUpdateRefIdeal.main_arg14)
      ∧ r.2.mem ((c.tc : Thread Cert.SmallUpdateRefIdeal.nD Cert.SmallUpdateRefIdeal.τ).loc Cert.SmallUpdateRefIdeal.main_arg15) = m ((c.tc : Thread Cert.SmallUpdateRefIdeal.nD Cert.SmallUpdateRefIdeal.τ).loc Cert.SmallUpdateRefIdeal.main_arg15)
      ∧ r.2.mem ((c.tc : Thread Cert.SmallUpdateRefIdeal.nD Cert.SmallUpdateRefIdeal.τ).loc Cert.SmallUpdateRefIdeal.main_arg16) = m ((c.tc : Thread Cert.SmallUpdateRefIdeal.nD Cert.SmallUpdateRefIdeal.τ).loc Cert.SmallUpdateRefIdeal.main_arg16)
      ∧ r.2.mem ((c.tc : Thread Cert.SmallUpdateRefIdeal.nD Cert.SmallUpdateRefIdeal.τ).loc Cert.SmallUpdateRefIdeal.main_arg17) = m ((c.tc : Thread Cert.SmallUpdateRefIdeal.nD Cert.SmallUpdateRefIdeal.τ).loc Cert.SmallUpdateRefIdeal.main_arg17)
      ∧ r.2.mem ((c.tc : Thread Cert.SmallUpdateRefIdeal.nD Cert.SmallUpdateRefIdeal.τ).loc Cert.SmallUpdateRefIdeal.main_arg18) = m ((c.tc : Thread Cert.SmallUpdateRefIdeal.nD Cert.SmallUpdateRefIdeal.τ).loc Cert.SmallUpdateRefIdeal.main_arg18)
      ∧ r.2.mem ((c.tc : Thread Cert.SmallUpdateRefIdeal.nD Cert.SmallUpdateRefIdeal.τ).loc Cert.SmallUpdateRefIdeal.main_arg19) = m ((c.tc : Thread Cert.SmallUpdateRefIdeal.nD Cert.SmallUpdateRefIdeal.τ).loc Cert.SmallUpdateRefIdeal.main_arg19))
      ∧ r.2.sem = fun _ => 0)

def quiescent_SmallUpdateRefIdeal_pre_small_finite [hSmallUpdateRefIdeal : Cert.SmallUpdateRefIdeal.Facts] [hPre_small_finite : Cert.Pre_small_finite.Facts] : Prop :=
  ∀ (m : (ℓ : Loc Cert.SmallUpdateRefIdeal.nD Cert.SmallUpdateRefIdeal.τ Cert.SmallUpdateRefIdeal.sig) → Buf (Elt Ideal) ℓ) (g : Dev Cert.SmallUpdateRefIdeal.nD → PrngReg), Pre_SmallUpdateRefIdeal_small_finite m →
    θ_run (Cert.SmallUpdateRefIdeal.defs (F := Ideal)) (onTc (τ := Cert.SmallUpdateRefIdeal.τ) (Cert.SmallUpdateRefIdeal.main (F := Ideal))) ⟨m, fun _ => 0, g⟩ (fun r => (∀ c : Dev Cert.SmallUpdateRefIdeal.nD,
      r.2.mem ((c.tc : Thread Cert.SmallUpdateRefIdeal.nD Cert.SmallUpdateRefIdeal.τ).loc Cert.SmallUpdateRefIdeal.main_arg0) = m ((c.tc : Thread Cert.SmallUpdateRefIdeal.nD Cert.SmallUpdateRefIdeal.τ).loc Cert.SmallUpdateRefIdeal.main_arg0)
      ∧ r.2.mem ((c.tc : Thread Cert.SmallUpdateRefIdeal.nD Cert.SmallUpdateRefIdeal.τ).loc Cert.SmallUpdateRefIdeal.main_arg1) = m ((c.tc : Thread Cert.SmallUpdateRefIdeal.nD Cert.SmallUpdateRefIdeal.τ).loc Cert.SmallUpdateRefIdeal.main_arg1)
      ∧ r.2.mem ((c.tc : Thread Cert.SmallUpdateRefIdeal.nD Cert.SmallUpdateRefIdeal.τ).loc Cert.SmallUpdateRefIdeal.main_arg2) = m ((c.tc : Thread Cert.SmallUpdateRefIdeal.nD Cert.SmallUpdateRefIdeal.τ).loc Cert.SmallUpdateRefIdeal.main_arg2)
      ∧ r.2.mem ((c.tc : Thread Cert.SmallUpdateRefIdeal.nD Cert.SmallUpdateRefIdeal.τ).loc Cert.SmallUpdateRefIdeal.main_arg3) = m ((c.tc : Thread Cert.SmallUpdateRefIdeal.nD Cert.SmallUpdateRefIdeal.τ).loc Cert.SmallUpdateRefIdeal.main_arg3)
      ∧ r.2.mem ((c.tc : Thread Cert.SmallUpdateRefIdeal.nD Cert.SmallUpdateRefIdeal.τ).loc Cert.SmallUpdateRefIdeal.main_arg4) = m ((c.tc : Thread Cert.SmallUpdateRefIdeal.nD Cert.SmallUpdateRefIdeal.τ).loc Cert.SmallUpdateRefIdeal.main_arg4)
      ∧ r.2.mem ((c.tc : Thread Cert.SmallUpdateRefIdeal.nD Cert.SmallUpdateRefIdeal.τ).loc Cert.SmallUpdateRefIdeal.main_arg5) = m ((c.tc : Thread Cert.SmallUpdateRefIdeal.nD Cert.SmallUpdateRefIdeal.τ).loc Cert.SmallUpdateRefIdeal.main_arg5)
      ∧ r.2.mem ((c.tc : Thread Cert.SmallUpdateRefIdeal.nD Cert.SmallUpdateRefIdeal.τ).loc Cert.SmallUpdateRefIdeal.main_arg6) = m ((c.tc : Thread Cert.SmallUpdateRefIdeal.nD Cert.SmallUpdateRefIdeal.τ).loc Cert.SmallUpdateRefIdeal.main_arg6)
      ∧ r.2.mem ((c.tc : Thread Cert.SmallUpdateRefIdeal.nD Cert.SmallUpdateRefIdeal.τ).loc Cert.SmallUpdateRefIdeal.main_arg7) = m ((c.tc : Thread Cert.SmallUpdateRefIdeal.nD Cert.SmallUpdateRefIdeal.τ).loc Cert.SmallUpdateRefIdeal.main_arg7)
      ∧ r.2.mem ((c.tc : Thread Cert.SmallUpdateRefIdeal.nD Cert.SmallUpdateRefIdeal.τ).loc Cert.SmallUpdateRefIdeal.main_arg8) = m ((c.tc : Thread Cert.SmallUpdateRefIdeal.nD Cert.SmallUpdateRefIdeal.τ).loc Cert.SmallUpdateRefIdeal.main_arg8)
      ∧ r.2.mem ((c.tc : Thread Cert.SmallUpdateRefIdeal.nD Cert.SmallUpdateRefIdeal.τ).loc Cert.SmallUpdateRefIdeal.main_arg9) = m ((c.tc : Thread Cert.SmallUpdateRefIdeal.nD Cert.SmallUpdateRefIdeal.τ).loc Cert.SmallUpdateRefIdeal.main_arg9)
      ∧ r.2.mem ((c.tc : Thread Cert.SmallUpdateRefIdeal.nD Cert.SmallUpdateRefIdeal.τ).loc Cert.SmallUpdateRefIdeal.main_arg10) = m ((c.tc : Thread Cert.SmallUpdateRefIdeal.nD Cert.SmallUpdateRefIdeal.τ).loc Cert.SmallUpdateRefIdeal.main_arg10)
      ∧ r.2.mem ((c.tc : Thread Cert.SmallUpdateRefIdeal.nD Cert.SmallUpdateRefIdeal.τ).loc Cert.SmallUpdateRefIdeal.main_arg11) = m ((c.tc : Thread Cert.SmallUpdateRefIdeal.nD Cert.SmallUpdateRefIdeal.τ).loc Cert.SmallUpdateRefIdeal.main_arg11)
      ∧ r.2.mem ((c.tc : Thread Cert.SmallUpdateRefIdeal.nD Cert.SmallUpdateRefIdeal.τ).loc Cert.SmallUpdateRefIdeal.main_arg12) = m ((c.tc : Thread Cert.SmallUpdateRefIdeal.nD Cert.SmallUpdateRefIdeal.τ).loc Cert.SmallUpdateRefIdeal.main_arg12)
      ∧ r.2.mem ((c.tc : Thread Cert.SmallUpdateRefIdeal.nD Cert.SmallUpdateRefIdeal.τ).loc Cert.SmallUpdateRefIdeal.main_arg13) = m ((c.tc : Thread Cert.SmallUpdateRefIdeal.nD Cert.SmallUpdateRefIdeal.τ).loc Cert.SmallUpdateRefIdeal.main_arg13)
      ∧ r.2.mem ((c.tc : Thread Cert.SmallUpdateRefIdeal.nD Cert.SmallUpdateRefIdeal.τ).loc Cert.SmallUpdateRefIdeal.main_arg14) = m ((c.tc : Thread Cert.SmallUpdateRefIdeal.nD Cert.SmallUpdateRefIdeal.τ).loc Cert.SmallUpdateRefIdeal.main_arg14)
      ∧ r.2.mem ((c.tc : Thread Cert.SmallUpdateRefIdeal.nD Cert.SmallUpdateRefIdeal.τ).loc Cert.SmallUpdateRefIdeal.main_arg15) = m ((c.tc : Thread Cert.SmallUpdateRefIdeal.nD Cert.SmallUpdateRefIdeal.τ).loc Cert.SmallUpdateRefIdeal.main_arg15)
      ∧ r.2.mem ((c.tc : Thread Cert.SmallUpdateRefIdeal.nD Cert.SmallUpdateRefIdeal.τ).loc Cert.SmallUpdateRefIdeal.main_arg16) = m ((c.tc : Thread Cert.SmallUpdateRefIdeal.nD Cert.SmallUpdateRefIdeal.τ).loc Cert.SmallUpdateRefIdeal.main_arg16)
      ∧ r.2.mem ((c.tc : Thread Cert.SmallUpdateRefIdeal.nD Cert.SmallUpdateRefIdeal.τ).loc Cert.SmallUpdateRefIdeal.main_arg17) = m ((c.tc : Thread Cert.SmallUpdateRefIdeal.nD Cert.SmallUpdateRefIdeal.τ).loc Cert.SmallUpdateRefIdeal.main_arg17)
      ∧ r.2.mem ((c.tc : Thread Cert.SmallUpdateRefIdeal.nD Cert.SmallUpdateRefIdeal.τ).loc Cert.SmallUpdateRefIdeal.main_arg18) = m ((c.tc : Thread Cert.SmallUpdateRefIdeal.nD Cert.SmallUpdateRefIdeal.τ).loc Cert.SmallUpdateRefIdeal.main_arg18)
      ∧ r.2.mem ((c.tc : Thread Cert.SmallUpdateRefIdeal.nD Cert.SmallUpdateRefIdeal.τ).loc Cert.SmallUpdateRefIdeal.main_arg19) = m ((c.tc : Thread Cert.SmallUpdateRefIdeal.nD Cert.SmallUpdateRefIdeal.τ).loc Cert.SmallUpdateRefIdeal.main_arg19))
      ∧ r.2.sem = fun _ => 0)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ r.2.sem = fun _ => 0)

def quiescent_SwaFwdIdeal_pre_swa_fwd_finite [hSwaFwdIdeal : Cert.SwaFwdIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_swa_fwd_finite m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1))
      ∧ r.2.sem = fun _ => 0)

def quiescent_SwaFwdRefIdeal_pre_swa_fwd_finite [hSwaFwdRefIdeal : Cert.SwaFwdRefIdeal.Facts] [hPre_swa_fwd_finite : Cert.Pre_swa_fwd_finite.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_swa_fwd_finite m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4))
      ∧ r.2.sem = fun _ => 0)

def quiescent_HgrnFwd [hHgrnFwd : Cert.HgrnFwd.Facts] : Prop :=
  ∀ (m : (ℓ : Loc Cert.HgrnFwd.nD Cert.HgrnFwd.τ Cert.HgrnFwd.sig) → Buf (Elt Bits) ℓ) (g : Dev Cert.HgrnFwd.nD → PrngReg), Pre_HgrnFwd m →
    θ_run (Cert.HgrnFwd.defs (F := Bits)) (onTc (τ := Cert.HgrnFwd.τ) (Cert.HgrnFwd.main (F := Bits))) ⟨m, fun _ => 0, g⟩ (fun r => (∀ c : Dev Cert.HgrnFwd.nD,
      r.2.mem ((c.tc : Thread Cert.HgrnFwd.nD Cert.HgrnFwd.τ).loc Cert.HgrnFwd.main_arg0) = m ((c.tc : Thread Cert.HgrnFwd.nD Cert.HgrnFwd.τ).loc Cert.HgrnFwd.main_arg0)
      ∧ r.2.mem ((c.tc : Thread Cert.HgrnFwd.nD Cert.HgrnFwd.τ).loc Cert.HgrnFwd.main_arg1) = m ((c.tc : Thread Cert.HgrnFwd.nD Cert.HgrnFwd.τ).loc Cert.HgrnFwd.main_arg1)
      ∧ r.2.mem ((c.tc : Thread Cert.HgrnFwd.nD Cert.HgrnFwd.τ).loc Cert.HgrnFwd.main_arg2) = m ((c.tc : Thread Cert.HgrnFwd.nD Cert.HgrnFwd.τ).loc Cert.HgrnFwd.main_arg2))
      ∧ r.2.sem = fun _ => 0)

def quiescent_HgrnFwdIdeal [hHgrnFwdIdeal : Cert.HgrnFwdIdeal.Facts] : Prop :=
  ∀ (m : (ℓ : Loc Cert.HgrnFwdIdeal.nD Cert.HgrnFwdIdeal.τ Cert.HgrnFwdIdeal.sig) → Buf (Elt Ideal) ℓ) (g : Dev Cert.HgrnFwdIdeal.nD → PrngReg), Pre_HgrnFwdIdeal m →
    θ_run (Cert.HgrnFwdIdeal.defs (F := Ideal)) (onTc (τ := Cert.HgrnFwdIdeal.τ) (Cert.HgrnFwdIdeal.main (F := Ideal))) ⟨m, fun _ => 0, g⟩ (fun r => (∀ c : Dev Cert.HgrnFwdIdeal.nD,
      r.2.mem ((c.tc : Thread Cert.HgrnFwdIdeal.nD Cert.HgrnFwdIdeal.τ).loc Cert.HgrnFwdIdeal.main_arg0) = m ((c.tc : Thread Cert.HgrnFwdIdeal.nD Cert.HgrnFwdIdeal.τ).loc Cert.HgrnFwdIdeal.main_arg0)
      ∧ r.2.mem ((c.tc : Thread Cert.HgrnFwdIdeal.nD Cert.HgrnFwdIdeal.τ).loc Cert.HgrnFwdIdeal.main_arg1) = m ((c.tc : Thread Cert.HgrnFwdIdeal.nD Cert.HgrnFwdIdeal.τ).loc Cert.HgrnFwdIdeal.main_arg1)
      ∧ r.2.mem ((c.tc : Thread Cert.HgrnFwdIdeal.nD Cert.HgrnFwdIdeal.τ).loc Cert.HgrnFwdIdeal.main_arg2) = m ((c.tc : Thread Cert.HgrnFwdIdeal.nD Cert.HgrnFwdIdeal.τ).loc Cert.HgrnFwdIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def preserves_OutBwd_OutBwdIdeal : Prop :=
  True

def algebraic_OutBwdIdeal_OutBwdRefIdeal_pre_out_finite [hOutBwdIdeal : Cert.OutBwdIdeal.Facts] [hOutBwdRefIdeal : Cert.OutBwdRefIdeal.Facts] [hPre_out_finite : Cert.Pre_out_finite.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal_out_finite m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)) →
    ∃ (v0 : (c : Dev Cert.OutBwdIdeal.nD) → Buf (Elt Ideal) ((c.tc : Thread Cert.OutBwdIdeal.nD Cert.OutBwdIdeal.τ).loc Cert.OutBwdIdeal.main_v13_0)) (v1 : (c : Dev Cert.OutBwdIdeal.nD) → Buf (Elt Ideal) ((c.tc : Thread Cert.OutBwdIdeal.nD Cert.OutBwdIdeal.τ).loc Cert.OutBwdIdeal.main_v13_1)) (v2 : (c : Dev Cert.OutBwdIdeal.nD) → Buf (Elt Ideal) ((c.tc : Thread Cert.OutBwdIdeal.nD Cert.OutBwdIdeal.τ).loc Cert.OutBwdIdeal.main_v13_2)) (v3 : (c : Dev Cert.OutBwdIdeal.nD) → Buf (Elt Ideal) ((c.tc : Thread Cert.OutBwdIdeal.nD Cert.OutBwdIdeal.τ).loc Cert.OutBwdIdeal.main_v13_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v13_0) = v0 c
          ∧ r.2.mem ((c.tc : Thread Cert.OutBwdIdeal.nD Cert.OutBwdIdeal.τ).loc Cert.OutBwdIdeal.main_v13_1) = v1 c
          ∧ r.2.mem ((c.tc : Thread Cert.OutBwdIdeal.nD Cert.OutBwdIdeal.τ).loc Cert.OutBwdIdeal.main_v13_2) = v2 c
          ∧ r.2.mem ((c.tc : Thread Cert.OutBwdIdeal.nD Cert.OutBwdIdeal.τ).loc Cert.OutBwdIdeal.main_v13_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v43) = v0 c
          ∧ r.2.mem ((c.tc : Thread Cert.OutBwdRefIdeal.nD Cert.OutBwdRefIdeal.τ).loc Cert.OutBwdRefIdeal.main_v44) = v1 c
          ∧ r.2.mem ((c.tc : Thread Cert.OutBwdRefIdeal.nD Cert.OutBwdRefIdeal.τ).loc Cert.OutBwdRefIdeal.main_v39) = v2 c
          ∧ r.2.mem ((c.tc : Thread Cert.OutBwdRefIdeal.nD Cert.OutBwdRefIdeal.τ).loc Cert.OutBwdRefIdeal.main_v45) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4))

def preserves_InBwd_InBwdIdeal : Prop :=
  True

def algebraic_InBwdIdeal_InBwdRefIdeal_pre_in_finite [hInBwdIdeal : Cert.InBwdIdeal.Facts] [hInBwdRefIdeal : Cert.InBwdRefIdeal.Facts] [hPre_in_finite : Cert.Pre_in_finite.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal_in_finite m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v15_0)) (v1 : (c : Dev Cert.InBwdIdeal.nD) → Buf (Elt Ideal) ((c.tc : Thread Cert.InBwdIdeal.nD Cert.InBwdIdeal.τ).loc Cert.InBwdIdeal.main_v15_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v15_0) = v0 c
          ∧ r.2.mem ((c.tc : Thread Cert.InBwdIdeal.nD Cert.InBwdIdeal.τ).loc Cert.InBwdIdeal.main_v15_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v41) = v0 c
          ∧ r.2.mem ((c.tc : Thread Cert.InBwdRefIdeal.nD Cert.InBwdRefIdeal.τ).loc Cert.InBwdRefIdeal.main_v42) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_SwaBwd_SwaBwdIdeal : Prop :=
  IdealRules.named_const.Statement Cert.SwaBwdIdeal.κ "mask" .f32 0xF149F2CA#32 ⊥

def algebraic_SwaBwdIdeal_SwaBwdRefIdeal_pre_swa_finite [hSwaBwdIdeal : Cert.SwaBwdIdeal.Facts] [hSwaBwdRefIdeal : Cert.SwaBwdRefIdeal.Facts] [hPre_swa_finite : Cert.Pre_swa_finite.Facts] : Prop :=
  ∀ (m : (ℓ : Loc Cert.SwaBwdIdeal.nD Cert.SwaBwdIdeal.τ Cert.SwaBwdIdeal.sig) → Buf (Elt Ideal) ℓ) (g : Dev Cert.SwaBwdIdeal.nD → PrngReg)
    (m' : (ℓ : Loc Cert.SwaBwdRefIdeal.nD Cert.SwaBwdRefIdeal.τ Cert.SwaBwdRefIdeal.sig) → Buf (Elt Ideal) ℓ) (g' : Dev Cert.SwaBwdRefIdeal.nD → PrngReg), Pre_SwaBwdIdeal_swa_finite m →
    (∀ c : Dev Cert.SwaBwdIdeal.nD,
      m' ((c.tc : Thread Cert.SwaBwdRefIdeal.nD Cert.SwaBwdRefIdeal.τ).loc Cert.SwaBwdRefIdeal.main_arg0) = m ((c.tc : Thread Cert.SwaBwdIdeal.nD Cert.SwaBwdIdeal.τ).loc Cert.SwaBwdIdeal.main_arg0)
      ∧ m' ((c.tc : Thread Cert.SwaBwdRefIdeal.nD Cert.SwaBwdRefIdeal.τ).loc Cert.SwaBwdRefIdeal.main_arg1) = m ((c.tc : Thread Cert.SwaBwdIdeal.nD Cert.SwaBwdIdeal.τ).loc Cert.SwaBwdIdeal.main_arg1)
      ∧ m' ((c.tc : Thread Cert.SwaBwdRefIdeal.nD Cert.SwaBwdRefIdeal.τ).loc Cert.SwaBwdRefIdeal.main_arg2) = m ((c.tc : Thread Cert.SwaBwdIdeal.nD Cert.SwaBwdIdeal.τ).loc Cert.SwaBwdIdeal.main_arg2)) →
    ∃ (v0 : (c : Dev Cert.SwaBwdIdeal.nD) → Buf (Elt Ideal) ((c.tc : Thread Cert.SwaBwdIdeal.nD Cert.SwaBwdIdeal.τ).loc Cert.SwaBwdIdeal.main_v31_0)) (v1 : (c : Dev Cert.SwaBwdIdeal.nD) → Buf (Elt Ideal) ((c.tc : Thread Cert.SwaBwdIdeal.nD Cert.SwaBwdIdeal.τ).loc Cert.SwaBwdIdeal.main_v31_1)) (v2 : (c : Dev Cert.SwaBwdIdeal.nD) → Buf (Elt Ideal) ((c.tc : Thread Cert.SwaBwdIdeal.nD Cert.SwaBwdIdeal.τ).loc Cert.SwaBwdIdeal.main_v31_2)) (v3 : (c : Dev Cert.SwaBwdIdeal.nD) → Buf (Elt Ideal) ((c.tc : Thread Cert.SwaBwdIdeal.nD Cert.SwaBwdIdeal.τ).loc Cert.SwaBwdIdeal.main_v31_3)),
      θ_run (Cert.SwaBwdIdeal.defs (F := Ideal)) (onTc (τ := Cert.SwaBwdIdeal.τ) (Cert.SwaBwdIdeal.main (F := Ideal))) ⟨m, fun _ => 0, g⟩ (fun r => ∀ c : Dev Cert.SwaBwdIdeal.nD,
          r.2.mem ((c.tc : Thread Cert.SwaBwdIdeal.nD Cert.SwaBwdIdeal.τ).loc Cert.SwaBwdIdeal.main_v31_0) = v0 c
          ∧ r.2.mem ((c.tc : Thread Cert.SwaBwdIdeal.nD Cert.SwaBwdIdeal.τ).loc Cert.SwaBwdIdeal.main_v31_1) = v1 c
          ∧ r.2.mem ((c.tc : Thread Cert.SwaBwdIdeal.nD Cert.SwaBwdIdeal.τ).loc Cert.SwaBwdIdeal.main_v31_2) = v2 c
          ∧ r.2.mem ((c.tc : Thread Cert.SwaBwdIdeal.nD Cert.SwaBwdIdeal.τ).loc Cert.SwaBwdIdeal.main_v31_3) = v3 c
          ∧ r.2.mem ((c.tc : Thread Cert.SwaBwdIdeal.nD Cert.SwaBwdIdeal.τ).loc Cert.SwaBwdIdeal.main_arg0) = m ((c.tc : Thread Cert.SwaBwdIdeal.nD Cert.SwaBwdIdeal.τ).loc Cert.SwaBwdIdeal.main_arg0)
          ∧ r.2.mem ((c.tc : Thread Cert.SwaBwdIdeal.nD Cert.SwaBwdIdeal.τ).loc Cert.SwaBwdIdeal.main_arg1) = m ((c.tc : Thread Cert.SwaBwdIdeal.nD Cert.SwaBwdIdeal.τ).loc Cert.SwaBwdIdeal.main_arg1)
          ∧ r.2.mem ((c.tc : Thread Cert.SwaBwdIdeal.nD Cert.SwaBwdIdeal.τ).loc Cert.SwaBwdIdeal.main_arg2) = m ((c.tc : Thread Cert.SwaBwdIdeal.nD Cert.SwaBwdIdeal.τ).loc Cert.SwaBwdIdeal.main_arg2))
      ∧ θ_run (Cert.SwaBwdRefIdeal.defs (F := Ideal)) (onTc (τ := Cert.SwaBwdRefIdeal.τ) (Cert.SwaBwdRefIdeal.main (F := Ideal))) ⟨m', fun _ => 0, g'⟩ (fun r => ∀ c : Dev Cert.SwaBwdRefIdeal.nD,
          r.2.mem ((c.tc : Thread Cert.SwaBwdRefIdeal.nD Cert.SwaBwdRefIdeal.τ).loc Cert.SwaBwdRefIdeal.main_v246) = v0 c
          ∧ r.2.mem ((c.tc : Thread Cert.SwaBwdRefIdeal.nD Cert.SwaBwdRefIdeal.τ).loc Cert.SwaBwdRefIdeal.main_v248) = v1 c
          ∧ r.2.mem ((c.tc : Thread Cert.SwaBwdRefIdeal.nD Cert.SwaBwdRefIdeal.τ).loc Cert.SwaBwdRefIdeal.main_v249) = v2 c
          ∧ r.2.mem ((c.tc : Thread Cert.SwaBwdRefIdeal.nD Cert.SwaBwdRefIdeal.τ).loc Cert.SwaBwdRefIdeal.main_v251) = v3 c
          ∧ r.2.mem ((c.tc : Thread Cert.SwaBwdRefIdeal.nD Cert.SwaBwdRefIdeal.τ).loc Cert.SwaBwdRefIdeal.main_arg0) = m' ((c.tc : Thread Cert.SwaBwdRefIdeal.nD Cert.SwaBwdRefIdeal.τ).loc Cert.SwaBwdRefIdeal.main_arg0)
          ∧ r.2.mem ((c.tc : Thread Cert.SwaBwdRefIdeal.nD Cert.SwaBwdRefIdeal.τ).loc Cert.SwaBwdRefIdeal.main_arg1) = m' ((c.tc : Thread Cert.SwaBwdRefIdeal.nD Cert.SwaBwdRefIdeal.τ).loc Cert.SwaBwdRefIdeal.main_arg1)
          ∧ r.2.mem ((c.tc : Thread Cert.SwaBwdRefIdeal.nD Cert.SwaBwdRefIdeal.τ).loc Cert.SwaBwdRefIdeal.main_arg2) = m' ((c.tc : Thread Cert.SwaBwdRefIdeal.nD Cert.SwaBwdRefIdeal.τ).loc Cert.SwaBwdRefIdeal.main_arg2))

def preserves_LossBwd_LossBwdIdeal : Prop :=
  True

def algebraic_LossBwdIdeal_LossBwdRefIdeal [hLossBwdIdeal : Cert.LossBwdIdeal.Facts] [hLossBwdRefIdeal : Cert.LossBwdRefIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdRefIdeal.nD Cert.LossBwdRefIdeal.τ Cert.LossBwdRefIdeal.sig) → Buf (Elt Ideal) ℓ) (g' : Dev Cert.LossBwdRefIdeal.nD → PrngReg), Pre_LossBwdIdeal m →
    (∀ c : Dev Cert.LossBwdIdeal.nD,
      m' ((c.tc : Thread Cert.LossBwdRefIdeal.nD Cert.LossBwdRefIdeal.τ).loc Cert.LossBwdRefIdeal.main_arg0) = m ((c.tc : Thread Cert.LossBwdIdeal.nD Cert.LossBwdIdeal.τ).loc Cert.LossBwdIdeal.main_arg0)
      ∧ m' ((c.tc : Thread Cert.LossBwdRefIdeal.nD Cert.LossBwdRefIdeal.τ).loc Cert.LossBwdRefIdeal.main_arg1) = m ((c.tc : Thread Cert.LossBwdIdeal.nD Cert.LossBwdIdeal.τ).loc Cert.LossBwdIdeal.main_arg1)
      ∧ m' ((c.tc : Thread Cert.LossBwdRefIdeal.nD Cert.LossBwdRefIdeal.τ).loc Cert.LossBwdRefIdeal.main_arg2) = m ((c.tc : Thread Cert.LossBwdIdeal.nD Cert.LossBwdIdeal.τ).loc Cert.LossBwdIdeal.main_arg2)
      ∧ m' ((c.tc : Thread Cert.LossBwdRefIdeal.nD Cert.LossBwdRefIdeal.τ).loc Cert.LossBwdRefIdeal.main_arg3) = m ((c.tc : Thread Cert.LossBwdIdeal.nD Cert.LossBwdIdeal.τ).loc Cert.LossBwdIdeal.main_arg3)
      ∧ m' ((c.tc : Thread Cert.LossBwdRefIdeal.nD Cert.LossBwdRefIdeal.τ).loc Cert.LossBwdRefIdeal.main_arg4) = m ((c.tc : Thread Cert.LossBwdIdeal.nD Cert.LossBwdIdeal.τ).loc Cert.LossBwdIdeal.main_arg4)
      ∧ m' ((c.tc : Thread Cert.LossBwdRefIdeal.nD Cert.LossBwdRefIdeal.τ).loc Cert.LossBwdRefIdeal.main_arg5) = m ((c.tc : Thread Cert.LossBwdIdeal.nD Cert.LossBwdIdeal.τ).loc Cert.LossBwdIdeal.main_arg5)) →
    ∃ (v0 : (c : Dev Cert.LossBwdIdeal.nD) → Buf (Elt Ideal) ((c.tc : Thread Cert.LossBwdIdeal.nD Cert.LossBwdIdeal.τ).loc Cert.LossBwdIdeal.main_v9_0)) (v1 : (c : Dev Cert.LossBwdIdeal.nD) → Buf (Elt Ideal) ((c.tc : Thread Cert.LossBwdIdeal.nD Cert.LossBwdIdeal.τ).loc Cert.LossBwdIdeal.main_v9_1)) (v2 : (c : Dev Cert.LossBwdIdeal.nD) → Buf (Elt Ideal) ((c.tc : Thread Cert.LossBwdIdeal.nD Cert.LossBwdIdeal.τ).loc Cert.LossBwdIdeal.main_v9_2)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v9_0) = v0 c
          ∧ r.2.mem ((c.tc : Thread Cert.LossBwdIdeal.nD Cert.LossBwdIdeal.τ).loc Cert.LossBwdIdeal.main_v9_1) = v1 c
          ∧ r.2.mem ((c.tc : Thread Cert.LossBwdIdeal.nD Cert.LossBwdIdeal.τ).loc Cert.LossBwdIdeal.main_v9_2) = v2 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3)
          ∧ r.2.mem ((c.tc : Thread Cert.LossBwdIdeal.nD Cert.LossBwdIdeal.τ).loc Cert.LossBwdIdeal.main_arg4) = m ((c.tc : Thread Cert.LossBwdIdeal.nD Cert.LossBwdIdeal.τ).loc Cert.LossBwdIdeal.main_arg4)
          ∧ r.2.mem ((c.tc : Thread Cert.LossBwdIdeal.nD Cert.LossBwdIdeal.τ).loc Cert.LossBwdIdeal.main_arg5) = m ((c.tc : Thread Cert.LossBwdIdeal.nD Cert.LossBwdIdeal.τ).loc Cert.LossBwdIdeal.main_arg5))
      ∧ θ_run (Cert.LossBwdRefIdeal.defs (F := Ideal)) (onTc (τ := Cert.LossBwdRefIdeal.τ) (Cert.LossBwdRefIdeal.main (F := Ideal))) ⟨m', fun _ => 0, g'⟩ (fun r => ∀ c : Dev Cert.LossBwdRefIdeal.nD,
          r.2.mem ((c.tc : Thread Cert.LossBwdRefIdeal.nD Cert.LossBwdRefIdeal.τ).loc Cert.LossBwdRefIdeal.main_v31) = v0 c
          ∧ r.2.mem ((c.tc : Thread Cert.LossBwdRefIdeal.nD Cert.LossBwdRefIdeal.τ).loc Cert.LossBwdRefIdeal.main_v32) = v1 c
          ∧ r.2.mem ((c.tc : Thread Cert.LossBwdRefIdeal.nD Cert.LossBwdRefIdeal.τ).loc Cert.LossBwdRefIdeal.main_v33) = v2 c
          ∧ r.2.mem ((c.tc : Thread Cert.LossBwdRefIdeal.nD Cert.LossBwdRefIdeal.τ).loc Cert.LossBwdRefIdeal.main_arg0) = m' ((c.tc : Thread Cert.LossBwdRefIdeal.nD Cert.LossBwdRefIdeal.τ).loc Cert.LossBwdRefIdeal.main_arg0)
          ∧ r.2.mem ((c.tc : Thread Cert.LossBwdRefIdeal.nD Cert.LossBwdRefIdeal.τ).loc Cert.LossBwdRefIdeal.main_arg1) = m' ((c.tc : Thread Cert.LossBwdRefIdeal.nD Cert.LossBwdRefIdeal.τ).loc Cert.LossBwdRefIdeal.main_arg1)
          ∧ r.2.mem ((c.tc : Thread Cert.LossBwdRefIdeal.nD Cert.LossBwdRefIdeal.τ).loc Cert.LossBwdRefIdeal.main_arg2) = m' ((c.tc : Thread Cert.LossBwdRefIdeal.nD Cert.LossBwdRefIdeal.τ).loc Cert.LossBwdRefIdeal.main_arg2)
          ∧ r.2.mem ((c.tc : Thread Cert.LossBwdRefIdeal.nD Cert.LossBwdRefIdeal.τ).loc Cert.LossBwdRefIdeal.main_arg3) = m' ((c.tc : Thread Cert.LossBwdRefIdeal.nD Cert.LossBwdRefIdeal.τ).loc Cert.LossBwdRefIdeal.main_arg3)
          ∧ r.2.mem ((c.tc : Thread Cert.LossBwdRefIdeal.nD Cert.LossBwdRefIdeal.τ).loc Cert.LossBwdRefIdeal.main_arg4) = m' ((c.tc : Thread Cert.LossBwdRefIdeal.nD Cert.LossBwdRefIdeal.τ).loc Cert.LossBwdRefIdeal.main_arg4)
          ∧ r.2.mem ((c.tc : Thread Cert.LossBwdRefIdeal.nD Cert.LossBwdRefIdeal.τ).loc Cert.LossBwdRefIdeal.main_arg5) = m' ((c.tc : Thread Cert.LossBwdRefIdeal.nD Cert.LossBwdRefIdeal.τ).loc Cert.LossBwdRefIdeal.main_arg5))

def preserves_SmallUpdate_SmallUpdateIdeal : Prop :=
  True

def algebraic_SmallUpdateIdeal_SmallUpdateRefIdeal_pre_small_finite [hSmallUpdateIdeal : Cert.SmallUpdateIdeal.Facts] [hSmallUpdateRefIdeal : Cert.SmallUpdateRefIdeal.Facts] [hPre_small_finite : Cert.Pre_small_finite.Facts] : Prop :=
  ∀ (m : (ℓ : Loc Cert.SmallUpdateIdeal.nD Cert.SmallUpdateIdeal.τ Cert.SmallUpdateIdeal.sig) → Buf (Elt Ideal) ℓ) (g : Dev Cert.SmallUpdateIdeal.nD → PrngReg)
    (m' : (ℓ : Loc Cert.SmallUpdateRefIdeal.nD Cert.SmallUpdateRefIdeal.τ Cert.SmallUpdateRefIdeal.sig) → Buf (Elt Ideal) ℓ) (g' : Dev Cert.SmallUpdateRefIdeal.nD → PrngReg), Pre_SmallUpdateIdeal_small_finite m →
    (∀ c : Dev Cert.SmallUpdateIdeal.nD,
      m' ((c.tc : Thread Cert.SmallUpdateRefIdeal.nD Cert.SmallUpdateRefIdeal.τ).loc Cert.SmallUpdateRefIdeal.main_arg0) = m ((c.tc : Thread Cert.SmallUpdateIdeal.nD Cert.SmallUpdateIdeal.τ).loc Cert.SmallUpdateIdeal.main_arg0)
      ∧ m' ((c.tc : Thread Cert.SmallUpdateRefIdeal.nD Cert.SmallUpdateRefIdeal.τ).loc Cert.SmallUpdateRefIdeal.main_arg1) = m ((c.tc : Thread Cert.SmallUpdateIdeal.nD Cert.SmallUpdateIdeal.τ).loc Cert.SmallUpdateIdeal.main_arg1)
      ∧ m' ((c.tc : Thread Cert.SmallUpdateRefIdeal.nD Cert.SmallUpdateRefIdeal.τ).loc Cert.SmallUpdateRefIdeal.main_arg2) = m ((c.tc : Thread Cert.SmallUpdateIdeal.nD Cert.SmallUpdateIdeal.τ).loc Cert.SmallUpdateIdeal.main_arg2)
      ∧ m' ((c.tc : Thread Cert.SmallUpdateRefIdeal.nD Cert.SmallUpdateRefIdeal.τ).loc Cert.SmallUpdateRefIdeal.main_arg3) = m ((c.tc : Thread Cert.SmallUpdateIdeal.nD Cert.SmallUpdateIdeal.τ).loc Cert.SmallUpdateIdeal.main_arg3)
      ∧ m' ((c.tc : Thread Cert.SmallUpdateRefIdeal.nD Cert.SmallUpdateRefIdeal.τ).loc Cert.SmallUpdateRefIdeal.main_arg4) = m ((c.tc : Thread Cert.SmallUpdateIdeal.nD Cert.SmallUpdateIdeal.τ).loc Cert.SmallUpdateIdeal.main_arg4)
      ∧ m' ((c.tc : Thread Cert.SmallUpdateRefIdeal.nD Cert.SmallUpdateRefIdeal.τ).loc Cert.SmallUpdateRefIdeal.main_arg5) = m ((c.tc : Thread Cert.SmallUpdateIdeal.nD Cert.SmallUpdateIdeal.τ).loc Cert.SmallUpdateIdeal.main_arg5)
      ∧ m' ((c.tc : Thread Cert.SmallUpdateRefIdeal.nD Cert.SmallUpdateRefIdeal.τ).loc Cert.SmallUpdateRefIdeal.main_arg6) = m ((c.tc : Thread Cert.SmallUpdateIdeal.nD Cert.SmallUpdateIdeal.τ).loc Cert.SmallUpdateIdeal.main_arg6)
      ∧ m' ((c.tc : Thread Cert.SmallUpdateRefIdeal.nD Cert.SmallUpdateRefIdeal.τ).loc Cert.SmallUpdateRefIdeal.main_arg7) = m ((c.tc : Thread Cert.SmallUpdateIdeal.nD Cert.SmallUpdateIdeal.τ).loc Cert.SmallUpdateIdeal.main_arg7)
      ∧ m' ((c.tc : Thread Cert.SmallUpdateRefIdeal.nD Cert.SmallUpdateRefIdeal.τ).loc Cert.SmallUpdateRefIdeal.main_arg8) = m ((c.tc : Thread Cert.SmallUpdateIdeal.nD Cert.SmallUpdateIdeal.τ).loc Cert.SmallUpdateIdeal.main_arg8)
      ∧ m' ((c.tc : Thread Cert.SmallUpdateRefIdeal.nD Cert.SmallUpdateRefIdeal.τ).loc Cert.SmallUpdateRefIdeal.main_arg9) = m ((c.tc : Thread Cert.SmallUpdateIdeal.nD Cert.SmallUpdateIdeal.τ).loc Cert.SmallUpdateIdeal.main_arg9)
      ∧ m' ((c.tc : Thread Cert.SmallUpdateRefIdeal.nD Cert.SmallUpdateRefIdeal.τ).loc Cert.SmallUpdateRefIdeal.main_arg10) = m ((c.tc : Thread Cert.SmallUpdateIdeal.nD Cert.SmallUpdateIdeal.τ).loc Cert.SmallUpdateIdeal.main_arg10)
      ∧ m' ((c.tc : Thread Cert.SmallUpdateRefIdeal.nD Cert.SmallUpdateRefIdeal.τ).loc Cert.SmallUpdateRefIdeal.main_arg11) = m ((c.tc : Thread Cert.SmallUpdateIdeal.nD Cert.SmallUpdateIdeal.τ).loc Cert.SmallUpdateIdeal.main_arg11)
      ∧ m' ((c.tc : Thread Cert.SmallUpdateRefIdeal.nD Cert.SmallUpdateRefIdeal.τ).loc Cert.SmallUpdateRefIdeal.main_arg12) = m ((c.tc : Thread Cert.SmallUpdateIdeal.nD Cert.SmallUpdateIdeal.τ).loc Cert.SmallUpdateIdeal.main_arg12)
      ∧ m' ((c.tc : Thread Cert.SmallUpdateRefIdeal.nD Cert.SmallUpdateRefIdeal.τ).loc Cert.SmallUpdateRefIdeal.main_arg13) = m ((c.tc : Thread Cert.SmallUpdateIdeal.nD Cert.SmallUpdateIdeal.τ).loc Cert.SmallUpdateIdeal.main_arg13)
      ∧ m' ((c.tc : Thread Cert.SmallUpdateRefIdeal.nD Cert.SmallUpdateRefIdeal.τ).loc Cert.SmallUpdateRefIdeal.main_arg14) = m ((c.tc : Thread Cert.SmallUpdateIdeal.nD Cert.SmallUpdateIdeal.τ).loc Cert.SmallUpdateIdeal.main_arg14)
      ∧ m' ((c.tc : Thread Cert.SmallUpdateRefIdeal.nD Cert.SmallUpdateRefIdeal.τ).loc Cert.SmallUpdateRefIdeal.main_arg15) = m ((c.tc : Thread Cert.SmallUpdateIdeal.nD Cert.SmallUpdateIdeal.τ).loc Cert.SmallUpdateIdeal.main_arg15)
      ∧ m' ((c.tc : Thread Cert.SmallUpdateRefIdeal.nD Cert.SmallUpdateRefIdeal.τ).loc Cert.SmallUpdateRefIdeal.main_arg16) = m ((c.tc : Thread Cert.SmallUpdateIdeal.nD Cert.SmallUpdateIdeal.τ).loc Cert.SmallUpdateIdeal.main_arg16)
      ∧ m' ((c.tc : Thread Cert.SmallUpdateRefIdeal.nD Cert.SmallUpdateRefIdeal.τ).loc Cert.SmallUpdateRefIdeal.main_arg17) = m ((c.tc : Thread Cert.SmallUpdateIdeal.nD Cert.SmallUpdateIdeal.τ).loc Cert.SmallUpdateIdeal.main_arg17)
      ∧ m' ((c.tc : Thread Cert.SmallUpdateRefIdeal.nD Cert.SmallUpdateRefIdeal.τ).loc Cert.SmallUpdateRefIdeal.main_arg18) = m ((c.tc : Thread Cert.SmallUpdateIdeal.nD Cert.SmallUpdateIdeal.τ).loc Cert.SmallUpdateIdeal.main_arg18)
      ∧ m' ((c.tc : Thread Cert.SmallUpdateRefIdeal.nD Cert.SmallUpdateRefIdeal.τ).loc Cert.SmallUpdateRefIdeal.main_arg19) = m ((c.tc : Thread Cert.SmallUpdateIdeal.nD Cert.SmallUpdateIdeal.τ).loc Cert.SmallUpdateIdeal.main_arg19)) →
    ∃ (v0 : (c : Dev Cert.SmallUpdateIdeal.nD) → Buf (Elt Ideal) ((c.tc : Thread Cert.SmallUpdateIdeal.nD Cert.SmallUpdateIdeal.τ).loc Cert.SmallUpdateIdeal.main_v132_0)) (v1 : (c : Dev Cert.SmallUpdateIdeal.nD) → Buf (Elt Ideal) ((c.tc : Thread Cert.SmallUpdateIdeal.nD Cert.SmallUpdateIdeal.τ).loc Cert.SmallUpdateIdeal.main_v132_1)) (v2 : (c : Dev Cert.SmallUpdateIdeal.nD) → Buf (Elt Ideal) ((c.tc : Thread Cert.SmallUpdateIdeal.nD Cert.SmallUpdateIdeal.τ).loc Cert.SmallUpdateIdeal.main_v132_2)) (v3 : (c : Dev Cert.SmallUpdateIdeal.nD) → Buf (Elt Ideal) ((c.tc : Thread Cert.SmallUpdateIdeal.nD Cert.SmallUpdateIdeal.τ).loc Cert.SmallUpdateIdeal.main_v132_3)),
      θ_run (Cert.SmallUpdateIdeal.defs (F := Ideal)) (onTc (τ := Cert.SmallUpdateIdeal.τ) (Cert.SmallUpdateIdeal.main (F := Ideal))) ⟨m, fun _ => 0, g⟩ (fun r => ∀ c : Dev Cert.SmallUpdateIdeal.nD,
          r.2.mem ((c.tc : Thread Cert.SmallUpdateIdeal.nD Cert.SmallUpdateIdeal.τ).loc Cert.SmallUpdateIdeal.main_v132_0) = v0 c
          ∧ r.2.mem ((c.tc : Thread Cert.SmallUpdateIdeal.nD Cert.SmallUpdateIdeal.τ).loc Cert.SmallUpdateIdeal.main_v132_1) = v1 c
          ∧ r.2.mem ((c.tc : Thread Cert.SmallUpdateIdeal.nD Cert.SmallUpdateIdeal.τ).loc Cert.SmallUpdateIdeal.main_v132_2) = v2 c
          ∧ r.2.mem ((c.tc : Thread Cert.SmallUpdateIdeal.nD Cert.SmallUpdateIdeal.τ).loc Cert.SmallUpdateIdeal.main_v132_3) = v3 c
          ∧ r.2.mem ((c.tc : Thread Cert.SmallUpdateIdeal.nD Cert.SmallUpdateIdeal.τ).loc Cert.SmallUpdateIdeal.main_arg0) = m ((c.tc : Thread Cert.SmallUpdateIdeal.nD Cert.SmallUpdateIdeal.τ).loc Cert.SmallUpdateIdeal.main_arg0)
          ∧ r.2.mem ((c.tc : Thread Cert.SmallUpdateIdeal.nD Cert.SmallUpdateIdeal.τ).loc Cert.SmallUpdateIdeal.main_arg1) = m ((c.tc : Thread Cert.SmallUpdateIdeal.nD Cert.SmallUpdateIdeal.τ).loc Cert.SmallUpdateIdeal.main_arg1)
          ∧ r.2.mem ((c.tc : Thread Cert.SmallUpdateIdeal.nD Cert.SmallUpdateIdeal.τ).loc Cert.SmallUpdateIdeal.main_arg2) = m ((c.tc : Thread Cert.SmallUpdateIdeal.nD Cert.SmallUpdateIdeal.τ).loc Cert.SmallUpdateIdeal.main_arg2)
          ∧ r.2.mem ((c.tc : Thread Cert.SmallUpdateIdeal.nD Cert.SmallUpdateIdeal.τ).loc Cert.SmallUpdateIdeal.main_arg3) = m ((c.tc : Thread Cert.SmallUpdateIdeal.nD Cert.SmallUpdateIdeal.τ).loc Cert.SmallUpdateIdeal.main_arg3)
          ∧ r.2.mem ((c.tc : Thread Cert.SmallUpdateIdeal.nD Cert.SmallUpdateIdeal.τ).loc Cert.SmallUpdateIdeal.main_arg4) = m ((c.tc : Thread Cert.SmallUpdateIdeal.nD Cert.SmallUpdateIdeal.τ).loc Cert.SmallUpdateIdeal.main_arg4)
          ∧ r.2.mem ((c.tc : Thread Cert.SmallUpdateIdeal.nD Cert.SmallUpdateIdeal.τ).loc Cert.SmallUpdateIdeal.main_arg5) = m ((c.tc : Thread Cert.SmallUpdateIdeal.nD Cert.SmallUpdateIdeal.τ).loc Cert.SmallUpdateIdeal.main_arg5)
          ∧ r.2.mem ((c.tc : Thread Cert.SmallUpdateIdeal.nD Cert.SmallUpdateIdeal.τ).loc Cert.SmallUpdateIdeal.main_arg6) = m ((c.tc : Thread Cert.SmallUpdateIdeal.nD Cert.SmallUpdateIdeal.τ).loc Cert.SmallUpdateIdeal.main_arg6)
          ∧ r.2.mem ((c.tc : Thread Cert.SmallUpdateIdeal.nD Cert.SmallUpdateIdeal.τ).loc Cert.SmallUpdateIdeal.main_arg7) = m ((c.tc : Thread Cert.SmallUpdateIdeal.nD Cert.SmallUpdateIdeal.τ).loc Cert.SmallUpdateIdeal.main_arg7)
          ∧ r.2.mem ((c.tc : Thread Cert.SmallUpdateIdeal.nD Cert.SmallUpdateIdeal.τ).loc Cert.SmallUpdateIdeal.main_arg8) = m ((c.tc : Thread Cert.SmallUpdateIdeal.nD Cert.SmallUpdateIdeal.τ).loc Cert.SmallUpdateIdeal.main_arg8)
          ∧ r.2.mem ((c.tc : Thread Cert.SmallUpdateIdeal.nD Cert.SmallUpdateIdeal.τ).loc Cert.SmallUpdateIdeal.main_arg9) = m ((c.tc : Thread Cert.SmallUpdateIdeal.nD Cert.SmallUpdateIdeal.τ).loc Cert.SmallUpdateIdeal.main_arg9)
          ∧ r.2.mem ((c.tc : Thread Cert.SmallUpdateIdeal.nD Cert.SmallUpdateIdeal.τ).loc Cert.SmallUpdateIdeal.main_arg10) = m ((c.tc : Thread Cert.SmallUpdateIdeal.nD Cert.SmallUpdateIdeal.τ).loc Cert.SmallUpdateIdeal.main_arg10)
          ∧ r.2.mem ((c.tc : Thread Cert.SmallUpdateIdeal.nD Cert.SmallUpdateIdeal.τ).loc Cert.SmallUpdateIdeal.main_arg11) = m ((c.tc : Thread Cert.SmallUpdateIdeal.nD Cert.SmallUpdateIdeal.τ).loc Cert.SmallUpdateIdeal.main_arg11)
          ∧ r.2.mem ((c.tc : Thread Cert.SmallUpdateIdeal.nD Cert.SmallUpdateIdeal.τ).loc Cert.SmallUpdateIdeal.main_arg12) = m ((c.tc : Thread Cert.SmallUpdateIdeal.nD Cert.SmallUpdateIdeal.τ).loc Cert.SmallUpdateIdeal.main_arg12)
          ∧ r.2.mem ((c.tc : Thread Cert.SmallUpdateIdeal.nD Cert.SmallUpdateIdeal.τ).loc Cert.SmallUpdateIdeal.main_arg13) = m ((c.tc : Thread Cert.SmallUpdateIdeal.nD Cert.SmallUpdateIdeal.τ).loc Cert.SmallUpdateIdeal.main_arg13)
          ∧ r.2.mem ((c.tc : Thread Cert.SmallUpdateIdeal.nD Cert.SmallUpdateIdeal.τ).loc Cert.SmallUpdateIdeal.main_arg14) = m ((c.tc : Thread Cert.SmallUpdateIdeal.nD Cert.SmallUpdateIdeal.τ).loc Cert.SmallUpdateIdeal.main_arg14)
          ∧ r.2.mem ((c.tc : Thread Cert.SmallUpdateIdeal.nD Cert.SmallUpdateIdeal.τ).loc Cert.SmallUpdateIdeal.main_arg15) = m ((c.tc : Thread Cert.SmallUpdateIdeal.nD Cert.SmallUpdateIdeal.τ).loc Cert.SmallUpdateIdeal.main_arg15)
          ∧ r.2.mem ((c.tc : Thread Cert.SmallUpdateIdeal.nD Cert.SmallUpdateIdeal.τ).loc Cert.SmallUpdateIdeal.main_arg16) = m ((c.tc : Thread Cert.SmallUpdateIdeal.nD Cert.SmallUpdateIdeal.τ).loc Cert.SmallUpdateIdeal.main_arg16)
          ∧ r.2.mem ((c.tc : Thread Cert.SmallUpdateIdeal.nD Cert.SmallUpdateIdeal.τ).loc Cert.SmallUpdateIdeal.main_arg17) = m ((c.tc : Thread Cert.SmallUpdateIdeal.nD Cert.SmallUpdateIdeal.τ).loc Cert.SmallUpdateIdeal.main_arg17)
          ∧ r.2.mem ((c.tc : Thread Cert.SmallUpdateIdeal.nD Cert.SmallUpdateIdeal.τ).loc Cert.SmallUpdateIdeal.main_arg18) = m ((c.tc : Thread Cert.SmallUpdateIdeal.nD Cert.SmallUpdateIdeal.τ).loc Cert.SmallUpdateIdeal.main_arg18)
          ∧ r.2.mem ((c.tc : Thread Cert.SmallUpdateIdeal.nD Cert.SmallUpdateIdeal.τ).loc Cert.SmallUpdateIdeal.main_arg19) = m ((c.tc : Thread Cert.SmallUpdateIdeal.nD Cert.SmallUpdateIdeal.τ).loc Cert.SmallUpdateIdeal.main_arg19))
      ∧ θ_run (Cert.SmallUpdateRefIdeal.defs (F := Ideal)) (onTc (τ := Cert.SmallUpdateRefIdeal.τ) (Cert.SmallUpdateRefIdeal.main (F := Ideal))) ⟨m', fun _ => 0, g'⟩ (fun r => ∀ c : Dev Cert.SmallUpdateRefIdeal.nD,
          r.2.mem ((c.tc : Thread Cert.SmallUpdateRefIdeal.nD Cert.SmallUpdateRefIdeal.τ).loc Cert.SmallUpdateRefIdeal.main_v178) = v0 c
          ∧ r.2.mem ((c.tc : Thread Cert.SmallUpdateRefIdeal.nD Cert.SmallUpdateRefIdeal.τ).loc Cert.SmallUpdateRefIdeal.main_v186) = v1 c
          ∧ r.2.mem ((c.tc : Thread Cert.SmallUpdateRefIdeal.nD Cert.SmallUpdateRefIdeal.τ).loc Cert.SmallUpdateRefIdeal.main_v194) = v2 c
          ∧ r.2.mem ((c.tc : Thread Cert.SmallUpdateRefIdeal.nD Cert.SmallUpdateRefIdeal.τ).loc Cert.SmallUpdateRefIdeal.main_v202) = v3 c
          ∧ r.2.mem ((c.tc : Thread Cert.SmallUpdateRefIdeal.nD Cert.SmallUpdateRefIdeal.τ).loc Cert.SmallUpdateRefIdeal.main_arg0) = m' ((c.tc : Thread Cert.SmallUpdateRefIdeal.nD Cert.SmallUpdateRefIdeal.τ).loc Cert.SmallUpdateRefIdeal.main_arg0)
          ∧ r.2.mem ((c.tc : Thread Cert.SmallUpdateRefIdeal.nD Cert.SmallUpdateRefIdeal.τ).loc Cert.SmallUpdateRefIdeal.main_arg1) = m' ((c.tc : Thread Cert.SmallUpdateRefIdeal.nD Cert.SmallUpdateRefIdeal.τ).loc Cert.SmallUpdateRefIdeal.main_arg1)
          ∧ r.2.mem ((c.tc : Thread Cert.SmallUpdateRefIdeal.nD Cert.SmallUpdateRefIdeal.τ).loc Cert.SmallUpdateRefIdeal.main_arg2) = m' ((c.tc : Thread Cert.SmallUpdateRefIdeal.nD Cert.SmallUpdateRefIdeal.τ).loc Cert.SmallUpdateRefIdeal.main_arg2)
          ∧ r.2.mem ((c.tc : Thread Cert.SmallUpdateRefIdeal.nD Cert.SmallUpdateRefIdeal.τ).loc Cert.SmallUpdateRefIdeal.main_arg3) = m' ((c.tc : Thread Cert.SmallUpdateRefIdeal.nD Cert.SmallUpdateRefIdeal.τ).loc Cert.SmallUpdateRefIdeal.main_arg3)
          ∧ r.2.mem ((c.tc : Thread Cert.SmallUpdateRefIdeal.nD Cert.SmallUpdateRefIdeal.τ).loc Cert.SmallUpdateRefIdeal.main_arg4) = m' ((c.tc : Thread Cert.SmallUpdateRefIdeal.nD Cert.SmallUpdateRefIdeal.τ).loc Cert.SmallUpdateRefIdeal.main_arg4)
          ∧ r.2.mem ((c.tc : Thread Cert.SmallUpdateRefIdeal.nD Cert.SmallUpdateRefIdeal.τ).loc Cert.SmallUpdateRefIdeal.main_arg5) = m' ((c.tc : Thread Cert.SmallUpdateRefIdeal.nD Cert.SmallUpdateRefIdeal.τ).loc Cert.SmallUpdateRefIdeal.main_arg5)
          ∧ r.2.mem ((c.tc : Thread Cert.SmallUpdateRefIdeal.nD Cert.SmallUpdateRefIdeal.τ).loc Cert.SmallUpdateRefIdeal.main_arg6) = m' ((c.tc : Thread Cert.SmallUpdateRefIdeal.nD Cert.SmallUpdateRefIdeal.τ).loc Cert.SmallUpdateRefIdeal.main_arg6)
          ∧ r.2.mem ((c.tc : Thread Cert.SmallUpdateRefIdeal.nD Cert.SmallUpdateRefIdeal.τ).loc Cert.SmallUpdateRefIdeal.main_arg7) = m' ((c.tc : Thread Cert.SmallUpdateRefIdeal.nD Cert.SmallUpdateRefIdeal.τ).loc Cert.SmallUpdateRefIdeal.main_arg7)
          ∧ r.2.mem ((c.tc : Thread Cert.SmallUpdateRefIdeal.nD Cert.SmallUpdateRefIdeal.τ).loc Cert.SmallUpdateRefIdeal.main_arg8) = m' ((c.tc : Thread Cert.SmallUpdateRefIdeal.nD Cert.SmallUpdateRefIdeal.τ).loc Cert.SmallUpdateRefIdeal.main_arg8)
          ∧ r.2.mem ((c.tc : Thread Cert.SmallUpdateRefIdeal.nD Cert.SmallUpdateRefIdeal.τ).loc Cert.SmallUpdateRefIdeal.main_arg9) = m' ((c.tc : Thread Cert.SmallUpdateRefIdeal.nD Cert.SmallUpdateRefIdeal.τ).loc Cert.SmallUpdateRefIdeal.main_arg9)
          ∧ r.2.mem ((c.tc : Thread Cert.SmallUpdateRefIdeal.nD Cert.SmallUpdateRefIdeal.τ).loc Cert.SmallUpdateRefIdeal.main_arg10) = m' ((c.tc : Thread Cert.SmallUpdateRefIdeal.nD Cert.SmallUpdateRefIdeal.τ).loc Cert.SmallUpdateRefIdeal.main_arg10)
          ∧ r.2.mem ((c.tc : Thread Cert.SmallUpdateRefIdeal.nD Cert.SmallUpdateRefIdeal.τ).loc Cert.SmallUpdateRefIdeal.main_arg11) = m' ((c.tc : Thread Cert.SmallUpdateRefIdeal.nD Cert.SmallUpdateRefIdeal.τ).loc Cert.SmallUpdateRefIdeal.main_arg11)
          ∧ r.2.mem ((c.tc : Thread Cert.SmallUpdateRefIdeal.nD Cert.SmallUpdateRefIdeal.τ).loc Cert.SmallUpdateRefIdeal.main_arg12) = m' ((c.tc : Thread Cert.SmallUpdateRefIdeal.nD Cert.SmallUpdateRefIdeal.τ).loc Cert.SmallUpdateRefIdeal.main_arg12)
          ∧ r.2.mem ((c.tc : Thread Cert.SmallUpdateRefIdeal.nD Cert.SmallUpdateRefIdeal.τ).loc Cert.SmallUpdateRefIdeal.main_arg13) = m' ((c.tc : Thread Cert.SmallUpdateRefIdeal.nD Cert.SmallUpdateRefIdeal.τ).loc Cert.SmallUpdateRefIdeal.main_arg13)
          ∧ r.2.mem ((c.tc : Thread Cert.SmallUpdateRefIdeal.nD Cert.SmallUpdateRefIdeal.τ).loc Cert.SmallUpdateRefIdeal.main_arg14) = m' ((c.tc : Thread Cert.SmallUpdateRefIdeal.nD Cert.SmallUpdateRefIdeal.τ).loc Cert.SmallUpdateRefIdeal.main_arg14)
          ∧ r.2.mem ((c.tc : Thread Cert.SmallUpdateRefIdeal.nD Cert.SmallUpdateRefIdeal.τ).loc Cert.SmallUpdateRefIdeal.main_arg15) = m' ((c.tc : Thread Cert.SmallUpdateRefIdeal.nD Cert.SmallUpdateRefIdeal.τ).loc Cert.SmallUpdateRefIdeal.main_arg15)
          ∧ r.2.mem ((c.tc : Thread Cert.SmallUpdateRefIdeal.nD Cert.SmallUpdateRefIdeal.τ).loc Cert.SmallUpdateRefIdeal.main_arg16) = m' ((c.tc : Thread Cert.SmallUpdateRefIdeal.nD Cert.SmallUpdateRefIdeal.τ).loc Cert.SmallUpdateRefIdeal.main_arg16)
          ∧ r.2.mem ((c.tc : Thread Cert.SmallUpdateRefIdeal.nD Cert.SmallUpdateRefIdeal.τ).loc Cert.SmallUpdateRefIdeal.main_arg17) = m' ((c.tc : Thread Cert.SmallUpdateRefIdeal.nD Cert.SmallUpdateRefIdeal.τ).loc Cert.SmallUpdateRefIdeal.main_arg17)
          ∧ r.2.mem ((c.tc : Thread Cert.SmallUpdateRefIdeal.nD Cert.SmallUpdateRefIdeal.τ).loc Cert.SmallUpdateRefIdeal.main_arg18) = m' ((c.tc : Thread Cert.SmallUpdateRefIdeal.nD Cert.SmallUpdateRefIdeal.τ).loc Cert.SmallUpdateRefIdeal.main_arg18)
          ∧ r.2.mem ((c.tc : Thread Cert.SmallUpdateRefIdeal.nD Cert.SmallUpdateRefIdeal.τ).loc Cert.SmallUpdateRefIdeal.main_arg19) = m' ((c.tc : Thread Cert.SmallUpdateRefIdeal.nD Cert.SmallUpdateRefIdeal.τ).loc Cert.SmallUpdateRefIdeal.main_arg19))

def preserves_HgrnBwd_HgrnBwdIdeal : Prop :=
  True

def preserves_SwaFwd_SwaFwdIdeal : Prop :=
  IdealRules.named_const.Statement Cert.SwaFwdIdeal.κ "mask" .f32 0xF149F2CA#32 ⊥

def algebraic_SwaFwdIdeal_SwaFwdRefIdeal_pre_swa_fwd_finite [hSwaFwdIdeal : Cert.SwaFwdIdeal.Facts] [hSwaFwdRefIdeal : Cert.SwaFwdRefIdeal.Facts] [hPre_swa_fwd_finite : Cert.Pre_swa_fwd_finite.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_swa_fwd_finite m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)) →
    ∃ (v0 : (c : Dev Cert.SwaFwdIdeal.nD) → Buf (Elt Ideal) ((c.tc : Thread Cert.SwaFwdIdeal.nD Cert.SwaFwdIdeal.τ).loc Cert.SwaFwdIdeal.main_v30)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v30) = v0 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v139) = v0 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)) →
    ∃ (v0 : (c : Dev Cert.OutFwdIdeal.nD) → Buf (Elt Ideal) ((c.tc : Thread Cert.OutFwdIdeal.nD Cert.OutFwdIdeal.τ).loc Cert.OutFwdIdeal.main_v8_0)) (v1 : (c : Dev Cert.OutFwdIdeal.nD) → Buf (Elt Ideal) ((c.tc : Thread Cert.OutFwdIdeal.nD Cert.OutFwdIdeal.τ).loc Cert.OutFwdIdeal.main_v8_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v8_0) = v0 c
          ∧ r.2.mem ((c.tc : Thread Cert.OutFwdIdeal.nD Cert.OutFwdIdeal.τ).loc Cert.OutFwdIdeal.main_v8_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v16) = v0 c
          ∧ r.2.mem ((c.tc : Thread Cert.OutFwdRefIdeal.nD Cert.OutFwdRefIdeal.τ).loc Cert.OutFwdRefIdeal.main_v17) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4))

def preserves_HgrnFwd_HgrnFwdIdeal : Prop :=
  True

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v8_0)) (v1 : (c : Dev Cert.InFwdIdeal.nD) → Buf (Elt Ideal) ((c.tc : Thread Cert.InFwdIdeal.nD Cert.InFwdIdeal.τ).loc Cert.InFwdIdeal.main_v8_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v8_0) = v0 c
          ∧ r.2.mem ((c.tc : Thread Cert.InFwdIdeal.nD Cert.InFwdIdeal.τ).loc Cert.InFwdIdeal.main_v8_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v18) = v0 c
          ∧ r.2.mem ((c.tc : Thread Cert.InFwdRefIdeal.nD Cert.InFwdRefIdeal.τ).loc Cert.InFwdRefIdeal.main_v20) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def Claim : Prop :=
  ∃ (hOutBwd : Cert.OutBwd.Facts) (hOutBwdIdeal : Cert.OutBwdIdeal.Facts) (hOutBwdRefIdeal : Cert.OutBwdRefIdeal.Facts) (hInBwd : Cert.InBwd.Facts) (hInBwdIdeal : Cert.InBwdIdeal.Facts) (hInBwdRefIdeal : Cert.InBwdRefIdeal.Facts) (hSwaBwd : Cert.SwaBwd.Facts) (hSwaBwdIdeal : Cert.SwaBwdIdeal.Facts) (hSwaBwdRefIdeal : Cert.SwaBwdRefIdeal.Facts) (hLossBwd : Cert.LossBwd.Facts) (hLossBwdIdeal : Cert.LossBwdIdeal.Facts) (hLossBwdRefIdeal : Cert.LossBwdRefIdeal.Facts) (hSmallUpdate : Cert.SmallUpdate.Facts) (hSmallUpdateIdeal : Cert.SmallUpdateIdeal.Facts) (hSmallUpdateRefIdeal : Cert.SmallUpdateRefIdeal.Facts) (hHgrnBwd : Cert.HgrnBwd.Facts) (hHgrnBwdIdeal : Cert.HgrnBwdIdeal.Facts) (hSwaFwd : Cert.SwaFwd.Facts) (hSwaFwdIdeal : Cert.SwaFwdIdeal.Facts) (hSwaFwdRefIdeal : Cert.SwaFwdRefIdeal.Facts) (hOutFwd : Cert.OutFwd.Facts) (hOutFwdIdeal : Cert.OutFwdIdeal.Facts) (hOutFwdRefIdeal : Cert.OutFwdRefIdeal.Facts) (hHgrnFwd : Cert.HgrnFwd.Facts) (hHgrnFwdIdeal : Cert.HgrnFwdIdeal.Facts) (hInFwd : Cert.InFwd.Facts) (hInFwdIdeal : Cert.InFwdIdeal.Facts) (hInFwdRefIdeal : Cert.InFwdRefIdeal.Facts) (hPre_out_finite : Cert.Pre_out_finite.Facts) (hPre_in_finite : Cert.Pre_in_finite.Facts) (hPre_swa_finite : Cert.Pre_swa_finite.Facts) (hPre_small_finite : Cert.Pre_small_finite.Facts) (hPre_swa_fwd_finite : Cert.Pre_swa_fwd_finite.Facts),
    quiescent_OutBwd (hOutBwd := hOutBwd)
    ∧ quiescent_OutBwdIdeal (hOutBwdIdeal := hOutBwdIdeal)
    ∧ quiescent_OutBwdIdeal_pre_out_finite (hOutBwdIdeal := hOutBwdIdeal) (hPre_out_finite := hPre_out_finite)
    ∧ quiescent_OutBwdRefIdeal (hOutBwdRefIdeal := hOutBwdRefIdeal)
    ∧ quiescent_OutBwdRefIdeal_pre_out_finite (hOutBwdRefIdeal := hOutBwdRefIdeal) (hPre_out_finite := hPre_out_finite)
    ∧ quiescent_InBwd (hInBwd := hInBwd)
    ∧ quiescent_InBwdIdeal (hInBwdIdeal := hInBwdIdeal)
    ∧ quiescent_InBwdIdeal_pre_in_finite (hInBwdIdeal := hInBwdIdeal) (hPre_in_finite := hPre_in_finite)
    ∧ quiescent_InBwdRefIdeal (hInBwdRefIdeal := hInBwdRefIdeal)
    ∧ quiescent_InBwdRefIdeal_pre_in_finite (hInBwdRefIdeal := hInBwdRefIdeal) (hPre_in_finite := hPre_in_finite)
    ∧ quiescent_SwaBwd (hSwaBwd := hSwaBwd)
    ∧ quiescent_SwaBwdIdeal (hSwaBwdIdeal := hSwaBwdIdeal)
    ∧ quiescent_SwaBwdIdeal_pre_swa_finite (hSwaBwdIdeal := hSwaBwdIdeal) (hPre_swa_finite := hPre_swa_finite)
    ∧ quiescent_SwaBwdRefIdeal (hSwaBwdRefIdeal := hSwaBwdRefIdeal)
    ∧ quiescent_SwaBwdRefIdeal_pre_swa_finite (hSwaBwdRefIdeal := hSwaBwdRefIdeal) (hPre_swa_finite := hPre_swa_finite)
    ∧ quiescent_LossBwd (hLossBwd := hLossBwd)
    ∧ quiescent_LossBwdIdeal (hLossBwdIdeal := hLossBwdIdeal)
    ∧ quiescent_LossBwdRefIdeal (hLossBwdRefIdeal := hLossBwdRefIdeal)
    ∧ quiescent_SmallUpdate (hSmallUpdate := hSmallUpdate)
    ∧ quiescent_SmallUpdateIdeal (hSmallUpdateIdeal := hSmallUpdateIdeal)
    ∧ quiescent_SmallUpdateIdeal_pre_small_finite (hSmallUpdateIdeal := hSmallUpdateIdeal) (hPre_small_finite := hPre_small_finite)
    ∧ quiescent_SmallUpdateRefIdeal (hSmallUpdateRefIdeal := hSmallUpdateRefIdeal)
    ∧ quiescent_SmallUpdateRefIdeal_pre_small_finite (hSmallUpdateRefIdeal := hSmallUpdateRefIdeal) (hPre_small_finite := hPre_small_finite)
    ∧ quiescent_HgrnBwd (hHgrnBwd := hHgrnBwd)
    ∧ quiescent_HgrnBwdIdeal (hHgrnBwdIdeal := hHgrnBwdIdeal)
    ∧ quiescent_SwaFwd (hSwaFwd := hSwaFwd)
    ∧ quiescent_SwaFwdIdeal (hSwaFwdIdeal := hSwaFwdIdeal)
    ∧ quiescent_SwaFwdIdeal_pre_swa_fwd_finite (hSwaFwdIdeal := hSwaFwdIdeal) (hPre_swa_fwd_finite := hPre_swa_fwd_finite)
    ∧ quiescent_SwaFwdRefIdeal (hSwaFwdRefIdeal := hSwaFwdRefIdeal)
    ∧ quiescent_SwaFwdRefIdeal_pre_swa_fwd_finite (hSwaFwdRefIdeal := hSwaFwdRefIdeal) (hPre_swa_fwd_finite := hPre_swa_fwd_finite)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_HgrnFwd (hHgrnFwd := hHgrnFwd)
    ∧ quiescent_HgrnFwdIdeal (hHgrnFwdIdeal := hHgrnFwdIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ preserves_OutBwd_OutBwdIdeal
    ∧ algebraic_OutBwdIdeal_OutBwdRefIdeal_pre_out_finite (hOutBwdIdeal := hOutBwdIdeal) (hOutBwdRefIdeal := hOutBwdRefIdeal) (hPre_out_finite := hPre_out_finite)
    ∧ preserves_InBwd_InBwdIdeal
    ∧ algebraic_InBwdIdeal_InBwdRefIdeal_pre_in_finite (hInBwdIdeal := hInBwdIdeal) (hInBwdRefIdeal := hInBwdRefIdeal) (hPre_in_finite := hPre_in_finite)
    ∧ preserves_SwaBwd_SwaBwdIdeal
    ∧ algebraic_SwaBwdIdeal_SwaBwdRefIdeal_pre_swa_finite (hSwaBwdIdeal := hSwaBwdIdeal) (hSwaBwdRefIdeal := hSwaBwdRefIdeal) (hPre_swa_finite := hPre_swa_finite)
    ∧ preserves_LossBwd_LossBwdIdeal
    ∧ algebraic_LossBwdIdeal_LossBwdRefIdeal (hLossBwdIdeal := hLossBwdIdeal) (hLossBwdRefIdeal := hLossBwdRefIdeal)
    ∧ preserves_SmallUpdate_SmallUpdateIdeal
    ∧ algebraic_SmallUpdateIdeal_SmallUpdateRefIdeal_pre_small_finite (hSmallUpdateIdeal := hSmallUpdateIdeal) (hSmallUpdateRefIdeal := hSmallUpdateRefIdeal) (hPre_small_finite := hPre_small_finite)
    ∧ preserves_HgrnBwd_HgrnBwdIdeal
    ∧ preserves_SwaFwd_SwaFwdIdeal
    ∧ algebraic_SwaFwdIdeal_SwaFwdRefIdeal_pre_swa_fwd_finite (hSwaFwdIdeal := hSwaFwdIdeal) (hSwaFwdRefIdeal := hSwaFwdRefIdeal) (hPre_swa_fwd_finite := hPre_swa_fwd_finite)
    ∧ preserves_OutFwd_OutFwdIdeal
    ∧ algebraic_OutFwdIdeal_OutFwdRefIdeal (hOutFwdIdeal := hOutFwdIdeal) (hOutFwdRefIdeal := hOutFwdRefIdeal)
    ∧ preserves_HgrnFwd_HgrnFwdIdeal
    ∧ preserves_InFwd_InFwdIdeal
    ∧ algebraic_InFwdIdeal_InFwdRefIdeal (hInFwdIdeal := hInFwdIdeal) (hInFwdRefIdeal := hInFwdRefIdeal)
-- ==== Pre_in_finite.lean ====
abbrev S2x2048x1024 : Shape := ⟨3, ![2, 2048, 1024]⟩
abbrev S1024x6400 : Shape := ⟨2, ![1024, 6400]⟩
abbrev S1024 : Shape := ⟨1, ![1024]⟩
abbrev S2x2048x6400 : Shape := ⟨3, ![2, 2048, 6400]⟩
abbrev S_ : Shape := ⟨0, ![]⟩

class Facts : Prop where
  bcast_S_S2x2048x1024 : S_.BroadcastsInDim S2x2048x1024 (![] : Fin 0 → Fin S2x2048x1024.rank)
  bcast_S_S1024x6400 : S_.BroadcastsInDim S1024x6400 (![] : Fin 0 → Fin S1024x6400.rank)
  bcast_S_S1024 : S_.BroadcastsInDim S1024 (![] : Fin 0 → Fin S1024.rank)
  bcast_S_S2x2048x6400 : S_.BroadcastsInDim S2x2048x6400 (![] : Fin 0 → Fin S2x2048x6400.rank)

variable [Facts]

def fn {F : FTy → Type} [FloatOps F] (main_arg0 : FVec F S2x2048x1024 .f32) (main_arg1 : FVec F S1024x6400 .f32) (main_arg2 : FVec F S1024 .f32) (main_arg3 : FVec F S2x2048x6400 .f32) (main_arg4 : FVec F S2x2048x1024 .f32) : IVec S2x2048x1024 1 × IVec S1024x6400 1 × IVec S1024 1 × IVec S2x2048x6400 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S1024x6400 .f32 := Host.absf main_arg1
  let main_cst_0 : FVec F S_ .f32 := constant S_ .f32 0x7F800000#32
  let main_v4 : FVec F S1024x6400 .f32 := broadcastInDim S1024x6400 ![] bcast_S_S1024x6400 main_cst_0
  let main_v5 : IVec S1024x6400 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S2x2048x6400 .f32 := Host.absf main_arg3
  let main_cst_2 : FVec F S_ .f32 := constant S_ .f32 0x7F800000#32
  let main_v10 : FVec F S2x2048x6400 .f32 := broadcastInDim S2x2048x6400 ![] bcast_S_S2x2048x6400 main_cst_2
  let main_v11 : IVec S2x2048x6400 1 := cmpf .olt main_v9 main_v10
  (main_v2, main_v5, main_v8, main_v11)
-- ==== Pre_out_finite.lean ====
abbrev S2x2048x1024 : Shape := ⟨3, ![2, 2048, 1024]⟩
abbrev S2048x1024 : Shape := ⟨2, ![2048, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  bcast_S_S2048x1024 : S_.BroadcastsInDim S2048x1024 (![] : Fin 0 → Fin S2048x1024.rank)
  bcast_S_S1024 : S_.BroadcastsInDim S1024 (![] : Fin 0 → Fin S1024.rank)

variable [Facts]

def fn {F : FTy → Type} [FloatOps F] (main_arg0 : FVec F S2x2048x1024 .f32) (main_arg1 : FVec F S2x2048x1024 .f32) (main_arg2 : FVec F S2048x1024 .f32) (main_arg3 : FVec F S1024 .f32) (main_arg4 : FVec F S2x2048x1024 .f32) : IVec S2x2048x1024 1 × IVec S2x2048x1024 1 × IVec S2048x1024 1 × IVec S1024 1 × IVec S2x2048x1024 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_v3 : FVec F S2x2048x1024 .f32 := Host.absf main_arg1
  let main_cst_0 : FVec F S_ .f32 := constant S_ .f32 0x7F800000#32
  let main_v4 : FVec F S2x2048x1024 .f32 := broadcastInDim S2x2048x1024 ![] bcast_S_S2x2048x1024 main_cst_0
  let main_v5 : IVec S2x2048x1024 1 := cmpf .olt main_v3 main_v4
  let main_v6 : FVec F S2048x1024 .f32 := Host.absf main_arg2
  let main_cst_1 : FVec F S_ .f32 := constant S_ .f32 0x7F800000#32
  let main_v7 : FVec F S2048x1024 .f32 := broadcastInDim S2048x1024 ![] bcast_S_S2048x1024 main_cst_1
  let main_v8 : IVec S2048x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S2x2048x1024 .f32 := Host.absf main_arg4
  let main_cst_3 : FVec F S_ .f32 := constant S_ .f32 0x7F800000#32
  let main_v13 : FVec F S2x2048x1024 .f32 := broadcastInDim S2x2048x1024 ![] bcast_S_S2x2048x1024 main_cst_3
  let main_v14 : IVec S2x2048x1024 1 := cmpf .olt main_v12 main_v13
  (main_v2, main_v5, main_v8, main_v11, main_v14)
-- ==== Pre_small_finite.lean ====
abbrev S2x1024 : Shape := ⟨2, ![2, 1024]⟩
abbrev S2x128 : Shape := ⟨2, ![2, 128]⟩
abbrev S2x16 : Shape := ⟨2, ![2, 16]⟩
abbrev S_ : Shape := ⟨0, ![]⟩

class Facts : Prop where
  bcast_S_S2x1024 : S_.BroadcastsInDim S2x1024 (![] : Fin 0 → Fin S2x1024.rank)

variable [Facts]

def fn {F : FTy → Type} [FloatOps F] (main_arg0 : FVec F S2x1024 .f32) (main_arg1 : FVec F S2x1024 .f32) (main_arg2 : FVec F S2x1024 .f32) (main_arg3 : FVec F S2x128 .f32) (main_arg4 : FVec F S2x16 .f32) (main_arg5 : FVec F S2x1024 .f32) (main_arg6 : FVec F S2x1024 .f32) (main_arg7 : FVec F S2x1024 .f32) (main_arg8 : FVec F S2x128 .f32) (main_arg9 : FVec F S2x16 .f32) (main_arg10 : FVec F S2x1024 .f32) (main_arg11 : FVec F S2x1024 .f32) (main_arg12 : FVec F S2x1024 .f32) (main_arg13 : FVec F S2x128 .f32) (main_arg14 : FVec F S2x16 .f32) (main_arg15 : FVec F S2x1024 .f32) (main_arg16 : FVec F S2x1024 .f32) (main_arg17 : FVec F S2x1024 .f32) (main_arg18 : FVec F S2x128 .f32) (main_arg19 : FVec F S2x16 .f32) : IVec S2x1024 1 × IVec S2x1024 1 :=
  let main_v0 : FVec F S2x1024 .f32 := Host.absf main_arg2
  let main_cst : FVec F S_ .f32 := constant S_ .f32 0x7F800000#32
  let main_v1 : FVec F S2x1024 .f32 := broadcastInDim S2x1024 ![] bcast_S_S2x1024 main_cst
  let main_v2 : IVec S2x1024 1 := cmpf .olt main_v0 main_v1
  let main_v3 : FVec F S2x1024 .f32 := Host.absf main_arg7
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  (main_v2, main_v5)
-- ==== Pre_swa_finite.lean ====
abbrev S2x2048x6400 : Shape := ⟨3, ![2, 2048, 6400]⟩
abbrev S16 : Shape := ⟨1, ![16]⟩
abbrev S2x2048x1024 : Shape := ⟨3, ![2, 2048, 1024]⟩
abbrev S2x2048x2304 : Shape := ⟨3, ![2, 2048, 2304]⟩
abbrev S_ : Shape := ⟨0, ![]⟩

class Facts : Prop where
  slices_S2x2048x6400_S2x2048x2304_0_0_4096 : S2x2048x6400.Slices ![0, 0, 4096] S2x2048x2304
  bcast_S_S2x2048x2304 : S_.BroadcastsInDim S2x2048x2304 (![] : Fin 0 → Fin S2x2048x2304.rank)
  bcast_S_S16 : S_.BroadcastsInDim S16 (![] : Fin 0 → Fin S16.rank)
  bcast_S_S2x2048x1024 : S_.BroadcastsInDim S2x2048x1024 (![] : Fin 0 → Fin S2x2048x1024.rank)

variable [Facts]

def fn {F : FTy → Type} [FloatOps F] (main_arg0 : FVec F S2x2048x6400 .f32) (main_arg1 : FVec F S16 .f32) (main_arg2 : FVec F S2x2048x1024 .f32) : IVec S2x2048x2304 1 × IVec S16 1 × IVec S2x2048x1024 1 :=
  let main_v0 : FVec F S2x2048x2304 .f32 := (extractStridedSlice S2x2048x2304 ![0, 0, 4096] · slices_S2x2048x6400_S2x2048x2304_0_0_4096) main_arg0
  let main_v1 : FVec F S2x2048x2304 .f32 := Host.absf main_v0
  let main_cst : FVec F S_ .f32 := constant S_ .f32 0x7F800000#32
  let main_v2 : FVec F S2x2048x2304 .f32 := broadcastInDim S2x2048x2304 ![] bcast_S_S2x2048x2304 main_cst
  let main_v3 : IVec S2x2048x2304 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_v7 : FVec F S2x2048x1024 .f32 := Host.absf main_arg2
  let main_cst_1 : FVec F S_ .f32 := constant S_ .f32 0x7F800000#32
  let main_v8 : FVec F S2x2048x1024 .f32 := broadcastInDim S2x2048x1024 ![] bcast_S_S2x2048x1024 main_cst_1
  let main_v9 : IVec S2x2048x1024 1 := cmpf .olt main_v7 main_v8
  (main_v3, main_v6, main_v9)
-- ==== Pre_swa_fwd_finite.lean ====
abbrev S2x2048x6400 : Shape := ⟨3, ![2, 2048, 6400]⟩
abbrev S16 : Shape := ⟨1, ![16]⟩
abbrev S2x2048x2304 : Shape := ⟨3, ![2, 2048, 2304]⟩
abbrev S_ : Shape := ⟨0, ![]⟩

class Facts : Prop where
  slices_S2x2048x6400_S2x2048x2304_0_0_4096 : S2x2048x6400.Slices ![0, 0, 4096] S2x2048x2304
  bcast_S_S2x2048x2304 : S_.BroadcastsInDim S2x2048x2304 (![] : Fin 0 → Fin S2x2048x2304.rank)
  bcast_S_S16 : S_.BroadcastsInDim S16 (![] : Fin 0 → Fin S16.rank)

variable [Facts]

def fn {F : FTy → Type} [FloatOps F] (main_arg0 : FVec F S2x2048x6400 .f32) (main_arg1 : FVec F S16 .f32) : IVec S2x2048x2304 1 × IVec S16 1 :=
  let main_v0 : FVec F S2x2048x2304 .f32 := (extractStridedSlice S2x2048x2304 ![0, 0, 4096] · slices_S2x2048x6400_S2x2048x2304_0_0_4096) main_arg0
  let main_v1 : FVec F S2x2048x2304 .f32 := Host.absf main_v0
  let main_cst : FVec F S_ .f32 := constant S_ .f32 0x7F800000#32
  let main_v2 : FVec F S2x2048x2304 .f32 := broadcastInDim S2x2048x2304 ![] bcast_S_S2x2048x2304 main_cst
  let main_v3 : IVec S2x2048x2304 1 := cmpf .olt main_v1 main_v2
  let main_v4 : FVec F S16 .f32 := Host.absf main_arg1
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  (main_v3, main_v6)
-- ==== OutBwd.lean ====
abbrev S2x2048x1024 : Shape := ⟨3, ![2, 2048, 1024]⟩
abbrev S2048x1024 : Shape := ⟨2, ![2048, 1024]⟩
abbrev S1024 : Shape := ⟨1, ![1024]⟩
abbrev S4096x1024 : Shape := ⟨2, ![4096, 1024]⟩
abbrev S1024x1024 : Shape := ⟨2, ![1024, 1024]⟩
abbrev S1x1024 : Shape := ⟨2, ![1, 1024]⟩
abbrev S1x2048x1024 : Shape := ⟨3, ![1, 2048, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩

abbrev nBuf : Space → Nat
  | .hbm => 22
  | .vmem => 16
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S1024, .f32⟩
  | .hbm, ⟨4, _⟩ => ⟨S2x2048x1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S2048x1024, .bf16⟩
  | .hbm, ⟨10, _⟩ => ⟨S1024x1024, .bf16⟩
  | .hbm, ⟨11, _⟩ => ⟨S4096x1024, .f32⟩
  | .hbm, ⟨12, _⟩ => ⟨S1024x1024, .bf16⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S1x2048x1024, .bf16⟩
  | .hbm, ⟨18, _⟩ => ⟨S4096x1024, .f32⟩
  | .hbm, ⟨19, _⟩ => ⟨S4096x1024, .f32⟩
  | .hbm, ⟨20, _⟩ => ⟨S2048x1024, .f32⟩
  | .hbm, ⟨21, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x2048x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S2048x1024, .f32⟩
  | .local _ .vmem, ⟨15, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13_0 : Ref sig .tc := ⟨.hbm, 18, rfl⟩
abbrev main_v13_1 : Ref sig .tc := ⟨.hbm, 19, rfl⟩
abbrev main_v13_2 : Ref sig .tc := ⟨.hbm, 20, rfl⟩
abbrev main_v13_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2048x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdRefIdeal.lean ====
abbrev S2x2048x1024 : Shape := ⟨3, ![2, 2048, 1024]⟩
abbrev S2048x1024 : Shape := ⟨2, ![2048, 1024]⟩
abbrev S1024 : Shape := ⟨1, ![1024]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S1024x2048 : Shape := ⟨2, ![1024, 2048]⟩
abbrev S4096x1024 : Shape := ⟨2, ![4096, 1024]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S1024, .f32⟩
  | .hbm, ⟨4, _⟩ => ⟨S2x2048x1024, .f32⟩
  | .hbm, ⟨5, _⟩ => ⟨S2x2048x2048, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x1024, .f32⟩
  | .hbm, ⟨23, _⟩ => ⟨S2x2048x1024, .f32⟩
  | .hbm, ⟨24, _⟩ => ⟨S1x1x1024, .f32⟩
  | .hbm, ⟨25, _⟩ => ⟨S2x2048x1024, .f32⟩
  | .hbm, ⟨26, _⟩ => ⟨S2x2048x1024, .f32⟩
  | .hbm, ⟨27, _⟩ => ⟨S2x2048x1024, .f32⟩
  | .hbm, ⟨28, _⟩ => ⟨S_, .f32⟩
  | .hbm, ⟨29, _⟩ => ⟨S1024, .f32⟩
  | .hbm, ⟨30, _⟩ => ⟨S1x1x1024, .f32⟩
  | .hbm, ⟨31, _⟩ => ⟨S2x2048x1024, .f32⟩
  | .hbm, ⟨32, _⟩ => ⟨S2x2048x1024, .f32⟩
  | .hbm, ⟨33, _⟩ => ⟨S_, .f32⟩
  | .hbm, ⟨34, _⟩ => ⟨S1024, .f32⟩
  | .hbm, ⟨35, _⟩ => ⟨S2x2048x1024, .f32⟩
  | .hbm, ⟨36, _⟩ => ⟨S_, .f32⟩
  | .hbm, ⟨37, _⟩ => ⟨S2x2048, .f32⟩
  | .hbm, ⟨38, _⟩ => ⟨S2x2048x1, .f32⟩
  | .hbm, ⟨39, _⟩ => ⟨S2x2048x1024, .f32⟩
  | .hbm, ⟨40, _⟩ => ⟨S2x2048x1024, .f32⟩
  | .hbm, ⟨41, _⟩ => ⟨S2x2048x1, .f32⟩
  | .hbm, ⟨42, _⟩ => ⟨S_, .f32⟩
  | .hbm, ⟨43, _⟩ => ⟨S2x2048x1, .f32⟩
  | .hbm, ⟨44, _⟩ => ⟨S2x2048x1, .f32⟩
  | .hbm, ⟨45, _⟩ => ⟨S_, .f32⟩
  | .hbm, ⟨46, _⟩ => ⟨S2x2048, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S1024x2048, .f32⟩
  | .hbm, ⟨53, _⟩ => ⟨S2048x1024, .f32⟩
  | .hbm, ⟨54, _⟩ => ⟨S2x2048x2048, .f32⟩
  | .hbm, ⟨55, _⟩ => ⟨S2x2048x1024, .f32⟩
  | .hbm, ⟨56, _⟩ => ⟨S2x2048x1024, .f32⟩
  | .hbm, ⟨57, _⟩ => ⟨S4096x1024, .f32⟩
  | .hbm, ⟨58, _⟩ => ⟨S4096x1024, .f32⟩
  | .hbm, ⟨59, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== InBwd.lean ====
abbrev S2x2048x1024 : Shape := ⟨3, ![2, 2048, 1024]⟩
abbrev S1024x6400 : Shape := ⟨2, ![1024, 6400]⟩
abbrev S1024 : Shape := ⟨1, ![1024]⟩
abbrev S2x2048x6400 : Shape := ⟨3, ![2, 2048, 6400]⟩
abbrev S4096x6400 : Shape := ⟨2, ![4096, 6400]⟩
abbrev S4096x1024 : Shape := ⟨2, ![4096, 1024]⟩
abbrev S4096x256 : Shape := ⟨2, ![4096, 256]⟩
abbrev S6400x1024 : Shape := ⟨2, ![6400, 1024]⟩
abbrev S1x6400x1024 : Shape := ⟨3, ![1, 6400, 1024]⟩
abbrev S1x1024 : Shape := ⟨2, ![1, 1024]⟩
abbrev S512x1024 : Shape := ⟨2, ![512, 1024]⟩
abbrev S512x256 : Shape := ⟨2, ![512, 256]⟩
abbrev S1x1024x1024 : Shape := ⟨3, ![1, 1024, 1024]⟩
abbrev S1024x1024 : Shape := ⟨2, ![1024, 1024]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 22
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024x6400, .f32⟩
  | .hbm, ⟨2, _⟩ => ⟨S1024, .f32⟩
  | .hbm, ⟨3, _⟩ => ⟨S2x2048x6400, .f32⟩
  | .hbm, ⟨4, _⟩ => ⟨S2x2048x1024, .f32⟩
  | .hbm, ⟨5, _⟩ => ⟨S4096x6400, .f32⟩
  | .hbm, ⟨6, _⟩ => ⟨S4096x6400, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x256, .bf16⟩
  | .hbm, ⟨13, _⟩ => ⟨S4096x1024, .bf16⟩
  | .hbm, ⟨14, _⟩ => ⟨S6400x1024, .f32⟩
  | .hbm, ⟨15, _⟩ => ⟨S6400x1024, .bf16⟩
  | .hbm, ⟨16, _⟩ => ⟨S1x6400x1024, .bf16⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .bf16⟩
  | .local _ .vmem, ⟨11, _⟩ => ⟨S512x256, .bf16⟩
  | .local _ .vmem, ⟨12, _⟩ => ⟨S512x1024, .bf16⟩
  | .local _ .vmem, ⟨13, _⟩ => ⟨S512x1024, .bf16⟩
  | .local _ .vmem, ⟨14, _⟩ => ⟨S1x6400x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x6400x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InBwdRefIdeal.lean ====
abbrev S2x2048x1024 : Shape := ⟨3, ![2, 2048, 1024]⟩
abbrev S1024x6400 : Shape := ⟨2, ![1024, 6400]⟩
abbrev S1024 : Shape := ⟨1, ![1024]⟩
abbrev S2x2048x6400 : Shape := ⟨3, ![2, 2048, 6400]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S6400x1024 : Shape := ⟨2, ![6400, 1024]⟩
abbrev S4096x1024 : Shape := ⟨2, ![4096, 1024]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x6400, .f32⟩
  | .hbm, ⟨2, _⟩ => ⟨S1024, .f32⟩
  | .hbm, ⟨3, _⟩ => ⟨S2x2048x6400, .f32⟩
  | .hbm, ⟨4, _⟩ => ⟨S2x2048x1024, .f32⟩
  | .hbm, ⟨5, _⟩ => ⟨S2x2048x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x1024, .f32⟩
  | .hbm, ⟨21, _⟩ => ⟨S2x2048x1024, .f32⟩
  | .hbm, ⟨22, _⟩ => ⟨S1x1x1024, .f32⟩
  | .hbm, ⟨23, _⟩ => ⟨S2x2048x1024, .f32⟩
  | .hbm, ⟨24, _⟩ => ⟨S2x2048x1024, .f32⟩
  | .hbm, ⟨25, _⟩ => ⟨S2x2048x6400, .f32⟩
  | .hbm, ⟨26, _⟩ => ⟨S6400x1024, .f32⟩
  | .hbm, ⟨27, _⟩ => ⟨S1024x6400, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S1024, .f32⟩
  | .hbm, ⟨37, _⟩ => ⟨S2x2048x1024, .f32⟩
  | .hbm, ⟨38, _⟩ => ⟨S_, .f32⟩
  | .hbm, ⟨39, _⟩ => ⟨S2x2048, .f32⟩
  | .hbm, ⟨40, _⟩ => ⟨S2x2048x1, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S2x2048x1, .f32⟩
  | .hbm, ⟨45, _⟩ => ⟨S_, .f32⟩
  | .hbm, ⟨46, _⟩ => ⟨S2x2048x1, .f32⟩
  | .hbm, ⟨47, _⟩ => ⟨S2x2048x1, .f32⟩
  | .hbm, ⟨48, _⟩ => ⟨S_, .f32⟩
  | .hbm, ⟨49, _⟩ => ⟨S2x2048, .f32⟩
  | .hbm, ⟨50, _⟩ => ⟨S2x2048x1024, .f32⟩
  | .hbm, ⟨51, _⟩ => ⟨S2x2048x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S4096x1024, .f32⟩
  | .hbm, ⟨56, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== SwaBwd.lean ====
abbrev S2x2048x6400 : Shape := ⟨3, ![2, 2048, 6400]⟩
abbrev S16 : Shape := ⟨1, ![16]⟩
abbrev S2x2048x1024 : Shape := ⟨3, ![2, 2048, 1024]⟩
abbrev S2x2048x5120 : Shape := ⟨3, ![2, 2048, 5120]⟩
abbrev S2x2048x256 : Shape := ⟨3, ![2, 2048, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x1 : Shape := ⟨2, ![16, 1]⟩
abbrev S16x128 : Shape := ⟨2, ![16, 128]⟩
abbrev S4096x6400 : Shape := ⟨2, ![4096, 6400]⟩
abbrev S4096x1024 : Shape := ⟨2, ![4096, 1024]⟩
abbrev S4096x256 : Shape := ⟨2, ![4096, 256]⟩
abbrev S128x1024 : Shape := ⟨2, ![128, 1024]⟩
abbrev S128x256 : Shape := ⟨2, ![128, 256]⟩
abbrev S128x128 : Shape := ⟨2, ![128, 128]⟩
abbrev S256x1024 : Shape := ⟨2, ![256, 1024]⟩
abbrev S1024x128 : Shape := ⟨2, ![1024, 128]⟩
abbrev S1x128 : Shape := ⟨2, ![1, 128]⟩
abbrev S128x1 : Shape := ⟨2, ![128, 1]⟩
abbrev S256x128 : Shape := ⟨2, ![256, 128]⟩
abbrev S1x1 : Shape := ⟨2, ![1, 1]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩

abbrev nBuf : Space → Nat
  | .hbm => 40
  | .vmem => 31
  | .smem => 0
  | _ => 0

abbrev bufTy : (tb : Table) → Fin (tcTables nBuf tb) → BufTy
  | .hbm, ⟨0, _⟩ => ⟨S2x2048x6400, .f32⟩
  | .hbm, ⟨1, _⟩ => ⟨S16, .f32⟩
  | .hbm, ⟨2, _⟩ => ⟨S2x2048x1024, .f32⟩
  | .hbm, ⟨3, _⟩ => ⟨S2x2048x5120, .f32⟩
  | .hbm, ⟨4, _⟩ => ⟨S2x2048x1024, .f32⟩
  | .hbm, ⟨5, _⟩ => ⟨S2x2048x256, .f32⟩
  | .hbm, ⟨6, _⟩ => ⟨S2x2048x6400, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S2048, .f32⟩
  | .hbm, ⟨16, _⟩ => ⟨S2048x1, .f32⟩
  | .hbm, ⟨17, _⟩ => ⟨S1x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x32, .f32⟩
  | .hbm, ⟨23, _⟩ => ⟨S2048x64, .f32⟩
  | .hbm, ⟨24, _⟩ => ⟨S1x2048x1x64, .f32⟩
  | .hbm, ⟨25, _⟩ => ⟨S1x2048x2x64, .f32⟩
  | .hbm, ⟨26, _⟩ => ⟨S2048x128, .f32⟩
  | .hbm, ⟨27, _⟩ => ⟨S2048x32, .f32⟩
  | .hbm, ⟨28, _⟩ => ⟨S2048x64, .f32⟩
  | .hbm, ⟨29, _⟩ => ⟨S1x2048x1x64, .f32⟩
  | .hbm, ⟨30, _⟩ => ⟨S1x2048x2x64, .f32⟩
  | .hbm, ⟨31, _⟩ => ⟨S2048x128, .f32⟩
  | .hbm, ⟨32, _⟩ => ⟨S16x1, .f32⟩
  | .hbm, ⟨33, _⟩ => ⟨S16x128, .f32⟩
  | .hbm, ⟨34, _⟩ => ⟨S4096x6400, .f32⟩
  | .hbm, ⟨35, _⟩ => ⟨S4096x1024, .f32⟩
  | .hbm, ⟨36, _⟩ => ⟨S4096x1024, .bf16⟩
  | .hbm, ⟨37, _⟩ => ⟨S4096x1024, .bf16⟩
  | .hbm, ⟨38, _⟩ => ⟨S4096x256, .bf16⟩
  | .hbm, ⟨39, _⟩ => ⟨S16x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S16x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x1024, .f32⟩
  | .local _ .vmem, ⟨18, _⟩ => ⟨S128x1024, .f32⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x256, .bf16⟩
  | .local _ .vmem, ⟨24, _⟩ => ⟨S128x256, .bf16⟩
  | .local _ .vmem, ⟨25, _⟩ => ⟨S16x128, .f32⟩
  | .local _ .vmem, ⟨26, _⟩ => ⟨S128x256, .f32⟩
  | .local _ .vmem, ⟨27, _⟩ => ⟨S256x1024, .bf16⟩
  | .local _ .vmem, ⟨28, _⟩ => ⟨S256x1024, .bf16⟩
  | .local _ .vmem, ⟨29, _⟩ => ⟨S1024x128, .bf16⟩
  | .local _ .vmem, ⟨30, _⟩ => ⟨S1024x128, .bf16⟩
  | _, _ => ⟨S2x2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev main_v31_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c4_i32 : BitVec 32 := 4#32
  let c0_i32 : BitVec 32 := 0#32
  ![v3.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c5_i32 : BitVec 32 := 5#32
  let c0_i32 : BitVec 32 := 0#32
  ![v3.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c24_i32 : BitVec 32 := 24#32
  let c0_i32 : BitVec 32 := 0#32
  ![v3.toNat, c24_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c14_i32 : BitVec 32 := 14#32
  let v1 : BitVec 32 := Scalar.subi c14_i32 arg1
  let c0_i32 : BitVec 32 := 0#32
  let v2 : BitVec 32 := Scalar.maxsi v1 c0_i32
  let v3 : BitVec 32 := Scalar.addi v0 v2
  let c24_i32 : BitVec 32 := 24#32
  let c0_i32_0 : BitVec 32 := 0#32
  ![v3.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.subi c14_i32 arg1
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_11 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S16x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== SwaBwdIdeal.lean ====
variable {F : FTy → Type} [FloatOps F] [Named F]
def κ : String → Option EReal := fun
  | "mask" => some ⊥
  | _ => none
-- ==== SwaBwdRefIdeal.lean ====
abbrev S2x2048x6400 : Shape := ⟨3, ![2, 2048, 6400]⟩
abbrev S16 : Shape := ⟨1, ![16]⟩
abbrev S2x2048x1024 : Shape := ⟨3, ![2, 2048, 1024]⟩
abbrev S2x2048x128 : Shape := ⟨3, ![2, 2048, 128]⟩
abbrev S2048 : Shape := ⟨1, ![2048]⟩
abbrev S2x2048x16x64 : Shape := ⟨4, ![2, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S2x2048x16x32 : Shape := ⟨4, ![2, 2048, 16, 32]⟩
abbrev S2x2048x2x64 : Shape := ⟨4, ![2, 2048, 2, 64]⟩
abbrev S2x2048x2x32 : Shape := ⟨4, ![2, 2048, 2, 32]⟩
abbrev S2x16x128x2x8x64 : Shape := ⟨6, ![2, 16, 128, 2, 8, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x8 : Shape := ⟨6, ![2, 16, 2, 256, 128, 8]⟩
abbrev S2x16x2x8x128x256 : Shape := ⟨6, ![2, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S2x16x2x8x128x1 : Shape := ⟨6, ![2, 16, 2, 8, 128, 1]⟩
abbrev S2x16x2x8x128x257 : Shape := ⟨6, ![2, 16, 2, 8, 128, 257]⟩
abbrev S2x16x2x8x128 : Shape := ⟨5, ![2, 16, 2, 8, 128]⟩
abbrev S2x16x2x64x8x128 : Shape := ⟨6, ![2, 16, 2, 64, 8, 128]⟩
abbrev S2x16x2x64x256 : Shape := ⟨5, ![2, 16, 2, 64, 256]⟩
abbrev S2x16x2x128x8x64 : Shape := ⟨6, ![2, 16, 2, 128, 8, 64]⟩
abbrev S2x16x2x256x64 : Shape := ⟨5, ![2, 16, 2, 256, 64]⟩
abbrev S4096x128 : Shape := ⟨2, ![4096, 128]⟩
abbrev S4096x256 : Shape := ⟨2, ![4096, 256]⟩
abbrev S4096x1024 : Shape := ⟨2, ![4096, 1024]⟩
abbrev S16x128 : Shape := ⟨2, ![16, 128]⟩

abbrev nBuf : Space → Nat
  | .hbm => 315
  | .vmem => 0
  | .smem => 0
  | _ => 0

abbrev hbmTy0_0 (i : Nat) : BufTy := match i % 128 with
  | 0 => ⟨S2x2048x6400, .f32⟩
  | 1 => ⟨S16, .f32⟩
  | 2 => ⟨S2x2048x1024, .f32⟩
  | 3 => ⟨S2x2048x1024, .f32⟩
  | 4 => ⟨S2x2048x128, .f32⟩
  | 5 => ⟨S2x2048x128, .f32⟩
  | 6 => ⟨S2x2048x1024, .f32⟩
  | 7 => ⟨S2048, .i32⟩
  | 8 => ⟨S2x2048x16x64, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S2048, .f32⟩
  | 18 => ⟨S2048x1, .f32⟩
  | 19 => ⟨S1x32, .f32⟩
  | 20 => ⟨S2048x32, .f32⟩
  | 21 => ⟨S2048x32, .f32⟩
  | 22 => ⟨S2048x32, .f32⟩
  | 23 => ⟨S2048x32, .f32⟩
  | 24 => ⟨S1x2048x1x32, .f32⟩
  | 25 => ⟨S2048x32, .f32⟩
  | 26 => ⟨S1x2048x1x32, .f32⟩
  | 27 => ⟨S2x2048x16x32, .f32⟩
  | 28 => ⟨S2x2048x16x32, .f32⟩
  | 29 => ⟨S2x2048x16x32, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x32, .f32⟩
  | 38 => ⟨S2x2048x16x32, .f32⟩
  | 39 => ⟨S2x2048x16x64, .f32⟩
  | 40 => ⟨S2x2048x2x64, .f32⟩
  | 41 => ⟨S32, .f32⟩
  | 42 => ⟨S32, .f32⟩
  | 43 => ⟨S_, .f32⟩
  | 44 => ⟨S32, .f32⟩
  | 45 => ⟨S32, .f32⟩
  | 46 => ⟨S_, .f32⟩
  | 47 => ⟨S32, .f32⟩
  | 48 => ⟨S32, .f32⟩
  | 49 => ⟨S2048, .f32⟩
  | 50 => ⟨S2048x1, .f32⟩
  | 51 => ⟨S1x32, .f32⟩
  | 52 => ⟨S2048x32, .f32⟩
  | 53 => ⟨S2048x32, .f32⟩
  | 54 => ⟨S2048x32, .f32⟩
  | 55 => ⟨S2048x32, .f32⟩
  | 56 => ⟨S1x2048x1x32, .f32⟩
  | 57 => ⟨S2048x32, .f32⟩
  | 58 => ⟨S1x2048x1x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x32, .f32⟩
  | 71 => ⟨S2x2048x2x64, .f32⟩
  | 72 => ⟨S2x2048x2x64, .f32⟩
  | 73 => ⟨S2x16x128x2x8x64, .f32⟩
  | 74 => ⟨S2x16x128x2x64, .f32⟩
  | 75 => ⟨S2x16x128x2x64, .f32⟩
  | 76 => ⟨S2x1x128x2x64, .f32⟩
  | 77 => ⟨S_, .f32⟩
  | 78 => ⟨S2x1x128x2x64, .f32⟩
  | 79 => ⟨S2x15x128x2x64, .f32⟩
  | 80 => ⟨S2x16x128x2x64, .f32⟩
  | 81 => ⟨S_, .f32⟩
  | 82 => ⟨S2x1x128x2x64, .f32⟩
  | 83 => ⟨S2x1x128x2x64, .f32⟩
  | 84 => ⟨S_, .f32⟩
  | 85 => ⟨S2x1x128x2x64, .f32⟩
  | 86 => ⟨S2x15x128x2x64, .f32⟩
  | 87 => ⟨S2x16x128x2x64, .f32⟩
  | 88 => ⟨S_, .f32⟩
  | 89 => ⟨S2x1x128x2x64, .f32⟩
  | 90 => ⟨S2x16x256x2x64, .f32⟩
  | 91 => ⟨S2x16x256x2x64, .f32⟩
  | 92 => ⟨S2x16x2x256x128x8, .f32⟩
  | 93 => ⟨S2x16x2x8x128x256, .f32⟩
  | 94 => ⟨S_, .f32⟩
  | 95 => ⟨S2x16x2x8x128x256, .f32⟩
  | 96 => ⟨S2x16x2x8x128x256, .f32⟩
  | 97 => ⟨S128, .i32⟩
  | 98 => ⟨S128x1, .i32⟩
  | 99 => ⟨S_, .i32⟩
  | 100 => ⟨S128x1, .i32⟩
  | 101 => ⟨S128x1, .i32⟩
  | 102 => ⟨S256, .i32⟩
  | 103 => ⟨S1x256, .i32⟩
  | 104 => ⟨S128x256, .i32⟩
  | 105 => ⟨S128x256, .i32⟩
  | 106 => ⟨S128x256, .i32⟩
  | 107 => ⟨S_, .i32⟩
  | 108 => ⟨S128x256, .i32⟩
  | 109 => ⟨S128x256, .i1⟩
  | 110 => ⟨S_, .i32⟩
  | 111 => ⟨S128x256, .i32⟩
  | 112 => ⟨S128x256, .i1⟩
  | 113 => ⟨S128x256, .i1⟩
  | 114 => ⟨S16, .i32⟩
  | 115 => ⟨S16x1, .i32⟩
  | 116 => ⟨S_, .i32⟩
  | 117 => ⟨S16x1, .i32⟩
  | 118 => ⟨S16x1, .i32⟩
  | 119 => ⟨S_, .i32⟩
  | 120 => ⟨S16x1, .i32⟩
  | 121 => ⟨S16x1, .i32⟩
  | 122 => ⟨S256, .i32⟩
  | 123 => ⟨S1x256, .i32⟩
  | 124 => ⟨S16x256, .i32⟩
  | 125 => ⟨S16x256, .i32⟩
  | 126 => ⟨S16x256, .i32⟩
  | 127 => ⟨S_, .i32⟩
  | _ => ⟨S2x2048x6400, .f32⟩

abbrev hbmTy0_1 (i : Nat) : BufTy := match i % 128 with
  | 0 => ⟨S16x256, .i32⟩
  | 1 => ⟨S16x256, .i1⟩
  | 2 => ⟨S1x128x256, .i1⟩
  | 3 => ⟨S16x1x256, .i1⟩
  | 4 => ⟨S16x128x256, .i1⟩
  | 5 => ⟨S16x128x256, .i1⟩
  | 6 => ⟨S16x128x256, .i1⟩
  | 7 => ⟨S1x16x1x1x128x256, .i1⟩
  | 8 => ⟨S_, .f32⟩
  | 9 => ⟨S_, .f32⟩
  | 10 => ⟨S2x16x2x8x128x256, .i1⟩
  | 11 => ⟨S2x16x2x8x128x256, .f32⟩
  | 12 => ⟨S2x16x2x8x128x256, .f32⟩
  | 13 => ⟨S_, .f32⟩
  | 14 => ⟨S2x16x2x8x128x256, .f32⟩
  | 15 => ⟨S2x8, .f32⟩
  | 16 => ⟨S1x1x2x8x1x1, .f32⟩
  | 17 => ⟨S2x16x2x8x128x1, .f32⟩
  | 18 => ⟨S2x16x2x8x128x257, .f32⟩
  | 19 => ⟨S_, .f32⟩
  | 20 => ⟨S2x16x2x8x128, .f32⟩
  | 21 => ⟨S2x16x2x8x128x1, .f32⟩
  | 22 => ⟨S2x16x2x8x128x257, .f32⟩
  | 23 => ⟨S2x16x2x8x128x257, .i1⟩
  | 24 => ⟨S2x16x2x8x128x257, .f32⟩
  | 25 => ⟨S_, .f32⟩
  | 26 => ⟨S2x16x2x8x128, .f32⟩
  | 27 => ⟨S_, .f32⟩
  | 28 => ⟨S2x16x2x8x128, .f32⟩
  | 29 => ⟨S2x16x2x8x128, .f32⟩
  | 30 => ⟨S_, .f32⟩
  | 31 => ⟨S2x16x2x8x128, .f32⟩
  | 32 => ⟨S2x16x2x8x128, .i1⟩
  | 33 => ⟨S_, .f32⟩
  | 34 => ⟨S2x16x2x8x128, .f32⟩
  | 35 => ⟨S2x16x2x8x128, .i1⟩
  | 36 => ⟨S_, .f32⟩
  | 37 => ⟨S2x16x2x8x128, .f32⟩
  | 38 => ⟨S_, .f32⟩
  | 39 => ⟨S2x16x2x8x128, .f32⟩
  | 40 => ⟨S_, .f32⟩
  | 41 => ⟨S2x16x2x8x128, .f32⟩
  | 42 => ⟨S2x16x2x8x128, .f32⟩
  | 43 => ⟨S2x16x2x8x128, .f32⟩
  | 44 => ⟨S2x16x2x8x128x1, .f32⟩
  | 45 => ⟨S2x16x2x8x128x257, .f32⟩
  | 46 => ⟨S2x16x2x8x128x257, .f32⟩
  | 47 => ⟨S2x16x2x8x128x257, .f32⟩
  | 48 => ⟨S_, .f32⟩
  | 49 => ⟨S2x16x2x8x128, .f32⟩
  | 50 => ⟨S2x16x2x8x128x1, .f32⟩
  | 51 => ⟨S2x16x2x8x128x257, .f32⟩
  | 52 => ⟨S2x16x2x8x128x257, .f32⟩
  | 53 => ⟨S2x16x2x8x128x1, .f32⟩
  | 54 => ⟨S_, .f32⟩
  | 55 => ⟨S2x16x2x8x128x1, .f32⟩
  | 56 => ⟨S2x16x2x8x128x1, .f32⟩
  | 57 => ⟨S2x16x2x8x128x256, .f32⟩
  | 58 => ⟨S2x16x2x64x8x128, .f32⟩
  | 59 => ⟨S2x16x128x2x8x64, .f32⟩
  | 60 => ⟨S2x2048x1024, .f32⟩
  | 61 => ⟨S2x2048x1024, .f32⟩
  | 62 => ⟨S2x2048x1024, .f32⟩
  | 63 => ⟨S_, .f32⟩
  | 64 => ⟨S2x2048x1024, .f32⟩
  | 65 => ⟨S2x2048x1024, .f32⟩
  | 66 => ⟨S_, .f32⟩
  | 67 => ⟨S2x2048x1024, .f32⟩
  | 68 => ⟨S2x2048x1024, .f32⟩
  | 69 => ⟨S_, .f32⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x2048x1024, .f32⟩
  | 81 => ⟨S2x16x128x2x8x64, .f32⟩
  | 82 => ⟨S2x16x2x64x8x128, .f32⟩
  | 83 => ⟨S2x16x2x8x128x256, .f32⟩
  | 84 => ⟨S2x16x2x64x256, .f32⟩
  | 85 => ⟨S2x16x256x2x64, .f32⟩
  | 86 => ⟨S_, .f32⟩
  | 87 => ⟨S2x16x2x8x128x257, .f32⟩
  | 88 => ⟨S2x16x2x8x128x257, .f32⟩
  | 89 => ⟨S2x16x2x8x128x257, .f32⟩
  | 90 => ⟨S2x16x2x8x128x257, .f32⟩
  | 91 => ⟨S_, .f32⟩
  | 92 => ⟨S2x16x2x8x128, .f32⟩
  | 93 => ⟨S2x16x2x8x128x1, .f32⟩
  | 94 => ⟨S2x16x2x8x128x1, .f32⟩
  | 95 => ⟨S2x16x2x8x128x257, .f32⟩
  | 96 => ⟨S2x16x2x8x128x257, .f32⟩
  | 97 => ⟨S_, .f32⟩
  | 98 => ⟨S2x16x2x8x128, .f32⟩
  | 99 => ⟨S2x16x2x8x128x257, .f32⟩
  | 100 => ⟨S2x16x2x8x128x257, .f32⟩
  | 101 => ⟨S2x16x2x8x128x257, .f32⟩
  | 102 => ⟨S2x16x2x8x128x256, .f32⟩
  | 103 => ⟨S2x16x2x8x128x1, .f32⟩
  | 104 => ⟨S_, .f32⟩
  | 105 => ⟨S2x8, .f32⟩
  | 106 => ⟨S1x1x2x8x1x1, .f32⟩
  | 107 => ⟨S_, .f32⟩
  | 108 => ⟨S2x8, .f32⟩
  | 109 => ⟨S16, .f32⟩
  | 110 => ⟨S_, .f32⟩
  | 111 => ⟨S2x16x2x8x128x256, .f32⟩
  | 112 => ⟨S2x16x2x8x128x256, .f32⟩
  | 113 => ⟨S_, .f32⟩
  | 114 => ⟨S2x16x2x8x128x256, .f32⟩
  | 115 => ⟨S2x16x2x8x128x256, .f32⟩
  | 116 => ⟨S2x16x2x256x128x8, .f32⟩
  | 117 => ⟨S2x16x2x128x8x64, .f32⟩
  | 118 => ⟨S2x16x128x2x8x64, .f32⟩
  | 119 => ⟨S2x16x2x256x64, .f32⟩
  | 120 => ⟨S2x16x256x2x64, .f32⟩
  | 121 => ⟨S2x16x128x2x64, .f32⟩
  | 122 => ⟨S2x16x128x2x64, .f32⟩
  | 123 => ⟨S2x16x128x2x64, .f32⟩
  | 124 => ⟨S2x16x128x2x64, .f32⟩
  | 125 => ⟨S2x1x128x2x64, .f32⟩
  | 126 => ⟨S2x15x128x2x64, .f32⟩
  | 127 => ⟨S_, .f32⟩
  | _ => ⟨S2x2048x6400, .f32⟩

abbrev hbmTy0_2 (i : Nat) : BufTy := match i % 128 with
  | 0 => ⟨S2x16x128x2x64, .f32⟩
  | 1 => ⟨S2x16x128x2x64, .f32⟩
  | 2 => ⟨S2x1x128x2x64, .f32⟩
  | 3 => ⟨S2x15x128x2x64, .f32⟩
  | 4 => ⟨S_, .f32⟩
  | 5 => ⟨S2x16x128x2x64, .f32⟩
  | 6 => ⟨S2x16x128x2x64, .f32⟩
  | 7 => ⟨S2x2048x2x64, .f32⟩
  | 8 => ⟨S2x2048x2x64, .f32⟩
  | 9 => ⟨S2x2048x16x64, .f32⟩
  | 10 => ⟨S2x2048x128, .f32⟩
  | 11 => ⟨S2x2048x2x32, .f32⟩
  | 12 => ⟨S2x2048x2x32, .f32⟩
  | 13 => ⟨S2x2048x2x32, .f32⟩
  | 14 => ⟨S2x2048x2x32, .f32⟩
  | 15 => ⟨S2x2048x2x32, .f32⟩
  | 16 => ⟨S2x2048x2x32, .f32⟩
  | 17 => ⟨S2x2048x2x32, .f32⟩
  | 18 => ⟨S2x2048x2x32, .f32⟩
  | 19 => ⟨S2x2048x2x32, .f32⟩
  | 20 => ⟨S2x2048x2x32, .f32⟩
  | 21 => ⟨S2x2048x2x32, .f32⟩
  | 22 => ⟨S2x2048x2x32, .f32⟩
  | 23 => ⟨S2x2048x2x32, .f32⟩
  | 24 => ⟨S_, .f32⟩
  | 25 => ⟨S2x2048x2x64, .f32⟩
  | 26 => ⟨S_, .f32⟩
  | 27 => ⟨S2x2048x2x64, .f32⟩
  | 28 => ⟨S2x2048x2x64, .f32⟩
  | 29 => ⟨S2x2048x128, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x32, .f32⟩
  | 38 => ⟨S2x2048x16x32, .f32⟩
  | 39 => ⟨S2x2048x16x32, .f32⟩
  | 40 => ⟨S2x2048x16x32, .f32⟩
  | 41 => ⟨S2x2048x16x32, .f32⟩
  | 42 => ⟨S2x2048x16x32, .f32⟩
  | 43 => ⟨S_, .f32⟩
  | 44 => ⟨S2x2048x16x64, .f32⟩
  | 45 => ⟨S_, .f32⟩
  | 46 => ⟨S2x2048x16x64, .f32⟩
  | 47 => ⟨S2x2048x16x64, .f32⟩
  | 48 => ⟨S2x2048x1024, .f32⟩
  | 49 => ⟨S4096x128, .f32⟩
  | 50 => ⟨S4096x128, .f32⟩
  | 51 => ⟨S4096x256, .f32⟩
  | 52 => ⟨S4096x1024, .f32⟩
  | 53 => ⟨S4096x1024, .bf16⟩
  | 54 => ⟨S4096x1024, .f32⟩
  | 55 => ⟨S4096x1024, .bf16⟩
  | 56 => ⟨S4096x256, .bf16⟩
  | 57 => ⟨S16x1, .f32⟩
  | 58 => ⟨S16x128, .f32⟩
  | _ => ⟨S2x2048x6400, .f32⟩

abbrev hbmTy (i : Nat) : BufTy := match i / 128 with
  | 0 => hbmTy0_0 i
  | 1 => hbmTy0_1 i
  | 2 => hbmTy0_2 i
  | _ => ⟨S2x2048x6400, .f32⟩

abbrev bufTy : (tb : Table) → Fin (tcTables nBuf tb) → BufTy
  | .hbm, ⟨i, _⟩ => hbmTy i
  | _, _ => ⟨S2x2048x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_cst_1 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_3 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_cst_4 : Ref sig .tc := ⟨.hbm, 81, rfl⟩
abbrev main_v73 : Ref sig .tc := ⟨.hbm, 82, rfl⟩
abbrev main_v74 : Ref sig .tc := ⟨.hbm, 83, rfl⟩
abbrev main_cst_5 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_cst_6 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_cst_7 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_c : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_c_8 : Ref sig .tc := ⟨.hbm, 107, rfl⟩
abbrev main_v94 : Ref sig .tc := ⟨.hbm, 108, rfl⟩
abbrev main_v95 : Ref sig .tc := ⟨.hbm, 109, rfl⟩
abbrev main_c_9 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_c_10 : Ref sig .tc := ⟨.hbm, 116, rfl⟩
abbrev main_v101 : Ref sig .tc := ⟨.hbm, 117, rfl⟩
abbrev main_v102 : Ref sig .tc := ⟨.hbm, 118, rfl⟩
abbrev main_c_11 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_c_12 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_13 : Ref sig .tc := ⟨.hbm, 136, rfl⟩
abbrev main_call0_v0 : Ref sig .tc := ⟨.hbm, 137, rfl⟩
abbrev main_v118_1 : Ref sig .tc := ⟨.hbm, 138, rfl⟩
abbrev main_call0_v2 : Ref sig .tc := ⟨.hbm, 139, rfl⟩
abbrev main_v118_0 : Ref sig .tc := ⟨.hbm, 140, rfl⟩
abbrev main_call0_cst : Ref sig .tc := ⟨.hbm, 141, rfl⟩
abbrev main_v118_2 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_cst_14 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_15 : Ref sig .tc := ⟨.hbm, 153, rfl⟩
abbrev main_v128 : Ref sig .tc := ⟨.hbm, 154, rfl⟩
abbrev main_cst_16 : Ref sig .tc := ⟨.hbm, 155, rfl⟩
abbrev main_v129 : Ref sig .tc := ⟨.hbm, 156, rfl⟩
abbrev main_v130 : Ref sig .tc := ⟨.hbm, 157, rfl⟩
abbrev main_cst_17 : Ref sig .tc := ⟨.hbm, 158, rfl⟩
abbrev main_v131 : Ref sig .tc := ⟨.hbm, 159, rfl⟩
abbrev main_v132 : Ref sig .tc := ⟨.hbm, 160, rfl⟩
abbrev main_cst_18 : Ref sig .tc := ⟨.hbm, 161, rfl⟩
abbrev main_v133 : Ref sig .tc := ⟨.hbm, 162, rfl⟩
abbrev main_v134 : Ref sig .tc := ⟨.hbm, 163, rfl⟩
abbrev main_cst_19 : Ref sig .tc := ⟨.hbm, 164, rfl⟩
abbrev main_v135 : Ref sig .tc := ⟨.hbm, 165, rfl⟩
abbrev main_cst_20 : Ref sig .tc := ⟨.hbm, 166, rfl⟩
abbrev main_v136 : Ref sig .tc := ⟨.hbm, 167, rfl⟩
abbrev main_cst_21 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_22 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_cst_23 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_call1_v0 : Ref sig .tc := ⟨.hbm, 189, rfl⟩
abbrev main_call1_v1 : Ref sig .tc := ⟨.hbm, 190, rfl⟩
abbrev main_call1_cst : Ref sig .tc := ⟨.hbm, 191, rfl⟩
abbrev main_call1_v2 : Ref sig .tc := ⟨.hbm, 192, rfl⟩
abbrev main_call1_v3 : Ref sig .tc := ⟨.hbm, 193, rfl⟩
abbrev main_call1_cst_0 : Ref sig .tc := ⟨.hbm, 194, rfl⟩
abbrev main_call1_v4 : Ref sig .tc := ⟨.hbm, 195, rfl⟩
abbrev main_v155_2 : Ref sig .tc := ⟨.hbm, 196, rfl⟩
abbrev main_call1_cst_1 : Ref sig .tc := ⟨.hbm, 197, rfl⟩
abbrev main_call1_v6 : Ref sig .tc := ⟨.hbm, 198, rfl⟩
abbrev main_call1_v7 : Ref sig .tc := ⟨.hbm, 199, rfl⟩
abbrev main_v155_1 : Ref sig .tc := ⟨.hbm, 200, rfl⟩
abbrev main_v155_0 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_call2_v0 : Ref sig .tc := ⟨.hbm, 205, rfl⟩
abbrev main_call2_v1 : Ref sig .tc := ⟨.hbm, 206, rfl⟩
abbrev main_call2_v2 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_cst_24 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_cst_25 : Ref sig .tc := ⟨.hbm, 219, rfl⟩
abbrev main_v169 : Ref sig .tc := ⟨.hbm, 220, rfl⟩
abbrev main_v170 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_cst_26 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_cst_27 : Ref sig .tc := ⟨.hbm, 232, rfl⟩
abbrev main_v180 : Ref sig .tc := ⟨.hbm, 233, rfl⟩
abbrev main_v181 : Ref sig .tc := ⟨.hbm, 234, rfl⟩
abbrev main_cst_28 : Ref sig .tc := ⟨.hbm, 235, rfl⟩
abbrev main_v182 : Ref sig .tc := ⟨.hbm, 236, rfl⟩
abbrev main_v183 : Ref sig .tc := ⟨.hbm, 237, rfl⟩
abbrev main_call3_cst : Ref sig .tc := ⟨.hbm, 238, rfl⟩
abbrev main_call3_v0 : Ref sig .tc := ⟨.hbm, 239, rfl⟩
abbrev main_v184 : Ref sig .tc := ⟨.hbm, 240, rfl⟩
abbrev main_cst_29 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_v191 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_cst_30 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_cst_31 : Ref sig .tc := ⟨.hbm, 260, rfl⟩
abbrev main_v202 : Ref sig .tc := ⟨.hbm, 261, rfl⟩
abbrev main_v203 : Ref sig .tc := ⟨.hbm, 262, rfl⟩
abbrev main_v204 : Ref sig .tc := ⟨.hbm, 263, rfl⟩
abbrev main_v205 : Ref sig .tc := ⟨.hbm, 264, rfl⟩
abbrev main_v206 : Ref sig .tc := ⟨.hbm, 265, rfl⟩
abbrev main_v207 : Ref sig .tc := ⟨.hbm, 266, rfl⟩
abbrev main_v208 : Ref sig .tc := ⟨.hbm, 267, rfl⟩
abbrev main_v209 : Ref sig .tc := ⟨.hbm, 268, rfl⟩
abbrev main_v210 : Ref sig .tc := ⟨.hbm, 269, rfl⟩
abbrev main_v211 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_v216 : Ref sig .tc := ⟨.hbm, 275, rfl⟩
abbrev main_v217 : Ref sig .tc := ⟨.hbm, 276, rfl⟩
abbrev main_v218 : Ref sig .tc := ⟨.hbm, 277, rfl⟩
abbrev main_v219 : Ref sig .tc := ⟨.hbm, 278, rfl⟩
abbrev main_v220 : Ref sig .tc := ⟨.hbm, 279, rfl⟩
abbrev main_cst_32 : Ref sig .tc := ⟨.hbm, 280, rfl⟩
abbrev main_v221 : Ref sig .tc := ⟨.hbm, 281, rfl⟩
abbrev main_cst_33 : Ref sig .tc := ⟨.hbm, 282, rfl⟩
abbrev main_v222 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_cst_34 : Ref sig .tc := ⟨.hbm, 299, rfl⟩
abbrev main_v238 : Ref sig .tc := ⟨.hbm, 300, rfl⟩
abbrev main_cst_35 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩

abbrev nD : Nat := 1
abbrev τ : Topo := Topo.v7x

variable {F : FTy → Type} [FloatOps F]
-- ==== LossBwd.lean ====
abbrev S2x2048x1024 : Shape := ⟨3, ![2, 2048, 1024]⟩
abbrev S2048x1024 : Shape := ⟨2, ![2048, 1024]⟩
abbrev S1024 : Shape := ⟨1, ![1024]⟩
abbrev S4096x1024 : Shape := ⟨2, ![4096, 1024]⟩
abbrev S1x2048x1024 : Shape := ⟨3, ![1, 2048, 1024]⟩
abbrev S1x1024 : Shape := ⟨2, ![1, 1024]⟩
abbrev S8x128 : Shape := ⟨2, ![8, 128]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 18
  | .vmem => 15
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S4096x1024, .f32⟩
  | .hbm, ⟨7, _⟩ => ⟨S4096x1024, .bf16⟩
  | .hbm, ⟨8, _⟩ => ⟨S4096x1024, .f32⟩
  | .hbm, ⟨9, _⟩ => ⟨S4096x1024, .bf16⟩
  | .hbm, ⟨10, _⟩ => ⟨S2048x1024, .bf16⟩
  | .hbm, ⟨11, _⟩ => ⟨S1x2048x1024, .bf16⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S8x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S8x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossBwdRefIdeal.lean ====
abbrev S2x2048x1024 : Shape := ⟨3, ![2, 2048, 1024]⟩
abbrev S2048x1024 : Shape := ⟨2, ![2048, 1024]⟩
abbrev S1024 : Shape := ⟨1, ![1024]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩
abbrev S8x128 : Shape := ⟨2, ![8, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S2x2048x1024, .f32⟩
  | .hbm, ⟨4, _⟩ => ⟨S1024, .f32⟩
  | .hbm, ⟨5, _⟩ => ⟨S2x2048x1024, .f32⟩
  | .hbm, ⟨6, _⟩ => ⟨S2x2048x2048, .f32⟩
  | .hbm, ⟨7, _⟩ => ⟨S2x2048x1024, .f32⟩
  | .hbm, ⟨8, _⟩ => ⟨S2x2048x1024, .f32⟩
  | .hbm, ⟨9, _⟩ => ⟨S_, .f32⟩
  | .hbm, ⟨10, _⟩ => ⟨S2x2048, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S_, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S2x2048x1024, .f32⟩
  | .hbm, ⟨20, _⟩ => ⟨S2x2048x1024, .f32⟩
  | .hbm, ⟨21, _⟩ => ⟨S1x1x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048x1024, .f32⟩
  | .hbm, ⟨29, _⟩ => ⟨S2x2048x1024, .f32⟩
  | .hbm, ⟨30, _⟩ => ⟨S_, .f32⟩
  | .hbm, ⟨31, _⟩ => ⟨S2x2048, .f32⟩
  | .hbm, ⟨32, _⟩ => ⟨S_, .f32⟩
  | .hbm, ⟨33, _⟩ => ⟨S2x2048, .f32⟩
  | .hbm, ⟨34, _⟩ => ⟨S2x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x2048, .f32⟩
  | .hbm, ⟨43, _⟩ => ⟨S_, .f32⟩
  | .hbm, ⟨44, _⟩ => ⟨S2x2048, .f32⟩
  | .hbm, ⟨45, _⟩ => ⟨S2x2048, .f32⟩
  | .hbm, ⟨46, _⟩ => ⟨S2x2048x1024, .f32⟩
  | .hbm, ⟨47, _⟩ => ⟨S2x2048x1024, .f32⟩
  | .hbm, ⟨48, _⟩ => ⟨S4096x1024, .f32⟩
  | .hbm, ⟨49, _⟩ => ⟨S4096x1024, .f32⟩
  | .hbm, ⟨50, _⟩ => ⟨S8x128, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== SmallUpdate.lean ====
abbrev S2x1024 : Shape := ⟨2, ![2, 1024]⟩
abbrev S2x128 : Shape := ⟨2, ![2, 128]⟩
abbrev S2x16 : Shape := ⟨2, ![2, 16]⟩
abbrev S1x128 : Shape := ⟨2, ![1, 128]⟩
abbrev S128 : Shape := ⟨1, ![128]⟩
abbrev S1x16 : Shape := ⟨2, ![1, 16]⟩
abbrev S16 : Shape := ⟨1, ![16]⟩
abbrev S144 : Shape := ⟨1, ![144]⟩
abbrev S1x1024 : Shape := ⟨2, ![1, 1024]⟩
abbrev S1024 : Shape := ⟨1, ![1024]⟩
abbrev S_ : Shape := ⟨0, ![]⟩
abbrev S8x1024 : Shape := ⟨2, ![8, 1024]⟩

abbrev nBuf : Space → Nat
  | .hbm => 172
  | .vmem => 8
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x128, .f32⟩
  | 4 => ⟨S2x16, .f32⟩
  | 5 => ⟨S2x1024, .f32⟩
  | 6 => ⟨S2x1024, .f32⟩
  | 7 => ⟨S2x1024, .f32⟩
  | 8 => ⟨S2x128, .f32⟩
  | 9 => ⟨S2x16, .f32⟩
  | 10 => ⟨S2x1024, .f32⟩
  | 11 => ⟨S2x1024, .f32⟩
  | 12 => ⟨S2x1024, .f32⟩
  | 13 => ⟨S2x128, .f32⟩
  | 14 => ⟨S2x16, .f32⟩
  | 15 => ⟨S2x1024, .f32⟩
  | 16 => ⟨S2x1024, .f32⟩
  | 17 => ⟨S2x1024, .f32⟩
  | 18 => ⟨S2x128, .f32⟩
  | 19 => ⟨S2x16, .f32⟩
  | 20 => ⟨S1x128, .f32⟩
  | 21 => ⟨S128, .f32⟩
  | 22 => ⟨S1x16, .f32⟩
  | 23 => ⟨S16, .f32⟩
  | 24 => ⟨S144, .f32⟩
  | 25 => ⟨S1x1024, .f32⟩
  | 26 => ⟨S1024, .f32⟩
  | 27 => ⟨S1x1024, .f32⟩
  | 28 => ⟨S1024, .f32⟩
  | 29 => ⟨S1x1024, .f32⟩
  | 30 => ⟨S1024, .f32⟩
  | 31 => ⟨S_, .i32⟩
  | 32 => ⟨S_, .f32⟩
  | 33 => ⟨S1024, .f32⟩
  | 34 => ⟨S1x128, .f32⟩
  | 35 => ⟨S128, .f32⟩
  | 36 => ⟨S1x16, .f32⟩
  | 37 => ⟨S16, .f32⟩
  | 38 => ⟨S144, .f32⟩
  | 39 => ⟨S1x1024, .f32⟩
  | 40 => ⟨S1024, .f32⟩
  | 41 => ⟨S1x1024, .f32⟩
  | 42 => ⟨S1024, .f32⟩
  | 43 => ⟨S1x1024, .f32⟩
  | 44 => ⟨S1024, .f32⟩
  | 45 => ⟨S_, .i32⟩
  | 46 => ⟨S_, .f32⟩
  | 47 => ⟨S1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S8x1024, .f32⟩
  | 57 => ⟨S1x128, .f32⟩
  | 58 => ⟨S128, .f32⟩
  | 59 => ⟨S1x16, .f32⟩
  | 60 => ⟨S16, .f32⟩
  | 61 => ⟨S144, .f32⟩
  | 62 => ⟨S1x1024, .f32⟩
  | 63 => ⟨S1024, .f32⟩
  | 64 => ⟨S1x1024, .f32⟩
  | 65 => ⟨S1024, .f32⟩
  | 66 => ⟨S1x1024, .f32⟩
  | 67 => ⟨S1024, .f32⟩
  | 68 => ⟨S_, .i32⟩
  | 69 => ⟨S_, .f32⟩
  | 70 => ⟨S1024, .f32⟩
  | 71 => ⟨S1x128, .f32⟩
  | 72 => ⟨S128, .f32⟩
  | 73 => ⟨S1x16, .f32⟩
  | 74 => ⟨S16, .f32⟩
  | 75 => ⟨S144, .f32⟩
  | 76 => ⟨S1x1024, .f32⟩
  | 77 => ⟨S1024, .f32⟩
  | 78 => ⟨S1x1024, .f32⟩
  | 79 => ⟨S1024, .f32⟩
  | 80 => ⟨S1x1024, .f32⟩
  | 81 => ⟨S1024, .f32⟩
  | 82 => ⟨S_, .i32⟩
  | 83 => ⟨S_, .f32⟩
  | 84 => ⟨S1024, .f32⟩
  | 85 => ⟨S1x1024, .f32⟩
  | 86 => ⟨S1x1024, .f32⟩
  | 87 => ⟨S1x1024, .f32⟩
  | 88 => ⟨S1x1024, .f32⟩
  | 89 => ⟨S1x1024, .f32⟩
  | 90 => ⟨S1x1024, .f32⟩
  | 91 => ⟨S1x1024, .f32⟩
  | 92 => ⟨S1x1024, .f32⟩
  | 93 => ⟨S8x1024, .f32⟩
  | 94 => ⟨S1x128, .f32⟩
  | 95 => ⟨S128, .f32⟩
  | 96 => ⟨S1x16, .f32⟩
  | 97 => ⟨S16, .f32⟩
  | 98 => ⟨S144, .f32⟩
  | 99 => ⟨S1x1024, .f32⟩
  | 100 => ⟨S1024, .f32⟩
  | 101 => ⟨S1x1024, .f32⟩
  | 102 => ⟨S1024, .f32⟩
  | 103 => ⟨S1x1024, .f32⟩
  | 104 => ⟨S1024, .f32⟩
  | 105 => ⟨S_, .i32⟩
  | 106 => ⟨S_, .f32⟩
  | 107 => ⟨S1024, .f32⟩
  | 108 => ⟨S1x128, .f32⟩
  | 109 => ⟨S128, .f32⟩
  | 110 => ⟨S1x16, .f32⟩
  | 111 => ⟨S16, .f32⟩
  | 112 => ⟨S144, .f32⟩
  | 113 => ⟨S1x1024, .f32⟩
  | 114 => ⟨S1024, .f32⟩
  | 115 => ⟨S1x1024, .f32⟩
  | 116 => ⟨S1024, .f32⟩
  | 117 => ⟨S1x1024, .f32⟩
  | 118 => ⟨S1024, .f32⟩
  | 119 => ⟨S_, .i32⟩
  | 120 => ⟨S_, .f32⟩
  | 121 => ⟨S1024, .f32⟩
  | 122 => ⟨S1x1024, .f32⟩
  | 123 => ⟨S1x1024, .f32⟩
  | 124 => ⟨S1x1024, .f32⟩
  | 125 => ⟨S1x1024, .f32⟩
  | 126 => ⟨S1x1024, .f32⟩
  | 127 => ⟨S1x1024, .f32⟩
  | _ => ⟨S2x1024, .f32⟩

abbrev hbmTy0_1 (i : Nat) : BufTy := match i % 128 with
  | 0 => ⟨S1x1024, .f32⟩
  | 1 => ⟨S1x1024, .f32⟩
  | 2 => ⟨S8x1024, .f32⟩
  | 3 => ⟨S1x128, .f32⟩
  | 4 => ⟨S128, .f32⟩
  | 5 => ⟨S1x16, .f32⟩
  | 6 => ⟨S16, .f32⟩
  | 7 => ⟨S144, .f32⟩
  | 8 => ⟨S1x1024, .f32⟩
  | 9 => ⟨S1024, .f32⟩
  | 10 => ⟨S1x1024, .f32⟩
  | 11 => ⟨S1024, .f32⟩
  | 12 => ⟨S1x1024, .f32⟩
  | 13 => ⟨S1024, .f32⟩
  | 14 => ⟨S_, .i32⟩
  | 15 => ⟨S_, .f32⟩
  | 16 => ⟨S1024, .f32⟩
  | 17 => ⟨S1x128, .f32⟩
  | 18 => ⟨S128, .f32⟩
  | 19 => ⟨S1x16, .f32⟩
  | 20 => ⟨S16, .f32⟩
  | 21 => ⟨S144, .f32⟩
  | 22 => ⟨S1x1024, .f32⟩
  | 23 => ⟨S1024, .f32⟩
  | 24 => ⟨S1x1024, .f32⟩
  | 25 => ⟨S1024, .f32⟩
  | 26 => ⟨S1x1024, .f32⟩
  | 27 => ⟨S1024, .f32⟩
  | 28 => ⟨S_, .i32⟩
  | 29 => ⟨S_, .f32⟩
  | 30 => ⟨S1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S8x1024, .f32⟩
  | 40 => ⟨S8x1024, .f32⟩
  | 41 => ⟨S8x1024, .f32⟩
  | 42 => ⟨S8x1024, .f32⟩
  | 43 => ⟨S8x1024, .f32⟩
  | _ => ⟨S2x1024, .f32⟩

abbrev hbmTy (i : Nat) : BufTy := match i / 128 with
  | 0 => hbmTy0_0 i
  | 1 => hbmTy0_1 i
  | _ => ⟨S2x1024, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S8x1024, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c : Ref sig .tc := ⟨.hbm, 31, rfl⟩
abbrev main_call0_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_0 : Ref sig .tc := ⟨.hbm, 45, rfl⟩
abbrev main_call1_v0 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_1 : Ref sig .tc := ⟨.hbm, 68, rfl⟩
abbrev main_call2_v0 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c_2 : Ref sig .tc := ⟨.hbm, 82, rfl⟩
abbrev main_call3_v0 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_3 : Ref sig .tc := ⟨.hbm, 105, rfl⟩
abbrev main_call4_v0 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_c_4 : Ref sig .tc := ⟨.hbm, 119, rfl⟩
abbrev main_call5_v0 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_c_5 : Ref sig .tc := ⟨.hbm, 142, rfl⟩
abbrev main_call6_v0 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_c_6 : Ref sig .tc := ⟨.hbm, 156, rfl⟩
abbrev main_call7_v0 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132_0 : Ref sig .tc := ⟨.hbm, 168, rfl⟩
abbrev main_v132_1 : Ref sig .tc := ⟨.hbm, 169, rfl⟩
abbrev main_v132_2 : Ref sig .tc := ⟨.hbm, 170, rfl⟩
abbrev main_v132_3 : Ref sig .tc := ⟨.hbm, 171, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== SmallUpdateRefIdeal.lean ====
abbrev S2x1024 : Shape := ⟨2, ![2, 1024]⟩
abbrev S2x128 : Shape := ⟨2, ![2, 128]⟩
abbrev S2x16 : Shape := ⟨2, ![2, 16]⟩
abbrev S_ : Shape := ⟨0, ![]⟩
abbrev S1024 : Shape := ⟨1, ![1024]⟩
abbrev S1x1024 : Shape := ⟨2, ![1, 1024]⟩
abbrev S2x880 : Shape := ⟨2, ![2, 880]⟩
abbrev S2x1x1024 : Shape := ⟨3, ![2, 1, 1024]⟩
abbrev S2x4x1024 : Shape := ⟨3, ![2, 4, 1024]⟩
abbrev S8x1024 : Shape := ⟨2, ![8, 1024]⟩

abbrev nBuf : Space → Nat
  | .hbm => 290
  | .vmem => 0
  | .smem => 0
  | _ => 0

abbrev hbmTy0_0 (i : Nat) : BufTy := match i % 128 with
  | 0 => ⟨S2x1024, .f32⟩
  | 1 => ⟨S2x1024, .f32⟩
  | 2 => ⟨S2x1024, .f32⟩
  | 3 => ⟨S2x128, .f32⟩
  | 4 => ⟨S2x16, .f32⟩
  | 5 => ⟨S2x1024, .f32⟩
  | 6 => ⟨S2x1024, .f32⟩
  | 7 => ⟨S2x1024, .f32⟩
  | 8 => ⟨S2x128, .f32⟩
  | 9 => ⟨S2x16, .f32⟩
  | 10 => ⟨S2x1024, .f32⟩
  | 11 => ⟨S2x1024, .f32⟩
  | 12 => ⟨S2x1024, .f32⟩
  | 13 => ⟨S2x128, .f32⟩
  | 14 => ⟨S2x16, .f32⟩
  | 15 => ⟨S2x1024, .f32⟩
  | 16 => ⟨S2x1024, .f32⟩
  | 17 => ⟨S2x1024, .f32⟩
  | 18 => ⟨S2x128, .f32⟩
  | 19 => ⟨S2x16, .f32⟩
  | 20 => ⟨S_, .f32⟩
  | 21 => ⟨S1024, .f32⟩
  | 22 => ⟨S1x1024, .f32⟩
  | 23 => ⟨S2x1024, .f32⟩
  | 24 => ⟨S2x1024, .i1⟩
  | 25 => ⟨S2x1024, .f32⟩
  | 26 => ⟨S_, .f32⟩
  | 27 => ⟨S1024, .f32⟩
  | 28 => ⟨S_, .f32⟩
  | 29 => ⟨S1024, .f32⟩
  | 30 => ⟨S1024, .f32⟩
  | 31 => ⟨S_, .f32⟩
  | 32 => ⟨S1024, .f32⟩
  | 33 => ⟨S1024, .i1⟩
  | 34 => ⟨S_, .f32⟩
  | 35 => ⟨S1024, .f32⟩
  | 36 => ⟨S1024, .i1⟩
  | 37 => ⟨S_, .f32⟩
  | 38 => ⟨S1024, .f32⟩
  | 39 => ⟨S_, .f32⟩
  | 40 => ⟨S1024, .f32⟩
  | 41 => ⟨S_, .f32⟩
  | 42 => ⟨S1024, .f32⟩
  | 43 => ⟨S1024, .f32⟩
  | 44 => ⟨S1024, .f32⟩
  | 45 => ⟨S1x1024, .f32⟩
  | 46 => ⟨S2x1024, .f32⟩
  | 47 => ⟨S2x1024, .f32⟩
  | 48 => ⟨S2x1024, .f32⟩
  | 49 => ⟨S_, .f32⟩
  | 50 => ⟨S1024, .f32⟩
  | 51 => ⟨S1x1024, .f32⟩
  | 52 => ⟨S2x1024, .f32⟩
  | 53 => ⟨S2x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S_, .f32⟩
  | 60 => ⟨S2x1024, .f32⟩
  | 61 => ⟨S1x1024, .f32⟩
  | 62 => ⟨S2x1024, .f32⟩
  | 63 => ⟨S2x1024, .f32⟩
  | 64 => ⟨S2x1024, .f32⟩
  | 65 => ⟨S2x1024, .f32⟩
  | 66 => ⟨S_, .f32⟩
  | 67 => ⟨S1024, .f32⟩
  | 68 => ⟨S1x1024, .f32⟩
  | 69 => ⟨S_, .f32⟩
  | 70 => ⟨S2x1024, .f32⟩
  | 71 => ⟨S_, .f32⟩
  | 72 => ⟨S_, .f32⟩
  | 73 => ⟨S2x1024, .f32⟩
  | 74 => ⟨S2x1024, .f32⟩
  | 75 => ⟨S2x1024, .f32⟩
  | 76 => ⟨S2x1024, .f32⟩
  | 77 => ⟨S2x1024, .f32⟩
  | 78 => ⟨S_, .f32⟩
  | 79 => ⟨S1024, .f32⟩
  | 80 => ⟨S1x1024, .f32⟩
  | 81 => ⟨S1x1024, .f32⟩
  | 82 => ⟨S2x1024, .f32⟩
  | 83 => ⟨S2x1024, .f32⟩
  | 84 => ⟨S_, .f32⟩
  | 85 => ⟨S1024, .f32⟩
  | 86 => ⟨S2x1024, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S_, .f32⟩
  | 93 => ⟨S2x1024, .f32⟩
  | 94 => ⟨S2x1024, .f32⟩
  | 95 => ⟨S2x1024, .f32⟩
  | 96 => ⟨S_, .f32⟩
  | 97 => ⟨S2x1024, .f32⟩
  | 98 => ⟨S2x1024, .f32⟩
  | 99 => ⟨S2x1024, .f32⟩
  | 100 => ⟨S_, .f32⟩
  | 101 => ⟨S2x1024, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S_, .f32⟩
  | 108 => ⟨S2x1024, .f32⟩
  | 109 => ⟨S2x1024, .f32⟩
  | 110 => ⟨S2x1024, .f32⟩
  | 111 => ⟨S_, .f32⟩
  | 112 => ⟨S2x1024, .f32⟩
  | 113 => ⟨S2x1024, .f32⟩
  | 114 => ⟨S2x1024, .f32⟩
  | 115 => ⟨S_, .f32⟩
  | 116 => ⟨S2x1024, .f32⟩
  | 117 => ⟨S2x1024, .f32⟩
  | 118 => ⟨S2x1024, .f32⟩
  | 119 => ⟨S_, .f32⟩
  | 120 => ⟨S2x1024, .f32⟩
  | 121 => ⟨S2x1024, .f32⟩
  | 122 => ⟨S_, .f32⟩
  | 123 => ⟨S2x1024, .f32⟩
  | 124 => ⟨S2x1024, .f32⟩
  | 125 => ⟨S_, .f32⟩
  | 126 => ⟨S2x1024, .f32⟩
  | 127 => ⟨S2x1024, .f32⟩
  | _ => ⟨S2x1024, .f32⟩

abbrev hbmTy0_1 (i : Nat) : BufTy := match i % 128 with
  | 0 => ⟨S2x1024, .f32⟩
  | 1 => ⟨S_, .f32⟩
  | 2 => ⟨S2x1024, .f32⟩
  | 3 => ⟨S2x1024, .f32⟩
  | 4 => ⟨S2x1024, .f32⟩
  | 5 => ⟨S_, .f32⟩
  | 6 => ⟨S2x1024, .f32⟩
  | 7 => ⟨S2x1024, .f32⟩
  | 8 => ⟨S2x1024, .f32⟩
  | 9 => ⟨S_, .f32⟩
  | 10 => ⟨S2x1024, .f32⟩
  | 11 => ⟨S2x1024, .f32⟩
  | 12 => ⟨S_, .f32⟩
  | 13 => ⟨S2x1024, .f32⟩
  | 14 => ⟨S2x1024, .f32⟩
  | 15 => ⟨S2x1024, .f32⟩
  | 16 => ⟨S_, .f32⟩
  | 17 => ⟨S2x1024, .f32⟩
  | 18 => ⟨S2x1024, .f32⟩
  | 19 => ⟨S2x1024, .f32⟩
  | 20 => ⟨S_, .f32⟩
  | 21 => ⟨S2x1024, .f32⟩
  | 22 => ⟨S2x1024, .f32⟩
  | 23 => ⟨S2x1024, .f32⟩
  | 24 => ⟨S_, .f32⟩
  | 25 => ⟨S2x1024, .f32⟩
  | 26 => ⟨S2x1024, .f32⟩
  | 27 => ⟨S_, .f32⟩
  | 28 => ⟨S2x1024, .f32⟩
  | 29 => ⟨S2x1024, .f32⟩
  | 30 => ⟨S_, .f32⟩
  | 31 => ⟨S2x1024, .f32⟩
  | 32 => ⟨S2x1024, .f32⟩
  | 33 => ⟨S2x1024, .f32⟩
  | 34 => ⟨S_, .f32⟩
  | 35 => ⟨S2x1024, .f32⟩
  | 36 => ⟨S2x1024, .f32⟩
  | 37 => ⟨S2x1024, .f32⟩
  | 38 => ⟨S_, .f32⟩
  | 39 => ⟨S2x1024, .f32⟩
  | 40 => ⟨S2x1024, .f32⟩
  | 41 => ⟨S2x1024, .f32⟩
  | 42 => ⟨S_, .f32⟩
  | 43 => ⟨S2x1024, .f32⟩
  | 44 => ⟨S2x1024, .f32⟩
  | 45 => ⟨S_, .f32⟩
  | 46 => ⟨S2x1024, .f32⟩
  | 47 => ⟨S2x1024, .f32⟩
  | 48 => ⟨S2x1024, .f32⟩
  | 49 => ⟨S_, .f32⟩
  | 50 => ⟨S2x1024, .f32⟩
  | 51 => ⟨S2x1024, .f32⟩
  | 52 => ⟨S2x1024, .f32⟩
  | 53 => ⟨S_, .f32⟩
  | 54 => ⟨S2x1024, .f32⟩
  | 55 => ⟨S2x1024, .f32⟩
  | 56 => ⟨S2x1024, .f32⟩
  | 57 => ⟨S_, .f32⟩
  | 58 => ⟨S2x1024, .f32⟩
  | 59 => ⟨S2x1024, .f32⟩
  | 60 => ⟨S_, .f32⟩
  | 61 => ⟨S2x128, .f32⟩
  | 62 => ⟨S2x128, .f32⟩
  | 63 => ⟨S_, .f32⟩
  | 64 => ⟨S2x128, .f32⟩
  | 65 => ⟨S2x128, .f32⟩
  | 66 => ⟨S2x128, .f32⟩
  | 67 => ⟨S_, .f32⟩
  | 68 => ⟨S2x128, .f32⟩
  | 69 => ⟨S2x128, .f32⟩
  | 70 => ⟨S2x128, .f32⟩
  | 71 => ⟨S_, .f32⟩
  | 72 => ⟨S2x128, .f32⟩
  | 73 => ⟨S2x128, .f32⟩
  | 74 => ⟨S2x128, .f32⟩
  | 75 => ⟨S_, .f32⟩
  | 76 => ⟨S2x128, .f32⟩
  | 77 => ⟨S2x128, .f32⟩
  | 78 => ⟨S_, .f32⟩
  | 79 => ⟨S2x128, .f32⟩
  | 80 => ⟨S2x128, .f32⟩
  | 81 => ⟨S2x128, .f32⟩
  | 82 => ⟨S_, .f32⟩
  | 83 => ⟨S2x128, .f32⟩
  | 84 => ⟨S2x128, .f32⟩
  | 85 => ⟨S2x128, .f32⟩
  | 86 => ⟨S_, .f32⟩
  | 87 => ⟨S2x128, .f32⟩
  | 88 => ⟨S2x128, .f32⟩
  | 89 => ⟨S2x128, .f32⟩
  | 90 => ⟨S_, .f32⟩
  | 91 => ⟨S2x128, .f32⟩
  | 92 => ⟨S2x128, .f32⟩
  | 93 => ⟨S_, .f32⟩
  | 94 => ⟨S2x16, .f32⟩
  | 95 => ⟨S2x16, .f32⟩
  | 96 => ⟨S_, .f32⟩
  | 97 => ⟨S2x16, .f32⟩
  | 98 => ⟨S2x16, .f32⟩
  | 99 => ⟨S2x16, .f32⟩
  | 100 => ⟨S_, .f32⟩
  | 101 => ⟨S2x16, .f32⟩
  | 102 => ⟨S2x16, .f32⟩
  | 103 => ⟨S2x16, .f32⟩
  | 104 => ⟨S_, .f32⟩
  | 105 => ⟨S2x16, .f32⟩
  | 106 => ⟨S2x16, .f32⟩
  | 107 => ⟨S2x16, .f32⟩
  | 108 => ⟨S_, .f32⟩
  | 109 => ⟨S2x16, .f32⟩
  | 110 => ⟨S2x16, .f32⟩
  | 111 => ⟨S_, .f32⟩
  | 112 => ⟨S2x16, .f32⟩
  | 113 => ⟨S2x16, .f32⟩
  | 114 => ⟨S2x16, .f32⟩
  | 115 => ⟨S_, .f32⟩
  | 116 => ⟨S2x16, .f32⟩
  | 117 => ⟨S2x16, .f32⟩
  | 118 => ⟨S2x16, .f32⟩
  | 119 => ⟨S_, .f32⟩
  | 120 => ⟨S2x16, .f32⟩
  | 121 => ⟨S2x16, .f32⟩
  | 122 => ⟨S2x16, .f32⟩
  | 123 => ⟨S_, .f32⟩
  | 124 => ⟨S2x16, .f32⟩
  | 125 => ⟨S2x16, .f32⟩
  | 126 => ⟨S_, .f32⟩
  | 127 => ⟨S2x880, .f32⟩
  | _ => ⟨S2x1024, .f32⟩

abbrev hbmTy0_2 (i : Nat) : BufTy := match i % 128 with
  | 0 => ⟨S2x1024, .f32⟩
  | 1 => ⟨S2x1x1024, .f32⟩
  | 2 => ⟨S2x1x1024, .f32⟩
  | 3 => ⟨S2x1x1024, .f32⟩
  | 4 => ⟨S2x1x1024, .f32⟩
  | 5 => ⟨S2x4x1024, .f32⟩
  | 6 => ⟨S8x1024, .f32⟩
  | 7 => ⟨S_, .f32⟩
  | 8 => ⟨S2x880, .f32⟩
  | 9 => ⟨S2x1024, .f32⟩
  | 10 => ⟨S2x1x1024, .f32⟩
  | 11 => ⟨S2x1x1024, .f32⟩
  | 12 => ⟨S2x1x1024, .f32⟩
  | 13 => ⟨S2x1x1024, .f32⟩
  | 14 => ⟨S2x4x1024, .f32⟩
  | 15 => ⟨S8x1024, .f32⟩
  | 16 => ⟨S_, .f32⟩
  | 17 => ⟨S2x880, .f32⟩
  | 18 => ⟨S2x1024, .f32⟩
  | 19 => ⟨S2x1x1024, .f32⟩
  | 20 => ⟨S2x1x1024, .f32⟩
  | 21 => ⟨S2x1x1024, .f32⟩
  | 22 => ⟨S2x1x1024, .f32⟩
  | 23 => ⟨S2x4x1024, .f32⟩
  | 24 => ⟨S8x1024, .f32⟩
  | 25 => ⟨S_, .f32⟩
  | 26 => ⟨S2x880, .f32⟩
  | 27 => ⟨S2x1024, .f32⟩
  | 28 => ⟨S2x1x1024, .f32⟩
  | 29 => ⟨S2x1x1024, .f32⟩
  | 30 => ⟨S2x1x1024, .f32⟩
  | 31 => ⟨S2x1x1024, .f32⟩
  | 32 => ⟨S2x4x1024, .f32⟩
  | 33 => ⟨S8x1024, .f32⟩
  | _ => ⟨S2x1024, .f32⟩

abbrev hbmTy (i : Nat) : BufTy := match i / 128 with
  | 0 => hbmTy0_0 i
  | 1 => hbmTy0_1 i
  | 2 => hbmTy0_2 i
  | _ => ⟨S2x1024, .f32⟩

abbrev bufTy : (tb : Table) → Fin (tcTables nBuf tb) → BufTy
  | .hbm, ⟨i, _⟩ => hbmTy i
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_cst : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_cst_1 : Ref sig .tc := ⟨.hbm, 28, rfl⟩
abbrev main_v6 : Ref sig .tc := ⟨.hbm, 29, rfl⟩
abbrev main_v7 : Ref sig .tc := ⟨.hbm, 30, rfl⟩
abbrev main_cst_2 : Ref sig .tc := ⟨.hbm, 31, rfl⟩
abbrev main_v8 : Ref sig .tc := ⟨.hbm, 32, rfl⟩
abbrev main_v9 : Ref sig .tc := ⟨.hbm, 33, rfl⟩
abbrev main_cst_3 : Ref sig .tc := ⟨.hbm, 34, rfl⟩
abbrev main_v10 : Ref sig .tc := ⟨.hbm, 35, rfl⟩
abbrev main_v11 : Ref sig .tc := ⟨.hbm, 36, rfl⟩
abbrev main_cst_4 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_cst_6 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_7 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_8 : Ref sig .tc := ⟨.hbm, 55, rfl⟩
abbrev main_v26 : Ref sig .tc := ⟨.hbm, 56, rfl⟩
abbrev main_v27 : Ref sig .tc := ⟨.hbm, 57, rfl⟩
abbrev main_call0_call0_cst : Ref sig .tc := ⟨.hbm, 58, rfl⟩
abbrev main_call0_call0_v0 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_9 : Ref sig .tc := ⟨.hbm, 66, rfl⟩
abbrev main_v34 : Ref sig .tc := ⟨.hbm, 67, rfl⟩
abbrev main_v35 : Ref sig .tc := ⟨.hbm, 68, rfl⟩
abbrev main_cst_10 : Ref sig .tc := ⟨.hbm, 69, rfl⟩
abbrev main_v36 : Ref sig .tc := ⟨.hbm, 70, rfl⟩
abbrev main_call1_call0_cst : Ref sig .tc := ⟨.hbm, 71, rfl⟩
abbrev main_call1_call0_v0 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_11 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_12 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_13 : Ref sig .tc := ⟨.hbm, 89, rfl⟩
abbrev main_v51 : Ref sig .tc := ⟨.hbm, 90, rfl⟩
abbrev main_v52 : Ref sig .tc := ⟨.hbm, 91, rfl⟩
abbrev main_cst_14 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_cst_15 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_16 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_17 : Ref sig .tc := ⟨.hbm, 104, rfl⟩
abbrev main_v62 : Ref sig .tc := ⟨.hbm, 105, rfl⟩
abbrev main_v63 : Ref sig .tc := ⟨.hbm, 106, rfl⟩
abbrev main_cst_18 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_19 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_cst_20 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_cst_21 : Ref sig .tc := ⟨.hbm, 119, rfl⟩
abbrev main_v73 : Ref sig .tc := ⟨.hbm, 120, rfl⟩
abbrev main_v74 : Ref sig .tc := ⟨.hbm, 121, rfl⟩
abbrev main_cst_22 : Ref sig .tc := ⟨.hbm, 122, rfl⟩
abbrev main_v75 : Ref sig .tc := ⟨.hbm, 123, rfl⟩
abbrev main_v76 : Ref sig .tc := ⟨.hbm, 124, rfl⟩
abbrev main_cst_23 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_24 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_cst_25 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_cst_26 : Ref sig .tc := ⟨.hbm, 137, rfl⟩
abbrev main_v86 : Ref sig .tc := ⟨.hbm, 138, rfl⟩
abbrev main_v87 : Ref sig .tc := ⟨.hbm, 139, rfl⟩
abbrev main_cst_27 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_28 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_cst_29 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_30 : Ref sig .tc := ⟨.hbm, 152, rfl⟩
abbrev main_v97 : Ref sig .tc := ⟨.hbm, 153, rfl⟩
abbrev main_v98 : Ref sig .tc := ⟨.hbm, 154, rfl⟩
abbrev main_cst_31 : Ref sig .tc := ⟨.hbm, 155, rfl⟩
abbrev main_v99 : Ref sig .tc := ⟨.hbm, 156, rfl⟩
abbrev main_v100 : Ref sig .tc := ⟨.hbm, 157, rfl⟩
abbrev main_cst_32 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_cst_33 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_cst_34 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_cst_35 : Ref sig .tc := ⟨.hbm, 170, rfl⟩
abbrev main_v110 : Ref sig .tc := ⟨.hbm, 171, rfl⟩
abbrev main_v111 : Ref sig .tc := ⟨.hbm, 172, rfl⟩
abbrev main_cst_36 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_cst_37 : Ref sig .tc := ⟨.hbm, 177, rfl⟩
abbrev main_v115 : Ref sig .tc := ⟨.hbm, 178, rfl⟩
abbrev main_v116 : Ref sig .tc := ⟨.hbm, 179, rfl⟩
abbrev main_v117 : Ref sig .tc := ⟨.hbm, 180, rfl⟩
abbrev main_cst_38 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_cst_39 : Ref sig .tc := ⟨.hbm, 185, rfl⟩
abbrev main_v121 : Ref sig .tc := ⟨.hbm, 186, rfl⟩
abbrev main_v122 : Ref sig .tc := ⟨.hbm, 187, rfl⟩
abbrev main_cst_40 : Ref sig .tc := ⟨.hbm, 188, rfl⟩
abbrev main_v123 : Ref sig .tc := ⟨.hbm, 189, rfl⟩
abbrev main_v124 : Ref sig .tc := ⟨.hbm, 190, rfl⟩
abbrev main_cst_41 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_cst_42 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_cst_43 : Ref sig .tc := ⟨.hbm, 199, rfl⟩
abbrev main_v131 : Ref sig .tc := ⟨.hbm, 200, rfl⟩
abbrev main_v132 : Ref sig .tc := ⟨.hbm, 201, rfl⟩
abbrev main_v133 : Ref sig .tc := ⟨.hbm, 202, rfl⟩
abbrev main_cst_44 : Ref sig .tc := ⟨.hbm, 203, rfl⟩
abbrev main_v134 : Ref sig .tc := ⟨.hbm, 204, rfl⟩
abbrev main_v135 : Ref sig .tc := ⟨.hbm, 205, rfl⟩
abbrev main_cst_45 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_cst_46 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_cst_47 : Ref sig .tc := ⟨.hbm, 214, rfl⟩
abbrev main_v142 : Ref sig .tc := ⟨.hbm, 215, rfl⟩
abbrev main_v143 : Ref sig .tc := ⟨.hbm, 216, rfl⟩
abbrev main_v144 : Ref sig .tc := ⟨.hbm, 217, rfl⟩
abbrev main_cst_48 : Ref sig .tc := ⟨.hbm, 218, rfl⟩
abbrev main_v145 : Ref sig .tc := ⟨.hbm, 219, rfl⟩
abbrev main_v146 : Ref sig .tc := ⟨.hbm, 220, rfl⟩
abbrev main_cst_49 : Ref sig .tc := ⟨.hbm, 221, rfl⟩
abbrev main_v147 : Ref sig .tc := ⟨.hbm, 222, rfl⟩
abbrev main_v148 : Ref sig .tc := ⟨.hbm, 223, rfl⟩
abbrev main_cst_50 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_cst_51 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_52 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_cst_53 : Ref sig .tc := ⟨.hbm, 236, rfl⟩
abbrev main_v158 : Ref sig .tc := ⟨.hbm, 237, rfl⟩
abbrev main_v159 : Ref sig .tc := ⟨.hbm, 238, rfl⟩
abbrev main_cst_54 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_cst_55 : Ref sig .tc := ⟨.hbm, 243, rfl⟩
abbrev main_v163 : Ref sig .tc := ⟨.hbm, 244, rfl⟩
abbrev main_v164 : Ref sig .tc := ⟨.hbm, 245, rfl⟩
abbrev main_v165 : Ref sig .tc := ⟨.hbm, 246, rfl⟩
abbrev main_cst_56 : Ref sig .tc := ⟨.hbm, 247, rfl⟩
abbrev main_v166 : Ref sig .tc := ⟨.hbm, 248, rfl⟩
abbrev main_v167 : Ref sig .tc := ⟨.hbm, 249, rfl⟩
abbrev main_v168 : Ref sig .tc := ⟨.hbm, 250, rfl⟩
abbrev main_cst_57 : Ref sig .tc := ⟨.hbm, 251, rfl⟩
abbrev main_v169 : Ref sig .tc := ⟨.hbm, 252, rfl⟩
abbrev main_v170 : Ref sig .tc := ⟨.hbm, 253, rfl⟩
abbrev main_cst_58 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_cst_59 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_cst_60 : Ref sig .tc := ⟨.hbm, 272, rfl⟩
abbrev main_v187 : Ref sig .tc := ⟨.hbm, 273, rfl⟩
abbrev main_v188 : Ref sig .tc := ⟨.hbm, 274, rfl⟩
abbrev main_v189 : Ref sig .tc := ⟨.hbm, 275, rfl⟩
abbrev main_v190 : Ref sig .tc := ⟨.hbm, 276, rfl⟩
abbrev main_v191 : Ref sig .tc := ⟨.hbm, 277, rfl⟩
abbrev main_v192 : Ref sig .tc := ⟨.hbm, 278, rfl⟩
abbrev main_v193 : Ref sig .tc := ⟨.hbm, 279, rfl⟩
abbrev main_v194 : Ref sig .tc := ⟨.hbm, 280, rfl⟩
abbrev main_cst_61 : Ref sig .tc := ⟨.hbm, 281, rfl⟩
abbrev main_v195 : Ref sig .tc := ⟨.hbm, 282, rfl⟩
abbrev main_v196 : Ref sig .tc := ⟨.hbm, 283, rfl⟩
abbrev main_v197 : Ref sig .tc := ⟨.hbm, 284, rfl⟩
abbrev main_v198 : Ref sig .tc := ⟨.hbm, 285, rfl⟩
abbrev main_v199 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩

abbrev nD : Nat := 1
abbrev τ : Topo := Topo.v7x

variable {F : FTy → Type} [FloatOps F]
-- ==== HgrnBwd.lean ====
abbrev S2x2048x6400 : Shape := ⟨3, ![2, 2048, 6400]⟩
abbrev S2x1024 : Shape := ⟨2, ![2, 1024]⟩
abbrev S128 : Shape := ⟨1, ![128]⟩
abbrev S2x2048x1024 : Shape := ⟨3, ![2, 2048, 1024]⟩
abbrev S_ : Shape := ⟨0, ![]⟩
abbrev S1024 : Shape := ⟨1, ![1024]⟩
abbrev S1x1024 : Shape := ⟨2, ![1, 1024]⟩
abbrev S1x1x1024 : Shape := ⟨3, ![1, 1, 1024]⟩
abbrev S2x32x64x8x128 : Shape := ⟨5, ![2, 32, 64, 8, 128]⟩
abbrev S32x2x8x64x128 : Shape := ⟨5, ![32, 2, 8, 64, 128]⟩
abbrev S64x64 : Shape := ⟨2, ![64, 64]⟩
abbrev S1x1x1x64x64x1 : Shape := ⟨6, ![1, 1, 1, 64, 64, 1]⟩
abbrev S32x2x8x1x128 : Shape := ⟨5, ![32, 2, 8, 1, 128]⟩
abbrev S32x2x8x64x1x128 : Shape := ⟨6, ![32, 2, 8, 64, 1, 128]⟩
abbrev S32x2x8x1x64x128 : Shape := ⟨6, ![32, 2, 8, 1, 64, 128]⟩
abbrev S32x2x8x64x64x128 : Shape := ⟨6, ![32, 2, 8, 64, 64, 128]⟩
abbrev S32x2x8x64x64 : Shape := ⟨5, ![32, 2, 8, 64, 64]⟩
abbrev S32x2x8x128x1 : Shape := ⟨5, ![32, 2, 8, 128, 1]⟩
abbrev S32x2x8x128x128 : Shape := ⟨5, ![32, 2, 8, 128, 128]⟩
abbrev S1x2x8x128x128 : Shape := ⟨5, ![1, 2, 8, 128, 128]⟩
abbrev S16x2x8x128x128 : Shape := ⟨5, ![16, 2, 8, 128, 128]⟩
abbrev S15x2x8x128x128 : Shape := ⟨5, ![15, 2, 8, 128, 128]⟩
abbrev S31x2x8x128x128 : Shape := ⟨5, ![31, 2, 8, 128, 128]⟩
abbrev S31x2x8x64x128 : Shape := ⟨5, ![31, 2, 8, 64, 128]⟩
abbrev S1x2x8x64x128 : Shape := ⟨5, ![1, 2, 8, 64, 128]⟩
abbrev S2x2048x8x128 : Shape := ⟨4, ![2, 2048, 8, 128]⟩
abbrev S2x2048x5120 : Shape := ⟨3, ![2, 2048, 5120]⟩
abbrev S2x2048x256 : Shape := ⟨3, ![2, 2048, 256]⟩
abbrev S4096x6400 : Shape := ⟨2, ![4096, 6400]⟩
abbrev S1x128 : Shape := ⟨2, ![1, 128]⟩
abbrev S4096x1024 : Shape := ⟨2, ![4096, 1024]⟩
abbrev S2x8x32x128x128 : Shape := ⟨5, ![2, 8, 32, 128, 128]⟩
abbrev S2x1x1024 : Shape := ⟨3, ![2, 1, 1024]⟩
abbrev S2x8x1x128 : Shape := ⟨4, ![2, 8, 1, 128]⟩
abbrev S512x128 : Shape := ⟨2, ![512, 128]⟩
abbrev S2x128 : Shape := ⟨2, ![2, 128]⟩
abbrev S1x1x8x128x128 : Shape := ⟨5, ![1, 1, 8, 128, 128]⟩
abbrev S1x1x128 : Shape := ⟨3, ![1, 1, 128]⟩
abbrev S1x1x1x128 : Shape := ⟨4, ![1, 1, 1, 128]⟩
abbrev S128x128 : Shape := ⟨2, ![128, 128]⟩
abbrev S8x64x128 : Shape := ⟨3, ![8, 64, 128]⟩
abbrev S32x192x128 : Shape := ⟨3, ![32, 192, 128]⟩
abbrev S8x128 : Shape := ⟨2, ![8, 128]⟩
abbrev S64x128 : Shape := ⟨2, ![64, 128]⟩
abbrev S8x64 : Shape := ⟨2, ![8, 64]⟩
abbrev S16x128 : Shape := ⟨2, ![16, 128]⟩
abbrev S16x64 : Shape := ⟨2, ![16, 64]⟩
abbrev S64 : Shape := ⟨1, ![64]⟩
abbrev S64x1 : Shape := ⟨2, ![64, 1]⟩
abbrev S1x64x128 : Shape := ⟨3, ![1, 64, 128]⟩
abbrev S1x1x1x128x128 : Shape := ⟨5, ![1, 1, 1, 128, 128]⟩
abbrev S8 : Shape := ⟨1, ![8]⟩
abbrev S8x1 : Shape := ⟨2, ![8, 1]⟩
abbrev S1x192x128 : Shape := ⟨3, ![1, 192, 128]⟩
abbrev S192x128 : Shape := ⟨2, ![192, 128]⟩

abbrev nBuf : Space → Nat
  | .hbm => 290
  | .vmem => 34
  | .smem => 0
  | _ => 0

abbrev hbmTy0_0 (i : Nat) : BufTy := match i % 128 with
  | 0 => ⟨S2x2048x6400, .f32⟩
  | 1 => ⟨S2x1024, .f32⟩
  | 2 => ⟨S128, .f32⟩
  | 3 => ⟨S2x2048x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S_, .f32⟩
  | 9 => ⟨S1024, .f32⟩
  | 10 => ⟨S_, .f32⟩
  | 11 => ⟨S1024, .f32⟩
  | 12 => ⟨S1024, .f32⟩
  | 13 => ⟨S1x1024, .f32⟩
  | 14 => ⟨S2x1024, .f32⟩
  | 15 => ⟨S2x1024, .f32⟩
  | 16 => ⟨S2x1024, .f32⟩
  | 17 => ⟨S_, .f32⟩
  | 18 => ⟨S1024, .f32⟩
  | 19 => ⟨S1x1024, .f32⟩
  | 20 => ⟨S2x1024, .f32⟩
  | 21 => ⟨S2x1024, .f32⟩
  | 22 => ⟨S_, .f32⟩
  | 23 => ⟨S_, .f32⟩
  | 24 => ⟨S2x1024, .f32⟩
  | 25 => ⟨S1x1024, .f32⟩
  | 26 => ⟨S2x1024, .f32⟩
  | 27 => ⟨S2x1024, .f32⟩
  | 28 => ⟨S1x1024, .f32⟩
  | 29 => ⟨S1024, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S_, .f32⟩
  | 36 => ⟨S2x2048x1024, .f32⟩
  | 37 => ⟨S2x2048x1024, .f32⟩
  | 38 => ⟨S2x2048x1024, .f32⟩
  | 39 => ⟨S_, .f32⟩
  | 40 => ⟨S1024, .f32⟩
  | 41 => ⟨S1024, .f32⟩
  | 42 => ⟨S1024, .f32⟩
  | 43 => ⟨S1024, .f32⟩
  | 44 => ⟨S1024, .f32⟩
  | 45 => ⟨S2x2048x1024, .f32⟩
  | 46 => ⟨S_, .f32⟩
  | 47 => ⟨S2x2048x1024, .f32⟩
  | 48 => ⟨S2x2048x1024, .f32⟩
  | 49 => ⟨S2x2048x1024, .f32⟩
  | 50 => ⟨S2x2048x1024, .f32⟩
  | 51 => ⟨S2x2048x1024, .i1⟩
  | 52 => ⟨S2x2048x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S2x2048x1024, .f32⟩
  | 58 => ⟨S2x2048x1024, .f32⟩
  | 59 => ⟨S2x2048x1024, .f32⟩
  | 60 => ⟨S2x2048x1024, .f32⟩
  | 61 => ⟨S1x1x1024, .f32⟩
  | 62 => ⟨S2x2048x1024, .f32⟩
  | 63 => ⟨S2x2048x1024, .f32⟩
  | 64 => ⟨S1x1x1024, .f32⟩
  | 65 => ⟨S2x2048x1024, .f32⟩
  | 66 => ⟨S2x2048x1024, .f32⟩
  | 67 => ⟨S2x2048x1024, .f32⟩
  | 68 => ⟨S2x2048x1024, .f32⟩
  | 69 => ⟨S2x2048x1024, .i1⟩
  | 70 => ⟨S2x2048x1024, .f32⟩
  | 71 => ⟨S2x2048x1024, .f32⟩
  | 72 => ⟨S2x2048x1024, .f32⟩
  | 73 => ⟨S2x2048x1024, .f32⟩
  | 74 => ⟨S2x2048x1024, .f32⟩
  | 75 => ⟨S2x2048x1024, .f32⟩
  | 76 => ⟨S2x2048x1024, .f32⟩
  | 77 => ⟨S2x2048x1024, .f32⟩
  | 78 => ⟨S2x2048x1024, .f32⟩
  | 79 => ⟨S2x2048x1024, .f32⟩
  | 80 => ⟨S2x32x64x8x128, .f32⟩
  | 81 => ⟨S32x2x8x64x128, .f32⟩
  | 82 => ⟨S2x32x64x8x128, .f32⟩
  | 83 => ⟨S32x2x8x64x128, .f32⟩
  | 84 => ⟨S2x32x64x8x128, .f32⟩
  | 85 => ⟨S32x2x8x64x128, .f32⟩
  | 86 => ⟨S2x32x64x8x128, .f32⟩
  | 87 => ⟨S32x2x8x64x128, .f32⟩
  | 88 => ⟨S_, .f32⟩
  | 89 => ⟨S_, .f32⟩
  | 90 => ⟨S32x2x8x64x128, .f32⟩
  | 91 => ⟨S_, .i1⟩
  | 92 => ⟨S64x64, .i1⟩
  | 93 => ⟨S64x64, .i32⟩
  | 94 => ⟨S_, .i32⟩
  | 95 => ⟨S64x64, .i32⟩
  | 96 => ⟨S64x64, .i32⟩
  | 97 => ⟨S64x64, .i32⟩
  | 98 => ⟨S64x64, .i1⟩
  | 99 => ⟨S_, .i1⟩
  | 100 => ⟨S64x64, .i1⟩
  | 101 => ⟨S64x64, .i1⟩
  | 102 => ⟨S1x1x1x64x64x1, .i1⟩
  | 103 => ⟨S32x2x8x1x128, .f32⟩
  | 104 => ⟨S32x2x8x64x1x128, .f32⟩
  | 105 => ⟨S32x2x8x1x64x128, .f32⟩
  | 106 => ⟨S32x2x8x64x64x128, .f32⟩
  | 107 => ⟨S32x2x8x64x64x128, .f32⟩
  | 108 => ⟨S32x2x8x64x64x128, .f32⟩
  | 109 => ⟨S_, .f32⟩
  | 110 => ⟨S_, .f32⟩
  | 111 => ⟨S32x2x8x64x64x128, .i1⟩
  | 112 => ⟨S32x2x8x64x64x128, .f32⟩
  | 113 => ⟨S32x2x8x64x64x128, .f32⟩
  | 114 => ⟨S32x2x8x64x64x128, .f32⟩
  | 115 => ⟨S_, .f32⟩
  | 116 => ⟨S_, .f32⟩
  | 117 => ⟨S32x2x8x64x64x128, .i1⟩
  | 118 => ⟨S32x2x8x64x64x128, .f32⟩
  | 119 => ⟨S32x2x8x64x64x128, .f32⟩
  | 120 => ⟨S32x2x8x64x1x128, .f32⟩
  | 121 => ⟨S32x2x8x1x64x128, .f32⟩
  | 122 => ⟨S32x2x8x64x64x128, .f32⟩
  | 123 => ⟨S32x2x8x64x64x128, .f32⟩
  | 124 => ⟨S32x2x8x64x64x128, .f32⟩
  | 125 => ⟨S32x2x8x64x64x128, .f32⟩
  | 126 => ⟨S_, .f32⟩
  | 127 => ⟨S32x2x8x64x64, .f32⟩
  | _ => ⟨S2x2048x6400, .f32⟩

abbrev hbmTy0_1 (i : Nat) : BufTy := match i % 128 with
  | 0 => ⟨S32x2x8x64x128, .f32⟩
  | 1 => ⟨S32x2x8x1x128, .f32⟩
  | 2 => ⟨S32x2x8x128x1, .f32⟩
  | 3 => ⟨S32x2x8x128x128, .f32⟩
  | 4 => ⟨S32x2x8x64x128, .f32⟩
  | 5 => ⟨S32x2x8x64x128, .f32⟩
  | 6 => ⟨S32x2x8x64x128, .f32⟩
  | 7 => ⟨S32x2x8x64x128, .f32⟩
  | 8 => ⟨S32x2x8x128x128, .f32⟩
  | 9 => ⟨S1x2x8x128x128, .f32⟩
  | 10 => ⟨S1x2x8x128x128, .f32⟩
  | 11 => ⟨S1x2x8x128x128, .f32⟩
  | 12 => ⟨S1x2x8x128x128, .f32⟩
  | 13 => ⟨S1x2x8x128x128, .f32⟩
  | 14 => ⟨S1x2x8x128x128, .f32⟩
  | 15 => ⟨S1x2x8x128x128, .f32⟩
  | 16 => ⟨S1x2x8x128x128, .f32⟩
  | 17 => ⟨S1x2x8x128x128, .f32⟩
  | 18 => ⟨S1x2x8x128x128, .f32⟩
  | 19 => ⟨S1x2x8x128x128, .f32⟩
  | 20 => ⟨S1x2x8x128x128, .f32⟩
  | 21 => ⟨S1x2x8x128x128, .f32⟩
  | 22 => ⟨S1x2x8x128x128, .f32⟩
  | 23 => ⟨S1x2x8x128x128, .f32⟩
  | 24 => ⟨S1x2x8x128x128, .f32⟩
  | 25 => ⟨S1x2x8x128x128, .f32⟩
  | 26 => ⟨S1x2x8x128x128, .f32⟩
  | 27 => ⟨S1x2x8x128x128, .f32⟩
  | 28 => ⟨S1x2x8x128x128, .f32⟩
  | 29 => ⟨S1x2x8x128x128, .f32⟩
  | 30 => ⟨S1x2x8x128x128, .f32⟩
  | 31 => ⟨S1x2x8x128x128, .f32⟩
  | 32 => ⟨S1x2x8x128x128, .f32⟩
  | 33 => ⟨S1x2x8x128x128, .f32⟩
  | 34 => ⟨S1x2x8x128x128, .f32⟩
  | 35 => ⟨S1x2x8x128x128, .f32⟩
  | 36 => ⟨S1x2x8x128x128, .f32⟩
  | 37 => ⟨S1x2x8x128x128, .f32⟩
  | 38 => ⟨S1x2x8x128x128, .f32⟩
  | 39 => ⟨S1x2x8x128x128, .f32⟩
  | 40 => ⟨S1x2x8x128x128, .f32⟩
  | 41 => ⟨S1x2x8x128x128, .f32⟩
  | 42 => ⟨S1x2x8x128x128, .f32⟩
  | 43 => ⟨S1x2x8x128x128, .f32⟩
  | 44 => ⟨S1x2x8x128x128, .f32⟩
  | 45 => ⟨S1x2x8x128x128, .f32⟩
  | 46 => ⟨S1x2x8x128x128, .f32⟩
  | 47 => ⟨S1x2x8x128x128, .f32⟩
  | 48 => ⟨S1x2x8x128x128, .f32⟩
  | 49 => ⟨S1x2x8x128x128, .f32⟩
  | 50 => ⟨S1x2x8x128x128, .f32⟩
  | 51 => ⟨S1x2x8x128x128, .f32⟩
  | 52 => ⟨S1x2x8x128x128, .f32⟩
  | 53 => ⟨S1x2x8x128x128, .f32⟩
  | 54 => ⟨S1x2x8x128x128, .f32⟩
  | 55 => ⟨S1x2x8x128x128, .f32⟩
  | 56 => ⟨S1x2x8x128x128, .f32⟩
  | 57 => ⟨S1x2x8x128x128, .f32⟩
  | 58 => ⟨S1x2x8x128x128, .f32⟩
  | 59 => ⟨S1x2x8x128x128, .f32⟩
  | 60 => ⟨S1x2x8x128x128, .f32⟩
  | 61 => ⟨S1x2x8x128x128, .f32⟩
  | 62 => ⟨S1x2x8x128x128, .f32⟩
  | 63 => ⟨S1x2x8x128x128, .f32⟩
  | 64 => ⟨S1x2x8x128x128, .f32⟩
  | 65 => ⟨S1x2x8x128x128, .f32⟩
  | 66 => ⟨S1x2x8x128x128, .f32⟩
  | 67 => ⟨S1x2x8x128x128, .f32⟩
  | 68 => ⟨S1x2x8x128x128, .f32⟩
  | 69 => ⟨S1x2x8x128x128, .f32⟩
  | 70 => ⟨S1x2x8x128x128, .f32⟩
  | 71 => ⟨S1x2x8x128x128, .f32⟩
  | 72 => ⟨S1x2x8x128x128, .f32⟩
  | 73 => ⟨S1x2x8x128x128, .f32⟩
  | 74 => ⟨S1x2x8x128x128, .f32⟩
  | 75 => ⟨S1x2x8x128x128, .f32⟩
  | 76 => ⟨S1x2x8x128x128, .f32⟩
  | 77 => ⟨S1x2x8x128x128, .f32⟩
  | 78 => ⟨S1x2x8x128x128, .f32⟩
  | 79 => ⟨S1x2x8x128x128, .f32⟩
  | 80 => ⟨S1x2x8x128x128, .f32⟩
  | 81 => ⟨S1x2x8x128x128, .f32⟩
  | 82 => ⟨S1x2x8x128x128, .f32⟩
  | 83 => ⟨S1x2x8x128x128, .f32⟩
  | 84 => ⟨S1x2x8x128x128, .f32⟩
  | 85 => ⟨S1x2x8x128x128, .f32⟩
  | 86 => ⟨S1x2x8x128x128, .f32⟩
  | 87 => ⟨S1x2x8x128x128, .f32⟩
  | 88 => ⟨S1x2x8x128x128, .f32⟩
  | 89 => ⟨S1x2x8x128x128, .f32⟩
  | 90 => ⟨S1x2x8x128x128, .f32⟩
  | 91 => ⟨S1x2x8x128x128, .f32⟩
  | 92 => ⟨S1x2x8x128x128, .f32⟩
  | 93 => ⟨S1x2x8x128x128, .f32⟩
  | 94 => ⟨S1x2x8x128x128, .f32⟩
  | 95 => ⟨S1x2x8x128x128, .f32⟩
  | 96 => ⟨S1x2x8x128x128, .f32⟩
  | 97 => ⟨S1x2x8x128x128, .f32⟩
  | 98 => ⟨S1x2x8x128x128, .f32⟩
  | 99 => ⟨S1x2x8x128x128, .f32⟩
  | 100 => ⟨S1x2x8x128x128, .f32⟩
  | 101 => ⟨S1x2x8x128x128, .f32⟩
  | 102 => ⟨S1x2x8x128x128, .f32⟩
  | 103 => ⟨S1x2x8x128x128, .f32⟩
  | 104 => ⟨S1x2x8x128x128, .f32⟩
  | 105 => ⟨S1x2x8x128x128, .f32⟩
  | 106 => ⟨S1x2x8x128x128, .f32⟩
  | 107 => ⟨S1x2x8x128x128, .f32⟩
  | 108 => ⟨S1x2x8x128x128, .f32⟩
  | 109 => ⟨S1x2x8x128x128, .f32⟩
  | 110 => ⟨S1x2x8x128x128, .f32⟩
  | 111 => ⟨S1x2x8x128x128, .f32⟩
  | 112 => ⟨S1x2x8x128x128, .f32⟩
  | 113 => ⟨S1x2x8x128x128, .f32⟩
  | 114 => ⟨S1x2x8x128x128, .f32⟩
  | 115 => ⟨S1x2x8x128x128, .f32⟩
  | 116 => ⟨S1x2x8x128x128, .f32⟩
  | 117 => ⟨S1x2x8x128x128, .f32⟩
  | 118 => ⟨S1x2x8x128x128, .f32⟩
  | 119 => ⟨S1x2x8x128x128, .f32⟩
  | 120 => ⟨S1x2x8x128x128, .f32⟩
  | 121 => ⟨S1x2x8x128x128, .f32⟩
  | 122 => ⟨S1x2x8x128x128, .f32⟩
  | 123 => ⟨S1x2x8x128x128, .f32⟩
  | 124 => ⟨S1x2x8x128x128, .f32⟩
  | 125 => ⟨S1x2x8x128x128, .f32⟩
  | 126 => ⟨S1x2x8x128x128, .f32⟩
  | 127 => ⟨S1x2x8x128x128, .f32⟩
  | _ => ⟨S2x2048x6400, .f32⟩

abbrev hbmTy0_2 (i : Nat) : BufTy := match i % 128 with
  | 0 => ⟨S1x2x8x128x128, .f32⟩
  | 1 => ⟨S1x2x8x128x128, .f32⟩
  | 2 => ⟨S16x2x8x128x128, .f32⟩
  | 3 => ⟨S15x2x8x128x128, .f32⟩
  | 4 => ⟨S31x2x8x128x128, .f32⟩
  | 5 => ⟨S32x2x8x64x128, .f32⟩
  | 6 => ⟨S32x2x8x64x128, .f32⟩
  | 7 => ⟨S31x2x8x64x128, .f32⟩
  | 8 => ⟨S31x2x8x64x128, .f32⟩
  | 9 => ⟨S1x2x8x64x128, .f32⟩
  | 10 => ⟨S31x2x8x64x128, .f32⟩
  | 11 => ⟨S31x2x8x64x128, .f32⟩
  | 12 => ⟨S32x2x8x64x128, .f32⟩
  | 13 => ⟨S_, .f32⟩
  | 14 => ⟨S1x2x8x128x128, .f32⟩
  | 15 => ⟨S32x2x8x128x128, .f32⟩
  | 16 => ⟨S2x32x64x8x128, .f32⟩
  | 17 => ⟨S2x2048x8x128, .f32⟩
  | 18 => ⟨S2x2048x5120, .f32⟩
  | 19 => ⟨S2x2048x1024, .f32⟩
  | 20 => ⟨S2x2048x256, .f32⟩
  | 21 => ⟨S2x2048x6400, .f32⟩
  | 22 => ⟨S4096x6400, .f32⟩
  | 23 => ⟨S1x128, .f32⟩
  | 24 => ⟨S2x2048x1024, .f32⟩
  | 25 => ⟨S4096x1024, .f32⟩
  | 26 => ⟨S2x8x32x128x128, .f32⟩
  | 27 => ⟨S4096x1024, .f32⟩
  | 28 => ⟨S4096x1024, .bf16⟩
  | 29 => ⟨S4096x1024, .bf16⟩
  | 30 => ⟨S4096x1024, .bf16⟩
  | 31 => ⟨S4096x1024, .bf16⟩
  | 32 => ⟨S2x1x1024, .f32⟩
  | 33 => ⟨S2x8x1x128, .f32⟩
  | _ => ⟨S2x2048x6400, .f32⟩

abbrev hbmTy (i : Nat) : BufTy := match i / 128 with
  | 0 => hbmTy0_0 i
  | 1 => hbmTy0_1 i
  | 2 => hbmTy0_2 i
  | _ => ⟨S2x2048x6400, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S1x1x8x128x128, .f32⟩
  | .local _ .vmem, ⟨14, _⟩ => ⟨S1x1x8x128x128, .f32⟩
  | .local _ .vmem, ⟨15, _⟩ => ⟨S512x128, .f32⟩
  | .local _ .vmem, ⟨16, _⟩ => ⟨S512x128, .f32⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .bf16⟩
  | .local _ .vmem, ⟨25, _⟩ => ⟨S1x1x128, .f32⟩
  | .local _ .vmem, ⟨26, _⟩ => ⟨S1x1x128, .f32⟩
  | .local _ .vmem, ⟨27, _⟩ => ⟨S1x1x1x128, .f32⟩
  | .local _ .vmem, ⟨28, _⟩ => ⟨S1x1x1x128, .f32⟩
  | .local _ .vmem, ⟨29, _⟩ => ⟨S128x128, .f32⟩
  | .local _ .vmem, ⟨30, _⟩ => ⟨S8x64x128, .f32⟩
  | .local _ .vmem, ⟨31, _⟩ => ⟨S8x64x128, .f32⟩
  | .local _ .vmem, ⟨32, _⟩ => ⟨S8x64x128, .f32⟩
  | .local _ .vmem, ⟨33, _⟩ => ⟨S32x192x128, .f32⟩
  | _, _ => ⟨S2x2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_call0_cst : Ref sig .tc := ⟨.hbm, 22, rfl⟩
abbrev main_call0_call0_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call2_v0 : Ref sig .tc := ⟨.hbm, 45, rfl⟩
abbrev main_call2_call0_cst : Ref sig .tc := ⟨.hbm, 46, rfl⟩
abbrev main_call2_call0_v0 : Ref sig .tc := ⟨.hbm, 47, rfl⟩
abbrev main_call2_call0_v1 : Ref sig .tc := ⟨.hbm, 48, rfl⟩
abbrev main_call2_call0_v2 : Ref sig .tc := ⟨.hbm, 49, rfl⟩
abbrev main_call2_call0_v3 : Ref sig .tc := ⟨.hbm, 50, rfl⟩
abbrev main_call2_call0_v4 : Ref sig .tc := ⟨.hbm, 51, rfl⟩
abbrev main_call2_call0_v5 : Ref sig .tc := ⟨.hbm, 52, rfl⟩
abbrev main_call2_call0_v6 : Ref sig .tc := ⟨.hbm, 53, rfl⟩
abbrev main_call2_call0_v7 : Ref sig .tc := ⟨.hbm, 54, rfl⟩
abbrev main_call2_call0_v8 : Ref sig .tc := ⟨.hbm, 55, rfl⟩
abbrev main_call2_call0_v9 : Ref sig .tc := ⟨.hbm, 56, rfl⟩
abbrev main_call2_call0_v10 : Ref sig .tc := ⟨.hbm, 57, rfl⟩
abbrev main_call2_call0_v11 : Ref sig .tc := ⟨.hbm, 58, rfl⟩
abbrev main_call2_v1 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_call3_call0_cst : Ref sig .tc := ⟨.hbm, 88, rfl⟩
abbrev main_call3_call0_v0 : Ref sig .tc := ⟨.hbm, 89, rfl⟩
abbrev main_v55 : Ref sig .tc := ⟨.hbm, 90, rfl⟩
abbrev main_c : Ref sig .tc := ⟨.hbm, 91, rfl⟩
abbrev main_v56 : Ref sig .tc := ⟨.hbm, 92, rfl⟩
abbrev main_call4_v0 : Ref sig .tc := ⟨.hbm, 93, rfl⟩
abbrev main_call4_c : Ref sig .tc := ⟨.hbm, 94, rfl⟩
abbrev main_call4_v1 : Ref sig .tc := ⟨.hbm, 95, rfl⟩
abbrev main_call4_v2 : Ref sig .tc := ⟨.hbm, 96, rfl⟩
abbrev main_call4_v3 : Ref sig .tc := ⟨.hbm, 97, rfl⟩
abbrev main_call4_v4 : Ref sig .tc := ⟨.hbm, 98, rfl⟩
abbrev main_call4_c_0 : Ref sig .tc := ⟨.hbm, 99, rfl⟩
abbrev main_call4_v5 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_cst_3 : Ref sig .tc := ⟨.hbm, 109, rfl⟩
abbrev main_call5_v0 : Ref sig .tc := ⟨.hbm, 110, rfl⟩
abbrev main_call5_v1 : Ref sig .tc := ⟨.hbm, 111, rfl⟩
abbrev main_call5_v2 : Ref sig .tc := ⟨.hbm, 112, rfl⟩
abbrev main_v65 : Ref sig .tc := ⟨.hbm, 113, rfl⟩
abbrev main_v66 : Ref sig .tc := ⟨.hbm, 114, rfl⟩
abbrev main_cst_4 : Ref sig .tc := ⟨.hbm, 115, rfl⟩
abbrev main_call6_v0 : Ref sig .tc := ⟨.hbm, 116, rfl⟩
abbrev main_call6_v1 : Ref sig .tc := ⟨.hbm, 117, rfl⟩
abbrev main_call6_v2 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_cst_5 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_v185 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_v213 : Ref sig .tc := ⟨.hbm, 266, rfl⟩
abbrev main_v214 : Ref sig .tc := ⟨.hbm, 267, rfl⟩
abbrev main_v215 : Ref sig .tc := ⟨.hbm, 268, rfl⟩
abbrev main_cst_6 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230_0 : Ref sig .tc := ⟨.hbm, 284, rfl⟩
abbrev main_v230_1 : Ref sig .tc := ⟨.hbm, 285, rfl⟩
abbrev main_v230_2 : Ref sig .tc := ⟨.hbm, 286, rfl⟩
abbrev main_v230_3 : Ref sig .tc := ⟨.hbm, 287, rfl⟩
abbrev main_v230_4 : Ref sig .tc := ⟨.hbm, 288, rfl⟩
abbrev main_v230_5 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_scratch0 : Ref sig .tc := ⟨.vmem, 29, rfl⟩
abbrev cc0_scratch1 : Ref sig .tc := ⟨.vmem, 30, rfl⟩
abbrev cc0_scratch2 : Ref sig .tc := ⟨.vmem, 31, rfl⟩
abbrev cc0_scratch3 : Ref sig .tc := ⟨.vmem, 32, rfl⟩
abbrev cc0_scratch4 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  let v4 : BitVec 32 := Scalar.addi c0_i32 arg1
  let c0_i32_1 : BitVec 32 := 0#32
  ![v3.toNat, v4.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c8_i32 : BitVec 32 := 8#32
  let v4 : BitVec 32 := Scalar.addi c8_i32 arg1
  let c0_i32 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c16_i32 : BitVec 32 := 16#32
  let v4 : BitVec 32 := Scalar.addi c16_i32 arg1
  let c0_i32 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c24_i32 : BitVec 32 := 24#32
  let v4 : BitVec 32 := Scalar.addi c24_i32 arg1
  let c0_i32 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi c3_i32 arg2
  let c0_i32 : BitVec 32 := 0#32
  let c0_i32_0 : BitVec 32 := 0#32
  let c0_i32_1 : BitVec 32 := 0#32
  ![arg0.toNat, arg1.toNat, v0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c4_i32_0 : BitVec 32 := 4#32
  let v1 : BitVec 32 := Scalar.addi v0 c4_i32_0
  let c1_i32 : BitVec 32 := 1#32
  let v2 : BitVec 32 := Scalar.subi v1 c1_i32
  let v3 : BitVec 32 := Scalar.subi v2 arg2
  let c0_i32 : BitVec 32 := 0#32
  ![v3.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

abbrev stage0_14 : Fin 2 → Memref sig .tc .vmem S1x1x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]
-- ==== SwaFwd.lean ====
abbrev S2x2048x6400 : Shape := ⟨3, ![2, 2048, 6400]⟩
abbrev S16 : Shape := ⟨1, ![16]⟩
abbrev S2x2048x5120 : Shape := ⟨3, ![2, 2048, 5120]⟩
abbrev S2x2048x1024 : Shape := ⟨3, ![2, 2048, 1024]⟩
abbrev S2x2048x256 : Shape := ⟨3, ![2, 2048, 256]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S16x1 : Shape := ⟨2, ![16, 1]⟩
abbrev S16x128 : Shape := ⟨2, ![16, 128]⟩
abbrev S4096x6400 : Shape := ⟨2, ![4096, 6400]⟩
abbrev S4096x1024 : Shape := ⟨2, ![4096, 1024]⟩
abbrev S128x1024 : Shape := ⟨2, ![128, 1024]⟩
abbrev S128x256 : Shape := ⟨2, ![128, 256]⟩
abbrev S128x128 : Shape := ⟨2, ![128, 128]⟩
abbrev S1x128 : Shape := ⟨2, ![1, 128]⟩
abbrev S128x1 : Shape := ⟨2, ![128, 1]⟩
abbrev S256x128 : Shape := ⟨2, ![256, 128]⟩
abbrev S1x1 : Shape := ⟨2, ![1, 1]⟩
abbrev S128 : Shape := ⟨1, ![128]⟩

abbrev nBuf : Space → Nat
  | .hbm => 35
  | .vmem => 19
  | .smem => 0
  | _ => 0

abbrev bufTy : (tb : Table) → Fin (tcTables nBuf tb) → BufTy
  | .hbm, ⟨0, _⟩ => ⟨S2x2048x6400, .f32⟩
  | .hbm, ⟨1, _⟩ => ⟨S16, .f32⟩
  | .hbm, ⟨2, _⟩ => ⟨S2x2048x5120, .f32⟩
  | .hbm, ⟨3, _⟩ => ⟨S2x2048x1024, .f32⟩
  | .hbm, ⟨4, _⟩ => ⟨S2x2048x256, .f32⟩
  | .hbm, ⟨5, _⟩ => ⟨S2x2048x6400, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S2048, .f32⟩
  | .hbm, ⟨15, _⟩ => ⟨S2048x1, .f32⟩
  | .hbm, ⟨16, _⟩ => ⟨S1x32, .f32⟩
  | .hbm, ⟨17, _⟩ => ⟨S2048x32, .f32⟩
  | .hbm, ⟨18, _⟩ => ⟨S2048x32, .f32⟩
  | .hbm, ⟨19, _⟩ => ⟨S2048x32, .f32⟩
  | .hbm, ⟨20, _⟩ => ⟨S2048x32, .f32⟩
  | .hbm, ⟨21, _⟩ => ⟨S2048x32, .f32⟩
  | .hbm, ⟨22, _⟩ => ⟨S2048x64, .f32⟩
  | .hbm, ⟨23, _⟩ => ⟨S1x2048x1x64, .f32⟩
  | .hbm, ⟨24, _⟩ => ⟨S1x2048x2x64, .f32⟩
  | .hbm, ⟨25, _⟩ => ⟨S2048x128, .f32⟩
  | .hbm, ⟨26, _⟩ => ⟨S2048x32, .f32⟩
  | .hbm, ⟨27, _⟩ => ⟨S2048x64, .f32⟩
  | .hbm, ⟨28, _⟩ => ⟨S1x2048x1x64, .f32⟩
  | .hbm, ⟨29, _⟩ => ⟨S1x2048x2x64, .f32⟩
  | .hbm, ⟨30, _⟩ => ⟨S2048x128, .f32⟩
  | .hbm, ⟨31, _⟩ => ⟨S16x1, .f32⟩
  | .hbm, ⟨32, _⟩ => ⟨S16x128, .f32⟩
  | .hbm, ⟨33, _⟩ => ⟨S4096x6400, .f32⟩
  | .hbm, ⟨34, _⟩ => ⟨S4096x1024, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S16x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x1024, .bf16⟩
  | .local _ .vmem, ⟨18, _⟩ => ⟨S128x1024, .bf16⟩
  | _, _ => ⟨S2x2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c24_i32 : BitVec 32 := 24#32
  let c0_i32 : BitVec 32 := 0#32
  ![v1.toNat, c24_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c24_i32 : BitVec 32 := 24#32
  let c0_i32_0 : BitVec 32 := 0#32
  ![v3.toNat, c24_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== SwaFwdIdeal.lean ====
variable {F : FTy → Type} [FloatOps F] [Named F]
def κ : String → Option EReal := fun
  | "mask" => some ⊥
  | _ => none
-- ==== SwaFwdRefIdeal.lean ====
abbrev S2x2048x6400 : Shape := ⟨3, ![2, 2048, 6400]⟩
abbrev S16 : Shape := ⟨1, ![16]⟩
abbrev S2x2048x1024 : Shape := ⟨3, ![2, 2048, 1024]⟩
abbrev S2x2048x128 : Shape := ⟨3, ![2, 2048, 128]⟩
abbrev S2048 : Shape := ⟨1, ![2048]⟩
abbrev S2x2048x16x64 : Shape := ⟨4, ![2, 2048, 16, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S2x2048x16x32 : Shape := ⟨4, ![2, 2048, 16, 32]⟩
abbrev S2x2048x2x64 : Shape := ⟨4, ![2, 2048, 2, 64]⟩
abbrev S2x2048x2x32 : Shape := ⟨4, ![2, 2048, 2, 32]⟩
abbrev S2x16x128x2x8x64 : Shape := ⟨6, ![2, 16, 128, 2, 8, 64]⟩
abbrev S2x16x128x2x64 : Shape := ⟨5, ![2, 16, 128, 2, 64]⟩
abbrev S2x1x128x2x64 : Shape := ⟨5, ![2, 1, 128, 2, 64]⟩
abbrev S2x15x128x2x64 : Shape := ⟨5, ![2, 15, 128, 2, 64]⟩
abbrev S2x16x256x2x64 : Shape := ⟨5, ![2, 16, 256, 2, 64]⟩
abbrev S2x16x2x256x128x8 : Shape := ⟨6, ![2, 16, 2, 256, 128, 8]⟩
abbrev S2x16x2x8x128x256 : Shape := ⟨6, ![2, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S1x16x1x1x128x256 : Shape := ⟨6, ![1, 16, 1, 1, 128, 256]⟩
abbrev S2x8 : Shape := ⟨2, ![2, 8]⟩
abbrev S1x1x2x8x1x1 : Shape := ⟨6, ![1, 1, 2, 8, 1, 1]⟩
abbrev S2x16x2x8x128x1 : Shape := ⟨6, ![2, 16, 2, 8, 128, 1]⟩
abbrev S2x16x2x8x128x257 : Shape := ⟨6, ![2, 16, 2, 8, 128, 257]⟩
abbrev S2x16x2x8x128 : Shape := ⟨5, ![2, 16, 2, 8, 128]⟩
abbrev S2x16x2x64x8x128 : Shape := ⟨6, ![2, 16, 2, 64, 8, 128]⟩
abbrev S4096x1024 : Shape := ⟨2, ![4096, 1024]⟩

abbrev nBuf : Space → Nat
  | .hbm => 170
  | .vmem => 0
  | .smem => 0
  | _ => 0

abbrev hbmTy0_0 (i : Nat) : BufTy := match i % 128 with
  | 0 => ⟨S2x2048x6400, .f32⟩
  | 1 => ⟨S16, .f32⟩
  | 2 => ⟨S2x2048x1024, .f32⟩
  | 3 => ⟨S2x2048x128, .f32⟩
  | 4 => ⟨S2x2048x128, .f32⟩
  | 5 => ⟨S2x2048x1024, .f32⟩
  | 6 => ⟨S2048, .i32⟩
  | 7 => ⟨S2x2048x16x64, .f32⟩
  | 8 => ⟨S32, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S2048, .f32⟩
  | 17 => ⟨S2048x1, .f32⟩
  | 18 => ⟨S1x32, .f32⟩
  | 19 => ⟨S2048x32, .f32⟩
  | 20 => ⟨S2048x32, .f32⟩
  | 21 => ⟨S2048x32, .f32⟩
  | 22 => ⟨S2048x32, .f32⟩
  | 23 => ⟨S1x2048x1x32, .f32⟩
  | 24 => ⟨S2048x32, .f32⟩
  | 25 => ⟨S1x2048x1x32, .f32⟩
  | 26 => ⟨S2x2048x16x32, .f32⟩
  | 27 => ⟨S2x2048x16x32, .f32⟩
  | 28 => ⟨S2x2048x16x32, .f32⟩
  | 29 => ⟨S2x2048x16x32, .f32⟩
  | 30 => ⟨S2x2048x16x32, .f32⟩
  | 31 => ⟨S2x2048x16x32, .f32⟩
  | 32 => ⟨S2x2048x16x32, .f32⟩
  | 33 => ⟨S2x2048x16x32, .f32⟩
  | 34 => ⟨S2x2048x16x32, .f32⟩
  | 35 => ⟨S2x2048x16x32, .f32⟩
  | 36 => ⟨S2x2048x16x32, .f32⟩
  | 37 => ⟨S2x2048x16x32, .f32⟩
  | 38 => ⟨S2x2048x16x64, .f32⟩
  | 39 => ⟨S2x2048x2x64, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2048, .f32⟩
  | 49 => ⟨S2048x1, .f32⟩
  | 50 => ⟨S1x32, .f32⟩
  | 51 => ⟨S2048x32, .f32⟩
  | 52 => ⟨S2048x32, .f32⟩
  | 53 => ⟨S2048x32, .f32⟩
  | 54 => ⟨S2048x32, .f32⟩
  | 55 => ⟨S1x2048x1x32, .f32⟩
  | 56 => ⟨S2048x32, .f32⟩
  | 57 => ⟨S1x2048x1x32, .f32⟩
  | 58 => ⟨S2x2048x2x32, .f32⟩
  | 59 => ⟨S2x2048x2x32, .f32⟩
  | 60 => ⟨S2x2048x2x32, .f32⟩
  | 61 => ⟨S2x2048x2x32, .f32⟩
  | 62 => ⟨S2x2048x2x32, .f32⟩
  | 63 => ⟨S2x2048x2x32, .f32⟩
  | 64 => ⟨S2x2048x2x32, .f32⟩
  | 65 => ⟨S2x2048x2x32, .f32⟩
  | 66 => ⟨S2x2048x2x32, .f32⟩
  | 67 => ⟨S2x2048x2x32, .f32⟩
  | 68 => ⟨S2x2048x2x32, .f32⟩
  | 69 => ⟨S2x2048x2x32, .f32⟩
  | 70 => ⟨S2x2048x2x64, .f32⟩
  | 71 => ⟨S2x2048x2x64, .f32⟩
  | 72 => ⟨S2x16x128x2x8x64, .f32⟩
  | 73 => ⟨S2x16x128x2x64, .f32⟩
  | 74 => ⟨S2x16x128x2x64, .f32⟩
  | 75 => ⟨S2x1x128x2x64, .f32⟩
  | 76 => ⟨S_, .f32⟩
  | 77 => ⟨S2x1x128x2x64, .f32⟩
  | 78 => ⟨S2x15x128x2x64, .f32⟩
  | 79 => ⟨S2x16x128x2x64, .f32⟩
  | 80 => ⟨S2x1x128x2x64, .f32⟩
  | 81 => ⟨S_, .f32⟩
  | 82 => ⟨S2x1x128x2x64, .f32⟩
  | 83 => ⟨S2x15x128x2x64, .f32⟩
  | 84 => ⟨S2x16x128x2x64, .f32⟩
  | 85 => ⟨S2x16x256x2x64, .f32⟩
  | 86 => ⟨S2x16x256x2x64, .f32⟩
  | 87 => ⟨S2x16x2x256x128x8, .f32⟩
  | 88 => ⟨S2x16x2x8x128x256, .f32⟩
  | 89 => ⟨S_, .f32⟩
  | 90 => ⟨S2x16x2x8x128x256, .f32⟩
  | 91 => ⟨S2x16x2x8x128x256, .f32⟩
  | 92 => ⟨S128, .i32⟩
  | 93 => ⟨S128x1, .i32⟩
  | 94 => ⟨S_, .i32⟩
  | 95 => ⟨S128x1, .i32⟩
  | 96 => ⟨S128x1, .i32⟩
  | 97 => ⟨S256, .i32⟩
  | 98 => ⟨S1x256, .i32⟩
  | 99 => ⟨S128x256, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S_, .i32⟩
  | 106 => ⟨S128x256, .i32⟩
  | 107 => ⟨S128x256, .i1⟩
  | 108 => ⟨S128x256, .i1⟩
  | 109 => ⟨S16, .i32⟩
  | 110 => ⟨S16x1, .i32⟩
  | 111 => ⟨S_, .i32⟩
  | 112 => ⟨S16x1, .i32⟩
  | 113 => ⟨S16x1, .i32⟩
  | 114 => ⟨S_, .i32⟩
  | 115 => ⟨S16x1, .i32⟩
  | 116 => ⟨S16x1, .i32⟩
  | 117 => ⟨S256, .i32⟩
  | 118 => ⟨S1x256, .i32⟩
  | 119 => ⟨S16x256, .i32⟩
  | 120 => ⟨S16x256, .i32⟩
  | 121 => ⟨S16x256, .i32⟩
  | 122 => ⟨S_, .i32⟩
  | 123 => ⟨S16x256, .i32⟩
  | 124 => ⟨S16x256, .i1⟩
  | 125 => ⟨S1x128x256, .i1⟩
  | 126 => ⟨S16x1x256, .i1⟩
  | 127 => ⟨S16x128x256, .i1⟩
  | _ => ⟨S2x2048x6400, .f32⟩

abbrev hbmTy0_1 (i : Nat) : BufTy := match i % 128 with
  | 0 => ⟨S16x128x256, .i1⟩
  | 1 => ⟨S16x128x256, .i1⟩
  | 2 => ⟨S1x16x1x1x128x256, .i1⟩
  | 3 => ⟨S_, .f32⟩
  | 4 => ⟨S_, .f32⟩
  | 5 => ⟨S2x16x2x8x128x256, .i1⟩
  | 6 => ⟨S2x16x2x8x128x256, .f32⟩
  | 7 => ⟨S2x16x2x8x128x256, .f32⟩
  | 8 => ⟨S2x8, .f32⟩
  | 9 => ⟨S1x1x2x8x1x1, .f32⟩
  | 10 => ⟨S2x16x2x8x128x1, .f32⟩
  | 11 => ⟨S2x16x2x8x128x257, .f32⟩
  | 12 => ⟨S_, .f32⟩
  | 13 => ⟨S2x16x2x8x128, .f32⟩
  | 14 => ⟨S_, .f32⟩
  | 15 => ⟨S2x16x2x8x128, .f32⟩
  | 16 => ⟨S2x16x2x8x128, .f32⟩
  | 17 => ⟨S2x16x2x8x128x1, .f32⟩
  | 18 => ⟨S2x16x2x8x128x257, .f32⟩
  | 19 => ⟨S2x16x2x8x128x257, .f32⟩
  | 20 => ⟨S2x16x2x8x128x257, .f32⟩
  | 21 => ⟨S_, .f32⟩
  | 22 => ⟨S2x16x2x8x128, .f32⟩
  | 23 => ⟨S2x16x2x8x128x1, .f32⟩
  | 24 => ⟨S2x16x2x8x128x257, .f32⟩
  | 25 => ⟨S2x16x2x8x128x257, .f32⟩
  | 26 => ⟨S2x16x2x8x128x256, .f32⟩
  | 27 => ⟨S2x16x2x64x8x128, .f32⟩
  | 28 => ⟨S2x16x128x2x8x64, .f32⟩
  | 29 => ⟨S2x2048x1024, .f32⟩
  | 30 => ⟨S2x2048x1024, .f32⟩
  | 31 => ⟨S2x2048x1024, .f32⟩
  | 32 => ⟨S_, .f32⟩
  | 33 => ⟨S2x2048x1024, .f32⟩
  | 34 => ⟨S2x2048x1024, .f32⟩
  | 35 => ⟨S_, .f32⟩
  | 36 => ⟨S2x2048x1024, .f32⟩
  | 37 => ⟨S2x2048x1024, .f32⟩
  | 38 => ⟨S2x2048x1024, .f32⟩
  | 39 => ⟨S2x2048x1024, .f32⟩
  | 40 => ⟨S4096x1024, .f32⟩
  | 41 => ⟨S4096x1024, .bf16⟩
  | _ => ⟨S2x2048x6400, .f32⟩

abbrev hbmTy (i : Nat) : BufTy := match i / 128 with
  | 0 => hbmTy0_0 i
  | 1 => hbmTy0_1 i
  | _ => ⟨S2x2048x6400, .f32⟩

abbrev bufTy : (tb : Table) → Fin (tcTables nBuf tb) → BufTy
  | .hbm, ⟨i, _⟩ => hbmTy i
  | _, _ => ⟨S2x2048x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_cst_1 : Ref sig .tc := ⟨.hbm, 42, rfl⟩
abbrev main_v38 : Ref sig .tc := ⟨.hbm, 43, rfl⟩
abbrev main_v39 : Ref sig .tc := ⟨.hbm, 44, rfl⟩
abbrev main_cst_2 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_cst_3 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_cst_4 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_cst_5 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_c : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_c_6 : Ref sig .tc := ⟨.hbm, 102, rfl⟩
abbrev main_v92 : Ref sig .tc := ⟨.hbm, 103, rfl⟩
abbrev main_v93 : Ref sig .tc := ⟨.hbm, 104, rfl⟩
abbrev main_c_7 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_c_8 : Ref sig .tc := ⟨.hbm, 111, rfl⟩
abbrev main_v99 : Ref sig .tc := ⟨.hbm, 112, rfl⟩
abbrev main_v100 : Ref sig .tc := ⟨.hbm, 113, rfl⟩
abbrev main_c_9 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_c_10 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_cst_11 : Ref sig .tc := ⟨.hbm, 131, rfl⟩
abbrev main_call0_v0 : Ref sig .tc := ⟨.hbm, 132, rfl⟩
abbrev main_call0_v1 : Ref sig .tc := ⟨.hbm, 133, rfl⟩
abbrev main_call0_v2 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_cst_12 : Ref sig .tc := ⟨.hbm, 140, rfl⟩
abbrev main_v121 : Ref sig .tc := ⟨.hbm, 141, rfl⟩
abbrev main_cst_13 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_cst_14 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_call1_v0 : Ref sig .tc := ⟨.hbm, 158, rfl⟩
abbrev main_call1_v1 : Ref sig .tc := ⟨.hbm, 159, rfl⟩
abbrev main_call1_cst : Ref sig .tc := ⟨.hbm, 160, rfl⟩
abbrev main_call1_v2 : Ref sig .tc := ⟨.hbm, 161, rfl⟩
abbrev main_call1_v3 : Ref sig .tc := ⟨.hbm, 162, rfl⟩
abbrev main_call1_cst_0 : Ref sig .tc := ⟨.hbm, 163, rfl⟩
abbrev main_call1_v4 : Ref sig .tc := ⟨.hbm, 164, rfl⟩
abbrev main_call1_v5 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩

abbrev nD : Nat := 1
abbrev τ : Topo := Topo.v7x

variable {F : FTy → Type} [FloatOps F]
-- ==== OutFwd.lean ====
abbrev S2x2048x1024 : Shape := ⟨3, ![2, 2048, 1024]⟩
abbrev S2048x1024 : Shape := ⟨2, ![2048, 1024]⟩
abbrev S1024 : Shape := ⟨1, ![1024]⟩
abbrev S4096x1024 : Shape := ⟨2, ![4096, 1024]⟩
abbrev S1x2048x1024 : Shape := ⟨3, ![1, 2048, 1024]⟩
abbrev S1x1024 : Shape := ⟨2, ![1, 1024]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 15
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S2x2048x1024, .f32⟩
  | .hbm, ⟨4, _⟩ => ⟨S1024, .f32⟩
  | .hbm, ⟨5, _⟩ => ⟨S4096x1024, .f32⟩
  | .hbm, ⟨6, _⟩ => ⟨S4096x1024, .bf16⟩
  | .hbm, ⟨7, _⟩ => ⟨S4096x1024, .f32⟩
  | .hbm, ⟨8, _⟩ => ⟨S4096x1024, .bf16⟩
  | .hbm, ⟨9, _⟩ => ⟨S2048x1024, .bf16⟩
  | .hbm, ⟨10, _⟩ => ⟨S1x2048x1024, .bf16⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x2048x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutFwdRefIdeal.lean ====
abbrev S2x2048x1024 : Shape := ⟨3, ![2, 2048, 1024]⟩
abbrev S2048x1024 : Shape := ⟨2, ![2048, 1024]⟩
abbrev S1024 : Shape := ⟨1, ![1024]⟩
abbrev S2x2048x2048 : Shape := ⟨3, ![2, 2048, 2048]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S2048x1024, .f32⟩
  | .hbm, ⟨3, _⟩ => ⟨S2x2048x1024, .f32⟩
  | .hbm, ⟨4, _⟩ => ⟨S1024, .f32⟩
  | .hbm, ⟨5, _⟩ => ⟨S2x2048x2048, .f32⟩
  | .hbm, ⟨6, _⟩ => ⟨S2x2048x1024, .f32⟩
  | .hbm, ⟨7, _⟩ => ⟨S2x2048x1024, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1024, .f32⟩
  | .hbm, ⟨19, _⟩ => ⟨S2x2048x1024, .f32⟩
  | .hbm, ⟨20, _⟩ => ⟨S1x1x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S4096x1024, .f32⟩
  | .hbm, ⟨25, _⟩ => ⟨S4096x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== HgrnFwd.lean ====
abbrev S2x2048x6400 : Shape := ⟨3, ![2, 2048, 6400]⟩
abbrev S2x1024 : Shape := ⟨2, ![2, 1024]⟩
abbrev S128 : Shape := ⟨1, ![128]⟩
abbrev S2x2048x5120 : Shape := ⟨3, ![2, 2048, 5120]⟩
abbrev S2x2048x1024 : Shape := ⟨3, ![2, 2048, 1024]⟩
abbrev S2x2048x256 : Shape := ⟨3, ![2, 2048, 256]⟩
abbrev S4096x6400 : Shape := ⟨2, ![4096, 6400]⟩
abbrev S1x128 : Shape := ⟨2, ![1, 128]⟩
abbrev S4096x1024 : Shape := ⟨2, ![4096, 1024]⟩
abbrev S2x8x32x128x128 : Shape := ⟨5, ![2, 8, 32, 128, 128]⟩
abbrev S512x128 : Shape := ⟨2, ![512, 128]⟩
abbrev S2x128 : Shape := ⟨2, ![2, 128]⟩
abbrev S1x1x8x128x128 : Shape := ⟨5, ![1, 1, 8, 128, 128]⟩
abbrev S128x128 : Shape := ⟨2, ![128, 128]⟩
abbrev S8x64x128 : Shape := ⟨3, ![8, 64, 128]⟩
abbrev S64x64 : Shape := ⟨2, ![64, 64]⟩
abbrev S8x128 : Shape := ⟨2, ![8, 128]⟩
abbrev S64x128 : Shape := ⟨2, ![64, 128]⟩
abbrev S8x64 : Shape := ⟨2, ![8, 64]⟩
abbrev S1x64x128 : Shape := ⟨3, ![1, 64, 128]⟩
abbrev S8 : Shape := ⟨1, ![8]⟩
abbrev S8x1 : Shape := ⟨2, ![8, 1]⟩
abbrev S1x1x1x128x128 : Shape := ⟨5, ![1, 1, 1, 128, 128]⟩
abbrev S64 : Shape := ⟨1, ![64]⟩
abbrev S64x1 : Shape := ⟨2, ![64, 1]⟩

abbrev nBuf : Space → Nat
  | .hbm => 12
  | .vmem => 20
  | .smem => 0
  | _ => 0

abbrev bufTy : (tb : Table) → Fin (tcTables nBuf tb) → BufTy
  | .hbm, ⟨0, _⟩ => ⟨S2x2048x6400, .f32⟩
  | .hbm, ⟨1, _⟩ => ⟨S2x1024, .f32⟩
  | .hbm, ⟨2, _⟩ => ⟨S128, .f32⟩
  | .hbm, ⟨3, _⟩ => ⟨S2x2048x5120, .f32⟩
  | .hbm, ⟨4, _⟩ => ⟨S2x2048x1024, .f32⟩
  | .hbm, ⟨5, _⟩ => ⟨S2x2048x256, .f32⟩
  | .hbm, ⟨6, _⟩ => ⟨S2x2048x6400, .f32⟩
  | .hbm, ⟨7, _⟩ => ⟨S4096x6400, .f32⟩
  | .hbm, ⟨8, _⟩ => ⟨S1x128, .f32⟩
  | .hbm, ⟨9, _⟩ => ⟨S4096x1024, .bf16⟩
  | .hbm, ⟨10, _⟩ => ⟨S4096x1024, .f32⟩
  | .hbm, ⟨11, _⟩ => ⟨S2x8x32x128x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S2x128, .f32⟩
  | .local _ .vmem, ⟨9, _⟩ => ⟨S2x128, .f32⟩
  | .local _ .vmem, ⟨10, _⟩ => ⟨S1x128, .f32⟩
  | .local _ .vmem, ⟨11, _⟩ => ⟨S512x128, .bf16⟩
  | .local _ .vmem, ⟨12, _⟩ => ⟨S512x128, .bf16⟩
  | .local _ .vmem, ⟨13, _⟩ => ⟨S512x128, .f32⟩
  | .local _ .vmem, ⟨14, _⟩ => ⟨S512x128, .f32⟩
  | .local _ .vmem, ⟨15, _⟩ => ⟨S1x1x8x128x128, .f32⟩
  | .local _ .vmem, ⟨16, _⟩ => ⟨S1x1x8x128x128, .f32⟩
  | .local _ .vmem, ⟨17, _⟩ => ⟨S128x128, .f32⟩
  | .local _ .vmem, ⟨18, _⟩ => ⟨S8x64x128, .f32⟩
  | .local _ .vmem, ⟨19, _⟩ => ⟨S8x64x128, .f32⟩
  | _, _ => ⟨S2x2048x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S2x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== InFwd.lean ====
abbrev S2x2048x1024 : Shape := ⟨3, ![2, 2048, 1024]⟩
abbrev S1024x6400 : Shape := ⟨2, ![1024, 6400]⟩
abbrev S1024 : Shape := ⟨1, ![1024]⟩
abbrev S6400x1024 : Shape := ⟨2, ![6400, 1024]⟩
abbrev S1x6400x1024 : Shape := ⟨3, ![1, 6400, 1024]⟩
abbrev S1x1024x1024 : Shape := ⟨3, ![1, 1024, 1024]⟩
abbrev S1x256x1024 : Shape := ⟨3, ![1, 256, 1024]⟩
abbrev S1x1280x1024 : Shape := ⟨3, ![1, 1280, 1024]⟩
abbrev S4096x1024 : Shape := ⟨2, ![4096, 1024]⟩
abbrev S1x1024 : Shape := ⟨2, ![1, 1024]⟩
abbrev S4096x6400 : Shape := ⟨2, ![4096, 6400]⟩
abbrev S1024x1024 : Shape := ⟨2, ![1024, 1024]⟩
abbrev S1x5120x1024 : Shape := ⟨3, ![1, 5120, 1024]⟩
abbrev S1024x1280 : Shape := ⟨2, ![1024, 1280]⟩
abbrev S1024x1 : Shape := ⟨2, ![1024, 1]⟩
abbrev S1280x1024 : Shape := ⟨2, ![1280, 1024]⟩

abbrev nBuf : Space → Nat
  | .hbm => 13
  | .vmem => 10
  | .smem => 0
  | _ => 0

abbrev bufTy : (tb : Table) → Fin (tcTables nBuf tb) → BufTy
  | .hbm, ⟨0, _⟩ => ⟨S2x2048x1024, .f32⟩
  | .hbm, ⟨1, _⟩ => ⟨S1024x6400, .f32⟩
  | .hbm, ⟨2, _⟩ => ⟨S1024, .f32⟩
  | .hbm, ⟨3, _⟩ => ⟨S6400x1024, .f32⟩
  | .hbm, ⟨4, _⟩ => ⟨S6400x1024, .bf16⟩
  | .hbm, ⟨5, _⟩ => ⟨S1x6400x1024, .bf16⟩
  | .hbm, ⟨6, _⟩ => ⟨S1x1024x1024, .bf16⟩
  | .hbm, ⟨7, _⟩ => ⟨S1x256x1024, .bf16⟩
  | .hbm, ⟨8, _⟩ => ⟨S1x1280x1024, .bf16⟩
  | .hbm, ⟨9, _⟩ => ⟨S4096x1024, .f32⟩
  | .hbm, ⟨10, _⟩ => ⟨S1x1024, .f32⟩
  | .hbm, ⟨11, _⟩ => ⟨S4096x6400, .f32⟩
  | .hbm, ⟨12, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x5120x1024, .bf16⟩
  | .local _ .vmem, ⟨4, _⟩ => ⟨S1x1280x1024, .bf16⟩
  | .local _ .vmem, ⟨5, _⟩ => ⟨S1024x1280, .f32⟩
  | .local _ .vmem, ⟨6, _⟩ => ⟨S1024x1280, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 5], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c1280_i32 : BitVec 32 := 1280#32
  let v10 : BitVec 32 := Scalar.muli arg1 c1280_i32
  v10
def k0_off1 (i : grid0.Coords) : Fin 3 → Nat :=
  let c0_5 : Index := 0#32
  let arg1 : BitVec 32 := BitVec.ofNat 32 (i 1).val
  let c1280_i32 : BitVec 32 := 1280#32
  let v10 : BitVec 32 := Scalar.muli arg1 c1280_i32
  let v11 : BitVec 32 := v10
  let v12 : Index := Scalar.indexCast v11
  let c0_6 : Index := 0#32
  ![0, v12.toNat, 0]
def k0_cond3 (i : grid0.Coords) : BitVec 1 :=
  let arg1 : BitVec 32 := BitVec.ofNat 32 (i 1).val
  let c4_i32_2 : BitVec 32 := 4#32
  let v6 : BitVec 1 := Scalar.cmpi .eq arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x5120x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1280x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== InFwdRefIdeal.lean ====
abbrev S2x2048x1024 : Shape := ⟨3, ![2, 2048, 1024]⟩
abbrev S1024x6400 : Shape := ⟨2, ![1024, 6400]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x6400 : Shape := ⟨3, ![2, 2048, 6400]⟩
abbrev S2x2048x5120 : Shape := ⟨3, ![2, 2048, 5120]⟩
abbrev S2x2048x256 : Shape := ⟨3, ![2, 2048, 256]⟩
abbrev S4096x6400 : Shape := ⟨2, ![4096, 6400]⟩
abbrev S4096x1024 : Shape := ⟨2, ![4096, 1024]⟩

abbrev nBuf : Space → Nat
  | .hbm => 27
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x6400, .f32⟩
  | .hbm, ⟨2, _⟩ => ⟨S1024, .f32⟩
  | .hbm, ⟨3, _⟩ => ⟨S2x2048x1024, .f32⟩
  | .hbm, ⟨4, _⟩ => ⟨S_, .f32⟩
  | .hbm, ⟨5, _⟩ => ⟨S2x2048, .f32⟩
  | .hbm, ⟨6, _⟩ => ⟨S2x2048x1, .f32⟩
  | .hbm, ⟨7, _⟩ => ⟨S_, .f32⟩
  | .hbm, ⟨8, _⟩ => ⟨S2x2048x1, .f32⟩
  | .hbm, ⟨9, _⟩ => ⟨S2x2048x1, .f32⟩
  | .hbm, ⟨10, _⟩ => ⟨S_, .f32⟩
  | .hbm, ⟨11, _⟩ => ⟨S2x2048x1, .f32⟩
  | .hbm, ⟨12, _⟩ => ⟨S2x2048x1, .f32⟩
  | .hbm, ⟨13, _⟩ => ⟨S2x2048x1, .f32⟩
  | .hbm, ⟨14, _⟩ => ⟨S2x2048x1024, .f32⟩
  | .hbm, ⟨15, _⟩ => ⟨S2x2048x1024, .f32⟩
  | .hbm, ⟨16, _⟩ => ⟨S1x1x1024, .f32⟩
  | .hbm, ⟨17, _⟩ => ⟨S2x2048x1024, .f32⟩
  | .hbm, ⟨18, _⟩ => ⟨S2x2048x1024, .f32⟩
  | .hbm, ⟨19, _⟩ => ⟨S2x2048x6400, .f32⟩
  | .hbm, ⟨20, _⟩ => ⟨S2x2048x5120, .f32⟩
  | .hbm, ⟨21, _⟩ => ⟨S2x2048x1024, .f32⟩
  | .hbm, ⟨22, _⟩ => ⟨S2x2048x256, .f32⟩
  | .hbm, ⟨23, _⟩ => ⟨S2x2048x6400, .f32⟩
  | .hbm, ⟨24, _⟩ => ⟨S4096x6400, .f32⟩
  | .hbm, ⟨25, _⟩ => ⟨S4096x1024, .f32⟩
  | .hbm, ⟨26, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Proof.Reals.lean ====
/- Extended reals that are real numbers: the constants of the programs, the ideal operations at real
   arguments, and what the finiteness test of a precondition says about an argument. -/
module

public import Idealize.ShloMosaic.Lib.Pointwise
public import Idealize.ShloMosaic.Lib.IdealHost

@[expose] public section

set_option maxRecDepth 16384

noncomputable section

open Idealize.ShloMosaic

namespace Cert.Reals

/-- The row width of the norms, as the programs write it. -/
theorem c1024 : Ideal.ofBits .f32 0x44800000#32 = ((1024 : ℝ) : EReal) := by
  simp [Ideal.ofBits, Ideal.ieee, -EReal.coe_mul]; norm_num

/-- The factor of the derivative of a reciprocal square root. -/
theorem cNegHalf : Ideal.ofBits .f32 0xBF000000#32 = ((-1 / 2 : ℝ) : EReal) := by
  simp [Ideal.ofBits, Ideal.ieee, -EReal.coe_mul, -EReal.coe_neg]; norm_num

/-- The small number under the root of a norm. -/
def eps : ℝ := 8796093 / 2 ^ 43

theorem eps_pos : 0 < eps := by unfold eps; positivity

theorem cEps : Ideal.ofBits .f32 0x358637BD#32 = ((eps : ℝ) : EReal) := by
  unfold eps; simp [Ideal.ofBits, Ideal.ieee, -EReal.coe_mul]; norm_num

/-- The bound that a finite argument stays below. -/
theorem cTop : Ideal.ofBits .f32 0x7F800000#32 = ⊤ := by
  simp [Ideal.ofBits, Ideal.ieee]

/-- A quotient of reals with a divisor that is not zero. -/
theorem div_real (a : ℝ) {b : ℝ} (h : b ≠ 0) : Ideal.div (a : EReal) (b : EReal) = ((a / b : ℝ) : EReal) := by
  rw [Ideal.div_coe h, ← EReal.coe_mul, mul_one_div]

/-- The reciprocal square root of a positive real. -/
theorem rsqrt_real {a : ℝ} (h : 0 < a) : Ideal.rsqrt (a : EReal) = (((Real.sqrt a)⁻¹ : ℝ) : EReal) := by
  show (if a < 0 then (⊥ : EReal) else if a = 0 then ⊤ else (((Real.sqrt a)⁻¹ : ℝ) : EReal)) = _
  rw [if_neg (not_lt.mpr h.le), if_neg h.ne']

/-- A sum of reals is the real sum. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The extended reals that are real numbers. -/
def IsReal (x : EReal) : Prop := ∃ r : ℝ, x = (r : EReal)

theorem IsReal.coe (r : ℝ) : IsReal (r : EReal) := ⟨r, rfl⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sum {ι : Type} (s : Finset ι) {f : ι → EReal} (h : ∀ i, IsReal (f i)) : IsReal (∑ i ∈ s, f i) := by
  choose g hg using h
  exact ⟨∑ i ∈ s, g i, by rw [← sum_real]; exact Finset.sum_congr rfl fun i _ => hg i⟩

/-- A family of reals, as one real function. -/
theorem lift {ι : Type} {f : ι → EReal} (h : ∀ i, IsReal (f i)) : ∃ g : ι → ℝ, f = fun i => (g i : EReal) := by
  choose g hg using h
  exact ⟨g, funext hg⟩

/-- An extended real whose absolute value is below the top is a real number. -/
theorem isReal_of_abs_lt (x : EReal) (h : (if (max x (-x)) < ⊤ then (1#1 : BitVec 1) else 0#1) = 1#1) : IsReal x := by
  have hx : max x (-x) < ⊤ := by
    by_contra hn
    rw [if_neg hn] at h
    exact absurd h (by decide)
  induction x with
  | bot => simp at hx
  | coe r => exact ⟨r, rfl⟩
  | top => simp at hx

/-- The host's sum over the two leading axes of three, read at the index that is left. -/
theorem hostReduceAdd_leading {n0 n1 n2 : ℕ} (h : (⟨3, ![n0, n1, n2]⟩ : Shape).ReducesTo [0, 1] ⟨1, ![n2]⟩)
    (v : (⟨3, ![n0, n1, n2]⟩ : Shape).Idx → EReal) (init : EReal) (d : Fin n2) :
    Ideal.hostReduceAdd h v init (ix1 d) = init + ∑ a : Fin n0, ∑ b : Fin n1, v (ix3 a b d) := by
  refine congrArg (init + ·) ((Finset.sum_filter_eq_sum_of_fiber _ (fun k : Fin n0 × Fin n1 => ix3 k.1 k.2 d)
    (fun _ _ e => Prod.ext (congrFun e 0) (congrFun e 1)) (fun i => ⟨fun e => ⟨(i 0, i 1), ?_⟩, ?_⟩) v).trans ?_)
  · funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl
  · simp only [Fintype.sum_prod_type]

end Cert.Reals

end

end
-- ==== Proof.Finite.lean ====
/- What the finiteness test of a precondition says: every number of the tested array is a real number. -/
module

public import proofs.«01_k».proof.Proof.Reals

@[expose] public section

noncomputable section

open Idealize.ShloMosaic

namespace Cert.Reals

/-- An array whose absolute values are all below the top holds real numbers. -/
theorem isReal_of_test {s : Shape} (x : FVec Ideal s .f32) (hb : (⟨0, ![]⟩ : Shape).BroadcastsInDim s ![])
    (h : cmpf .olt (Host.absf x) (broadcastInDim s ![] hb (constant ⟨0, ![]⟩ .f32 0x7F800000#32)) = fun _ => 1#1) (i : s.Idx) :
    IsReal (x i) := by
  have h1 : BitVec.ofBool (decide (max (x i) (-(x i)) < Ideal.ofBits .f32 0x7F800000#32)) = 1#1 := congrFun h i
  rw [cTop] at h1
  apply isReal_of_abs_lt
  split
  · rfl
  · rename_i hn
    rw [decide_eq_false hn] at h1
    exact absurd h1 (by decide)

end Cert.Reals

end
-- ==== Proof.NormGrad.lean ====
/- The gradient of a row's root-mean-square norm, in the two forms in which it is written: with the third power of the
   reciprocal root, and as the chain rule through the mean square. They agree on rows of real numbers. -/
module

public import proofs.«01_k».proof.Proof.Reals

@[expose] public section

set_option maxRecDepth 16384

noncomputable section

open Idealize.ShloMosaic

namespace Cert.NormGrad

open Cert.Reals

variable {n : ℕ}

/-- The mean square of a row, with the small number added. -/
def meanSq (y : Fin n → EReal) : EReal :=
  Ideal.div (∑ k, y k * y k) (Ideal.ofBits .f32 0x44800000#32) + Ideal.ofBits .f32 0x358637BD#32

/-- The factor by which the norm scales the row. -/
def scale (y : Fin n → EReal) : EReal := Ideal.rsqrt (meanSq y)

/-- The gradient with respect to the row, by the third power of the scale; `c` is the cotangent and `g` the weights. -/
def rowGrad (y c g : Fin n → EReal) (d : Fin n) : EReal :=
  scale y * (c d * g d) - y d * (scale y * scale y * scale y) * Ideal.div (∑ k, c k * g k * y k) (Ideal.ofBits .f32 0x44800000#32)

/-- What the chain rule through the mean square adds to each of the two factors `y k` of a square. -/
def viaMean (y c g : Fin n → EReal) : EReal :=
  Ideal.div ((∑ k, y k * (c k * g k)) * (Ideal.ofBits .f32 0xBF000000#32 * Ideal.div (scale y) (meanSq y)))
    (Ideal.ofBits .f32 0x44800000#32)

/-- The gradient with respect to the row, by the chain rule. -/
def rowChain (y c g : Fin n → EReal) (d : Fin n) : EReal :=
  c d * g d * scale y + y d * viaMean y c g + viaMean y c g * y d

theorem meanSq_real (Y : Fin n → ℝ) :
    meanSq (fun k => (Y k : EReal)) = (((∑ k, Y k * Y k) / 1024 + eps : ℝ) : EReal) := by
  unfold meanSq
  rw [c1024, cEps]
  simp only [← EReal.coe_mul, sum_real]
  rw [div_real _ (by norm_num), ← EReal.coe_add]

theorem meanSq_pos (Y : Fin n → ℝ) : 0 < (∑ k, Y k * Y k) / 1024 + eps :=
  add_pos_of_nonneg_of_pos (div_nonneg (Finset.sum_nonneg fun k _ => mul_self_nonneg (Y k)) (by norm_num)) eps_pos

theorem scale_real (Y : Fin n → ℝ) :
    scale (fun k => (Y k : EReal)) = (((Real.sqrt ((∑ k, Y k * Y k) / 1024 + eps))⁻¹ : ℝ) : EReal) := by
  unfold scale
  rw [meanSq_real, rsqrt_real (meanSq_pos Y)]

/-- The scale of a row of reals is real. -/
theorem scale_isReal {y : Fin n → EReal} (hy : ∀ k, IsReal (y k)) : IsReal (scale y) := by
  obtain ⟨Y, rfl⟩ := lift hy
  exact ⟨_, scale_real Y⟩

/-- On rows of reals the two forms are equal. -/
theorem rowGrad_eq_rowChain {y c g : Fin n → EReal} (hy : ∀ k, IsReal (y k)) (hc : ∀ k, IsReal (c k)) (hg : ∀ k, IsReal (g k))
    (d : Fin n) : rowGrad y c g d = rowChain y c g d := by
  obtain ⟨Y, rfl⟩ := lift hy
  obtain ⟨C, rfl⟩ := lift hc
  obtain ⟨G, rfl⟩ := lift hg
  have hpos := meanSq_pos Y
  unfold rowGrad rowChain viaMean
  rw [scale_real, meanSq_real, c1024, cNegHalf]
  simp only [← EReal.coe_mul, sum_real]
  set Z : ℝ := (∑ k, Y k * Y k) / 1024 + eps
  simp only [div_real _ (by norm_num : (1024 : ℝ) ≠ 0), div_real _ hpos.ne', ← EReal.coe_mul, ← EReal.coe_add, ← EReal.coe_sub]
  congr 1
  have hs : Real.sqrt Z * Real.sqrt Z = Z := Real.mul_self_sqrt hpos.le
  have hq : Real.sqrt Z ≠ 0 := (Real.sqrt_pos.mpr hpos).ne'
  have hsum : ∑ k, Y k * (C k * G k) = ∑ k, C k * G k * Y k := Finset.sum_congr rfl fun k _ => mul_comm _ _
  rw [hsum]
  generalize ∑ k, C k * G k * Y k = s
  generalize hr : Real.sqrt Z = r at hs hq
  rw [← hs]
  field_simp
  ring

end Cert.NormGrad

end

end
-- ==== Proof.OutSpec.lean ====
/- The gradients of the output projection with its norm, as functions of the layer's arrays: what both programs compute. -/
module

public import proofs.«01_k».proof.Proof.NormGrad

@[expose] public section

set_option maxRecDepth 16384

noncomputable section

open Idealize.ShloMosaic

namespace Cert.OutSpec

open Cert.Reals Cert.NormGrad

/-- Arrays [2, 2048, 1024], [2048, 1024], [4096, 1024], [1024] and [1, 1024]. -/
abbrev A3 := (⟨3, ![2, 2048, 1024]⟩ : Shape).Idx → EReal
abbrev A2 := (⟨2, ![2048, 1024]⟩ : Shape).Idx → EReal
abbrev AR := (⟨2, ![4096, 1024]⟩ : Shape).Idx → EReal
abbrev A1 := (⟨1, ![1024]⟩ : Shape).Idx → EReal
abbrev AG := (⟨2, ![1, 1024]⟩ : Shape).Idx → EReal

/-- The batch entry and the position of row `r` of the flattened arrays. -/
def bat (r : Fin 4096) : Fin 2 := ⟨r / 2048, by omega⟩
def pos (r : Fin 4096) : Fin 2048 := ⟨r % 2048, by omega⟩

/-- A sum over the flattened rows, by batch entry and position. -/
theorem sum_flat (f : Fin 2 → Fin 2048 → EReal) : ∑ r, f (bat r) (pos r) = ∑ b, ∑ s, f b s := by
  rw [Fin.sum_univ_tiles 2 2048 rfl]
  refine Finset.sum_congr rfl fun b _ => Finset.sum_congr rfl fun s _ => congrArg₂ f (Fin.ext ?_) (Fin.ext ?_)
  · show (b.val * 2048 + s.val) / 2048 = b.val
    omega
  · show (b.val * 2048 + s.val) % 2048 = s.val
    omega

/-- Rows of the two halves of the weights. -/
def lo (e : Fin 1024) : Fin 2048 := ⟨e, by omega⟩
def hi (e : Fin 1024) : Fin 2048 := ⟨1024 + e, by omega⟩

variable (oh oa : A3) (w : A2) (g : A1) (ct : A3)

/-- A row of the projection before its norm: the recurrence's half and the attention's half. -/
def yRow (b : Fin 2) (s : Fin 2048) (d : Fin 1024) : EReal :=
  ∑ e : Fin 1024, oh (ix3 b s e) * w (ix2 (lo e) d) + ∑ e : Fin 1024, oa (ix3 b s e) * w (ix2 (hi e) d)

/-- The gradient of a row before its norm. -/
def dy (b : Fin 2) (s : Fin 2048) (d : Fin 1024) : EReal :=
  rowGrad (yRow oh oa w b s) (fun k => ct (ix3 b s k)) (fun k => g (ix1 k)) d

/-- The gradients of the two halves of the input. -/
def dch (i : (⟨2, ![4096, 1024]⟩ : Shape).Idx) : EReal :=
  ∑ d : Fin 1024, dy oh oa w g ct (bat (i 0)) (pos (i 0)) d * w (ix2 (lo (i 1)) d)
def dca (i : (⟨2, ![4096, 1024]⟩ : Shape).Idx) : EReal :=
  ∑ d : Fin 1024, dy oh oa w g ct (bat (i 0)) (pos (i 0)) d * w (ix2 (hi (i 1)) d)

/-- The gradient of the weights, for one half `o` of the input. -/
def dwHalf (o : A3) (e d : Fin 1024) : EReal :=
  ∑ r : Fin 4096, o (ix3 (bat r) (pos r) e) * dy oh oa w g ct (bat r) (pos r) d

/-- The gradient of the weights. -/
def dwo (i : (⟨2, ![2048, 1024]⟩ : Shape).Idx) : EReal :=
  if h : (i 0 : ℕ) < 1024 then dwHalf oh oa w g ct oh ⟨i 0, h⟩ (i 1)
  else dwHalf oh oa w g ct oa ⟨(i 0 : ℕ) - 1024, by have : (i 0 : ℕ) < 2048 := (i 0).isLt; omega⟩ (i 1)

/-- The gradient of the norm's weights. -/
def dg (i : (⟨2, ![1, 1024]⟩ : Shape).Idx) : EReal :=
  ∑ r : Fin 4096, ct (ix3 (bat r) (pos r) (i 1)) * yRow oh oa w (bat r) (pos r) (i 1) * scale (yRow oh oa w (bat r) (pos r))

variable {oh oa w g ct}

theorem yRow_isReal (h : ∀ i, IsReal (oh i)) (a : ∀ i, IsReal (oa i)) (hw : ∀ i, IsReal (w i)) (b : Fin 2) (s : Fin 2048)
    (d : Fin 1024) : IsReal (yRow oh oa w b s d) :=
  (IsReal.sum _ fun _ => (h _).mul (hw _)).add (IsReal.sum _ fun _ => (a _).mul (hw _))

/-- With finite arrays the gradient of a row is the chain rule's. -/
theorem dy_eq (h : ∀ i, IsReal (oh i)) (a : ∀ i, IsReal (oa i)) (hw : ∀ i, IsReal (w i)) (hg : ∀ i, IsReal (g i))
    (hc : ∀ i, IsReal (ct i)) (b : Fin 2) (s : Fin 2048) (d : Fin 1024) :
    dy oh oa w g ct b s d = rowChain (yRow oh oa w b s) (fun k => ct (ix3 b s k)) (fun k => g (ix1 k)) d :=
  rowGrad_eq_rowChain (yRow_isReal h a hw b s) (fun _ => hc _) (fun _ => hg _) d

end Cert.OutSpec

end

end
-- ==== Proof.OutKernel.lean ====
/- What the kernel of the output projection's backward pass leaves in its four results. -/
module

public import proofs.«01_k».proof.Proof.OutSpec
public import proofs.«01_k».proof.Proof.Gen.OutBwdIdeal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutBwdIdeal.Hand

open Cert.OutBwdIdeal Cert.OutBwdIdeal.Gen Cert.NormGrad Cert.OutSpec

/-! ## The arithmetic of one block -/

theorem grad_at (y ct : FVec Ideal S512x1024 .f32) (g : FVec Ideal S1x1024 .f32) (p : Fin 512) (d : Fin 1024) :
    k0_pay11 (F := Ideal) y ct g (ix2 p d)
      = rowGrad (fun k => y (ix2 p k)) (fun k => ct (ix2 p k)) (fun k => g (ix2 0 k)) d := by
  pointwise [k0_pay11, k0_pay10, k0_pay9, k0_pay8, rowGrad, scale, meanSq]

theorem dg_at (y ct : FVec Ideal S512x1024 .f32) (acc : FVec Ideal S1x1024 .f32) (d : Fin 1024) :
    k0_pay12 (F := Ideal) y ct acc (ix2 0 d)
      = acc (ix2 0 d) + ∑ p : Fin 512, ct (ix2 p d) * y (ix2 p d) * scale (fun k => y (ix2 p k)) := by
  pointwise [k0_pay12, k0_pay10, k0_pay9, k0_pay8, scale, meanSq]

theorem dch_at (u : FVec Ideal S512x1024 .f32) (w : FVec Ideal S1x1024x1024 .bf16) (p : Fin 512) (e : Fin 1024) :
    k0_pay2 (F := Ideal) u w (ix2 p e) = ∑ d : Fin 1024, u (ix2 p d) * w (ix3 0 e d) := by
  pointwise [k0_pay2, k0_pay1]

theorem dca_at (u : FVec Ideal S512x1024 .f32) (w : FVec Ideal S1x1024x1024 .bf16) (p : Fin 512) (e : Fin 1024) :
    k0_pay3 (F := Ideal) u w (ix2 p e) = ∑ d : Fin 1024, u (ix2 p d) * w (ix3 0 e d) := by
  pointwise [k0_pay3, k0_pay1]

theorem dwLo_at (u : FVec Ideal S512x1024 .f32) (acc : FVec Ideal S1024x1024 .f32) (o : FVec Ideal S512x1024 .bf16) (e d : Fin 1024) :
    k0_pay4 (F := Ideal) u acc o (ix2 e d) = acc (ix2 e d) + ∑ p : Fin 512, o (ix2 p e) * u (ix2 p d) := by
  pointwise [k0_pay4, k0_pay1]

theorem dwHi_at (u : FVec Ideal S512x1024 .f32) (acc : FVec Ideal S1024x1024 .f32) (o : FVec Ideal S512x1024 .bf16) (e d : Fin 1024) :
    k0_pay5 (F := Ideal) u acc o (ix2 e d) = acc (ix2 e d) + ∑ p : Fin 512, o (ix2 p e) * u (ix2 p d) := by
  pointwise [k0_pay5, k0_pay1]

theorem zeroW_at (j) : k0_pay6 (F := Ideal) j = 0 := by pointwise [k0_pay6]
theorem zeroG_at (j) : k0_pay7 (F := Ideal) j = 0 := by pointwise [k0_pay7]

/-! ## The blocks, as parts of the arguments -/

variable (m : (ℓ : Loc nD τ sig) → Buf (Elt Ideal) ℓ)

/-- The arguments. -/
abbrev oh (c : Dev nD) : A3 := m ((c.tc : Thread nD τ).loc main_arg0)
abbrev oa (c : Dev nD) : A3 := m ((c.tc : Thread nD τ).loc main_arg1)
abbrev wo (c : Dev nD) : A2 := m ((c.tc : Thread nD τ).loc main_arg2)
abbrev gp (c : Dev nD) : A1 := m ((c.tc : Thread nD τ).loc main_arg3)
abbrev ct (c : Dev nD) : A3 := m ((c.tc : Thread nD τ).loc main_arg4)

theorem idx : ∀ t : Fin cfg0.N, win0_0.index t = ![t.val, 0] ∧ win0_1.index t = ![t.val, 0] ∧ win0_2.index t = ![0, 0]
    ∧ win0_3.index t = ![0, 0, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0] :=
  (by decide +kernel : ∀ t : Fin grid0.N, _)

/-- Row `p` of the block of point `t`, as a row of the array. -/
def rowOf (t : Fin cfg0.N) (p : Fin 512) : Fin 4096 :=
  ⟨t.val * 512 + p, by have := lt_of_lt_of_eq t.isLt N_0; omega⟩

theorem ct_blk (c : Dev nD) (t : Fin cfg0.N) (p : Fin 512) (d : Fin 1024) :
    (show FVec Ideal S512x1024 .f32 from iblk m c 0 t) (ix2 p d) = ct m c (ix3 (bat (rowOf t p)) (pos (rowOf t p)) d) := by
  blk_simp [iblk, idx t]
  entry_read
  pointwise
  blk_point [idx t, bat, pos, rowOf]

theorem y_blk (c : Dev nD) (t : Fin cfg0.N) (p : Fin 512) (d : Fin 1024) :
    (show FVec Ideal S512x1024 .f32 from iblk m c 1 t) (ix2 p d)
      = yRow (oh m c) (oa m c) (wo m c) (bat (rowOf t p)) (pos (rowOf t p)) d := by
  blk_simp [iblk, idx t]
  entry_read
  pointwise [yRow]
  blk_point [idx t, bat, pos, rowOf, lo, hi]

theorem g_blk (c : Dev nD) (t : Fin cfg0.N) (d : Fin 1024) :
    (show FVec Ideal S1x1024 .f32 from iblk m c 2 t) (ix2 0 d) = gp m c (ix1 d) := by
  blk_simp [iblk, idx t]
  entry_read
  pointwise
  blk_point [idx t]

theorem w_blk (c : Dev nD) (t : Fin cfg0.N) (e : Fin 2048) (d : Fin 1024) :
    (show FVec Ideal S1x2048x1024 .bf16 from iblk m c 3 t) (ix3 0 e d) = wo m c (ix2 e d) := by
  blk_simp [iblk, idx t]
  entry_read
  pointwise
  blk_point [idx t]

theorem ch_blk (c : Dev nD) (t : Fin cfg0.N) (p : Fin 512) (d : Fin 1024) :
    (show FVec Ideal S512x1024 .bf16 from iblk m c 4 t) (ix2 p d) = oh m c (ix3 (bat (rowOf t p)) (pos (rowOf t p)) d) := by
  blk_simp [iblk, idx t]
  entry_read
  pointwise
  blk_point [idx t, bat, pos, rowOf]

theorem ca_blk (c : Dev nD) (t : Fin cfg0.N) (p : Fin 512) (d : Fin 1024) :
    (show FVec Ideal S512x1024 .bf16 from iblk m c 5 t) (ix2 p d) = oa m c (ix3 (bat (rowOf t p)) (pos (rowOf t p)) d) := by
  blk_simp [iblk, idx t]
  entry_read
  pointwise
  blk_point [idx t, bat, pos, rowOf]

/-- The gradient of the rows of a block. -/
theorem grad_blk (c : Dev nD) (t : Fin cfg0.N) (p : Fin 512) (d : Fin 1024) :
    k0_pay11 (F := Ideal) (iblk m c 1 t) (iblk m c 0 t) (iblk m c 2 t) (ix2 p d)
      = dy (oh m c) (oa m c) (wo m c) (gp m c) (ct m c) (bat (rowOf t p)) (pos (rowOf t p)) d := by
  rw [grad_at]
  unfold dy
  congr 1
  · exact funext fun k => y_blk m c t p k
  · exact funext fun k => ct_blk m c t p k
  · exact funext fun k => g_blk m c t k

/-- A block of the first half's gradient, over any array that holds the weights' first half. -/
theorem dch_blk (c : Dev nD) (t : Fin cfg0.N) (p : Fin 512) (e : Fin 1024) (w : FVec Ideal S1x1024x1024 .bf16)
    (hw : ∀ e d : Fin 1024, w (ix3 0 e d) = wo m c (ix2 (lo e) d)) :
    k0_pay2 (F := Ideal) (k0_pay11 (iblk m c 1 t) (iblk m c 0 t) (iblk m c 2 t)) w (ix2 p e)
      = dch (oh m c) (oa m c) (wo m c) (gp m c) (ct m c) (ix2 (rowOf t p) e) := by
  refine (dch_at _ w p e).trans (Finset.sum_congr rfl fun d _ => ?_)
  exact congrArg₂ (· * ·) (grad_blk m c t p d) (hw e d)

/-- A block of the second half's gradient, over any array that holds the weights' second half. -/
theorem dca_blk (c : Dev nD) (t : Fin cfg0.N) (p : Fin 512) (e : Fin 1024) (w : FVec Ideal S1x1024x1024 .bf16)
    (hw : ∀ e d : Fin 1024, w (ix3 0 e d) = wo m c (ix2 (hi e) d)) :
    k0_pay3 (F := Ideal) (k0_pay11 (iblk m c 1 t) (iblk m c 0 t) (iblk m c 2 t)) w (ix2 p e)
      = dca (oh m c) (oa m c) (wo m c) (gp m c) (ct m c) (ix2 (rowOf t p) e) := by
  refine (dca_at _ w p e).trans (Finset.sum_congr rfl fun d _ => ?_)
  exact congrArg₂ (· * ·) (grad_blk m c t p d) (hw e d)

/-- A sum over the rows of the array, point by point. -/
theorem sum_rows (f : Fin 4096 → EReal) : ∑ r, f r = ∑ t : Fin cfg0.N, ∑ p : Fin 512, f (rowOf t p) :=
  Fin.sum_univ_tiles 8 512 rfl f

/-- What one point adds to the gradient of one half of the weights. -/
def dwPart (c : Dev nD) (o : A3) (t : Fin cfg0.N) (e d : Fin 1024) : EReal :=
  ∑ p : Fin 512, o (ix3 (bat (rowOf t p)) (pos (rowOf t p)) e)
    * dy (oh m c) (oa m c) (wo m c) (gp m c) (ct m c) (bat (rowOf t p)) (pos (rowOf t p)) d

theorem dwHalf_rows (c : Dev nD) (o : A3) (e d : Fin 1024) :
    dwHalf (oh m c) (oa m c) (wo m c) (gp m c) (ct m c) o e d = ∑ t : Fin cfg0.N, dwPart m c o t e d :=
  sum_rows fun r => o (ix3 (bat r) (pos r) e) * dy (oh m c) (oa m c) (wo m c) (gp m c) (ct m c) (bat r) (pos r) d

theorem dwLo_blk (c : Dev nD) (t : Fin cfg0.N) (acc : FVec Ideal S1024x1024 .f32) (e d : Fin 1024) :
    k0_pay4 (F := Ideal) (k0_pay11 (iblk m c 1 t) (iblk m c 0 t) (iblk m c 2 t)) acc (iblk m c 4 t) (ix2 e d)
      = acc (ix2 e d) + dwPart m c (oh m c) t e d := by
  refine (dwLo_at _ acc _ e d).trans (congrArg (acc (ix2 e d) + ·) (Finset.sum_congr rfl fun p _ => ?_))
  exact congrArg₂ (· * ·) (ch_blk m c t p e) (grad_blk m c t p d)

theorem dwHi_blk (c : Dev nD) (t : Fin cfg0.N) (acc : FVec Ideal S1024x1024 .f32) (e d : Fin 1024) :
    k0_pay5 (F := Ideal) (k0_pay11 (iblk m c 1 t) (iblk m c 0 t) (iblk m c 2 t)) acc (iblk m c 5 t) (ix2 e d)
      = acc (ix2 e d) + dwPart m c (oa m c) t e d := by
  refine (dwHi_at _ acc _ e d).trans (congrArg (acc (ix2 e d) + ·) (Finset.sum_congr rfl fun p _ => ?_))
  exact congrArg₂ (· * ·) (ca_blk m c t p e) (grad_blk m c t p d)

/-- What one point adds to the gradient of the weights. -/
def dwTerm (c : Dev nD) (t : Fin cfg0.N) (j : S2048x1024.Idx) : EReal :=
  if h : (j 0 : ℕ) < 1024 then dwPart m c (oh m c) t ⟨j 0, h⟩ (j 1)
  else dwPart m c (oa m c) t ⟨(j 0 : ℕ) - 1024, by have : (j 0 : ℕ) < 2048 := (j 0).isLt; omega⟩ (j 1)

/-- What one point adds to the gradient of the norm's weights. -/
def dgTerm (c : Dev nD) (t : Fin cfg0.N) (j : S1x1024.Idx) : EReal :=
  ∑ p : Fin 512, ct m c (ix3 (bat (rowOf t p)) (pos (rowOf t p)) (j 1))
    * yRow (oh m c) (oa m c) (wo m c) (bat (rowOf t p)) (pos (rowOf t p)) (j 1)
    * scale (yRow (oh m c) (oa m c) (wo m c) (bat (rowOf t p)) (pos (rowOf t p)))

theorem dg_blk (c : Dev nD) (t : Fin cfg0.N) (acc : FVec Ideal S1x1024 .f32) (j : S1x1024.Idx) :
    k0_pay12 (F := Ideal) (iblk m c 1 t) (iblk m c 0 t) acc j = acc j + dgTerm m c t j := by
  idx_vars j
  obtain rfl : j0 = 0 := Fin.ext (by omega)
  refine (dg_at _ _ acc j1).trans (congrArg (acc (ix2 0 j1) + ·) (Finset.sum_congr rfl fun p _ => ?_))
  refine congrArg₂ (· * ·) (congrArg₂ (· * ·) (ct_blk m c t p j1) (y_blk m c t p j1)) ?_
  exact congrArg scale (funext fun k => y_blk m c t p k)

/-! ## The four results -/

theorem final6 (c : Dev nD) : (dats m 0 c).arrAt 6 (cfgs 0).N = dch (oh m c) (oa m c) (wo m c) (gp m c) (ct m c) := by
  refine (dats m 0 c).arrAt_eq_of_covers 6 _ (by decide +kernel) fun t _ y => ?_
  obtain ⟨p, e, rfl⟩ : ∃ (p : Fin 512) (e : Fin 1024), y = ix2 p e := ⟨y 0, y 1, eq_ix2 y⟩
  blk_simp
  rw [after0_6]
  by_cases h : t.val % 8 = 0
  · rw [outsAt0_A m c t h]
    frame_out
    refine (dch_blk m c t p e _ fun e d => ?_).trans (congrArg _ ?_)
    · pointwise
      exact w_blk m c t _ d
    · blk_ext [idx t, rowOf]
  · rw [outsAt0_B m c t h]
    frame_out
    refine (dch_blk m c t p e _ fun e d => ?_).trans (congrArg _ ?_)
    · pointwise
      exact w_blk m c t _ d
    · blk_ext [idx t, rowOf]

theorem final7 (c : Dev nD) : (dats m 0 c).arrAt 7 (cfgs 0).N = dca (oh m c) (oa m c) (wo m c) (gp m c) (ct m c) := by
  refine (dats m 0 c).arrAt_eq_of_covers 7 _ (by decide +kernel) fun t _ y => ?_
  obtain ⟨p, e, rfl⟩ : ∃ (p : Fin 512) (e : Fin 1024), y = ix2 p e := ⟨y 0, y 1, eq_ix2 y⟩
  blk_simp
  rw [after0_7]
  by_cases h : t.val % 8 = 0
  · rw [outsAt0_A m c t h]
    frame_out
    refine (dca_blk m c t p e _ fun e d => ?_).trans (congrArg _ ?_)
    · pointwise
      exact w_blk m c t _ d
    · blk_ext [idx t, rowOf]
  · rw [outsAt0_B m c t h]
    frame_out
    refine (dca_blk m c t p e _ fun e d => ?_).trans (congrArg _ ?_)
    · pointwise
      exact w_blk m c t _ d
    · blk_ext [idx t, rowOf]

theorem dwTerm_lo (c : Dev nD) (t : Fin cfg0.N) (j : S2048x1024.Idx) (p e : Fin 1024) (h0 : (j 0 : ℕ) = p) (h1 : (j 1 : ℕ) = e) :
    dwTerm m c t j = dwPart m c (oh m c) t p e := by
  have hj : (j 0 : ℕ) < 1024 := by omega
  unfold dwTerm
  rw [dif_pos hj]
  exact congrArg₂ _ (Fin.ext h0) (Fin.ext h1)

theorem dwTerm_hi (c : Dev nD) (t : Fin cfg0.N) (j : S2048x1024.Idx) (p e : Fin 1024) (h0 : (j 0 : ℕ) = 1024 + p) (h1 : (j 1 : ℕ) = e) :
    dwTerm m c t j = dwPart m c (oa m c) t p e := by
  have hj : ¬ (j 0 : ℕ) < 1024 := by omega
  unfold dwTerm
  rw [dif_neg hj]
  exact congrArg₂ _ (Fin.ext (by show (j 0 : ℕ) - 1024 = p; omega)) (Fin.ext h1)

theorem step8_A (c : Dev nD) (t : Fin cfg0.N) (h : t.val % 8 = 0) (j : S2048x1024.Idx) :
    (outsAt0 m c t.val t.isLt).2.2.1 j = dwTerm m c t j := by
  rw [outsAt0_A m c t h]
  frame_out
  simp (disch := decide) only [↓View.readCov_skip, View.readCov_fill]
  refine View.canon_append_of_piecesOf (Val := Elt Ideal) (e := .f32) (dwTerm m c t) [_] [_, _] ⟨fun x => ?_, fun x => ?_, trivial⟩ j
    (View.cover_of_tiledL _ ![1024, 1024] rfl j)
  · obtain ⟨p, e, rfl⟩ : ∃ (p e : Fin 1024), x = ix2 p e := ⟨x 0, x 1, eq_ix2 x⟩
    refine (dwHi_blk m c t _ p e).trans ?_
    rw [dwTerm_hi m c t _ p e ((ValueKit.rect_emb_unit_val ..).trans (by first | rfl | exact Nat.zero_add _))
      ((ValueKit.rect_emb_unit_val ..).trans (by first | rfl | exact Nat.zero_add _))]
    pointwise [zeroW_at]
  · obtain ⟨p, e, rfl⟩ : ∃ (p e : Fin 1024), x = ix2 p e := ⟨x 0, x 1, eq_ix2 x⟩
    refine (dwLo_blk m c t _ p e).trans ?_
    rw [dwTerm_lo m c t _ p e ((ValueKit.rect_emb_unit_val ..).trans (by first | rfl | exact Nat.zero_add _))
      ((ValueKit.rect_emb_unit_val ..).trans (by first | rfl | exact Nat.zero_add _))]
    pointwise [zeroW_at]

theorem step8_B (c : Dev nD) (t : Fin cfg0.N) (h : ¬ t.val % 8 = 0) (j : S2048x1024.Idx) :
    (outsAt0 m c t.val t.isLt).2.2.1 j = (outsAt0 m c (t.val - 1) (by have := t.isLt; omega)).2.2.1 j + dwTerm m c t j := by
  rw [outsAt0_B m c t h]
  frame_out
  canon_tiles x hx
  · obtain ⟨p, e, rfl⟩ : ∃ (p e : Fin 1024), x = ix2 p e := ⟨x 0, x 1, eq_ix2 x⟩
    rw [dwHi_blk, dwTerm_hi m c t j p e hx0 hx1]
    refine congrArg (· + _) ?_
    pointwise
    blk_ext
    all_goals first | exact hx0.symm | exact hx1.symm
  · obtain ⟨p, e, rfl⟩ : ∃ (p e : Fin 1024), x = ix2 p e := ⟨x 0, x 1, eq_ix2 x⟩
    rw [dwLo_blk, dwTerm_lo m c t j p e hx0 hx1]
    refine congrArg (· + _) ?_
    pointwise
    blk_ext
    all_goals first | exact hx0.symm | exact hx1.symm

theorem final8 (c : Dev nD) : (dats m 0 c).arrAt 8 (cfgs 0).N = dwo (oh m c) (oa m c) (wo m c) (gp m c) (ct m c) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) (fun t j => dwTerm m c t j)
    (fun t h j => by rw [step8_A m c t h, zero_add])
    (fun t h j => step8_B m c t h j)
    (le_of_eq N_0) t0_7 rfl j, zero_add]
  unfold dwTerm dwo
  split
  · exact (dwHalf_rows m c _ _ _).symm
  · exact (dwHalf_rows m c _ _ _).symm

theorem final9 (c : Dev nD) : (dats m 0 c).arrAt 9 (cfgs 0).N = dg (oh m c) (oa m c) (wo m c) (ct m c) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) (fun t j => dgTerm m c t j)
    (fun t h j => by rw [outsAt0_A m c t h]; frame_out; rw [dg_blk, zeroG_at])
    (fun t h j => by rw [outsAt0_B m c t h]; frame_out; rw [dg_blk])
    (le_of_eq N_0) t0_7 rfl j, zero_add]
  exact (sum_rows (fun r => ct m c (ix3 (bat r) (pos r) (j 1)) * yRow (oh m c) (oa m c) (wo m c) (bat r) (pos r) (j 1)
    * scale (yRow (oh m c) (oa m c) (wo m c) (bat r) (pos r)))).symm

end Cert.OutBwdIdeal.Hand

end

end
-- ==== Proof.OutReference.lean ====
/- What the reference of the output projection's backward pass computes: the same gradients, at finite arrays. -/
module

public import proofs.«01_k».proof.Proof.OutSpec
public import proofs.«01_k».proof.Proof.Gen.OutBwdRefIdeal.Run
public import Idealize.ShloMosaic.Lib.Claim

@[expose] public section

set_option maxRecDepth 16384

noncomputable section

open Idealize.ShloMosaic Idealize.ShloMosaic.TcCoe Idealize.SL.Sem

namespace Cert.OutBwdRefIdeal.Hand

open Cert.OutBwdRefIdeal Cert.OutBwdRefIdeal.Gen Cert.NormGrad Cert.OutSpec Cert.Reals

section Terms

variable (oh oa : FVec Ideal S2x2048x1024 .f32) (w : FVec Ideal S2048x1024 .f32) (g : FVec Ideal S1024 .f32) (ct : FVec Ideal S2x2048x1024 .f32)

/-- The projection before its norm. -/
def tY : FVec Ideal S2x2048x1024 .f32 :=
  Host.dotGeneral dot_S2x2048x2048_S2048x1024_S2x2048x1024_2_0_01_1_n_n none
    (concatenate S2x2048x2048 2 [⟨S2x2048x1024, oh⟩, ⟨S2x2048x1024, oa⟩] concatenates_S2x2048x1024_S2x2048x1024_S2x2048x2048_d2) w

variable (y : FVec Ideal S2x2048x1024 .f32)

/-- The mean square of the rows, with the small number. -/
def tZ : FVec Ideal S2x2048x1 .f32 :=
  addf (Host.divf (broadcastInDim S2x2048x1 ![0, 1] bcast_S2x2048_S2x2048x1_0_1
      (Host.reduceAdd (mulf y y) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The cotangent times the norm's weights. -/
def tGy : FVec Ideal S2x2048x1024 .f32 :=
  mulf ct (broadcastInDim S2x2048x1024 ![0, 1, 2] bcast_S1x1x1024_S2x2048x1024_0_1_2 (broadcastInDim S1x1x1024 ![2] bcast_S1024_S1x1x1024_2 g))

/-- What comes back through the mean square. -/
def tQ : FVec Ideal S2x2048x1024 .f32 :=
  broadcastInDim S2x2048x1024 ![0, 1] bcast_S2x2048_S2x2048x1024_0_1
    (Host.reduceAdd (Host.divf (mulf
      (shapeCast S2x2048x1 (Host.reduceAdd (mulf y (tGy g ct)) (constant S_ .f32 0x00000000#32) reducesTo_S2x2048x1024_S2x2048_d2 h_S_) shapeCasts_S2x2048_S2x2048x1)
      (mulf (broadcastInDim S2x2048x1 ![] bcast_S_S2x2048x1 (constant S_ .f32 0xBF000000#32)) (Host.divf (Host.rsqrt (tZ y)) (tZ y))))
      (broadcastInDim S2x2048x1 ![] bcast_S_S2x2048x1 (constant S_ .f32 0x44800000#32)))
      (constant S_ .f32 0x00000000#32) reducesTo_S2x2048x1_S2x2048_d2 h_S_)

/-- The gradient of the rows before the norm. -/
def tD : FVec Ideal S2x2048x1024 .f32 :=
  addf (addf (mulf (tGy g ct) (broadcastInDim S2x2048x1024 ![0, 1, 2] bcast_S2x2048x1_S2x2048x1024_0_1_2 (Host.rsqrt (tZ y)))) (mulf y (tQ g ct y)))
    (mulf (tQ g ct y) y)

/-- The gradient of the projection's input, both halves side by side. -/
def tX (t : FVec Ideal S2x2048x1024 .f32) : FVec Ideal S2x2048x2048 .f32 :=
  Host.dotGeneral dot_S2x2048x1024_S2048x1024_S2x2048x2048_2_1_01_0_n_n none t w

/-- The gradient of the weights. -/
def tW (t : FVec Ideal S2x2048x1024 .f32) : FVec Ideal S2048x1024 .f32 :=
  transpose S2048x1024 [1, 0] (Host.dotGeneral dot_S2x2048x1024_S2x2048x2048_S1024x2048_01_01_2_2_n_n none t
    (concatenate S2x2048x2048 2 [⟨S2x2048x1024, oh⟩, ⟨S2x2048x1024, oa⟩] concatenates_S2x2048x1024_S2x2048x1024_S2x2048x2048_d2)
    : FVec Ideal S1024x2048 .f32) transposes_S1024x2048_S2048x1024_1_0

/-- The gradient of the norm's weights. -/
def tG : FVec Ideal S1x1024 .f32 :=
  shapeCast S1x1024 (Host.reduceAdd (shapeCast S1x1x1024 (Host.reduceAdd (mulf (mulf y
      (broadcastInDim S2x2048x1024 ![0, 1, 2] bcast_S2x2048x1_S2x2048x1024_0_1_2 (Host.rsqrt (tZ y)))) ct)
      (constant S_ .f32 0x00000000#32) reducesTo_S2x2048x1024_S1024_d0_1 h_S_) shapeCasts_S1024_S1x1x1024)
    (constant S_ .f32 0x00000000#32) reducesTo_S1x1x1024_S1024_d0_1 h_S_) shapeCasts_S1024_S1x1024

/-! ## The parts read at an index -/

theorem tY_at (b : Fin 2) (s : Fin 2048) (d : Fin 1024) : tY oh oa w (ix3 b s d) = yRow oh oa w b s d := by
  pointwise [tY, yRow]
  rfl

theorem tZ_at (b : Fin 2) (s : Fin 2048) (o : Fin 1) : tZ y (ix3 b s o) = meanSq fun k => y (ix3 b s k) := by
  pointwise [tZ, meanSq]

theorem tQ_at (b : Fin 2) (s : Fin 2048) (d : Fin 1024) :
    tQ g ct y (ix3 b s d) = viaMean (fun k => y (ix3 b s k)) (fun k => ct (ix3 b s k)) (fun k => g (ix1 k)) := by
  pointwise [tQ, tGy, tZ_at, viaMean, scale]
  exact Fin.sum_univ_one _

theorem tD_at (b : Fin 2) (s : Fin 2048) (d : Fin 1024) :
    tD g ct y (ix3 b s d) = rowChain (fun k => y (ix3 b s k)) (fun k => ct (ix3 b s k)) (fun k => g (ix1 k)) d := by
  pointwise [tD, tGy, tQ_at, tZ_at, rowChain, scale]

theorem tX_at (t : FVec Ideal S2x2048x1024 .f32) (b : Fin 2) (s : Fin 2048) (e : Fin 2048) :
    tX w t (ix3 b s e) = ∑ d : Fin 1024, t (ix3 b s d) * w (ix2 e d) := by
  pointwise [tX]

theorem tW_lo (t : FVec Ideal S2x2048x1024 .f32) (e d : Fin 1024) :
    tW oh oa t (ix2 (lo e) d) = ∑ r : Fin 4096, oh (ix3 (bat r) (pos r) e) * t (ix3 (bat r) (pos r) d) := by
  rw [sum_flat fun b s => oh (ix3 b s e) * t (ix3 b s d)]
  pointwise! [tW, lo]

theorem tW_hi (t : FVec Ideal S2x2048x1024 .f32) (e d : Fin 1024) :
    tW oh oa t (ix2 (hi e) d) = ∑ r : Fin 4096, oa (ix3 (bat r) (pos r) e) * t (ix3 (bat r) (pos r) d) := by
  rw [sum_flat fun b s => oa (ix3 b s e) * t (ix3 b s d)]
  pointwise! [tW, hi]

theorem tG_at (d : Fin 1024) :
    tG ct y (ix2 0 d) = ∑ r : Fin 4096, ct (ix3 (bat r) (pos r) d) * y (ix3 (bat r) (pos r) d) * scale (fun k => y (ix3 (bat r) (pos r) k)) := by
  rw [sum_flat fun b s => ct (ix3 b s d) * y (ix3 b s d) * scale (fun k => y (ix3 b s k))]
  pointwise [tG, tZ_at, hostReduceAdd_leading, scale]
  simp only [Fin.sum_univ_one]
  ac_nf

end Terms

/-! ## The results as terms of the named parts -/

variable (m : (ℓ : Loc nD τ sig) → Buf (Elt Ideal) ℓ)

abbrev oh (c : Dev nD) : A3 := m ((c.tc : Thread nD τ).loc main_arg0)
abbrev oa (c : Dev nD) : A3 := m ((c.tc : Thread nD τ).loc main_arg1)
abbrev wo (c : Dev nD) : A2 := m ((c.tc : Thread nD τ).loc main_arg2)
abbrev gp (c : Dev nD) : A1 := m ((c.tc : Thread nD τ).loc main_arg3)
abbrev ct (c : Dev nD) : A3 := m ((c.tc : Thread nD τ).loc main_arg4)

/-- The gradient of the rows, of the arguments. -/
def rD (c : Dev nD) : FVec Ideal S2x2048x1024 .f32 := tD (gp m c) (ct m c) (tY (oh m c) (oa m c) (wo m c))

theorem out0_eq (c : Dev nD) : Value.res_out0 m c = shapeCast S4096x1024 (extractStridedSlice S2x2048x1024 ![0, 0, 0]
    (tX (wo m c) (rD m c)) slices_S2x2048x2048_S2x2048x1024_0_0_0) shapeCasts_S2x2048x1024_S4096x1024 := rfl

theorem out1_eq (c : Dev nD) : Value.res_out1 m c = shapeCast S4096x1024 (extractStridedSlice S2x2048x1024 ![0, 0, 1024]
    (tX (wo m c) (rD m c)) slices_S2x2048x2048_S2x2048x1024_0_0_1024) shapeCasts_S2x2048x1024_S4096x1024 := rfl

theorem out2_eq (c : Dev nD) : Value.res_out2 m c = tW (oh m c) (oa m c) (rD m c) := rfl

theorem rD_at (c : Dev nD) (b : Fin 2) (s : Fin 2048) (d : Fin 1024) :
    rD m c (ix3 b s d) = rowChain (yRow (oh m c) (oa m c) (wo m c) b s) (fun k => ct m c (ix3 b s k)) (fun k => gp m c (ix1 k)) d := by
  unfold rD
  rw [tD_at]
  simp only [tY_at]

/-! ## The results, at finite arguments -/

variable (c : Dev nD) (hoh : ∀ i, IsReal (oh m c i)) (hoa : ∀ i, IsReal (oa m c i)) (hw : ∀ i, IsReal (wo m c i))
  (hg : ∀ i, IsReal (gp m c i)) (hct : ∀ i, IsReal (ct m c i))

include hoh hoa hw hg hct

theorem rD_dy (b : Fin 2) (s : Fin 2048) (d : Fin 1024) :
    rD m c (ix3 b s d) = dy (oh m c) (oa m c) (wo m c) (gp m c) (ct m c) b s d := by
  rw [rD_at, dy_eq hoh hoa hw hg hct]

theorem result0 : Value.res_out0 m c = dch (oh m c) (oa m c) (wo m c) (gp m c) (ct m c) := by
  rw [out0_eq]
  funext i
  idx_vars i
  pointwise [dch, tX_at]
  simp only [rD_dy m c hoh hoa hw hg hct]
  rfl

theorem result1 : Value.res_out1 m c = dca (oh m c) (oa m c) (wo m c) (gp m c) (ct m c) := by
  rw [out1_eq]
  funext i
  idx_vars i
  pointwise [dca, tX_at]
  simp only [rD_dy m c hoh hoa hw hg hct]
  rfl

theorem result2 : Value.res_out2 m c = dwo (oh m c) (oa m c) (wo m c) (gp m c) (ct m c) := by
  rw [out2_eq]
  funext i
  idx_vars i
  unfold dwo
  split
  · rename_i h
    refine (tW_lo (oh m c) (oa m c) (rD m c) ⟨i0, h⟩ i1).trans (Finset.sum_congr rfl fun r _ => ?_)
    rw [rD_dy m c hoh hoa hw hg hct]
    rfl
  · rename_i h
    have hi : i0 = hi ⟨(i0 : ℕ) - 1024, by omega⟩ := Fin.ext (by
      have h' : ¬ (i0 : ℕ) < 1024 := h
      show (i0 : ℕ) = 1024 + ((i0 : ℕ) - 1024); omega)
    refine (congrArg (fun e => tW (oh m c) (oa m c) (rD m c) (ix2 e i1)) hi).trans ?_
    refine (tW_hi (oh m c) (oa m c) (rD m c) _ i1).trans (Finset.sum_congr rfl fun r _ => ?_)
    rw [rD_dy m c hoh hoa hw hg hct]
    rfl

omit hoh hoa hw hg hct in
theorem result3 : tG (ct m c) (tY (oh m c) (oa m c) (wo m c)) = dg (oh m c) (oa m c) (wo m c) (ct m c) := by
  funext i
  idx_vars i
  obtain rfl : i0 = 0 := Fin.ext (by omega)
  rw [tG_at]
  simp only [tY_at]
  rfl

end Cert.OutBwdRefIdeal.Hand

end

end
-- ==== Proof.OutClaim.lean ====
/- The output projection's backward pass and its reference compute the same function at finite arguments. -/
module

public import proofs.«01_k».proof.Defs
public import proofs.«01_k».proof.Proof.Finite
public import proofs.«01_k».proof.Proof.OutKernel
public import proofs.«01_k».proof.Proof.OutReference
public import proofs.«01_k».proof.Proof.Gen.OutBwdIdeal.Value
public import proofs.«01_k».proof.Proof.Gen.Pre_out_finite
public import Idealize.ShloMosaic.Lib.Claim

@[expose] public section

set_option maxRecDepth 16384

noncomputable section

open Idealize.ShloMosaic Idealize.ShloMosaic.TcCoe Idealize.SL.Sem

namespace Cert.Proof

open Cert.OutSpec Cert.Reals

theorem out_algebraic : Cert.algebraic_OutBwdIdeal_OutBwdRefIdeal_pre_out_finite (hOutBwdIdeal := Cert.OutBwdIdeal.Gen.facts)
    (hOutBwdRefIdeal := Cert.OutBwdRefIdeal.Gen.facts) (hPre_out_finite := Cert.Pre_out_finite.Gen.facts) := by
  pair_intro
  · run_from Cert.OutBwdIdeal.Value.run_blocks m g
  · run_from Cert.OutBwdRefIdeal.Value.run m' g'
    all_goals
      have r0 := isReal_of_test _ _ (hpre c).1
      have r1 := isReal_of_test _ _ (hpre c).2.1
      have r2 := isReal_of_test _ _ (hpre c).2.2.1
      have r3 := isReal_of_test _ _ (hpre c).2.2.2.1
      have r4 := isReal_of_test _ _ (hpre c).2.2.2.2
      obtain ⟨e0, e1, e2, e3, e4⟩ := hagree c
      rw [← e0] at r0
      rw [← e1] at r1
      rw [← e2] at r2
      rw [← e3] at r3
      rw [← e4] at r4
    on_goal 1 => refine (Cert.OutBwdRefIdeal.Hand.result0 m' c r0 r1 r2 r3 r4).trans (Eq.trans ?_ (Cert.OutBwdIdeal.Hand.final6 m c).symm)
    on_goal 2 => refine (Cert.OutBwdRefIdeal.Hand.result1 m' c r0 r1 r2 r3 r4).trans (Eq.trans ?_ (Cert.OutBwdIdeal.Hand.final7 m c).symm)
    on_goal 3 => refine (Cert.OutBwdRefIdeal.Hand.result2 m' c r0 r1 r2 r3 r4).trans (Eq.trans ?_ (Cert.OutBwdIdeal.Hand.final8 m c).symm)
    on_goal 4 =>
      rw [← e0, ← e1, ← e2, ← e4]
      refine (Cert.OutBwdRefIdeal.Hand.result3 m' c).trans (Eq.trans ?_ (Cert.OutBwdIdeal.Hand.final9 m c).symm)
    all_goals
      simp only [OutBwdRefIdeal.Hand.oh, OutBwdRefIdeal.Hand.oa, OutBwdRefIdeal.Hand.wo, OutBwdRefIdeal.Hand.gp, OutBwdRefIdeal.Hand.ct, e0, e1, e2, e3, e4]

end Cert.Proof

end
-- ==== Proof.InSpec.lean ====
/- The gradients of the input norm, through the input projection, as functions of the layer's arrays: what both programs
   compute. -/
module

public import proofs.«01_k».proof.Proof.NormGrad
public import proofs.«01_k».proof.Proof.OutSpec

@[expose] public section

set_option maxRecDepth 16384

noncomputable section

open Idealize.ShloMosaic

namespace Cert.InSpec

open Cert.Reals Cert.NormGrad
open Cert.OutSpec (A3 A1 AG bat pos)

/-- Arrays [2, 2048, 6400] and [1024, 6400]. -/
abbrev AP := (⟨3, ![2, 2048, 6400]⟩ : Shape).Idx → EReal
abbrev AW := (⟨2, ![1024, 6400]⟩ : Shape).Idx → EReal

/-- Columns of the seven parts of the projection. -/
def c0 (e : Fin 1024) : Fin 6400 := ⟨e, by omega⟩
def c1 (e : Fin 1024) : Fin 6400 := ⟨1024 + e, by omega⟩
def c2 (e : Fin 1024) : Fin 6400 := ⟨2048 + e, by omega⟩
def c3 (e : Fin 1024) : Fin 6400 := ⟨3072 + e, by omega⟩
def c4 (e : Fin 1024) : Fin 6400 := ⟨4096 + e, by omega⟩
def c5 (e : Fin 256) : Fin 6400 := ⟨5120 + e, by omega⟩
def c6 (e : Fin 1024) : Fin 6400 := ⟨5376 + e, by omega⟩

/-- A sum over the projection's columns, part by part. -/
theorem sum_parts (f : Fin 6400 → EReal) :
    ∑ e, f e = ∑ e, f (c0 e) + ∑ e, f (c1 e) + ∑ e, f (c2 e) + ∑ e, f (c3 e) + ∑ e, f (c4 e) + ∑ e, f (c5 e) + ∑ e, f (c6 e) := by
  refine (Fin.sum_univ_add (a := 5376) (b := 1024) f).trans (congrArg (· + _) ?_)
  refine (Fin.sum_univ_add (a := 5120) (b := 256) _).trans (congrArg (· + _) ?_)
  refine (Fin.sum_univ_add (a := 4096) (b := 1024) _).trans (congrArg (· + _) ?_)
  refine (Fin.sum_univ_add (a := 3072) (b := 1024) _).trans (congrArg (· + _) ?_)
  refine (Fin.sum_univ_add (a := 2048) (b := 1024) _).trans (congrArg (· + _) ?_)
  exact Fin.sum_univ_add (a := 1024) (b := 1024) _

variable (x : A3) (w : AW) (g : A1) (cp : AP) (cx : A3)

/-- The gradient of a row after the norm. -/
def dh (b : Fin 2) (s : Fin 2048) (d : Fin 1024) : EReal := ∑ e : Fin 6400, cp (ix3 b s e) * w (ix2 d e)

/-- A row of the layer's input. -/
def xRow (b : Fin 2) (s : Fin 2048) (d : Fin 1024) : EReal := x (ix3 b s d)

/-- The gradient of the layer's input: what comes along the residual and what comes back through the norm. -/
def dx (i : (⟨2, ![4096, 1024]⟩ : Shape).Idx) : EReal :=
  cx (ix3 (bat (i 0)) (pos (i 0)) (i 1))
    + rowGrad (xRow x (bat (i 0)) (pos (i 0))) (dh w cp (bat (i 0)) (pos (i 0))) (fun k => g (ix1 k)) (i 1)

/-- The gradient of the norm's weights. -/
def dg (i : (⟨2, ![1, 1024]⟩ : Shape).Idx) : EReal :=
  ∑ r : Fin 4096, dh w cp (bat r) (pos r) (i 1) * x (ix3 (bat r) (pos r) (i 1)) * scale (xRow x (bat r) (pos r))

variable {x w g cp}

theorem dh_isReal (hw : ∀ i, IsReal (w i)) (hp : ∀ i, IsReal (cp i)) (b : Fin 2) (s : Fin 2048) (d : Fin 1024) :
    IsReal (dh w cp b s d) :=
  IsReal.sum _ fun _ => (hp _).mul (hw _)

/-- With finite arrays what comes back through the norm is the chain rule's. -/
theorem back_eq (hx : ∀ i, IsReal (x i)) (hw : ∀ i, IsReal (w i)) (hg : ∀ i, IsReal (g i)) (hp : ∀ i, IsReal (cp i))
    (b : Fin 2) (s : Fin 2048) (d : Fin 1024) :
    rowGrad (xRow x b s) (dh w cp b s) (fun k => g (ix1 k)) d = rowChain (xRow x b s) (dh w cp b s) (fun k => g (ix1 k)) d :=
  rowGrad_eq_rowChain (fun _ => hx _) (dh_isReal hw hp b s) (fun _ => hg _) d

end Cert.InSpec

end

end
-- ==== Proof.InKernel.lean ====
/- What the kernel of the input projection's backward pass leaves in its two results. -/
module

public import proofs.«01_k».proof.Proof.InSpec
public import proofs.«01_k».proof.Proof.Gen.InBwdIdeal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InBwdIdeal.Hand

open Cert.InBwdIdeal Cert.InBwdIdeal.Gen Cert.NormGrad Cert.InSpec
open Cert.OutSpec (A3 A1 AG bat pos)

/-! ## The arithmetic of one block -/

/-- The gradient after the norm: the seven products, added. -/
def dhBlk (a0 : FVec Ideal S512x1024 .bf16) (b0 : FVec Ideal S1x1024x1024 .bf16) (a1 : FVec Ideal S512x1024 .bf16) (b1 : FVec Ideal S1x1024x1024 .bf16)
    (a2 : FVec Ideal S512x1024 .bf16) (b2 : FVec Ideal S1x1024x1024 .bf16) (a3 : FVec Ideal S512x1024 .bf16) (b3 : FVec Ideal S1x1024x1024 .bf16)
    (a4 : FVec Ideal S512x1024 .bf16) (b4 : FVec Ideal S1x1024x1024 .bf16) (a5 : FVec Ideal S512x256 .bf16) (b5 : FVec Ideal S1x256x1024 .bf16)
    (a6 : FVec Ideal S512x1024 .bf16) (b6 : FVec Ideal S1x1024x1024 .bf16) : FVec Ideal S512x1024 .f32 :=
  k0_pay6 (k0_pay4 a0 b0 a1 b1 a2 b2 a3 b3) (k0_pay5 a4) b4 a5 b5 a6 b6

section Block

variable (a0 : FVec Ideal S512x1024 .bf16) (b0 : FVec Ideal S1x1024x1024 .bf16) (a1 : FVec Ideal S512x1024 .bf16) (b1 : FVec Ideal S1x1024x1024 .bf16)
    (a2 : FVec Ideal S512x1024 .bf16) (b2 : FVec Ideal S1x1024x1024 .bf16) (a3 : FVec Ideal S512x1024 .bf16) (b3 : FVec Ideal S1x1024x1024 .bf16)
    (a4 : FVec Ideal S512x1024 .bf16) (b4 : FVec Ideal S1x1024x1024 .bf16) (a5 : FVec Ideal S512x256 .bf16) (b5 : FVec Ideal S1x256x1024 .bf16)
    (a6 : FVec Ideal S512x1024 .bf16) (b6 : FVec Ideal S1x1024x1024 .bf16)

theorem dhBlk_at (p : Fin 512) (d : Fin 1024) :
    dhBlk a0 b0 a1 b1 a2 b2 a3 b3 a4 b4 a5 b5 a6 b6 (ix2 p d)
      = ∑ e : Fin 1024, a0 (ix2 p e) * b0 (ix3 0 e d) + ∑ e : Fin 1024, a1 (ix2 p e) * b1 (ix3 0 e d)
        + ∑ e : Fin 1024, a2 (ix2 p e) * b2 (ix3 0 e d) + ∑ e : Fin 1024, a3 (ix2 p e) * b3 (ix3 0 e d)
        + ∑ e : Fin 1024, a4 (ix2 p e) * b4 (ix3 0 e d) + ∑ e : Fin 256, a5 (ix2 p e) * b5 (ix3 0 e d)
        + ∑ e : Fin 1024, a6 (ix2 p e) * b6 (ix3 0 e d) := by
  pointwise [dhBlk, k0_pay6, k0_pay5, k0_pay4]

variable (x o : FVec Ideal S512x1024 .f32) (g : FVec Ideal S1x1024 .f32)

theorem dx_at (p : Fin 512) (d : Fin 1024) :
    k0_pay1 (k0_pay7 x) (k0_pay9 (k0_pay4 a0 b0 a1 b1 a2 b2 a3 b3) (k0_pay5 a4) b4 a5 b5 a6 b6 g)
        (k0_pay10 (k0_pay4 a0 b0 a1 b1 a2 b2 a3 b3) (k0_pay5 a4) b4 a5 b5 a6 b6 x g o) (k0_pay11 x) (ix2 p d)
      = o (ix2 p d) + rowGrad (fun k => x (ix2 p k)) (fun k => dhBlk a0 b0 a1 b1 a2 b2 a3 b3 a4 b4 a5 b5 a6 b6 (ix2 p k))
          (fun k => g (ix2 0 k)) d := by
  pointwise [k0_pay1, k0_pay7, k0_pay9, k0_pay10, k0_pay11, k0_pay8, rowGrad, scale, meanSq]
  rw [sub_eq_add_neg, sub_eq_add_neg, add_assoc]
  rfl

theorem dg_at (v : FVec Ideal S512x1024 .f32) (acc : FVec Ideal S1x1024 .f32) (d : Fin 1024) :
    k0_pay2 v (k0_pay7 x) (k0_pay8 x) acc (ix2 0 d)
      = acc (ix2 0 d) + ∑ p : Fin 512, v (ix2 p d) * x (ix2 p d) * scale (fun k => x (ix2 p k)) := by
  pointwise [k0_pay2, k0_pay7, k0_pay8, scale, meanSq]

end Block

theorem zeroG_at (j) : k0_pay3 (F := Ideal) j = 0 := by pointwise [k0_pay3]

/-! ## The blocks, as parts of the arguments -/

variable (m : (ℓ : Loc nD τ sig) → Buf (Elt Ideal) ℓ)

/-- The arguments. -/
abbrev xa (c : Dev nD) : A3 := m ((c.tc : Thread nD τ).loc main_arg0)
abbrev wi (c : Dev nD) : AW := m ((c.tc : Thread nD τ).loc main_arg1)
abbrev gp (c : Dev nD) : A1 := m ((c.tc : Thread nD τ).loc main_arg2)
abbrev cp (c : Dev nD) : AP := m ((c.tc : Thread nD τ).loc main_arg3)
abbrev cx (c : Dev nD) : A3 := m ((c.tc : Thread nD τ).loc main_arg4)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![0, 0, 0] ∧ win0_8.index t = ![t.val, 0] ∧ win0_9.index t = ![0, 0]
    ∧ win0_10.index t = ![t.val, 0] ∧ win0_11.index t = ![t.val, 0] ∧ win0_12.index t = ![0, 0] :=
  (by decide +kernel : ∀ t : Fin grid0.N, _)

/-- Row `p` of the block of point `t`, as a row of the array. -/
def rowOf (t : Fin cfg0.N) (p : Fin 512) : Fin 4096 :=
  ⟨t.val * 512 + p, by have := lt_of_lt_of_eq t.isLt N_0; omega⟩

section Reads

variable (c : Dev nD) (t : Fin cfg0.N) (p : Fin 512)

theorem p0_blk (e : Fin 1024) : (show FVec Ideal S512x1024 .bf16 from iblk m c 0 t) (ix2 p e) = cp m c (ix3 (bat (rowOf t p)) (pos (rowOf t p)) (c0 e)) := by
  blk_simp [iblk, idx t]
  entry_read
  pointwise
  blk_point [idx t, bat, pos, rowOf, c0]

theorem p1_blk (e : Fin 1024) : (show FVec Ideal S512x1024 .bf16 from iblk m c 1 t) (ix2 p e) = cp m c (ix3 (bat (rowOf t p)) (pos (rowOf t p)) (c1 e)) := by
  blk_simp [iblk, idx t]
  entry_read
  pointwise
  blk_point [idx t, bat, pos, rowOf, c1]

theorem p2_blk (e : Fin 1024) : (show FVec Ideal S512x1024 .bf16 from iblk m c 2 t) (ix2 p e) = cp m c (ix3 (bat (rowOf t p)) (pos (rowOf t p)) (c2 e)) := by
  blk_simp [iblk, idx t]
  entry_read
  pointwise
  blk_point [idx t, bat, pos, rowOf, c2]

theorem p3_blk (e : Fin 1024) : (show FVec Ideal S512x1024 .bf16 from iblk m c 3 t) (ix2 p e) = cp m c (ix3 (bat (rowOf t p)) (pos (rowOf t p)) (c3 e)) := by
  blk_simp [iblk, idx t]
  entry_read
  pointwise
  blk_point [idx t, bat, pos, rowOf, c3]

theorem p4_blk (e : Fin 1024) : (show FVec Ideal S512x1024 .bf16 from iblk m c 4 t) (ix2 p e) = cp m c (ix3 (bat (rowOf t p)) (pos (rowOf t p)) (c4 e)) := by
  blk_simp [iblk, idx t]
  entry_read
  pointwise
  blk_point [idx t, bat, pos, rowOf, c4]

theorem p5_blk (e : Fin 256) : (show FVec Ideal S512x256 .bf16 from iblk m c 5 t) (ix2 p e) = cp m c (ix3 (bat (rowOf t p)) (pos (rowOf t p)) (c5 e)) := by
  blk_simp [iblk, idx t]
  entry_read
  pointwise
  blk_point [idx t, bat, pos, rowOf, c5]

theorem p6_blk (e : Fin 1024) : (show FVec Ideal S512x1024 .bf16 from iblk m c 6 t) (ix2 p e) = cp m c (ix3 (bat (rowOf t p)) (pos (rowOf t p)) (c6 e)) := by
  blk_simp [iblk, idx t]
  entry_read
  pointwise
  blk_point [idx t, bat, pos, rowOf, c6]

theorem w_blk (e : Fin 6400) (d : Fin 1024) : (show FVec Ideal S1x6400x1024 .bf16 from iblk m c 7 t) (ix3 0 e d) = wi m c (ix2 d e) := by
  blk_simp [iblk, idx t]
  entry_read
  pointwise
  blk_point [idx t]

theorem x_blk (d : Fin 1024) : (show FVec Ideal S512x1024 .f32 from iblk m c 8 t) (ix2 p d) = xRow (xa m c) (bat (rowOf t p)) (pos (rowOf t p)) d := by
  blk_simp [iblk, idx t]
  entry_read
  pointwise [xRow]
  blk_point [idx t, bat, pos, rowOf]

theorem g_blk (d : Fin 1024) : (show FVec Ideal S1x1024 .f32 from iblk m c 9 t) (ix2 0 d) = gp m c (ix1 d) := by
  blk_simp [iblk, idx t]
  entry_read
  pointwise
  blk_point [idx t]

theorem cx_blk (d : Fin 1024) : (show FVec Ideal S512x1024 .f32 from iblk m c 10 t) (ix2 p d) = cx m c (ix3 (bat (rowOf t p)) (pos (rowOf t p)) d) := by
  blk_simp [iblk, idx t]
  entry_read
  pointwise
  blk_point [idx t, bat, pos, rowOf]

variable {b0 : FVec Ideal S1x1024x1024 .bf16} {b1 : FVec Ideal S1x1024x1024 .bf16} {b2 : FVec Ideal S1x1024x1024 .bf16}
  {b3 : FVec Ideal S1x1024x1024 .bf16} {b4 : FVec Ideal S1x1024x1024 .bf16} {b5 : FVec Ideal S1x256x1024 .bf16} {b6 : FVec Ideal S1x1024x1024 .bf16}
  (h0 : ∀ e d : Fin 1024, b0 (ix3 0 e d) = wi m c (ix2 d (c0 e))) (h1 : ∀ e d : Fin 1024, b1 (ix3 0 e d) = wi m c (ix2 d (c1 e)))
  (h2 : ∀ e d : Fin 1024, b2 (ix3 0 e d) = wi m c (ix2 d (c2 e))) (h3 : ∀ e d : Fin 1024, b3 (ix3 0 e d) = wi m c (ix2 d (c3 e)))
  (h4 : ∀ e d : Fin 1024, b4 (ix3 0 e d) = wi m c (ix2 d (c4 e))) (h5 : ∀ (e : Fin 256) (d : Fin 1024), b5 (ix3 0 e d) = wi m c (ix2 d (c5 e)))
  (h6 : ∀ e d : Fin 1024, b6 (ix3 0 e d) = wi m c (ix2 d (c6 e)))

include h0 h1 h2 h3 h4 h5 h6

/-- The gradient after the norm, of the rows of a block, over any arrays that hold the seven parts of the weights. -/
theorem dh_blk (d : Fin 1024) :
    dhBlk (iblk m c 0 t) b0 (iblk m c 1 t) b1 (iblk m c 2 t) b2 (iblk m c 3 t) b3 (iblk m c 4 t) b4 (iblk m c 5 t) b5 (iblk m c 6 t) b6 (ix2 p d)
      = dh (wi m c) (cp m c) (bat (rowOf t p)) (pos (rowOf t p)) d := by
  rw [dhBlk_at]
  unfold dh
  rw [sum_parts]
  refine congrArg₂ (· + ·) (congrArg₂ (· + ·) (congrArg₂ (· + ·) (congrArg₂ (· + ·) (congrArg₂ (· + ·) (congrArg₂ (· + ·) ?_ ?_) ?_) ?_) ?_) ?_) ?_
  · exact Finset.sum_congr rfl fun e _ => congrArg₂ (· * ·) (p0_blk m c t p e) (h0 e d)
  · exact Finset.sum_congr rfl fun e _ => congrArg₂ (· * ·) (p1_blk m c t p e) (h1 e d)
  · exact Finset.sum_congr rfl fun e _ => congrArg₂ (· * ·) (p2_blk m c t p e) (h2 e d)
  · exact Finset.sum_congr rfl fun e _ => congrArg₂ (· * ·) (p3_blk m c t p e) (h3 e d)
  · exact Finset.sum_congr rfl fun e _ => congrArg₂ (· * ·) (p4_blk m c t p e) (h4 e d)
  · exact Finset.sum_congr rfl fun e _ => congrArg₂ (· * ·) (p5_blk m c t p e) (h5 e d)
  · exact Finset.sum_congr rfl fun e _ => congrArg₂ (· * ·) (p6_blk m c t p e) (h6 e d)

theorem dx_blk (d : Fin 1024) :
    k0_pay1 (k0_pay7 (iblk m c 8 t))
        (k0_pay9 (k0_pay4 (iblk m c 0 t) b0 (iblk m c 1 t) b1 (iblk m c 2 t) b2 (iblk m c 3 t) b3) (k0_pay5 (iblk m c 4 t)) b4 (iblk m c 5 t) b5 (iblk m c 6 t) b6 (iblk m c 9 t))
        (k0_pay10 (k0_pay4 (iblk m c 0 t) b0 (iblk m c 1 t) b1 (iblk m c 2 t) b2 (iblk m c 3 t) b3) (k0_pay5 (iblk m c 4 t)) b4 (iblk m c 5 t) b5 (iblk m c 6 t) b6 (iblk m c 8 t) (iblk m c 9 t) (iblk m c 10 t))
        (k0_pay11 (iblk m c 8 t)) (ix2 p d)
      = dx (xa m c) (wi m c) (gp m c) (cp m c) (cx m c) (ix2 (rowOf t p) d) := by
  refine (dx_at ..).trans (congrArg₂ (· + ·) (cx_blk m c t p d) ?_)
  refine congrFun (congr (congr (congrArg rowGrad ?_) ?_) ?_) d
  · exact funext fun k => x_blk m c t p k
  · exact funext fun k => dh_blk m c t p h0 h1 h2 h3 h4 h5 h6 k
  · exact funext fun k => g_blk m c t k

end Reads

/-- A sum over the rows of the array, point by point. -/
theorem sum_rows (f : Fin 4096 → EReal) : ∑ r, f r = ∑ t : Fin cfg0.N, ∑ p : Fin 512, f (rowOf t p) :=
  Fin.sum_univ_tiles 8 512 rfl f

/-- What one point adds to the gradient of the norm's weights. -/
def dgTerm (c : Dev nD) (t : Fin cfg0.N) (j : S1x1024.Idx) : EReal :=
  ∑ p : Fin 512, dh (wi m c) (cp m c) (bat (rowOf t p)) (pos (rowOf t p)) (j 1) * xa m c (ix3 (bat (rowOf t p)) (pos (rowOf t p)) (j 1))
    * scale (xRow (xa m c) (bat (rowOf t p)) (pos (rowOf t p)))

theorem dg_blk (c : Dev nD) (t : Fin cfg0.N) (v : FVec Ideal S512x1024 .f32)
    (hv : ∀ p d, v (ix2 p d) = dh (wi m c) (cp m c) (bat (rowOf t p)) (pos (rowOf t p)) d) (acc : FVec Ideal S1x1024 .f32) (j : S1x1024.Idx) :
    k0_pay2 (F := Ideal) v (k0_pay7 (iblk m c 8 t)) (k0_pay8 (iblk m c 8 t)) acc j = acc j + dgTerm m c t j := by
  idx_vars j
  obtain rfl : j0 = 0 := Fin.ext (by omega)
  refine (dg_at _ _ acc j1).trans (congrArg (acc (ix2 0 j1) + ·) (Finset.sum_congr rfl fun p _ => ?_))
  refine congrArg₂ (· * ·) (congrArg₂ (· * ·) (hv p j1) (x_blk m c t p j1)) ?_
  exact congrArg scale (funext fun k => x_blk m c t p k)

/-! ## The two results -/

theorem final11 (c : Dev nD) : (dats m 0 c).arrAt 11 (cfgs 0).N = dx (xa m c) (wi m c) (gp m c) (cp m c) (cx m c) := by
  refine (dats m 0 c).arrAt_eq_of_covers 11 _ (by decide +kernel) fun t _ y => ?_
  obtain ⟨p, e, rfl⟩ : ∃ (p : Fin 512) (e : Fin 1024), y = ix2 p e := ⟨y 0, y 1, eq_ix2 y⟩
  blk_simp
  rw [after0_11]
  by_cases h : t.val % 8 = 0
  · rw [outsAt0_A m c t h]
    frame_out
    refine (dx_blk m c t p ?_ ?_ ?_ ?_ ?_ ?_ ?_ e).trans (congrArg _ ?_)
    on_goal 8 => blk_ext [idx t, rowOf]
    all_goals
      intro e d
      pointwise
      exact w_blk m c t _ d
  · rw [outsAt0_B m c t h]
    frame_out
    refine (dx_blk m c t p ?_ ?_ ?_ ?_ ?_ ?_ ?_ e).trans (congrArg _ ?_)
    on_goal 8 => blk_ext [idx t, rowOf]
    all_goals
      intro e d
      pointwise
      exact w_blk m c t _ d

theorem step12_A (c : Dev nD) (t : Fin cfg0.N) (h : t.val % 8 = 0) (j : S1x1024.Idx) :
    (outsAt0 m c t.val t.isLt).2 j = dgTerm m c t j := by
  rw [outsAt0_A m c t h]
  frame_out
  refine (dg_blk m c t _ (fun p d => dh_blk m c t p ?_ ?_ ?_ ?_ ?_ ?_ ?_ d) _ j).trans ?_
  on_goal 8 => rw [zeroG_at, zero_add]
  all_goals
    intro e d
    pointwise
    exact w_blk m c t _ d

theorem step12_B (c : Dev nD) (t : Fin cfg0.N) (h : ¬ t.val % 8 = 0) (j : S1x1024.Idx) :
    (outsAt0 m c t.val t.isLt).2 j = (outsAt0 m c (t.val - 1) (by have := t.isLt; omega)).2 j + dgTerm m c t j := by
  rw [outsAt0_B m c t h]
  frame_out
  refine (dg_blk m c t _ (fun p d => dh_blk m c t p ?_ ?_ ?_ ?_ ?_ ?_ ?_ d) _ j)
  all_goals
    intro e d
    pointwise
    exact w_blk m c t _ d

theorem final12 (c : Dev nD) : (dats m 0 c).arrAt 12 (cfgs 0).N = dg (xa m c) (wi m c) (cp m c) := by
  refine (dats m 0 c).arrAt_eq_of_after_last 12 t0_7 (by decide +kernel) _ fun j => ?_
  blk_simp
  rw [after0_12, Pipeline.eq_sum_fin_of_reset_step_apply_last (fun n h => (outsAt0 m c n h).2) 8 (fun _ => 0) (fun t j => dgTerm m c t j)
    (fun t h j => by rw [step12_A m c t h, zero_add])
    (fun t h j => step12_B m c t h j)
    (le_of_eq N_0) t0_7 rfl j, zero_add]
  exact (sum_rows (fun r => dh (wi m c) (cp m c) (bat r) (pos r) (j 1) * xa m c (ix3 (bat r) (pos r) (j 1))
    * scale (xRow (xa m c) (bat r) (pos r)))).symm

end Cert.InBwdIdeal.Hand

end

end
-- ==== Proof.InReference.lean ====
/- What the reference of the input projection's backward pass computes: the same gradients, at finite arrays. -/
module

public import proofs.«01_k».proof.Proof.InSpec
public import proofs.«01_k».proof.Proof.Gen.InBwdRefIdeal.Run
public import Idealize.ShloMosaic.Lib.Claim

@[expose] public section

set_option maxRecDepth 16384

noncomputable section

open Idealize.ShloMosaic Idealize.ShloMosaic.TcCoe Idealize.SL.Sem

namespace Cert.InBwdRefIdeal.Hand

open Cert.InBwdRefIdeal Cert.InBwdRefIdeal.Gen Cert.NormGrad Cert.InSpec Cert.Reals
open Cert.OutSpec (A3 A1 AG bat pos sum_flat)

section Terms

variable (x : FVec Ideal S2x2048x1024 .f32) (w : FVec Ideal S1024x6400 .f32) (g : FVec Ideal S1024 .f32)
  (cp : FVec Ideal S2x2048x6400 .f32) (cx : FVec Ideal S2x2048x1024 .f32)

/-- The gradient after the norm. -/
def tH : FVec Ideal S2x2048x1024 .f32 := Host.dotGeneral dot_S2x2048x6400_S1024x6400_S2x2048x1024_2_1_01_0_n_n none cp w

/-- The mean square of the rows, with the small number. -/
def tZ : FVec Ideal S2x2048x1 .f32 :=
  addf (Host.divf (broadcastInDim S2x2048x1 ![0, 1] bcast_S2x2048_S2x2048x1_0_1
      (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

variable (h : FVec Ideal S2x2048x1024 .f32)

/-- The gradient after the norm times the norm's weights. -/
def tGy : FVec Ideal S2x2048x1024 .f32 :=
  mulf h (broadcastInDim S2x2048x1024 ![0, 1, 2] bcast_S1x1x1024_S2x2048x1024_0_1_2 (broadcastInDim S1x1x1024 ![2] bcast_S1024_S1x1x1024_2 g))

/-- What comes back through the mean square. -/
def tQ : FVec Ideal S2x2048x1024 .f32 :=
  broadcastInDim S2x2048x1024 ![0, 1] bcast_S2x2048_S2x2048x1024_0_1
    (Host.reduceAdd (Host.divf (mulf
      (shapeCast S2x2048x1 (Host.reduceAdd (mulf x (tGy g h)) (constant S_ .f32 0x00000000#32) reducesTo_S2x2048x1024_S2x2048_d2 h_S_) shapeCasts_S2x2048_S2x2048x1)
      (mulf (broadcastInDim S2x2048x1 ![] bcast_S_S2x2048x1 (constant S_ .f32 0xBF000000#32)) (Host.divf (Host.rsqrt (tZ x)) (tZ x))))
      (broadcastInDim S2x2048x1 ![] bcast_S_S2x2048x1 (constant S_ .f32 0x44800000#32)))
      (constant S_ .f32 0x00000000#32) reducesTo_S2x2048x1_S2x2048_d2 h_S_)

/-- The gradient of the layer's input. -/
def tD : FVec Ideal S2x2048x1024 .f32 :=
  addf (addf (addf cx (mulf (tGy g h) (broadcastInDim S2x2048x1024 ![0, 1, 2] bcast_S2x2048x1_S2x2048x1024_0_1_2 (Host.rsqrt (tZ x)))))
    (mulf x (tQ x g h))) (mulf (tQ x g h) x)

/-- The gradient of the norm's weights. -/
def tG : FVec Ideal S1x1024 .f32 :=
  shapeCast S1x1024 (Host.reduceAdd (shapeCast S1x1x1024 (Host.reduceAdd (mulf (mulf x
      (broadcastInDim S2x2048x1024 ![0, 1, 2] bcast_S2x2048x1_S2x2048x1024_0_1_2 (Host.rsqrt (tZ x)))) h)
      (constant S_ .f32 0x00000000#32) reducesTo_S2x2048x1024_S1024_d0_1 h_S_) shapeCasts_S1024_S1x1x1024)
    (constant S_ .f32 0x00000000#32) reducesTo_S1x1x1024_S1024_d0_1 h_S_) shapeCasts_S1024_S1x1024

/-! ## The parts read at an index -/

theorem tH_at (b : Fin 2) (s : Fin 2048) (d : Fin 1024) : tH w cp (ix3 b s d) = dh w cp b s d := by
  pointwise [tH, dh]

theorem tZ_at (b : Fin 2) (s : Fin 2048) (o : Fin 1) : tZ x (ix3 b s o) = meanSq fun k => x (ix3 b s k) := by
  pointwise [tZ, meanSq]

theorem tQ_at (b : Fin 2) (s : Fin 2048) (d : Fin 1024) :
    tQ x g h (ix3 b s d) = viaMean (fun k => x (ix3 b s k)) (fun k => h (ix3 b s k)) (fun k => g (ix1 k)) := by
  pointwise [tQ, tGy, tZ_at, viaMean, scale]
  exact Fin.sum_univ_one _

theorem tD_at (b : Fin 2) (s : Fin 2048) (d : Fin 1024) :
    tD x g cx h (ix3 b s d) = cx (ix3 b s d) + rowChain (fun k => x (ix3 b s k)) (fun k => h (ix3 b s k)) (fun k => g (ix1 k)) d := by
  pointwise [tD, tGy, tQ_at, tZ_at, rowChain, scale]
  simp only [add_assoc]

theorem tG_at (d : Fin 1024) :
    tG x h (ix2 0 d) = ∑ r : Fin 4096, h (ix3 (bat r) (pos r) d) * x (ix3 (bat r) (pos r) d) * scale (fun k => x (ix3 (bat r) (pos r) k)) := by
  rw [sum_flat fun b s => h (ix3 b s d) * x (ix3 b s d) * scale (fun k => x (ix3 b s k))]
  pointwise [tG, tZ_at, hostReduceAdd_leading, scale]
  simp only [Fin.sum_univ_one]
  ac_nf

end Terms

/-! ## The results -/

variable (m : (ℓ : Loc nD τ sig) → Buf (Elt Ideal) ℓ)

abbrev xa (c : Dev nD) : A3 := m ((c.tc : Thread nD τ).loc main_arg0)
abbrev wi (c : Dev nD) : AW := m ((c.tc : Thread nD τ).loc main_arg1)
abbrev gp (c : Dev nD) : A1 := m ((c.tc : Thread nD τ).loc main_arg2)
abbrev cp (c : Dev nD) : AP := m ((c.tc : Thread nD τ).loc main_arg3)
abbrev cx (c : Dev nD) : A3 := m ((c.tc : Thread nD τ).loc main_arg4)

theorem out0_eq (c : Dev nD) : Value.res_out0 m c
    = shapeCast S4096x1024 (tD (xa m c) (gp m c) (cx m c) (tH (wi m c) (cp m c))) shapeCasts_S2x2048x1024_S4096x1024 := rfl

variable (c : Dev nD)

theorem result0 (hx : ∀ i, IsReal (xa m c i)) (hw : ∀ i, IsReal (wi m c i)) (hg : ∀ i, IsReal (gp m c i)) (hp : ∀ i, IsReal (cp m c i)) :
    Value.res_out0 m c = dx (xa m c) (wi m c) (gp m c) (cp m c) (cx m c) := by
  rw [out0_eq]
  funext i
  idx_vars i
  pointwise [tD_at, tH_at]
  refine congrArg₂ (· + ·) rfl ?_
  exact (back_eq hx hw hg hp (bat i0) (pos i0) i1).symm

theorem result1 : tG (xa m c) (tH (wi m c) (cp m c)) = dg (xa m c) (wi m c) (cp m c) := by
  funext i
  idx_vars i
  obtain rfl : i0 = 0 := Fin.ext (by omega)
  rw [tG_at]
  simp only [tH_at]
  rfl

end Cert.InBwdRefIdeal.Hand

end

end
-- ==== Proof.InClaim.lean ====
/- The input projection's backward pass and its reference compute the same function at finite arguments. -/
module

public import proofs.«01_k».proof.Defs
public import proofs.«01_k».proof.Proof.Finite
public import proofs.«01_k».proof.Proof.InKernel
public import proofs.«01_k».proof.Proof.InReference
public import proofs.«01_k».proof.Proof.Gen.InBwdIdeal.Value
public import proofs.«01_k».proof.Proof.Gen.Pre_in_finite
public import Idealize.ShloMosaic.Lib.Claim

@[expose] public section

set_option maxRecDepth 16384

noncomputable section

open Idealize.ShloMosaic Idealize.ShloMosaic.TcCoe Idealize.SL.Sem

namespace Cert.Proof

open Cert.InSpec Cert.Reals

theorem in_algebraic : Cert.algebraic_InBwdIdeal_InBwdRefIdeal_pre_in_finite (hInBwdIdeal := Cert.InBwdIdeal.Gen.facts)
    (hInBwdRefIdeal := Cert.InBwdRefIdeal.Gen.facts) (hPre_in_finite := Cert.Pre_in_finite.Gen.facts) := by
  pair_intro
  · run_from Cert.InBwdIdeal.Value.run_blocks m g
  · run_from Cert.InBwdRefIdeal.Value.run m' g'
    all_goals
      have r0 := isReal_of_test _ _ (hpre c).1
      have r1 := isReal_of_test _ _ (hpre c).2.1
      have r2 := isReal_of_test _ _ (hpre c).2.2.1
      have r3 := isReal_of_test _ _ (hpre c).2.2.2
      obtain ⟨e0, e1, e2, e3, e4⟩ := hagree c
      rw [← e0] at r0
      rw [← e1] at r1
      rw [← e2] at r2
      rw [← e3] at r3
    on_goal 1 => refine (Cert.InBwdRefIdeal.Hand.result0 m' c r0 r1 r2 r3).trans (Eq.trans ?_ (Cert.InBwdIdeal.Hand.final11 m c).symm)
    on_goal 2 =>
      rw [← e0, ← e1, ← e3]
      refine (Cert.InBwdRefIdeal.Hand.result1 m' c).trans (Eq.trans ?_ (Cert.InBwdIdeal.Hand.final12 m c).symm)
    all_goals
      simp only [InBwdRefIdeal.Hand.xa, InBwdRefIdeal.Hand.wi, InBwdRefIdeal.Hand.gp, InBwdRefIdeal.Hand.cp, InBwdRefIdeal.Hand.cx, e0, e1, e2, e3, e4]

end Cert.Proof

end
-- ==== Proof.SwaBody.lean ====
/- The arithmetic of one grid point of the attention's backward pass, as operations on the vectors the point loads: one pair of heads after
   another, as the kernel's own text writes it. -/
module

public import proofs.«01_k».proof.Proof.Gen.SwaBwdIdeal.Value

@[expose] public section

set_option maxRecDepth 16384

noncomputable section

open Idealize.ShloMosaic Idealize.ShloMosaic.TcCoe Idealize.SL.Sem

namespace Cert.SwaBwdIdeal.Hand

open Cert.SwaBwdIdeal Cert.SwaBwdIdeal.Gen

abbrev V := FVec Ideal S128x128 .f32
abbrev W := FVec Ideal S256x128 .f32

/-- What one grid point loads: its number along the sequence, the queries, gates and upstream gradients of its eight pairs of heads, the tables,
    its keys and values and those of the block before, the sinks. -/
structure Blk where
  n : BitVec 32
  q : Fin 8 → Vec Ideal S128x128 .f32
  z : Fin 8 → Vec Ideal S128x128 .f32
  dc : Fin 8 → Vec Ideal S128x128 .f32
  cc : Vec Ideal S128x128 .f32
  sc : Vec Ideal S128x128 .f32
  cp : Vec Ideal S128x128 .f32
  sp : Vec Ideal S128x128 .f32
  kc : Vec Ideal S128x128 .f32
  kp : Vec Ideal S128x128 .f32
  vc : Vec Ideal S128x128 .f32
  vp : Vec Ideal S128x128 .f32
  sk : Fin 16 → Vec Ideal S1x1 .f32

/-- The group of key/value heads of a pair of query heads. -/
def grpOf (p : Fin 8) : Fin 2 := ⟨p.val / 4, by omega⟩

/-- The head of a pair. -/
def headOf (p : Fin 8) (hh : Fin 2) : Fin 16 := ⟨2 * p.val + hh.val, by omega⟩

/-- The rows of a head's half of a transposed pair. -/
def rsel : Fin 2 → IVec S128x1 1
  | 0 => k0_pay6
  | 1 => xori k0_pay6 (constantI S128x1 1 1#1)

/-- The lanes of a head's half of a pair. -/
def lsel : Fin 2 → IVec S1x128 1
  | 0 => k0_pay4
  | 1 => xori k0_pay4 (constantI S1x128 1 1#1)

def rmask (hh : Fin 2) : IVec S128x128 1 :=
  broadcastTo S128x128 (shapeCast S128x1 (rsel hh) shapeCasts_S128x1_S128x1) broadcasts_S128x1_S128x128
def lmask (hh : Fin 2) : IVec S128x128 1 :=
  broadcastTo S128x128 (shapeCast S1x128 (lsel hh) shapeCasts_S1x128_S1x128) broadcasts_S1x128_S128x128
def lowW : IVec S256x128 1 :=
  broadcastTo S256x128 (shapeCast S1x128 k0_pay4 shapeCasts_S1x128_S1x128) broadcasts_S1x128_S256x128

def attMask (n : BitVec 32) : IVec S256x128 1 := k0_pay8 n (iota .tc S256x128 32 [0] iota_S256x128_d0_w32) k0_pay7

def cast1 (x : Vec Ideal S128x128 .f32) : V := shapeCast S128x128 x shapeCasts_S128x128_S128x128

def swapHalves (x : V) : V :=
  select (broadcastTo S128x128 (shapeCast S1x128 k0_pay5 shapeCasts_S1x128_S1x128) broadcasts_S1x128_S128x128)
    (dynamicRotate 1 96#32 none x rotates_S128x128_d1) (dynamicRotate 1 32#32 none x rotates_S128x128_d1)

def rope (x c s : V) : V := addf (mulf x c) (mulf (swapHalves x) s)
def ropeBwd (y c s : V) : V := addf (mulf y c) (swapHalves (mulf y s))

def rollW (x : W) : W := dynamicRotate 1 64#32 none x rotates_S256x128_d1
def dup (x : W) : Fin 2 → W
  | 0 => select lowW x (rollW x)
  | 1 => select lowW (rollW x) x

def kRows (D : Blk) : W :=
  concatenate S256x128 0 [⟨S128x128, rope (cast1 D.kp) (cast1 D.cp) (cast1 D.sp)⟩, ⟨S128x128, rope (cast1 D.kc) (cast1 D.cc) (cast1 D.sc)⟩]
    concatenates_S128x128_S128x128_S256x128_d0
def vRows (D : Blk) : W :=
  concatenate S256x128 0 [⟨S128x128, cast1 D.vp⟩, ⟨S128x128, cast1 D.vc⟩] concatenates_S128x128_S128x128_S256x128_d0

def kd (D : Blk) (j : Fin 2) : FVec Ideal S256x128 .bf16 := truncf .bf16 (dup (kRows D) j) bitsLt_bf16_f32
def vd (D : Blk) (j : Fin 2) : FVec Ideal S256x128 .bf16 := truncf .bf16 (dup (vRows D) j) bitsLt_bf16_f32
def kdt (D : Blk) (j : Fin 2) : FVec Ideal S128x256 .bf16 :=
  truncf .bf16 (transpose S128x256 [1, 0] (dup (kRows D) j) transposes_S256x128_p1_0_S128x256) bitsLt_bf16_f32
def vdt (D : Blk) (j : Fin 2) : FVec Ideal S128x256 .bf16 :=
  truncf .bf16 (transpose S128x256 [1, 0] (dup (vRows D) j) transposes_S256x128_p1_0_S128x256) bitsLt_bf16_f32

def tr (x : V) : V := transpose S128x128 [1, 0] x transposes_S128x128_p1_0_S128x128
def zeroV : V := broadcast S128x128 (Scalar.ofBits .f32 0x00000000#32 : Ideal .f32)
def oneV : V := broadcast S128x128 (Scalar.ofBits .f32 0x3F800000#32 : Ideal .f32)

def qp (D : Blk) (p : Fin 8) : V := rope (cast1 (D.q p)) (cast1 D.cc) (cast1 D.sc)
def sg (D : Blk) (p : Fin 8) : V := divf oneV (addf oneV (exp (subf zeroV (cast1 (D.z p)))))
def dOut (D : Blk) (p : Fin 8) : V := mulf (cast1 (D.dc p)) (mulf (cast1 (D.z p)) (sg D p))

def score (D : Blk) (p : Fin 8) (hh : Fin 2) : W :=
  select (attMask D.n)
    (mulf (matmul dot_S256x128_S128x128_S256x128_1_0_0_1_n_n none (kd D (grpOf p))
        (truncf .bf16 (select (rmask hh) (tr (qp D p)) zeroV) bitsLt_bf16_f32) (constant S256x128 .f32 0x00000000#32))
      (broadcast S256x128 (Scalar.ofBits .f32 0x3E000000#32 : Ideal .f32)))
    (broadcast S256x128 (Named.named κ "mask" 0xF149F2CA#32 : Ideal .f32))

def sink (D : Blk) (p : Fin 8) (hh : Fin 2) : FVec Ideal S1x128 .f32 :=
  broadcastTo S1x128 (shapeCast S1x1 (D.sk (headOf p hh)) shapeCasts_S1x1_S1x1) broadcasts_S1x1_S1x128

def top (D : Blk) (p : Fin 8) (hh : Fin 2) : FVec Ideal S1x128 .f32 :=
  maximumf (shapeCast S1x128 (multiReduction .maximumf [0] S128 (score D p hh) 0xFF800000#32 reduces_S256x128_S128 (.inl rfl) rfl) shapeCasts_S128_S1x128)
    (sink D p hh)
def ex (D : Blk) (p : Fin 8) (hh : Fin 2) : W :=
  exp (subf (score D p hh) (broadcastTo S256x128 (top D p hh) broadcasts_S1x128_S256x128))
def exSink (D : Blk) (p : Fin 8) (hh : Fin 2) : FVec Ideal S1x128 .f32 := exp (subf (sink D p hh) (top D p hh))
def inv (D : Blk) (p : Fin 8) (hh : Fin 2) : FVec Ideal S1x128 .f32 :=
  divf (broadcast S1x128 (Scalar.ofBits .f32 0x3F800000#32 : Ideal .f32))
    (addf (shapeCast S1x128 (multiReduction .add [0] S128 (ex D p hh) 0x00000000#32 reduces_S256x128_S128 (.inl rfl) rfl) shapeCasts_S128_S1x128)
      (exSink D p hh))
def pn (D : Blk) (p : Fin 8) (hh : Fin 2) : W := mulf (ex D p hh) (broadcastTo S256x128 (inv D p hh) broadcasts_S1x128_S256x128)
def psn (D : Blk) (p : Fin 8) (hh : Fin 2) : FVec Ideal S1x128 .f32 := mulf (exSink D p hh) (inv D p hh)
def oHead (D : Blk) (p : Fin 8) (hh : Fin 2) : V :=
  matmul dot_S128x256_S256x128_S128x128_1_0_0_1_n_n none (vdt D (grpOf p)) (truncf .bf16 (pn D p hh) bitsLt_bf16_f32) (constant S128x128 .f32 0x00000000#32)
def oPair (D : Blk) (p : Fin 8) : V := select (rmask 0) (oHead D p 0) (oHead D p 1)

/-- The gradient of the gates of a pair. -/
def dzPair (D : Blk) (p : Fin 8) : FVec Ideal S128x128 .bf16 :=
  truncf .bf16 (mulf (mulf (cast1 (D.dc p)) (tr (oPair D p)))
    (mulf (sg D p) (addf oneV (mulf (cast1 (D.z p)) (subf oneV (sg D p)))))) bitsLt_bf16_f32

def doHead (D : Blk) (p : Fin 8) (hh : Fin 2) : V := select (rmask hh) (tr (dOut D p)) zeroV
def delta (D : Blk) (p : Fin 8) (hh : Fin 2) : FVec Ideal S1x128 .f32 :=
  shapeCast S1x128 (multiReduction .add [0] S128 (mulf (doHead D p hh) (oPair D p)) 0x00000000#32 reduces_S128x128_S128 (.inl rfl) rfl) shapeCasts_S128_S1x128
def dst (D : Blk) (p : Fin 8) (hh : Fin 2) : FVec Ideal S256x128 .bf16 :=
  truncf .bf16 (mulf (mulf (pn D p hh)
      (subf (matmul dot_S256x128_S128x128_S256x128_1_0_0_1_n_n none (vd D (grpOf p)) (truncf .bf16 (doHead D p hh) bitsLt_bf16_f32) (constant S256x128 .f32 0x00000000#32))
        (broadcastTo S256x128 (delta D p hh) broadcasts_S1x128_S256x128)))
    (broadcast S256x128 (Scalar.ofBits .f32 0x3E000000#32 : Ideal .f32))) bitsLt_bf16_f32

/-- What a head leaves of its sink's gradient, over the row `r` it finds. -/
def dskRow (D : Blk) (p : Fin 8) (hh : Fin 2) (r : Vec Ideal S1x128 .f32) : FVec Ideal S1x128 .f32 :=
  addf (shapeCast S1x128 r shapeCasts_S1x128_S1x128)
    (subf (broadcast S1x128 (Scalar.ofBits .f32 0x00000000#32 : Ideal .f32))
      (broadcast S1x128 (extractAt ![0, 0, 0] (shapeCast S1x1x1
        (multiReduction .add [1, 2] S1 (shapeCast S1x1x128 (mulf (psn D p hh) (delta D p hh)) shapeCasts_S1x128_S1x1x128) 0x00000000#32
          reduces_S1x1x128_S1 (.inl rfl) rfl) shapeCasts_S1_S1x1x1) inpos_S1x1x1_p0_0_0)))

def dqHead (D : Blk) (p : Fin 8) (hh : Fin 2) : V :=
  matmul dot_S128x256_S256x128_S128x128_1_0_0_1_n_n none (kdt D (grpOf p)) (dst D p hh) (constant S128x128 .f32 0x00000000#32)

/-- The gradient of the queries of a pair. -/
def dqPair (D : Blk) (p : Fin 8) : FVec Ideal S128x128 .bf16 :=
  truncf .bf16 (ropeBwd (tr (select (rmask 0) (dqHead D p 0) (dqHead D p 1))) (cast1 D.cc) (cast1 D.sc)) bitsLt_bf16_f32

/-- What a head leaves for the gradients of the keys and values. -/
def dsS (D : Blk) (p : Fin 8) (hh : Fin 2) : FVec Ideal S256x128 .bf16 := shapeCast S256x128 (dst D p hh) shapeCasts_S256x128_S256x128
def pnS (D : Blk) (p : Fin 8) (hh : Fin 2) : FVec Ideal S256x128 .bf16 :=
  shapeCast S256x128 (truncf .bf16 (pn D p hh) bitsLt_bf16_f32) shapeCasts_S256x128_S256x128
def qS (D : Blk) (p : Fin 8) (hh : Fin 2) : FVec Ideal S128x128 .bf16 :=
  shapeCast S128x128 (truncf .bf16 (select (lmask hh) (qp D p) zeroV) bitsLt_bf16_f32) shapeCasts_S128x128_S128x128
def doS (D : Blk) (p : Fin 8) (hh : Fin 2) : FVec Ideal S128x128 .bf16 :=
  shapeCast S128x128 (truncf .bf16 (select (lmask hh) (dOut D p) zeroV) bitsLt_bf16_f32) shapeCasts_S128x128_S128x128

def prodW (a : FVec Ideal S256x1024 .bf16) (b : FVec Ideal S1024x128 .bf16) : W :=
  matmul dot_S256x1024_S1024x128_S256x128_1_0_0_1_n_n none a b (constant S256x128 .f32 0x00000000#32)

/-- The two groups' gradients, folded back onto the halves of the lanes. -/
def fold2 (x y : W) : W := select lowW (addf x (rollW x)) (addf y (rollW y))
def rowsHi (x : W) : V := extractStridedSlice S128x128 ![128, 0] x slices_S256x128_o128_0_S128x128
def rowsLo (x : W) : V := extractStridedSlice S128x128 ![0, 0] x slices_S256x128_o0_0_S128x128

def dkOut (D : Blk) (x : W) (cr : Vec Ideal S128x128 .f32) : FVec Ideal S128x128 .bf16 :=
  truncf .bf16 (addf (ropeBwd (rowsHi x) (cast1 D.cc) (cast1 D.sc)) cr) bitsLt_bf16_f32
def dvOut (x : W) (cr : Vec Ideal S128x128 .f32) : FVec Ideal S128x128 .bf16 := truncf .bf16 (addf (rowsHi x) cr) bitsLt_bf16_f32
def dkCarry (D : Blk) (x : W) : V := shapeCast S128x128 (ropeBwd (rowsLo x) (cast1 D.cp) (cast1 D.sp)) shapeCasts_S128x128_S128x128
def dvCarry (x : W) : V := shapeCast S128x128 (rowsLo x) shapeCasts_S128x128_S128x128

/-! ## The vectors a grid point loads -/

theorem inbP (p : Fin 8) : ∀ a, (![0, 128 * p.val] : Fin 2 → Nat) a + S128x128.size a ≤ S128x1024.size a := by revert p; decide
theorem inbS (h : Fin 16) : ∀ a, (![h.val, 0] : Fin 2 → Nat) a + S1x1.size a ≤ S16x128.size a := by revert h; decide

/-- The memrefs of a grid point: its ten inputs, its four results, the carried rows and the four stacks of heads, each whole. -/
structure Mems where
  a2 : Memref sig .tc .vmem S128x1024 .f32
  w2 : a2.IsWhole
  a3 : Memref sig .tc .vmem S128x1024 .f32
  w3 : a3.IsWhole
  a4 : Memref sig .tc .vmem S128x256 .f32
  w4 : a4.IsWhole
  a5 : Memref sig .tc .vmem S128x256 .f32
  w5 : a5.IsWhole
  a6 : Memref sig .tc .vmem S16x128 .f32
  w6 : a6.IsWhole
  a7 : Memref sig .tc .vmem S128x128 .f32
  w7 : a7.IsWhole
  a8 : Memref sig .tc .vmem S128x128 .f32
  w8 : a8.IsWhole
  a9 : Memref sig .tc .vmem S128x128 .f32
  w9 : a9.IsWhole
  a10 : Memref sig .tc .vmem S128x128 .f32
  w10 : a10.IsWhole
  a11 : Memref sig .tc .vmem S128x1024 .f32
  w11 : a11.IsWhole
  a12 : Memref sig .tc .vmem S128x1024 .bf16
  w12 : a12.IsWhole
  a13 : Memref sig .tc .vmem S128x1024 .bf16
  w13 : a13.IsWhole
  a14 : Memref sig .tc .vmem S128x256 .bf16
  w14 : a14.IsWhole
  a15 : Memref sig .tc .vmem S16x128 .f32
  w15 : a15.IsWhole
  a16 : Memref sig .tc .vmem S128x256 .f32
  w16 : a16.IsWhole
  a17 : Memref sig .tc .vmem S256x1024 .bf16
  w17 : a17.IsWhole
  a18 : Memref sig .tc .vmem S256x1024 .bf16
  w18 : a18.IsWhole
  a19 : Memref sig .tc .vmem S1024x128 .bf16
  w19 : a19.IsWhole
  a20 : Memref sig .tc .vmem S1024x128 .bf16
  w20 : a20.IsWhole

/-- What the inputs hold. -/
structure Ins where
  x0 : Vec Ideal S128x1024 .f32
  x1 : Vec Ideal S128x1024 .f32
  x2 : Vec Ideal S128x256 .f32
  x3 : Vec Ideal S128x256 .f32
  x4 : Vec Ideal S16x128 .f32
  x5 : Vec Ideal S128x128 .f32
  x6 : Vec Ideal S128x128 .f32
  x7 : Vec Ideal S128x128 .f32
  x8 : Vec Ideal S128x128 .f32
  x9 : Vec Ideal S128x1024 .f32

/-- The loads of the point with coordinates `i`. -/
def blkOf (i : grid0.Coords) (M : Mems) (X : Ins) : Blk where
  n := Scalar.subi 15#32 (BitVec.ofNat 32 (i 1).val)
  q p := View.readAt (Elt Ideal) M.a2.view (Rect.unit (s := S128x1024) ![0, 128 * p.val] S128x128.size (inbP p)).toLoadRect (M.w2.unread X.x0)
  z p := View.readAt (Elt Ideal) M.a3.view (Rect.unit (s := S128x1024) ![0, 128 * p.val] S128x128.size (inbP p)).toLoadRect (M.w3.unread X.x1)
  dc p := View.readAt (Elt Ideal) M.a11.view (Rect.unit (s := S128x1024) ![0, 128 * p.val] S128x128.size (inbP p)).toLoadRect (M.w11.unread X.x9)
  cc := View.readAt (Elt Ideal) M.a7.view (Rect.unit (s := S128x128) ![0, 0] S128x128.size inb_S128x128_S128x128_0_0).toLoadRect (M.w7.unread X.x5)
  sc := View.readAt (Elt Ideal) M.a8.view (Rect.unit (s := S128x128) ![0, 0] S128x128.size inb_S128x128_S128x128_0_0).toLoadRect (M.w8.unread X.x6)
  cp := View.readAt (Elt Ideal) M.a9.view (Rect.unit (s := S128x128) ![0, 0] S128x128.size inb_S128x128_S128x128_0_0).toLoadRect (M.w9.unread X.x7)
  sp := View.readAt (Elt Ideal) M.a10.view (Rect.unit (s := S128x128) ![0, 0] S128x128.size inb_S128x128_S128x128_0_0).toLoadRect (M.w10.unread X.x8)
  kc := View.readAt (Elt Ideal) M.a4.view (Rect.unit (s := S128x256) ![0, 0] S128x128.size inb_S128x256_S128x128_0_0).toLoadRect (M.w4.unread X.x2)
  kp := View.readAt (Elt Ideal) M.a5.view (Rect.unit (s := S128x256) ![0, 0] S128x128.size inb_S128x256_S128x128_0_0).toLoadRect (M.w5.unread X.x3)
  vc := View.readAt (Elt Ideal) M.a4.view (Rect.unit (s := S128x256) ![0, 128] S128x128.size inb_S128x256_S128x128_0_128).toLoadRect (M.w4.unread X.x2)
  vp := View.readAt (Elt Ideal) M.a5.view (Rect.unit (s := S128x256) ![0, 128] S128x128.size inb_S128x256_S128x128_0_128).toLoadRect (M.w5.unread X.x3)
  sk h := View.readAt (Elt Ideal) M.a6.view (Rect.unit (s := S16x128) ![h.val, 0] S1x1.size (inbS h)).toLoadRect (M.w6.unread X.x4)

/-- Eight columns of 128 lanes, as the kernel stores them. -/
def cols (f : Fin 8 → FVec Ideal S128x128 .bf16) : List (View.Piece (Elt Ideal) S128x1024 .bf16) :=
  [⟨Rect.unit (s := S128x1024) ![0, 896] S128x128.size inb_S128x1024_S128x128_0_896, f 7⟩,
   ⟨Rect.unit (s := S128x1024) ![0, 768] S128x128.size inb_S128x1024_S128x128_0_768, f 6⟩,
   ⟨Rect.unit (s := S128x1024) ![0, 640] S128x128.size inb_S128x1024_S128x128_0_640, f 5⟩,
   ⟨Rect.unit (s := S128x1024) ![0, 512] S128x128.size inb_S128x1024_S128x128_0_512, f 4⟩,
   ⟨Rect.unit (s := S128x1024) ![0, 384] S128x128.size inb_S128x1024_S128x128_0_384, f 3⟩,
   ⟨Rect.unit (s := S128x1024) ![0, 256] S128x128.size inb_S128x1024_S128x128_0_256, f 2⟩,
   ⟨Rect.unit (s := S128x1024) ![0, 128] S128x128.size inb_S128x1024_S128x128_0_128, f 1⟩,
   ⟨Rect.unit (s := S128x1024) ![0, 0] S128x128.size inb_S128x1024_S128x128_0_0, f 0⟩]

/-- The pair, and the head of the pair, of the `g`-th head of a group. -/
def prOf (b : Fin 2) (g : Fin 8) : Fin 8 := ⟨4 * b.val + g.val / 2, by omega⟩
def hdOf (g : Fin 8) : Fin 2 := ⟨g.val % 2, by omega⟩

/-- The eight heads of a group side by side, and one under another, as the kernel stores them. -/
def stW (f : Fin 8 → FVec Ideal S256x128 .bf16) : List (View.Piece (Elt Ideal) S256x1024 .bf16) :=
  [⟨Rect.unit (s := S256x1024) ![0, 896] S256x128.size inb_S256x1024_S256x128_0_896, f 7⟩,
   ⟨Rect.unit (s := S256x1024) ![0, 640] S256x128.size inb_S256x1024_S256x128_0_640, f 5⟩,
   ⟨Rect.unit (s := S256x1024) ![0, 384] S256x128.size inb_S256x1024_S256x128_0_384, f 3⟩,
   ⟨Rect.unit (s := S256x1024) ![0, 128] S256x128.size inb_S256x1024_S256x128_0_128, f 1⟩,
   ⟨Rect.unit (s := S256x1024) ![0, 768] S256x128.size inb_S256x1024_S256x128_0_768, f 6⟩,
   ⟨Rect.unit (s := S256x1024) ![0, 512] S256x128.size inb_S256x1024_S256x128_0_512, f 4⟩,
   ⟨Rect.unit (s := S256x1024) ![0, 256] S256x128.size inb_S256x1024_S256x128_0_256, f 2⟩,
   ⟨Rect.unit (s := S256x1024) ![0, 0] S256x128.size inb_S256x1024_S256x128_0_0, f 0⟩]
def stR (f : Fin 8 → FVec Ideal S128x128 .bf16) : List (View.Piece (Elt Ideal) S1024x128 .bf16) :=
  [⟨Rect.unit (s := S1024x128) ![896, 0] S128x128.size inb_S1024x128_S128x128_896_0, f 7⟩,
   ⟨Rect.unit (s := S1024x128) ![640, 0] S128x128.size inb_S1024x128_S128x128_640_0, f 5⟩,
   ⟨Rect.unit (s := S1024x128) ![384, 0] S128x128.size inb_S1024x128_S128x128_384_0, f 3⟩,
   ⟨Rect.unit (s := S1024x128) ![128, 0] S128x128.size inb_S1024x128_S128x128_128_0, f 1⟩,
   ⟨Rect.unit (s := S1024x128) ![768, 0] S128x128.size inb_S1024x128_S128x128_768_0, f 6⟩,
   ⟨Rect.unit (s := S1024x128) ![512, 0] S128x128.size inb_S1024x128_S128x128_512_0, f 4⟩,
   ⟨Rect.unit (s := S1024x128) ![256, 0] S128x128.size inb_S1024x128_S128x128_256_0, f 2⟩,
   ⟨Rect.unit (s := S1024x128) ![0, 0] S128x128.size inb_S1024x128_S128x128_0_0, f 0⟩]

def getW (arg : Memref sig .tc .vmem S256x1024 .bf16) (L : List (View.Piece (Elt Ideal) S256x1024 .bf16)) : FVec Ideal S256x1024 .bf16 :=
  arg.view.readCov L (Rect.unit (s := S256x1024) ![0, 0] S256x1024.size inb_S256x1024_S256x1024_0_0).toLoadRect
def getR (arg : Memref sig .tc .vmem S1024x128 .bf16) (L : List (View.Piece (Elt Ideal) S1024x128 .bf16)) : FVec Ideal S1024x128 .bf16 :=
  arg.view.readCov L (Rect.unit (s := S1024x128) ![0, 0] S1024x128.size inb_S1024x128_S1024x128_0_0).toLoadRect

/-- Over the key/value rows, both groups: `f`'s heads times `g`'s heads. -/
def sumW (aw : Memref sig .tc .vmem S256x1024 .bf16) (ar : Memref sig .tc .vmem S1024x128 .bf16)
    (f : Fin 2 → Fin 8 → FVec Ideal S256x128 .bf16) (g : Fin 2 → Fin 8 → FVec Ideal S128x128 .bf16) : W :=
  fold2 (prodW (getW aw (stW (f 0))) (getR ar (stR (g 0)))) (prodW (getW aw (stW (f 1) ++ stW (f 0))) (getR ar (stR (g 1) ++ stR (g 0))))
def dkSum (D : Blk) (aw : Memref sig .tc .vmem S256x1024 .bf16) (ar : Memref sig .tc .vmem S1024x128 .bf16) : W :=
  sumW aw ar (fun b g => dsS D (prOf b g) (hdOf g)) (fun b g => qS D (prOf b g) (hdOf g))
def dvSum (D : Blk) (aw : Memref sig .tc .vmem S256x1024 .bf16) (ar : Memref sig .tc .vmem S1024x128 .bf16) : W :=
  sumW aw ar (fun b g => pnS D (prOf b g) (hdOf g)) (fun b g => doS D (prOf b g) (hdOf g))

/-- The two halves of the keys' and values' gradients, and of what is carried to the block before. -/
def kvPieces (D : Blk) (x y : W) (ck cv : Vec Ideal S128x128 .f32) : List (View.Piece (Elt Ideal) S128x256 .bf16) :=
  [⟨Rect.unit (s := S128x256) ![0, 128] S128x128.size inb_S128x256_S128x128_0_128, dvOut y cv⟩,
   ⟨Rect.unit (s := S128x256) ![0, 0] S128x128.size inb_S128x256_S128x128_0_0, dkOut D x ck⟩]
def carryPieces (D : Blk) (x y : W) : List (View.Piece (Elt Ideal) S128x256 .f32) :=
  [⟨Rect.unit (s := S128x256) ![0, 128] S128x128.size inb_S128x256_S128x128_0_128, dvCarry y⟩,
   ⟨Rect.unit (s := S128x256) ![0, 0] S128x128.size inb_S128x256_S128x128_0_0, dkCarry D x⟩]

theorem inbD (h : Fin 16) : ∀ a, (![h.val, 0] : Fin 2 → Nat) a + S1x128.size a ≤ S16x128.size a := by revert h; decide
def rowR (h : Fin 16) : Rect S16x128 := Rect.unit (s := S16x128) ![h.val, 0] S1x128.size (inbD h)

/-- The heads in the order in which the kernel stores their sinks' gradients, last first. -/
def order : List (Fin 8 × Fin 2) :=
  [(7, 1), (6, 1), (5, 1), (4, 1), (7, 0), (6, 0), (5, 0), (4, 0), (3, 1), (2, 1), (1, 1), (0, 1), (3, 0), (2, 0), (1, 0), (0, 0)]

/-- The sinks' rows over what the point before left … -/
def dskOver (D : Blk) (row : Fin 16 → Vec Ideal S1x128 .f32) : List (Fin 8 × Fin 2) → List (View.Piece (Elt Ideal) S16x128 .f32)
  | [] => []
  | (p, hh) :: l => ⟨rowR (headOf p hh), dskRow D p hh (row (headOf p hh))⟩ :: dskOver D row l
/-- … and over the zeros of the first point. -/
def dskFresh (D : Blk) (arg15 : Memref sig .tc .vmem S16x128 .f32) : List (Fin 8 × Fin 2) → List (View.Piece (Elt Ideal) S16x128 .f32)
  | [] => [⟨Rect.unit (s := S16x128) ![0, 0] S16x128.size inb_S16x128_S16x128_0_0, (k0_pay2 (F := Ideal) : FVec Ideal S16x128 .f32)⟩]
  | (p, hh) :: l =>
    ⟨rowR (headOf p hh), dskRow D p hh (arg15.view.readCov (dskFresh D arg15 l) (rowR (headOf p hh)).toLoadRect)⟩ :: dskFresh D arg15 l

def fillC : List (View.Piece (Elt Ideal) S128x256 .f32) :=
  [⟨Rect.unit (s := S128x256) ![0, 0] S128x256.size inb_S128x256_S128x256_0_0, (k0_pay3 (F := Ideal) : FVec Ideal S128x256 .f32)⟩]

end Cert.SwaBwdIdeal.Hand

end

end
-- ==== Proof.SwaPieces.lean ====
/- The pieces each case of the attention's backward kernel stores, as the vectors of `SwaBody`. -/
module

public import proofs.«01_k».proof.Proof.SwaBody

@[expose] public section

set_option maxRecDepth 65536

noncomputable section

open Idealize.ShloMosaic Idealize.ShloMosaic.TcCoe Idealize.SL.Sem

namespace Cert.SwaBwdIdeal.Hand

open Cert.SwaBwdIdeal Cert.SwaBwdIdeal.Gen

/-- The pieces of the five buffers that are read after a point. -/
abbrev Five := List (View.Piece (Elt Ideal) S128x1024 .bf16) × List (View.Piece (Elt Ideal) S128x1024 .bf16)
  × List (View.Piece (Elt Ideal) S128x256 .bf16) × List (View.Piece (Elt Ideal) S16x128 .f32) × List (View.Piece (Elt Ideal) S128x256 .f32)

/-- A point's pieces: `rows` those of the sinks, `old` the carried halves it finds, `fill` what the carried buffer holds beneath. -/
def fiveOf (D : Blk) (M : Mems) (rows : List (View.Piece (Elt Ideal) S16x128 .f32)) (ck cv : Vec Ideal S128x128 .f32)
    (fill : List (View.Piece (Elt Ideal) S128x256 .f32)) : Five :=
  (cols (dqPair D), cols (dzPair D), kvPieces D (dkSum D M.a17 M.a19) (dvSum D M.a18 M.a20) ck cv, rows,
    carryPieces D (dkSum D M.a17 M.a19) (dvSum D M.a18 M.a20) ++ fill)

/-- The halves of the carried rows. -/
abbrev loR : Rect S128x256 := Rect.unit (s := S128x256) ![0, 0] S128x128.size inb_S128x256_S128x128_0_0
abbrev hiR : Rect S128x256 := Rect.unit (s := S128x256) ![0, 128] S128x128.size inb_S128x256_S128x128_0_128

variable (c : Dev nD) (i : grid0.Coords) (M : Mems) (X : Ins) (o : Vec Ideal S16x128 .f32) (s : Vec Ideal S128x256 .f32)

def runA (hc0 : cond0_0 i) (hc1 : cond0_1 i) : Five :=
  let r := kernelRun0_A (F := Ideal) c i M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 hc0 hc1
    X.x0 X.x1 X.x2 X.x3 X.x4 X.x5 X.x6 X.x7 X.x8 X.x9
  (r.1, r.2.1, r.2.2.1, r.2.2.2.1, r.2.2.2.2.1)

theorem runA_eq (hc0 : cond0_0 i) (hc1 : cond0_1 i) : runA c i M X hc0 hc1
      = fiveOf (blkOf i M X) M (dskFresh (blkOf i M X) M.a15 order)
        (M.a16.view.readCov fillC loR.toLoadRect) (M.a16.view.readCov fillC hiR.toLoadRect) fillC := by
  sl_kernel_rfl

def runB (hc0 : ¬cond0_0 i) (hc1 : ¬cond0_1 i) : Five :=
  let r := kernelRun0_B (F := Ideal) c i M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 hc0 hc1
    X.x0 X.x1 X.x2 X.x3 X.x4 X.x5 X.x6 X.x7 X.x8 X.x9 o s
  (r.1, r.2.1, r.2.2.1, r.2.2.2.1, r.2.2.2.2.1)

theorem runB_eq (hc0 : ¬cond0_0 i) (hc1 : ¬cond0_1 i) : runB c i M X o s hc0 hc1
      = fiveOf (blkOf i M X) M (dskOver (blkOf i M X) (fun h => View.readAt (Elt Ideal) M.a15.view (rowR h).toLoadRect (M.w15.unread o)) order)
        (View.readAt (Elt Ideal) M.a16.view loR.toLoadRect (M.w16.unread s)) (View.readAt (Elt Ideal) M.a16.view hiR.toLoadRect (M.w16.unread s)) [] := by
  sl_kernel_rfl

def runC (hc0 : ¬cond0_0 i) (hc1 : cond0_1 i) : Five :=
  let r := kernelRun0_C (F := Ideal) c i M.a2 M.w2 M.a3 M.w3 M.a4 M.w4 M.a5 M.w5 M.a6 M.w6 M.a7 M.w7 M.a8 M.w8 M.a9 M.w9 M.a10 M.w10 M.a11 M.w11 M.a12 M.w12 M.a13 M.w13 M.a14 M.w14 M.a15 M.w15 M.a16 M.w16 M.a17 M.w17 M.a18 M.w18 M.a19 M.w19 M.a20 M.w20 hc0 hc1
    X.x0 X.x1 X.x2 X.x3 X.x4 X.x5 X.x6 X.x7 X.x8 X.x9 o
  (r.1, r.2.1, r.2.2.1, r.2.2.2.1, r.2.2.2.2.1)

theorem runC_eq (hc0 : ¬cond0_0 i) (hc1 : cond0_1 i) : runC c i M X o hc0 hc1
      = fiveOf (blkOf i M X) M (dskOver (blkOf i M X) (fun h => View.readAt (Elt Ideal) M.a15.view (rowR h).toLoadRect (M.w15.unread o)) order)
        (M.a16.view.readCov fillC loR.toLoadRect) (M.a16.view.readCov fillC hiR.toLoadRect) fillC := by
  sl_kernel_rfl

end Cert.SwaBwdIdeal.Hand

end

end
-- ==== Proof.SwaSpec.lean ====
/- One query row of one head of the windowed attention with a sink, and its gradients, over extended reals. -/
module

public import proofs.«01_k».proof.Proof.Reals

@[expose] public section

noncomputable section

open Idealize.ShloMosaic

namespace Cert.SwaSpec

/-- A row: which keys it sees, the query, the window's keys and values, the gradient of the row's output, the head's sink. -/
structure Att where
  m : Fin 256 → Bool
  q : Fin 64 → EReal
  k : Fin 256 → Fin 64 → EReal
  v : Fin 256 → Fin 64 → EReal
  g : Fin 64 → EReal
  σ : EReal

/-- The scale of the scores. -/
def eighth : EReal := Ideal.ofBits .f32 0x3E000000#32

namespace Att

variable (A : Att)

/-- The scores, the largest of them and the sink, the exponentials, the probabilities. -/
def sc (s : Fin 256) : EReal := if A.m s = true then (∑ d, A.k s d * A.q d) * eighth else ⊥
def top : EReal := max (Finset.univ.fold max ⊥ A.sc) A.σ
def e (s : Fin 256) : EReal := Ideal.exp (A.sc s - A.top)
def es : EReal := Ideal.exp (A.σ - A.top)
def inv : EReal := Ideal.div 1 ((∑ s, A.e s) + A.es)
def p (s : Fin 256) : EReal := A.e s * A.inv
def ps : EReal := A.es * A.inv
/-- The output, its product with its gradient, the gradient of the scores. -/
def o (d : Fin 64) : EReal := ∑ s, A.v s d * A.p s
def δ : EReal := ∑ d, A.g d * A.o d
def ds (s : Fin 256) : EReal := A.p s * ((∑ d, A.v s d * A.g d) - A.δ) * eighth
/-- The gradient of the query. -/
def dq (d : Fin 64) : EReal := ∑ s, A.k s d * A.ds s

end Att

/-- Position `d` of the half `h` of two heads side by side. -/
def lane (h : Fin 2) (d : Fin 64) : Fin 128 := ⟨64 * h.val + d.val, by omega⟩

/-- A sum over both halves of what is zero off one of them. -/
theorem sum_half (h : Fin 2) (f : Fin 128 → EReal) : ∑ l : Fin 128, (if l.val / 64 = h.val then f l else 0) = ∑ d : Fin 64, f (lane h d) := by
  rw [Fin.sum_univ_tiles 2 64 rfl]
  rw [Finset.sum_eq_single h]
  · refine Finset.sum_congr rfl fun d _ => ?_
    rw [if_pos (by simp; omega)]
    exact congrArg f (Fin.ext (by simp [lane]; omega))
  · intro b _ hb
    refine Finset.sum_eq_zero fun d _ => if_neg fun e => hb (Fin.ext ?_)
    simp at e; omega
  · simp

/-- Every position lies in one of the halves. -/
theorem lane_surj (l : Fin 128) : ∃ h d, l = lane h d := ⟨⟨l.val / 64, by omega⟩, ⟨l.val % 64, by omega⟩, Fin.ext (by simp [lane]; omega)⟩

/-- The angle of position `r` at frequency `d`, its cosine and its sine. -/
def ang (r : Fin 2048) (d : Fin 32) : EReal :=
  FloatOps.sitofp (F := Ideal) .f32 (BitVec.ofNat 32 r.val) * Ideal.pow (Ideal.ofBits .f32 0x461C4000#32)
    (Ideal.div (-(FloatOps.sitofp (F := Ideal) .f32 (BitVec.ofNat 32 d.val) : EReal)) (Ideal.ofBits .f32 0x42000000#32))
def cosT (r : Fin 2048) (d : Fin 32) : EReal := Ideal.cos (ang r d)
def sinT (r : Fin 2048) (d : Fin 32) : EReal := Ideal.sin (ang r d)

/-- Row `p` of block `n` of a sequence, the block before, the row at position `s` of the window of block `n`. -/
def pos (n : Fin 16) (p : Fin 128) : Fin 2048 := ⟨n.val * 128 + p.val, by omega⟩
def prv (n : Fin 16) : Fin 16 := ⟨n.val - 1, by omega⟩
def win (n : Fin 16) (s : Fin 256) : Fin 2048 := if h : s.val < 128 then pos (prv n) ⟨s.val, h⟩ else pos n ⟨s.val - 128, by omega⟩

/-- The position half a head away, the sines as the rotation takes them, the rotation of row `r` and its transpose. -/
def swp (d : Fin 64) : Fin 64 := ⟨(d.val + 32) % 64, by omega⟩
def cosH (r : Fin 2048) (d : Fin 64) : EReal := cosT r ⟨d.val % 32, by omega⟩
def sinH (r : Fin 2048) (d : Fin 64) : EReal := if d.val < 32 then -sinT r ⟨d.val % 32, by omega⟩ else sinT r ⟨d.val % 32, by omega⟩
def rot (r : Fin 2048) (x : Fin 64 → EReal) (d : Fin 64) : EReal := x d * cosH r d + x (swp d) * sinH r d
def rotB (r : Fin 2048) (x : Fin 64 → EReal) (d : Fin 64) : EReal := x d * cosH r d + x (swp d) * sinH r (swp d)

def sgm (x : EReal) : EReal := Ideal.div 1 (1 + Ideal.exp (0 - x))

/-- Position `d` of head `h` of the sixteen, and the group of a head. -/
def hcol (h : Fin 16) (d : Fin 64) : Fin 1024 := ⟨64 * h.val + d.val, by omega⟩
def grp (h : Fin 16) : Fin 2 := ⟨h.val / 8, by omega⟩
def hd (j : Fin 2) (g : Fin 8) : Fin 16 := ⟨8 * j.val + g.val, by omega⟩

/-- The arguments: the projections, the sinks, the gradient of the heads' gated outputs. -/
structure Args where
  P : Fin 2 → Fin 2048 → Fin 6400 → EReal
  S : Fin 16 → EReal
  C : Fin 2 → Fin 2048 → Fin 1024 → EReal

namespace Args

variable (X : Args) (b : Fin 2)

/-- The rotated queries and keys, the values, the gates and the gradients of the outputs, by row and head. -/
def qv (r : Fin 2048) (h : Fin 16) : Fin 64 → EReal := rot r fun d => X.P b r ⟨4096 + (hcol h d).val, by omega⟩
def kv (r : Fin 2048) (j : Fin 2) : Fin 64 → EReal := rot r fun d => X.P b r ⟨5120 + (lane j d).val, by omega⟩
def vv (r : Fin 2048) (j : Fin 2) (d : Fin 64) : EReal := X.P b r ⟨5120 + (128 + (lane j d).val), by omega⟩
def zv (r : Fin 2048) (h : Fin 16) (d : Fin 64) : EReal := X.P b r ⟨5376 + (hcol h d).val, by omega⟩
def gv (r : Fin 2048) (h : Fin 16) (d : Fin 64) : EReal := X.C b r (hcol h d) * (X.zv b r h d * sgm (X.zv b r h d))

/-- Row `t` of block `n` of head `h`. -/
def att (n : Fin 16) (h : Fin 16) (t : Fin 128) : Att where
  m s := decide (t.val < s.val ∧ s.val ≤ t.val + 128 ∧ (128 ≤ s.val ∨ 0 < n.val))
  q := X.qv b (pos n t) h
  k s := X.kv b (win n s) (grp h)
  v s := X.vv b (win n s) (grp h)
  g := X.gv b (pos n t) h
  σ := X.S h

/-- The gradients of the queries and the gates. -/
def dq (n : Fin 16) (t : Fin 128) (h : Fin 16) (d : Fin 64) : EReal := rotB (pos n t) (X.att b n h t).dq d
def dz (n : Fin 16) (t : Fin 128) (h : Fin 16) (d : Fin 64) : EReal :=
  X.C b (pos n t) (hcol h d) * (X.att b n h t).o d * (sgm (X.zv b (pos n t) h d) * (1 + X.zv b (pos n t) h d * (1 - sgm (X.zv b (pos n t) h d))))

/-- What block `n` leaves for the keys and values of its window. -/
def dkW (n : Fin 16) (j : Fin 2) (s : Fin 256) (d : Fin 64) : EReal := ∑ g, ∑ t, (X.att b n (hd j g) t).ds s * (X.att b n (hd j g) t).q d
def dvW (n : Fin 16) (j : Fin 2) (s : Fin 256) (d : Fin 64) : EReal := ∑ g, ∑ t, (X.att b n (hd j g) t).p s * (X.att b n (hd j g) t).g d

/-- The gradients of the keys and values: from the row's own block and from the block after. -/
def dk (n : Fin 16) (r : Fin 128) (j : Fin 2) (d : Fin 64) : EReal :=
  rotB (pos n r) (X.dkW b n j ⟨128 + r.val, by omega⟩) d
    + if h : n.val < 15 then rotB (pos n r) (X.dkW b ⟨n.val + 1, by omega⟩ j ⟨r.val, by omega⟩) d else 0
def dv (n : Fin 16) (r : Fin 128) (j : Fin 2) (d : Fin 64) : EReal :=
  X.dvW b n j ⟨128 + r.val, by omega⟩ d + if h : n.val < 15 then X.dvW b ⟨n.val + 1, by omega⟩ j ⟨r.val, by omega⟩ d else 0

/-- What block `n` leaves for a head's sink. -/
def dsk (n : Fin 16) (h : Fin 16) : EReal := 0 - ∑ t, (X.att b n h t).ps * (X.att b n h t).δ

end Args

end Cert.SwaSpec

end

end
-- ==== Proof.SwaValues.lean ====
/- The vectors of `SwaBody`, read one number at a time. -/
module

public import proofs.«01_k».proof.Proof.SwaBody
public import proofs.«01_k».proof.Proof.SwaSpec
public import Idealize.ShloMosaic.Lib.Claim
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SwaBwdIdeal.Hand

open Cert.SwaBwdIdeal Cert.SwaBwdIdeal.Gen Cert.SwaSpec

/-! ## The masks of lanes -/

/-- A position in the heads' pair with the halves of its head exchanged. -/
def swapL (l : Fin 128) : Fin 128 := if l.val % 64 < 32 then ⟨(l.val + 32) % 128, by omega⟩ else ⟨(l.val + 96) % 128, by omega⟩

theorem firstM_at (l : Fin 128) : k0_pay5 (ix2 0 l) = if l.val % 64 < 32 then 1#1 else 0#1 := by
  revert l; decide +kernel

theorem lowM_at (l : Fin 128) : k0_pay4 (ix2 0 l) = if l.val < 64 then 1#1 else 0#1 := by
  revert l; decide +kernel

theorem rmask_at (hh : Fin 2) (l t : Fin 128) : rmask hh (ix2 l t) = if l.val / 64 = hh.val then 1#1 else 0#1 := by
  have h : rmask hh (ix2 l t) = rsel hh (ix2 l 0) := by
    pointwise [rmask]
  rw [h]; clear h; revert hh l; decide +kernel

theorem lmask_at (hh : Fin 2) (t l : Fin 128) : lmask hh (ix2 t l) = if l.val / 64 = hh.val then 1#1 else 0#1 := by
  have h : lmask hh (ix2 t l) = lsel hh (ix2 0 l) := by
    pointwise [lmask]
  rw [h]; clear h; revert hh l; decide +kernel

theorem lowW_at (s : Fin 256) (l : Fin 128) : lowW (ix2 s l) = if l.val < 64 then 1#1 else 0#1 := by
  have h : lowW (ix2 s l) = k0_pay4 (ix2 0 l) := by
    pointwise [lowW]
  rw [h, lowM_at]

theorem select_if {α : Type} (c : Prop) [Decidable c] (x y : α) : Scalar.select (if c then 1#1 else 0#1) x y = if c then x else y := by
  by_cases h : c <;> simp [h, Scalar.select]

/-! ## Moves along the lanes -/

theorem swapHalves_at (x : V) (t l : Fin 128) : swapHalves x (ix2 t l) = x (ix2 t (swapL l)) := by
  have h : swapHalves x (ix2 t l) = Scalar.select (k0_pay5 (ix2 0 l)) (x (ix2 t ⟨(l.val + 128 - 96) % 128, by omega⟩))
      (x (ix2 t ⟨(l.val + 128 - 32) % 128, by omega⟩)) := by
    pointwise [swapHalves]
  rw [h, firstM_at, select_if]
  unfold swapL
  split <;> rfl

theorem rope_at (x c s : V) (t l : Fin 128) : rope x c s (ix2 t l) = x (ix2 t l) * c (ix2 t l) + x (ix2 t (swapL l)) * s (ix2 t l) := by
  have h : rope x c s (ix2 t l) = x (ix2 t l) * c (ix2 t l) + swapHalves x (ix2 t l) * s (ix2 t l) := by pointwise [rope]
  rw [h, swapHalves_at]

theorem ropeBwd_at (x c s : V) (t l : Fin 128) :
    ropeBwd x c s (ix2 t l) = x (ix2 t l) * c (ix2 t l) + x (ix2 t (swapL l)) * s (ix2 t (swapL l)) := by
  have h : ropeBwd x c s (ix2 t l) = x (ix2 t l) * c (ix2 t l) + swapHalves (mulf x s) (ix2 t l) := by pointwise [ropeBwd]
  rw [h, swapHalves_at]; pointwise

theorem cast1_at (x : Vec Ideal S128x128 .f32) (t l : Fin 128) : cast1 x (ix2 t l) = x (ix2 t l) := by
  pointwise [cast1]

theorem tr_at (x : V) (t l : Fin 128) : tr x (ix2 t l) = x (ix2 l t) := by pointwise [tr]
theorem zeroV_at (t l : Fin 128) : zeroV (ix2 t l) = 0 := by pointwise [zeroV]
theorem oneV_at (t l : Fin 128) : oneV (ix2 t l) = 1 := by pointwise [oneV]

theorem rollW_at (x : W) (s : Fin 256) (l : Fin 128) : rollW x (ix2 s l) = x (ix2 s ⟨(l.val + 64) % 128, by omega⟩) := by
  have h : rollW x (ix2 s l) = x (ix2 s ⟨(l.val + 128 - 64) % 128, by omega⟩) := by pointwise [rollW]
  rw [h]
  rfl

theorem dup_at (x : W) (j h : Fin 2) (s : Fin 256) (d : Fin 64) : dup x j (ix2 s (lane h d)) = x (ix2 s (lane j d)) := by
  have h0 : dup x 0 (ix2 s (lane h d)) = Scalar.select (lowW (ix2 s (lane h d))) (x (ix2 s (lane h d))) (rollW x (ix2 s (lane h d))) := by
    pointwise [dup]
  have h1 : dup x 1 (ix2 s (lane h d)) = Scalar.select (lowW (ix2 s (lane h d))) (rollW x (ix2 s (lane h d))) (x (ix2 s (lane h d))) := by
    pointwise [dup]
  rw [lowW_at, select_if, rollW_at] at h0 h1
  match j with
  | 0 =>
    rw [h0]
    split
    · rename_i hl; congr 2; apply Fin.ext; simp [lane] at hl ⊢; omega
    · rename_i hl; congr 2; apply Fin.ext; simp [lane] at hl ⊢; omega
  | 1 =>
    rw [h1]
    split
    · rename_i hl; congr 2; apply Fin.ext; simp [lane] at hl ⊢; omega
    · rename_i hl; congr 2; apply Fin.ext; simp [lane] at hl ⊢; omega

/-! ## One row of one head -/

/-- The row `t` of a head, as the point's vectors hold it. -/
def attOf (D : Blk) (p : Fin 8) (hh : Fin 2) (t : Fin 128) : Att where
  m s := decide (attMask D.n (ix2 s t) = 1#1)
  q d := qp D p (ix2 t (lane hh d))
  k s d := kRows D (ix2 s (lane (grpOf p) d))
  v s d := vRows D (ix2 s (lane (grpOf p) d))
  g d := dOut D p (ix2 t (lane hh d))
  σ := D.sk (headOf p hh) (ix2 0 0)

variable (D : Blk) (p : Fin 8) (hh : Fin 2)

theorem mask_bot : (Named.named κ "mask" 0xF149F2CA#32 : Ideal .f32) = (⊥ : EReal) := rfl
theorem bot_bits : Ideal.ofBits .f32 0xFF800000#32 = (⊥ : EReal) := by simp [Ideal.ofBits, Ideal.ieee]

/-- A sum over the lanes of a product with what is zero off one head's half. -/
theorem sum_lanes (hh : Fin 2) (a b : Fin 128 → EReal) (t : Fin 128) :
    ∑ l, a l * Scalar.select (rmask hh (ix2 l t)) (b l) (zeroV (ix2 l t)) = ∑ d, a (lane hh d) * b (lane hh d) := by
  rw [← sum_half hh fun l => a l * b l]
  refine Finset.sum_congr rfl fun l _ => ?_
  rw [rmask_at, zeroV_at, select_if]
  split
  · rfl
  · exact mul_zero _

theorem score_at (s : Fin 256) (t : Fin 128) : score D p hh (ix2 s t) = (attOf D p hh t).sc s := by
  have h : score D p hh (ix2 s t) = Scalar.select (attMask D.n (ix2 s t)) ((∑ x, dup (kRows D) (grpOf p) (ix2 s x) *
      Scalar.select (rmask hh (ix2 x t)) (tr (qp D p) (ix2 x t)) (zeroV (ix2 x t))) * eighth)
      (Named.named κ "mask" 0xF149F2CA#32 : Ideal .f32) := by
    pointwise [score, kd, eighth]
  rw [h, sum_lanes hh (fun x => dup (kRows D) (grpOf p) (ix2 s x)) (fun x => tr (qp D p) (ix2 x t)), mask_bot]
  simp only [dup_at, tr_at]
  unfold Att.sc Scalar.select
  simp only [attOf, decide_eq_true_eq]
  rfl

theorem top_at (t : Fin 128) : top D p hh (ix2 0 t) = (attOf D p hh t).top := by
  have h : top D p hh (ix2 0 t) = max (Finset.fold max (Ideal.ofBits .f32 0xFF800000#32) (fun x => score D p hh (ix2 x t)) Finset.univ)
      (D.sk (headOf p hh) (ix2 0 0)) := by
    pointwise [top, sink]
  rw [h, bot_bits]
  simp only [score_at]
  rfl

theorem ex_at (s : Fin 256) (t : Fin 128) : ex D p hh (ix2 s t) = (attOf D p hh t).e s := by
  have h : ex D p hh (ix2 s t) = Ideal.exp (score D p hh (ix2 s t) - top D p hh (ix2 0 t)) := by pointwise [ex]
  rw [h, score_at, top_at]; rfl

theorem exSink_at (t : Fin 128) : exSink D p hh (ix2 0 t) = (attOf D p hh t).es := by
  have h : exSink D p hh (ix2 0 t) = Ideal.exp (D.sk (headOf p hh) (ix2 0 0) - top D p hh (ix2 0 t)) := by pointwise [exSink, sink]
  rw [h, top_at]; rfl

theorem inv_at (t : Fin 128) : inv D p hh (ix2 0 t) = (attOf D p hh t).inv := by
  have h : inv D p hh (ix2 0 t) = Ideal.div 1 (∑ x, ex D p hh (ix2 x t) + exSink D p hh (ix2 0 t)) := by pointwise [inv]
  rw [h, exSink_at]
  simp only [ex_at]
  rfl

theorem pn_at (s : Fin 256) (t : Fin 128) : pn D p hh (ix2 s t) = (attOf D p hh t).p s := by
  have h : pn D p hh (ix2 s t) = ex D p hh (ix2 s t) * inv D p hh (ix2 0 t) := by pointwise [pn]
  rw [h, ex_at, inv_at]; rfl

theorem psn_at (t : Fin 128) : psn D p hh (ix2 0 t) = (attOf D p hh t).ps := by
  have h : psn D p hh (ix2 0 t) = exSink D p hh (ix2 0 t) * inv D p hh (ix2 0 t) := by pointwise [psn]
  rw [h, exSink_at, inv_at]; rfl

theorem oHead_at (h' : Fin 2) (d : Fin 64) (t : Fin 128) : oHead D p hh (ix2 (lane h' d) t) = (attOf D p hh t).o d := by
  have h : oHead D p hh (ix2 (lane h' d) t) = ∑ x, dup (vRows D) (grpOf p) (ix2 x (lane h' d)) * pn D p hh (ix2 x t) := by
    pointwise [oHead, vdt]
  rw [h]
  simp only [dup_at, pn_at]
  rfl

theorem half_lane (hh h' : Fin 2) (d : Fin 64) : (lane h' d).val / 64 = hh.val ↔ h' = hh := by
  constructor
  · intro e; apply Fin.ext; simp [lane] at e; omega
  · rintro rfl; simp [lane]; omega

theorem pick_at (x y : V) (d : Fin 64) (t : Fin 128) :
    (select (rmask 0) x y : V) (ix2 (lane hh d) t) = if hh = 0 then x (ix2 (lane hh d) t) else y (ix2 (lane hh d) t) := by
  have h : (select (rmask 0) x y : V) (ix2 (lane hh d) t)
      = Scalar.select (rmask 0 (ix2 (lane hh d) t)) (x (ix2 (lane hh d) t)) (y (ix2 (lane hh d) t)) := by pointwise
  rw [h, rmask_at, select_if]
  exact if_congr (half_lane 0 hh d) rfl rfl

theorem oPair_at (d : Fin 64) (t : Fin 128) : oPair D p (ix2 (lane hh d) t) = (attOf D p hh t).o d := by
  refine (pick_at hh _ _ d t).trans ?_
  rw [oHead_at, oHead_at]
  match hh with
  | 0 => rfl
  | 1 => rfl

theorem delta_at (t : Fin 128) : delta D p hh (ix2 0 t) = (attOf D p hh t).δ := by
  have h : delta D p hh (ix2 0 t) = ∑ x, oPair D p (ix2 x t) *
      Scalar.select (rmask hh (ix2 x t)) (tr (dOut D p) (ix2 x t)) (zeroV (ix2 x t)) := by
    simp only [mul_comm (oPair D p _)]
    pointwise [delta, doHead]
  rw [h, sum_lanes hh (fun x => oPair D p (ix2 x t)) (fun x => tr (dOut D p) (ix2 x t))]
  simp only [tr_at, oPair_at, mul_comm (Att.o _ _)]
  rfl

theorem dst_at (s : Fin 256) (t : Fin 128) : dst D p hh (ix2 s t) = (attOf D p hh t).ds s := by
  have h : dst D p hh (ix2 s t) = pn D p hh (ix2 s t) * (∑ x, dup (vRows D) (grpOf p) (ix2 s x) *
      Scalar.select (rmask hh (ix2 x t)) (tr (dOut D p) (ix2 x t)) (zeroV (ix2 x t)) - delta D p hh (ix2 0 t)) * eighth := by
    pointwise [dst, vd, doHead, eighth]
  rw [h, sum_lanes hh (fun x => dup (vRows D) (grpOf p) (ix2 s x)) (fun x => tr (dOut D p) (ix2 x t)), pn_at, delta_at]
  simp only [dup_at, tr_at]
  rfl

theorem dskRow_at (r : Vec Ideal S1x128 .f32) (l : Fin 128) :
    dskRow D p hh r (ix2 0 l) = r (ix2 0 l) + (0 - ∑ t, (attOf D p hh t).ps * (attOf D p hh t).δ) := by
  have h : dskRow D p hh r (ix2 0 l) = r (ix2 0 l) + (0 - ∑ _a : Fin 1, ∑ x, psn D p hh (ix2 0 x) * delta D p hh (ix2 0 x)) := by
    pointwise [dskRow]
  rw [h, Fin.sum_univ_one]
  simp only [psn_at, delta_at]

theorem dqHead_at (h' : Fin 2) (d : Fin 64) (t : Fin 128) : dqHead D p hh (ix2 (lane h' d) t) = (attOf D p hh t).dq d := by
  have h : dqHead D p hh (ix2 (lane h' d) t) = ∑ x, dup (kRows D) (grpOf p) (ix2 x (lane h' d)) * dst D p hh (ix2 x t) := by
    pointwise [dqHead, kdt]
  rw [h]
  simp only [dup_at, dst_at]
  rfl

/-- The gradient of a pair's queries before the rotation is undone. -/
def dqRaw : V := tr (select (rmask 0) (dqHead D p 0) (dqHead D p 1))

theorem dqRaw_at (d : Fin 64) (t : Fin 128) : dqRaw D p (ix2 t (lane hh d)) = (attOf D p hh t).dq d := by
  unfold dqRaw
  rw [tr_at]
  refine (pick_at hh _ _ d t).trans ?_
  rw [dqHead_at, dqHead_at]
  match hh with
  | 0 => rfl
  | 1 => rfl

theorem dqPair_at (t l : Fin 128) : dqPair D p (ix2 t l) = ropeBwd (dqRaw D p) (cast1 D.cc) (cast1 D.sc) (ix2 t l) := by
  unfold dqRaw
  pointwise [dqPair]

theorem dzPair_at (d : Fin 64) (t : Fin 128) : dzPair D p (ix2 t (lane hh d))
    = cast1 (D.dc p) (ix2 t (lane hh d)) * (attOf D p hh t).o d *
      (sg D p (ix2 t (lane hh d)) * (1 + cast1 (D.z p) (ix2 t (lane hh d)) * (1 - sg D p (ix2 t (lane hh d))))) := by
  rw [← oPair_at, ← tr_at (oPair D p)]
  pointwise [dzPair, oneV]

theorem sg_at (t l : Fin 128) : sg D p (ix2 t l) = Ideal.div 1 (1 + Ideal.exp (0 - cast1 (D.z p) (ix2 t l))) := by
  pointwise [sg, oneV, zeroV]

theorem dOut_at (t l : Fin 128) : dOut D p (ix2 t l) = cast1 (D.dc p) (ix2 t l) * (cast1 (D.z p) (ix2 t l) * sg D p (ix2 t l)) := by
  pointwise [dOut]

/-! ## The keys' and values' rows -/

theorem kRows_at (s : Fin 256) (l : Fin 128) : kRows D (ix2 s l)
    = if h : s.val < 128 then rope (cast1 D.kp) (cast1 D.cp) (cast1 D.sp) (ix2 ⟨s.val, h⟩ l)
      else rope (cast1 D.kc) (cast1 D.cc) (cast1 D.sc) (ix2 ⟨s.val - 128, by omega⟩ l) := by
  pointwise [kRows]

theorem vRows_at (s : Fin 256) (l : Fin 128) : vRows D (ix2 s l)
    = if h : s.val < 128 then cast1 D.vp (ix2 ⟨s.val, h⟩ l) else cast1 D.vc (ix2 ⟨s.val - 128, by omega⟩ l) := by
  pointwise [vRows]

/-! ## The sums over the heads of a group -/

theorem prodW_at (a : FVec Ideal S256x1024 .bf16) (b : FVec Ideal S1024x128 .bf16) (s : Fin 256) (l : Fin 128) :
    prodW a b (ix2 s l) = ∑ x : Fin 1024, a (ix2 s x) * b (ix2 x l) := by
  pointwise [prodW]

theorem lhalf_at (x : V) (h' : Fin 2) (t : Fin 128) (d : Fin 64) :
    Scalar.select (lmask hh (ix2 t (lane h' d))) (x (ix2 t (lane h' d))) (zeroV (ix2 t (lane h' d))) = if h' = hh then x (ix2 t (lane hh d)) else 0 := by
  rw [lmask_at, zeroV_at, select_if]
  by_cases e : h' = hh
  · subst e; rw [if_pos ((half_lane h' h' d).2 rfl), if_pos rfl]
  · rw [if_neg fun e' => e ((half_lane hh h' d).1 e'), if_neg e]

theorem qS_at (h' : Fin 2) (t : Fin 128) (d : Fin 64) : qS D p hh (ix2 t (lane h' d)) = if h' = hh then (attOf D p hh t).q d else 0 := by
  refine Eq.trans ?_ (lhalf_at hh (qp D p) h' t d)
  pointwise [qS]

theorem doS_at (h' : Fin 2) (t : Fin 128) (d : Fin 64) : doS D p hh (ix2 t (lane h' d)) = if h' = hh then (attOf D p hh t).g d else 0 := by
  refine Eq.trans ?_ (lhalf_at hh (dOut D p) h' t d)
  pointwise [doS]

theorem dsS_at (s : Fin 256) (t : Fin 128) : dsS D p hh (ix2 s t) = (attOf D p hh t).ds s := by
  rw [← dst_at]; pointwise [dsS]

theorem pnS_at (s : Fin 256) (t : Fin 128) : pnS D p hh (ix2 s t) = (attOf D p hh t).p s := by
  rw [← pn_at]; pointwise [pnS]

theorem fold2_at (x y : W) (j : Fin 2) (s : Fin 256) (d : Fin 64) : fold2 x y (ix2 s (lane j d))
    = if j = 0 then x (ix2 s (lane 0 d)) + x (ix2 s (lane 1 d)) else y (ix2 s (lane 0 d)) + y (ix2 s (lane 1 d)) := by
  have h : fold2 x y (ix2 s (lane j d)) = Scalar.select (lowW (ix2 s (lane j d)))
      (x (ix2 s (lane j d)) + rollW x (ix2 s (lane j d))) (y (ix2 s (lane j d)) + rollW y (ix2 s (lane j d))) := by
    pointwise [fold2]
  rw [h, lowW_at, select_if, rollW_at, rollW_at]
  clear h
  obtain rfl | rfl : j = 0 ∨ j = 1 := by omega
  · have e : (⟨((lane 0 d).val + 64) % 128, by omega⟩ : Fin 128) = lane 1 d := Fin.ext (by simp [lane]; omega)
    rw [if_pos (by simp [lane]), if_pos rfl, e]
  · have e : (⟨((lane 1 d).val + 64) % 128, by omega⟩ : Fin 128) = lane 0 d := Fin.ext (by simp [lane]; omega)
    rw [if_neg (by simp [lane]), if_neg (by decide), e, add_comm]

/-! ## The stacks of heads -/

/-- Row or column `t` of head `g` in a stack of eight. -/
def stk (g : Fin 8) (t : Fin 128) : Fin 1024 := ⟨g.val * 128 + t.val, by omega⟩

variable (aw : Memref sig .tc .vmem S256x1024 .bf16) (ar : Memref sig .tc .vmem S1024x128 .bf16)

/-- Eight blocks side by side, and one under another, as one array. -/
def wide {n : ℕ} (f : Fin 8 → (⟨2, ![n, 128]⟩ : Shape).Idx → EReal) (y : (⟨2, ![n, 1024]⟩ : Shape).Idx) : EReal :=
  f ⟨(y 1).val / 128, by have h : (y 1).val < 1024 := (y 1).isLt; omega⟩ (ix2 (y 0) ⟨(y 1).val % 128, by omega⟩)
def tall {n : ℕ} (f : Fin 8 → (⟨2, ![128, n]⟩ : Shape).Idx → EReal) (y : (⟨2, ![1024, n]⟩ : Shape).Idx) : EReal :=
  f ⟨(y 0).val / 128, by have h : (y 0).val < 1024 := (y 0).isLt; omega⟩ (ix2 ⟨(y 0).val % 128, by omega⟩ (y 1))

theorem wide_piece {n : ℕ} (f : Fin 8 → (⟨2, ![n, 128]⟩ : Shape).Idx → EReal) (g : Fin 8) (y : (⟨2, ![n, 1024]⟩ : Shape).Idx)
    (x : (⟨2, ![n, 128]⟩ : Shape).Idx) (h0 : (y 0).val = 0 + (x 0).val) (h1 : (y 1).val = 128 * g.val + (x 1).val) : f g x = wide f y := by
  have hx : (x 1).val < 128 := (x 1).isLt
  have hg : (⟨(y 1).val / 128, by have h : (y 1).val < 1024 := (y 1).isLt; omega⟩ : Fin 8) = g := Fin.ext (by show (y 1).val / 128 = _; omega)
  unfold wide
  rw [hg]
  refine congrArg (f g) ((eq_ix2 x).trans (congrArg₂ ix2 (Fin.ext ?_) (Fin.ext ?_)))
  · omega
  · show (x 1).val = (y 1).val % 128; omega

theorem tall_piece {n : ℕ} (f : Fin 8 → (⟨2, ![128, n]⟩ : Shape).Idx → EReal) (g : Fin 8) (y : (⟨2, ![1024, n]⟩ : Shape).Idx)
    (x : (⟨2, ![128, n]⟩ : Shape).Idx) (h0 : (y 0).val = 128 * g.val + (x 0).val) (h1 : (y 1).val = 0 + (x 1).val) : f g x = tall f y := by
  have hx : (x 0).val < 128 := (x 0).isLt
  have hg : (⟨(y 0).val / 128, by have h : (y 0).val < 1024 := (y 0).isLt; omega⟩ : Fin 8) = g := Fin.ext (by show (y 0).val / 128 = _; omega)
  unfold tall
  rw [hg]
  refine congrArg (f g) ((eq_ix2 x).trans (congrArg₂ ix2 (Fin.ext ?_) (Fin.ext ?_)))
  · show (x 0).val = (y 0).val % 128; omega
  · omega

theorem wide_rect {n : ℕ} (f : Fin 8 → (⟨2, ![n, 128]⟩ : Shape).Idx → EReal) (g : Fin 8) (off : Fin 2 → ℕ)
    (inb : ∀ a, off a + (⟨2, ![n, 128]⟩ : Shape).size a ≤ (⟨2, ![n, 1024]⟩ : Shape).size a) (h0 : off 0 = 0) (h1 : off 1 = 128 * g.val)
    (x : (⟨2, ![n, 128]⟩ : Shape).Idx) :
    f g x = wide f ((Rect.unit (s := ⟨2, ![n, 1024]⟩) off (⟨2, ![n, 128]⟩ : Shape).size inb).emb x) :=
  wide_piece f g _ x ((ValueKit.rect_emb_unit_val (s := ⟨2, ![n, 1024]⟩) off (⟨2, ![n, 128]⟩ : Shape).size inb x 0).trans (by rw [h0]))
    ((ValueKit.rect_emb_unit_val (s := ⟨2, ![n, 1024]⟩) off (⟨2, ![n, 128]⟩ : Shape).size inb x 1).trans (by rw [h1]))

theorem tall_rect {n : ℕ} (f : Fin 8 → (⟨2, ![128, n]⟩ : Shape).Idx → EReal) (g : Fin 8) (off : Fin 2 → ℕ)
    (inb : ∀ a, off a + (⟨2, ![128, n]⟩ : Shape).size a ≤ (⟨2, ![1024, n]⟩ : Shape).size a) (h0 : off 0 = 128 * g.val) (h1 : off 1 = 0)
    (x : (⟨2, ![128, n]⟩ : Shape).Idx) :
    f g x = tall f ((Rect.unit (s := ⟨2, ![1024, n]⟩) off (⟨2, ![128, n]⟩ : Shape).size inb).emb x) :=
  tall_piece f g _ x ((ValueKit.rect_emb_unit_val (s := ⟨2, ![1024, n]⟩) off (⟨2, ![128, n]⟩ : Shape).size inb x 0).trans (by rw [h0]))
    ((ValueKit.rect_emb_unit_val (s := ⟨2, ![1024, n]⟩) off (⟨2, ![128, n]⟩ : Shape).size inb x 1).trans (by rw [h1]))

theorem wide_stk {n : ℕ} (f : Fin 8 → (⟨2, ![n, 128]⟩ : Shape).Idx → EReal) (s : Fin n) (g : Fin 8) (t : Fin 128) :
    wide f (ix2 s (stk g t)) = f g (ix2 s t) :=
  (wide_piece f g (ix2 s (stk g t)) (ix2 s t) (Nat.zero_add _).symm (by show g.val * 128 + t.val = _; rw [mul_comm]; rfl)).symm
theorem tall_stk {n : ℕ} (f : Fin 8 → (⟨2, ![128, n]⟩ : Shape).Idx → EReal) (l : Fin n) (g : Fin 8) (t : Fin 128) :
    tall f (ix2 (stk g t) l) = f g (ix2 t l) :=
  (tall_piece f g (ix2 (stk g t) l) (ix2 t l) (by show g.val * 128 + t.val = _; rw [mul_comm]; rfl) (Nat.zero_add _).symm).symm

theorem cols_canon (f : Fin 8 → FVec Ideal S128x128 .bf16) (t : Fin 128) (p : Fin 8) (l : Fin 128) :
    View.canon (Val := Elt Ideal) (cols f) (ix2 t (stk p l)) = f p (ix2 t l) := by
  refine Eq.trans ?_ (wide_stk f t p l)
  refine (congrFun (congrArg (View.canon (Val := Elt Ideal)) (List.append_nil (cols f)).symm) _).trans ?_
  refine View.canon_append_of_piecesOf (Val := Elt Ideal) (e := .bf16) (wide f) [] (cols f) ?_ _ (View.cover_of_tiledL _ ![128, 128] rfl _)
  exact ⟨wide_rect f 7 _ (by decide) rfl rfl, wide_rect f 6 _ (by decide) rfl rfl, wide_rect f 5 _ (by decide) rfl rfl, wide_rect f 4 _ (by decide) rfl rfl,
    wide_rect f 3 _ (by decide) rfl rfl, wide_rect f 2 _ (by decide) rfl rfl, wide_rect f 1 _ (by decide) rfl rfl, wide_rect f 0 _ (by decide) rfl rfl, trivial⟩

theorem stW_canon (f : Fin 8 → FVec Ideal S256x128 .bf16) (L : List (View.Piece (Elt Ideal) S256x1024 .bf16)) (y : S256x1024.Idx) :
    View.canon (Val := Elt Ideal) (stW f ++ L) y = wide f y := by
  refine View.canon_append_of_piecesOf (Val := Elt Ideal) (e := .bf16) (wide f) L (stW f) ?_ _ (View.cover_of_tiledL _ ![256, 128] rfl _)
  exact ⟨wide_rect f 7 _ (by decide) rfl rfl, wide_rect f 5 _ (by decide) rfl rfl, wide_rect f 3 _ (by decide) rfl rfl, wide_rect f 1 _ (by decide) rfl rfl, wide_rect f 6 _ (by decide) rfl rfl, wide_rect f 4 _ (by decide) rfl rfl,
    wide_rect f 2 _ (by decide) rfl rfl, wide_rect f 0 _ (by decide) rfl rfl, trivial⟩

theorem stR_canon (f : Fin 8 → FVec Ideal S128x128 .bf16) (L : List (View.Piece (Elt Ideal) S1024x128 .bf16)) (y : S1024x128.Idx) :
    View.canon (Val := Elt Ideal) (stR f ++ L) y = tall f y := by
  refine View.canon_append_of_piecesOf (Val := Elt Ideal) (e := .bf16) (tall f) L (stR f) ?_ _ (View.cover_of_tiledL _ ![128, 128] rfl _)
  exact ⟨tall_rect f 7 _ (by decide) rfl rfl, tall_rect f 5 _ (by decide) rfl rfl, tall_rect f 3 _ (by decide) rfl rfl, tall_rect f 1 _ (by decide) rfl rfl, tall_rect f 6 _ (by decide) rfl rfl, tall_rect f 4 _ (by decide) rfl rfl,
    tall_rect f 2 _ (by decide) rfl rfl, tall_rect f 0 _ (by decide) rfl rfl, trivial⟩

theorem getW_at (f : Fin 8 → FVec Ideal S256x128 .bf16) (L : List (View.Piece (Elt Ideal) S256x1024 .bf16)) (s : Fin 256) (g : Fin 8) (t : Fin 128) :
    getW aw (stW f ++ L) (ix2 s (stk g t)) = f g (ix2 s t) := by
  refine Eq.trans ?_ (wide_stk f s g t)
  refine (congrFun (View.readCov_eq_canon' (Val := Elt Ideal) aw.view (stW f ++ L) _) _).trans ((stW_canon f L _).trans (congrArg (wide f) ?_))
  refine (eq_ix2 _).trans (congrArg₂ ix2 (Fin.ext ?_) (Fin.ext ?_))
  · show 0 + 1 * s.val = s.val; omega
  · show 0 + 1 * (stk g t).val = (stk g t).val; omega

theorem getR_at (f : Fin 8 → FVec Ideal S128x128 .bf16) (L : List (View.Piece (Elt Ideal) S1024x128 .bf16)) (l : Fin 128) (g : Fin 8) (t : Fin 128) :
    getR ar (stR f ++ L) (ix2 (stk g t) l) = f g (ix2 t l) := by
  refine Eq.trans ?_ (tall_stk f l g t)
  refine (congrFun (View.readCov_eq_canon' (Val := Elt Ideal) ar.view (stR f ++ L) _) _).trans ((stR_canon f L _).trans (congrArg (tall f) ?_))
  refine (eq_ix2 _).trans (congrArg₂ ix2 (Fin.ext ?_) (Fin.ext ?_))
  · show 0 + 1 * (stk g t).val = (stk g t).val; omega
  · show 0 + 1 * l.val = l.val; omega

/-- One group's product: head by head, row by row. -/
theorem prodSt_at (f : Fin 8 → FVec Ideal S256x128 .bf16) (h : Fin 8 → FVec Ideal S128x128 .bf16) (L L') (s : Fin 256) (l : Fin 128) :
    prodW (getW aw (stW f ++ L)) (getR ar (stR h ++ L')) (ix2 s l) = ∑ g, ∑ t, f g (ix2 s t) * h g (ix2 t l) := by
  rw [prodW_at, Fin.sum_univ_tiles 8 128 rfl]
  refine Finset.sum_congr rfl fun g _ => Finset.sum_congr rfl fun t _ => ?_
  exact congrArg₂ (· * ·) (getW_at aw f L s g t) (getR_at ar h L' l g t)

/-- Both groups' products folded: the half of the lanes of group `j` holds the sum over the group's heads and rows, where the second factor's
    lanes are `h`'s on the head's own half and zero on the other. -/
theorem sumW_at (f : Fin 2 → Fin 8 → FVec Ideal S256x128 .bf16) (h : Fin 2 → Fin 8 → FVec Ideal S128x128 .bf16)
    (u : Fin 2 → Fin 8 → Fin 128 → Fin 64 → EReal)
    (hu : ∀ j g h' t d, h j g (ix2 t (lane h' d)) = if h' = hdOf g then u j g t d else 0) (s : Fin 256) (j : Fin 2) (d : Fin 64) :
    sumW aw ar f h (ix2 s (lane j d)) = ∑ g, ∑ t, f j g (ix2 s t) * u j g t d := by
  have key : ∀ j (L : List (View.Piece (Elt Ideal) S256x1024 .bf16)) (L' : List (View.Piece (Elt Ideal) S1024x128 .bf16)),
      prodW (getW aw (stW (f j) ++ L)) (getR ar (stR (h j) ++ L')) (ix2 s (lane 0 d))
        + prodW (getW aw (stW (f j) ++ L)) (getR ar (stR (h j) ++ L')) (ix2 s (lane 1 d)) = ∑ g, ∑ t, f j g (ix2 s t) * u j g t d := by
    intro j L L'
    rw [prodSt_at, prodSt_at, ← Finset.sum_add_distrib]
    refine Finset.sum_congr rfl fun g _ => ?_
    rw [← Finset.sum_add_distrib]
    refine Finset.sum_congr rfl fun t _ => ?_
    rw [hu, hu]
    obtain e | e : hdOf g = 0 ∨ hdOf g = 1 := by omega
    · rw [e, if_pos rfl, if_neg (by decide), mul_zero, add_zero]
    · rw [e, if_pos rfl, if_neg (by decide), mul_zero, zero_add]
  unfold sumW
  rw [fold2_at]
  obtain rfl | rfl : j = 0 ∨ j = 1 := by omega
  · rw [if_pos rfl, ← key 0 [] [], List.append_nil, List.append_nil]
  · rw [if_neg (by decide), key 1]

theorem dkSum_at (s : Fin 256) (j : Fin 2) (d : Fin 64) :
    dkSum D aw ar (ix2 s (lane j d)) = ∑ g, ∑ t, (attOf D (prOf j g) (hdOf g) t).ds s * (attOf D (prOf j g) (hdOf g) t).q d := by
  unfold dkSum
  rw [sumW_at aw ar _ _ (fun j g t d => (attOf D (prOf j g) (hdOf g) t).q d) fun j g h' t d => qS_at D _ _ h' t d]
  simp only [dsS_at]

theorem dvSum_at (s : Fin 256) (j : Fin 2) (d : Fin 64) :
    dvSum D aw ar (ix2 s (lane j d)) = ∑ g, ∑ t, (attOf D (prOf j g) (hdOf g) t).p s * (attOf D (prOf j g) (hdOf g) t).g d := by
  unfold dvSum
  rw [sumW_at aw ar _ _ (fun j g t d => (attOf D (prOf j g) (hdOf g) t).g d) fun j g h' t d => doS_at D _ _ h' t d]
  simp only [pnS_at]

theorem dvOut_at (x : W) (cr : Vec Ideal S128x128 .f32) (r l : Fin 128) :
    dvOut x cr (ix2 r l) = x (ix2 ⟨128 + r.val, by omega⟩ l) + cr (ix2 r l) := by
  pointwise [dvOut, rowsHi]
theorem rowsHi_at (x : W) (r l : Fin 128) : rowsHi x (ix2 r l) = x (ix2 ⟨128 + r.val, by omega⟩ l) := by pointwise [rowsHi]
theorem rowsLo_at (x : W) (r l : Fin 128) : rowsLo x (ix2 r l) = x (ix2 ⟨r.val, by omega⟩ l) := by pointwise [rowsLo]
theorem dkOut_at (x : W) (cr : Vec Ideal S128x128 .f32) (r l : Fin 128) :
    dkOut D x cr (ix2 r l) = ropeBwd (rowsHi x) (cast1 D.cc) (cast1 D.sc) (ix2 r l) + cr (ix2 r l) := by
  pointwise [dkOut]
theorem dvCarry_at (x : W) (r l : Fin 128) : dvCarry x (ix2 r l) = x (ix2 ⟨r.val, by omega⟩ l) := by
  pointwise [dvCarry, rowsLo]
theorem dkCarry_at (x : W) (r l : Fin 128) : dkCarry D x (ix2 r l) = ropeBwd (rowsLo x) (cast1 D.cp) (cast1 D.sp) (ix2 r l) := by
  pointwise [dkCarry]

end Cert.SwaBwdIdeal.Hand

end

end
-- ==== Proof.SwaOuts.lean ====
/- The five buffers after a point of the attention's backward kernel, as the pieces of its case. -/
module

public import proofs.«01_k».proof.Proof.SwaPieces
public import proofs.«01_k».proof.Proof.SwaValues

@[expose] public section

set_option maxRecDepth 16384

noncomputable section

open Idealize.ShloMosaic Idealize.ShloMosaic.TcCoe Idealize.SL.Sem
open Idealize.ShloMosaic.Pipeline (Dat)

namespace Cert.SwaBwdIdeal.Hand

open Cert.SwaBwdIdeal Cert.SwaBwdIdeal.Gen Cert.SwaSpec

variable (m : (ℓ : Loc nD τ sig) → Buf (Elt Ideal) ℓ)

/-! ## A point's five buffers -/

def memsAt (t : Fin cfg0.N) : Mems :=
  ⟨ms0_0 t, hs0_0 t, ms0_1 t, hs0_1 t, ms0_2 t, hs0_2 t, ms0_3 t, hs0_3 t, ms0_4 t, hs0_4 t, ms0_5 t, hs0_5 t, ms0_6 t, hs0_6 t,
    ms0_7 t, hs0_7 t, ms0_8 t, hs0_8 t, ms0_9 t, hs0_9 t, ms0_10 t, hs0_10 t, ms0_11 t, hs0_11 t, ms0_12 t, hs0_12 t, ms0_13 t, hs0_13 t,
    scM0_0, Memref.isWhole_whole _, scM0_1, Memref.isWhole_whole _, scM0_2, Memref.isWhole_whole _, scM0_3, Memref.isWhole_whole _,
    scM0_4, Memref.isWhole_whole _⟩

def insAt (c : Dev nD) (t : Fin cfg0.N) : Ins :=
  ⟨X0_0 m c t, X0_1 m c t, iblk m c 2 t, iblk m c 3 t, iblk m c 4 t, iblk m c 5 t, iblk m c 6 t, iblk m c 7 t, iblk m c 8 t, iblk m c 9 t⟩

/-- The loads of point `t`. -/
def blkAt (c : Dev nD) (t : Fin cfg0.N) : Blk := blkOf (grid0.coords t) (memsAt t) (insAt m c t)

/-- The sums of the keys' and values' gradients at point `t`. -/
def dkAt (c : Dev nD) (t : Fin cfg0.N) : W := dkSum (blkAt m c t) (memsAt t).a17 (memsAt t).a19
def dvAt (c : Dev nD) (t : Fin cfg0.N) : W := dvSum (blkAt m c t) (memsAt t).a18 (memsAt t).a20

/-- What five lists of pieces leave in the buffers. -/
def readFive (r : Five) : Vec Ideal S128x1024 .bf16 × Vec Ideal S128x1024 .bf16 × Vec Ideal S128x256 .bf16 × Vec Ideal S16x128 .f32 × Vec Ideal S128x256 .f32 :=
  (VO0_10.read (Elt Ideal) (VO0_10.writes (Elt Ideal) VO0_10.junk r.1), VO0_11.read (Elt Ideal) (VO0_11.writes (Elt Ideal) VO0_11.junk r.2.1),
    VO0_12.read (Elt Ideal) (VO0_12.writes (Elt Ideal) VO0_12.junk r.2.2.1), VO0_13.read (Elt Ideal) (VO0_13.writes (Elt Ideal) VO0_13.junk r.2.2.2.1),
    VS0_0.read (Elt Ideal) (VS0_0.writes (Elt Ideal) VS0_0.junk r.2.2.2.2))

theorem outs_A (c : Dev nD) (t : Fin cfg0.N) (h0 : t.val % 32 = 0) (h1 : t.val % 16 = 0) : outsAt0 m c t.val t.isLt
    = readFive (runA c (grid0.coords t) (memsAt t) (insAt m c t) ((hcond0_0 t).mpr h0) ((hcond0_1 t).mpr h1)) :=
  (outsAt0_A m c t h0 h1).trans (by sl_kernel_rfl)

theorem outs_B (c : Dev nD) (t : Fin cfg0.N) (h0 : ¬t.val % 32 = 0) (h1 : ¬t.val % 16 = 0) : outsAt0 m c t.val t.isLt
    = readFive (runB c (grid0.coords t) (memsAt t) (insAt m c t) (outsAt0 m c (t.val - 1) (by have := t.isLt; omega)).2.2.2.1
        (outsAt0 m c (t.val - 1) (by have := t.isLt; omega)).2.2.2.2 (fun h => h0 ((hcond0_0 t).mp h)) (fun h => h1 ((hcond0_1 t).mp h))) :=
  (outsAt0_B m c t h0 h1).trans (by sl_kernel_rfl)

theorem outs_C (c : Dev nD) (t : Fin cfg0.N) (h0 : ¬t.val % 32 = 0) (h1 : t.val % 16 = 0) : outsAt0 m c t.val t.isLt
    = readFive (runC c (grid0.coords t) (memsAt t) (insAt m c t) (outsAt0 m c (t.val - 1) (by have := t.isLt; omega)).2.2.2.1
        (fun h => h0 ((hcond0_0 t).mp h)) ((hcond0_1 t).mpr h1)) :=
  (outsAt0_C m c t h0 h1).trans (by sl_kernel_rfl)

end Cert.SwaBwdIdeal.Hand

end

end
-- ==== Proof.SwaLoads.lean ====
/- The rows of the attention's heads, in a point that has loaded one block of the arguments. -/
module

public import proofs.«01_k».proof.Proof.SwaValues
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.SwaBwdIdeal.Hand

open Cert.SwaBwdIdeal Cert.SwaBwdIdeal.Gen Cert.SwaSpec

theorem mask_at (n : Fin 16) (s : Fin 256) (t : Fin 128) : attMask (BitVec.ofNat 32 n.val) (ix2 s t) = 1#1
    ↔ t.val < s.val ∧ s.val ≤ t.val + 128 ∧ (128 ≤ s.val ∨ 0 < n.val) := by
  pointwise [attMask, k0_pay8, k0_pay7]
  have hs := s.isLt
  have ht := t.isLt
  have hn := n.isLt
  have e : ∀ x : ℕ, x < 1000 → (BitVec.ofNat 32 x).toInt = x := fun x hx => by
    rw [BitVec.toInt_eq_toNat_of_lt (by rw [BitVec.toNat_ofNat]; omega), BitVec.toNat_ofNat]; omega
  have e128 : (128#32).toInt = 128 := by decide
  have e0 : (0#32).toInt = 0 := by decide
  have ea : (IntOp.addi (BitVec.ofNat 32 t.val) 128#32).toInt = t.val + 128 := by
    have : IntOp.addi (BitVec.ofNat 32 t.val) 128#32 = BitVec.ofNat 32 (t.val + 128) := by
      rw [BitVec.ofNat_add]; rfl
    rw [this, e _ (by omega)]; push_cast; rfl
  have band : ∀ x y : Bool, (IntOp.andi (BitVec.ofBool x) (BitVec.ofBool y)) = BitVec.ofBool (x && y) := by decide
  have bor : ∀ x y : Bool, (IntOp.ori (BitVec.ofBool x) (BitVec.ofBool y)) = BitVec.ofBool (x || y) := by decide
  have bone : ∀ x : Bool, BitVec.ofBool x = 1#1 ↔ x = true := by decide
  rw [show Scalar.cmpi CmpIPredicate.sgt (BitVec.ofNat 32 n.val) 0#32 = IntOp.cmpi .sgt (BitVec.ofNat 32 n.val) 0#32 from rfl,
    WordCmp.cmpi_sgt_eq, WordCmp.cmpi_sle_eq, WordCmp.cmpi_sge_eq, WordCmp.cmpi_sgt_eq, ea, e s.val (by omega), e t.val (by omega), e n.val (by omega), e128, e0, bor, band, band, bone]
  simp only [Bool.and_eq_true, Bool.or_eq_true, decide_eq_true_eq]
  omega

theorem swapL_lane (h : Fin 2) (d : Fin 64) : swapL (lane h d) = lane h (swp d) := by revert h d; decide +kernel

theorem cosL (r : Fin 2048) (h : Fin 2) (d : Fin 64) : cosT r ⟨(lane h d).val % 32, by omega⟩ = cosH r d :=
  congrArg (cosT r) (Fin.ext (by simp only [lane]; omega))
theorem sinL (r : Fin 2048) (h : Fin 2) (d : Fin 64) : (if (lane h d).val % 64 < 32 then -sinT r ⟨(lane h d).val % 32, by omega⟩ else sinT r ⟨(lane h d).val % 32, by omega⟩)
    = sinH r d := by
  have e1 : (lane h d).val % 64 = d.val := by simp only [lane]; omega
  have e2 : (⟨(lane h d).val % 32, by omega⟩ : Fin 32) = ⟨d.val % 32, by omega⟩ := Fin.ext (by simp only [lane]; omega)
  unfold sinH
  rw [e1, e2]

theorem rope_lane (c s x : V) (r : Fin 2048) (t : Fin 128) (h : Fin 2) (f : Fin 64 → EReal) (hc : ∀ l, c (ix2 t l) = cosT r ⟨l.val % 32, by omega⟩)
    (hs : ∀ l, s (ix2 t l) = if l.val % 64 < 32 then -sinT r ⟨l.val % 32, by omega⟩ else sinT r ⟨l.val % 32, by omega⟩)
    (hf : ∀ d, x (ix2 t (lane h d)) = f d) (d : Fin 64) : rope x c s (ix2 t (lane h d)) = rot r f d := by
  rw [rope_at, swapL_lane, hc, hs, cosL, sinL, hf, hf]; rfl

theorem ropeBwd_lane (c s x : V) (r : Fin 2048) (t : Fin 128) (h : Fin 2) (f : Fin 64 → EReal) (hc : ∀ l, c (ix2 t l) = cosT r ⟨l.val % 32, by omega⟩)
    (hs : ∀ l, s (ix2 t l) = if l.val % 64 < 32 then -sinT r ⟨l.val % 32, by omega⟩ else sinT r ⟨l.val % 32, by omega⟩)
    (hf : ∀ d, x (ix2 t (lane h d)) = f d) (d : Fin 64) : ropeBwd x c s (ix2 t (lane h d)) = rotB r f d := by
  rw [ropeBwd_at, swapL_lane, hc, hs, cosL, sinL, hf, hf]; rfl

theorem hcol_lane (p : Fin 8) (hh : Fin 2) (d : Fin 64) : 128 * p.val + (lane hh d).val = (hcol (headOf p hh) d).val := by
  simp only [lane, hcol, headOf]; omega
theorem grp_head (p : Fin 8) (hh : Fin 2) : grp (headOf p hh) = grpOf p := Fin.ext (by simp only [grp, headOf, grpOf]; omega)

/-- The vectors a point loads are the rows of block `n` of sequence `b`, and of the block before, of the arguments. -/
structure Loads (D : Blk) (X : Args) (b : Fin 2) (n : Fin 16) : Prop where
  num : D.n = BitVec.ofNat 32 n.val
  q : ∀ (p : Fin 8) (r l : Fin 128), D.q p (ix2 r l) = X.P b (pos n r) ⟨4096 + (128 * p.val + l.val), by omega⟩
  z : ∀ (p : Fin 8) (r l : Fin 128), D.z p (ix2 r l) = X.P b (pos n r) ⟨5376 + (128 * p.val + l.val), by omega⟩
  dc : ∀ (p : Fin 8) (r l : Fin 128), D.dc p (ix2 r l) = X.C b (pos n r) ⟨128 * p.val + l.val, by omega⟩
  cc : ∀ r l : Fin 128, D.cc (ix2 r l) = cosT (pos n r) ⟨l.val % 32, by omega⟩
  sc : ∀ r l : Fin 128, D.sc (ix2 r l) = if l.val % 64 < 32 then -sinT (pos n r) ⟨l.val % 32, by omega⟩ else sinT (pos n r) ⟨l.val % 32, by omega⟩
  cp : ∀ r l : Fin 128, D.cp (ix2 r l) = cosT (pos (prv n) r) ⟨l.val % 32, by omega⟩
  sp : ∀ r l : Fin 128, D.sp (ix2 r l)
    = if l.val % 64 < 32 then -sinT (pos (prv n) r) ⟨l.val % 32, by omega⟩ else sinT (pos (prv n) r) ⟨l.val % 32, by omega⟩
  kc : ∀ r l : Fin 128, D.kc (ix2 r l) = X.P b (pos n r) ⟨5120 + l.val, by omega⟩
  kp : ∀ r l : Fin 128, D.kp (ix2 r l) = X.P b (pos (prv n) r) ⟨5120 + l.val, by omega⟩
  vc : ∀ r l : Fin 128, D.vc (ix2 r l) = X.P b (pos n r) ⟨5120 + (128 + l.val), by omega⟩
  vp : ∀ r l : Fin 128, D.vp (ix2 r l) = X.P b (pos (prv n) r) ⟨5120 + (128 + l.val), by omega⟩
  sk : ∀ h : Fin 16, D.sk h (ix2 0 0) = X.S h

section
variable {D : Blk} {X : Args} {b : Fin 2} {n : Fin 16} (L : Loads D X b n)
include L

theorem Loads.cc_at (r l : Fin 128) : cast1 D.cc (ix2 r l) = cosT (pos n r) ⟨l.val % 32, by omega⟩ := (cast1_at _ r l).trans (L.cc r l)
theorem Loads.sc_at (r l : Fin 128) : cast1 D.sc (ix2 r l)
    = if l.val % 64 < 32 then -sinT (pos n r) ⟨l.val % 32, by omega⟩ else sinT (pos n r) ⟨l.val % 32, by omega⟩ :=
  (cast1_at _ r l).trans (L.sc r l)
theorem Loads.cp_at (r l : Fin 128) : cast1 D.cp (ix2 r l) = cosT (pos (prv n) r) ⟨l.val % 32, by omega⟩ := (cast1_at _ r l).trans (L.cp r l)
theorem Loads.sp_at (r l : Fin 128) : cast1 D.sp (ix2 r l)
    = if l.val % 64 < 32 then -sinT (pos (prv n) r) ⟨l.val % 32, by omega⟩ else sinT (pos (prv n) r) ⟨l.val % 32, by omega⟩ :=
  (cast1_at _ r l).trans (L.sp r l)

theorem Loads.qp_row (p : Fin 8) (hh : Fin 2) (r : Fin 128) (d : Fin 64) : qp D p (ix2 r (lane hh d)) = X.qv b (pos n r) (headOf p hh) d := by
  refine rope_lane _ _ _ (pos n r) r hh _ (L.cc_at r) (L.sc_at r) (fun d => ?_) d
  rw [cast1_at, L.q]
  exact congrArg (X.P b (pos n r)) (Fin.ext (congrArg (4096 + ·) (hcol_lane p hh d)))

theorem Loads.z_row (p : Fin 8) (hh : Fin 2) (r : Fin 128) (d : Fin 64) : cast1 (D.z p) (ix2 r (lane hh d)) = X.zv b (pos n r) (headOf p hh) d := by
  rw [cast1_at, L.z]
  exact congrArg (X.P b (pos n r)) (Fin.ext (congrArg (5376 + ·) (hcol_lane p hh d)))

theorem Loads.dc_row (p : Fin 8) (hh : Fin 2) (r : Fin 128) (d : Fin 64) : cast1 (D.dc p) (ix2 r (lane hh d)) = X.C b (pos n r) (hcol (headOf p hh) d) := by
  rw [cast1_at, L.dc]
  exact congrArg (X.C b (pos n r)) (Fin.ext (hcol_lane p hh d))

theorem Loads.sg_row (p : Fin 8) (hh : Fin 2) (r : Fin 128) (d : Fin 64) : sg D p (ix2 r (lane hh d)) = sgm (X.zv b (pos n r) (headOf p hh) d) := by
  rw [sg_at, L.z_row]; rfl

theorem Loads.k_row (s : Fin 256) (j : Fin 2) (d : Fin 64) : kRows D (ix2 s (lane j d)) = X.kv b (win n s) j d := by
  rw [kRows_at]
  unfold win
  split
  · exact rope_lane _ _ _ (pos (prv n) _) _ j _ (L.cp_at _) (L.sp_at _) (fun d => (cast1_at _ _ _).trans (L.kp _ _)) d
  · exact rope_lane _ _ _ (pos n _) _ j _ (L.cc_at _) (L.sc_at _) (fun d => (cast1_at _ _ _).trans (L.kc _ _)) d

theorem Loads.v_row (s : Fin 256) (j : Fin 2) (d : Fin 64) : vRows D (ix2 s (lane j d)) = X.vv b (win n s) j d := by
  rw [vRows_at]
  unfold win
  split
  · exact (cast1_at _ _ _).trans (L.vp _ _)
  · exact (cast1_at _ _ _).trans (L.vc _ _)

theorem Loads.att_eq (p : Fin 8) (hh : Fin 2) (r : Fin 128) : attOf D p hh r = X.att b n (headOf p hh) r := by
  unfold attOf Args.att
  rw [grp_head]
  congr 1
  · funext s
    rw [L.num]
    exact decide_eq_decide.2 (mask_at n s r)
  · funext d; exact L.qp_row p hh r d
  · funext s d; exact L.k_row s _ d
  · funext s d; exact L.v_row s _ d
  · funext d
    rw [dOut_at, L.dc_row, L.z_row, L.sg_row]; rfl
  · exact L.sk _

end

end Cert.SwaBwdIdeal.Hand

end

end
-- ==== Proof.SwaKernel.lean ====
/- What the attention's backward kernel leaves in its four results. -/
module

public import proofs.«01_k».proof.Proof.SwaOuts
public import proofs.«01_k».proof.Proof.SwaLoads
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SwaBwdIdeal.Hand

open Cert.SwaBwdIdeal Cert.SwaBwdIdeal.Gen Cert.SwaSpec

variable (m : (ℓ : Loc nD τ sig) → Buf (Elt Ideal) ℓ)

/-! ## The blocks, as parts of the arguments -/

/-- The arguments. -/
abbrev pj (c : Dev nD) : S2x2048x6400.Idx → EReal := m ((c.tc : Thread nD τ).loc main_arg0)
abbrev sks (c : Dev nD) : S16.Idx → EReal := m ((c.tc : Thread nD τ).loc main_arg1)
abbrev ct (c : Dev nD) : S2x2048x1024.Idx → EReal := m ((c.tc : Thread nD τ).loc main_arg2)

theorem idx : ∀ t : Fin cfg0.N, win0_0.index t = ![16 * (t.val / 16) + (15 - t.val % 16), 4] ∧ win0_1.index t = ![16 * (t.val / 16) + (15 - t.val % 16), 5]
    ∧ win0_2.index t = ![16 * (t.val / 16) + (15 - t.val % 16), 24] ∧ win0_3.index t = ![16 * (t.val / 16) + (14 - t.val % 16), 24]
    ∧ win0_4.index t = ![0, 0] ∧ win0_5.index t = ![15 - t.val % 16, 0] ∧ win0_6.index t = ![15 - t.val % 16, 0]
    ∧ win0_7.index t = ![14 - t.val % 16, 0] ∧ win0_8.index t = ![14 - t.val % 16, 0] ∧ win0_9.index t = ![16 * (t.val / 16) + (15 - t.val % 16), 0]
    ∧ win0_10.index t = ![16 * (t.val / 16) + (15 - t.val % 16), 0] ∧ win0_11.index t = ![16 * (t.val / 16) + (15 - t.val % 16), 0]
    ∧ win0_12.index t = ![16 * (t.val / 16) + (15 - t.val % 16), 0] ∧ win0_13.index t = ![0, 0] :=
  (by decide +kernel : ∀ t : Fin grid0.N, _)

/-- The sequence and the block of point `t`. -/
def bat (t : Fin cfg0.N) : Fin 2 := ⟨t.val / 16, by have := lt_of_lt_of_eq t.isLt N_0; omega⟩
def blk (t : Fin cfg0.N) : Fin 16 := ⟨15 - t.val % 16, by omega⟩

/-- The columns as the kernel takes them: the last two parts exchanged. -/
def order3 (x : S2x2048x6400.Idx → EReal) : FVec Ideal S2x2048x6400 .f32 :=
  concatenate S2x2048x6400 2 [⟨S2x2048x5120, extractStridedSlice S2x2048x5120 ![0, 0, 0] (x : FVec Ideal S2x2048x6400 .f32) slices_S2x2048x6400_S2x2048x5120_0_0_0⟩,
    ⟨S2x2048x1024, extractStridedSlice S2x2048x1024 ![0, 0, 5376] (x : FVec Ideal S2x2048x6400 .f32) slices_S2x2048x6400_S2x2048x1024_0_0_5376⟩,
    ⟨S2x2048x256, extractStridedSlice S2x2048x256 ![0, 0, 5120] (x : FVec Ideal S2x2048x6400 .f32) slices_S2x2048x6400_S2x2048x256_0_0_5120⟩]
    concatenates_S2x2048x5120_S2x2048x1024_S2x2048x256_S2x2048x6400_d2

theorem order_entry (c : Dev nD) : Gen.V m c main_v29 = shapeCast S4096x6400 (order3 (pj m c)) shapeCasts_S2x2048x6400_S4096x6400 := by
  sl_kernel_rfl

theorem order3_at (x : S2x2048x6400.Idx → EReal) (b : Fin 2) (r : Fin 2048) (l : Fin 6400) :
    order3 x (ix3 b r l) = if h : l.val < 5120 then x (ix3 b r l) else if h : l.val < 6144 then x (ix3 b r ⟨l.val + 256, by omega⟩)
      else x (ix3 b r ⟨l.val - 1024, by omega⟩) := by
  have h : order3 x (ix3 b r l) = if h : l.val < 5120 then x (ix3 b r l) else if h : l.val - 5120 < 1024 then
      x (ix3 b r ⟨5376 + (l.val - 5120), by omega⟩) else x (ix3 b r ⟨5120 + (l.val - 5120 - 1024), by omega⟩) := by
    pointwise [order3]
  rw [h]
  split
  · rfl
  · by_cases h1 : l.val < 6144
    · rw [dif_pos (by omega), dif_pos h1]; exact congrArg x (congrArg (ix3 b r) (Fin.ext (by show 5376 + (l.val - 5120) = l.val + 256; omega)))
    · rw [dif_neg (by omega), dif_neg h1]; exact congrArg x (congrArg (ix3 b r) (Fin.ext (by show 5120 + (l.val - 5120 - 1024) = l.val - 1024; omega)))

def rowB (r : Fin 4096) : Fin 2 := ⟨r.val / 2048, by omega⟩
def rowS (r : Fin 4096) : Fin 2048 := ⟨r.val % 2048, by omega⟩

theorem orderB_at (c : Dev nD) (r : Fin 4096) (l : Fin 6400) : (Gen.V m c main_v29 : S4096x6400.Idx → EReal) (ix2 r l)
    = order3 (pj m c) (ix3 (rowB r) (rowS r) l) := by
  rw [order_entry]
  pointwise [rowB, rowS]

theorem cosE_at (c : Dev nD) (r : Fin 2048) (l : Fin 128) : (Gen.V m c main_v21 : S2048x128.Idx → EReal) (ix2 r l) = cosT r ⟨l.val % 32, by omega⟩ := by
  entry_read
  pointwise
  unfold cosT ang
  split
  · rw [show l.val % 64 = l.val % 32 by omega]
  · rw [show l.val % 64 - 32 = l.val % 32 by omega]

theorem sinE_at (c : Dev nD) (r : Fin 2048) (l : Fin 128) : (Gen.V m c main_v26 : S2048x128.Idx → EReal) (ix2 r l)
    = if l.val % 64 < 32 then -sinT r ⟨l.val % 32, by omega⟩ else sinT r ⟨l.val % 32, by omega⟩ := by
  entry_read
  pointwise
  unfold sinT ang
  split
  · rw [show l.val % 64 = l.val % 32 by omega]
  · rw [show l.val % 64 - 32 = l.val % 32 by omega]

/-- Row `p` of block `n` of sequence `b`, as a row of the array. -/
def rowOf (b : Fin 2) (n : Fin 16) (p : Fin 128) : Fin 4096 := ⟨(16 * b.val + n.val) * 128 + p.val, by omega⟩

theorem rowB_rowOf (b : Fin 2) (n : Fin 16) (p : Fin 128) : rowB (rowOf b n p) = b := Fin.ext (by show ((16 * b.val + n.val) * 128 + p.val) / 2048 = _; omega)
theorem rowS_rowOf (b : Fin 2) (n : Fin 16) (p : Fin 128) : rowS (rowOf b n p) = pos n p :=
  Fin.ext (by show ((16 * b.val + n.val) * 128 + p.val) % 2048 = n.val * 128 + p.val; omega)

theorem q_blk (c : Dev nD) (t : Fin cfg0.N) (p : Fin 128) (d : Fin 1024) :
    (show FVec Ideal S128x1024 .f32 from X0_0 m c t) (ix2 p d) = pj m c (ix3 (bat t) (pos (blk t) p) ⟨4096 + d.val, by omega⟩) := by
  have h : (show FVec Ideal S128x1024 .f32 from X0_0 m c t) (ix2 p d)
      = (Gen.V m c main_v29 : S4096x6400.Idx → EReal) (((cfg0.win 0).blk t).view.emb (fun a => ⟨(ix2 p d a).val, ((cfg0.win 0).moved_iff _ _).mp (moved0_0 t (ix2 p d)) a⟩)) := dif_pos (moved0_0 t _)
  have he : (((cfg0.win 0).blk t).view.emb (fun a => ⟨(ix2 p d a).val, ((cfg0.win 0).moved_iff _ _).mp (moved0_0 t (ix2 p d)) a⟩) : S4096x6400.Idx)
      = ix2 (rowOf (bat t) (blk t) p) ⟨4096 + d.val, by omega⟩ := by
    blk_ext [idx t, rowOf, bat, blk]
  rw [h, he, orderB_at, rowB_rowOf, rowS_rowOf, order3_at, dif_pos (by show 4096 + d.val < 5120; omega)]

theorem z_blk (c : Dev nD) (t : Fin cfg0.N) (p : Fin 128) (d : Fin 1024) :
    (show FVec Ideal S128x1024 .f32 from X0_1 m c t) (ix2 p d) = pj m c (ix3 (bat t) (pos (blk t) p) ⟨5376 + d.val, by omega⟩) := by
  have h : (show FVec Ideal S128x1024 .f32 from X0_1 m c t) (ix2 p d)
      = (Gen.V m c main_v29 : S4096x6400.Idx → EReal) (((cfg0.win 1).blk t).view.emb (fun a => ⟨(ix2 p d a).val, ((cfg0.win 1).moved_iff _ _).mp (moved0_1 t (ix2 p d)) a⟩)) := dif_pos (moved0_1 t _)
  have he : (((cfg0.win 1).blk t).view.emb (fun a => ⟨(ix2 p d a).val, ((cfg0.win 1).moved_iff _ _).mp (moved0_1 t (ix2 p d)) a⟩) : S4096x6400.Idx)
      = ix2 (rowOf (bat t) (blk t) p) ⟨5120 + d.val, by omega⟩ := by
    blk_ext [idx t, rowOf, bat, blk]
  rw [h, he, orderB_at, rowB_rowOf, rowS_rowOf, order3_at, dif_neg (by show ¬ 5120 + d.val < 5120; omega), dif_pos (by show 5120 + d.val < 6144; omega)]
  congr 2; apply Fin.ext; show 5120 + d.val + 256 = 5376 + d.val; omega

/-- The keys' and values' columns of a row. -/
theorem kvE_at (c : Dev nD) (b : Fin 2) (n : Fin 16) (p : Fin 128) (d : Fin 256) :
    (Gen.V m c main_v29 : S4096x6400.Idx → EReal) (ix2 (rowOf b n p) ⟨6144 + d.val, by omega⟩) = pj m c (ix3 b (pos n p) ⟨5120 + d.val, by omega⟩) := by
  rw [orderB_at, rowB_rowOf, rowS_rowOf, order3_at, dif_neg (by show ¬ 6144 + d.val < 5120; omega), dif_neg (by show ¬ 6144 + d.val < 6144; omega)]
  congr 2; apply Fin.ext; show 6144 + d.val - 1024 = 5120 + d.val; omega

theorem kv_blk (c : Dev nD) (t : Fin cfg0.N) (p : Fin 128) (d : Fin 256) :
    (show FVec Ideal S128x256 .f32 from iblk m c 2 t) (ix2 p d) = pj m c (ix3 (bat t) (pos (blk t) p) ⟨5120 + d.val, by omega⟩) := by
  blk_simp [iblk, idx t]
  refine Eq.trans (congrArg _ ?_) (kvE_at m c (bat t) (blk t) p d)
  blk_ext [idx t, rowOf, bat, blk]

theorem kvp_blk (c : Dev nD) (t : Fin cfg0.N) (p : Fin 128) (d : Fin 256) :
    (show FVec Ideal S128x256 .f32 from iblk m c 3 t) (ix2 p d) = pj m c (ix3 (bat t) (pos (prv (blk t)) p) ⟨5120 + d.val, by omega⟩) := by
  blk_simp [iblk, idx t]
  refine Eq.trans (congrArg _ ?_) (kvE_at m c (bat t) (prv (blk t)) p d)
  blk_ext [idx t, rowOf, bat, blk, prv]

theorem c_blk (c : Dev nD) (t : Fin cfg0.N) (p : Fin 128) (d : Fin 128) :
    (show FVec Ideal S128x128 .f32 from iblk m c 5 t) (ix2 p d) = cosT (pos (blk t) p) ⟨d.val % 32, by omega⟩ := by
  blk_simp [iblk, idx t]
  refine Eq.trans (congrArg _ ?_) (cosE_at m c (pos (blk t) p) d)
  blk_ext [idx t, pos, blk]

theorem s_blk (c : Dev nD) (t : Fin cfg0.N) (p : Fin 128) (d : Fin 128) :
    (show FVec Ideal S128x128 .f32 from iblk m c 6 t) (ix2 p d)
      = if d.val % 64 < 32 then -sinT (pos (blk t) p) ⟨d.val % 32, by omega⟩ else sinT (pos (blk t) p) ⟨d.val % 32, by omega⟩ := by
  blk_simp [iblk, idx t]
  refine Eq.trans (congrArg _ ?_) (sinE_at m c (pos (blk t) p) d)
  blk_ext [idx t, pos, blk]

theorem cp_blk (c : Dev nD) (t : Fin cfg0.N) (p : Fin 128) (d : Fin 128) :
    (show FVec Ideal S128x128 .f32 from iblk m c 7 t) (ix2 p d) = cosT (pos (prv (blk t)) p) ⟨d.val % 32, by omega⟩ := by
  blk_simp [iblk, idx t]
  refine Eq.trans (congrArg _ ?_) (cosE_at m c (pos (prv (blk t)) p) d)
  blk_ext [idx t, pos, blk, prv]

theorem sp_blk (c : Dev nD) (t : Fin cfg0.N) (p : Fin 128) (d : Fin 128) :
    (show FVec Ideal S128x128 .f32 from iblk m c 8 t) (ix2 p d)
      = if d.val % 64 < 32 then -sinT (pos (prv (blk t)) p) ⟨d.val % 32, by omega⟩ else sinT (pos (prv (blk t)) p) ⟨d.val % 32, by omega⟩ := by
  blk_simp [iblk, idx t]
  refine Eq.trans (congrArg _ ?_) (sinE_at m c (pos (prv (blk t)) p) d)
  blk_ext [idx t, pos, blk, prv]

theorem sk_blk (c : Dev nD) (t : Fin cfg0.N) (p : Fin 16) (d : Fin 128) :
    (show FVec Ideal S16x128 .f32 from iblk m c 4 t) (ix2 p d) = sks m c (ix1 p) := by
  blk_simp [iblk, idx t]
  entry_read
  pointwise
  blk_point [idx t, bat, pos, blk]
theorem ct_blk (c : Dev nD) (t : Fin cfg0.N) (p : Fin 128) (d : Fin 1024) :
    (show FVec Ideal S128x1024 .f32 from iblk m c 9 t) (ix2 p d) = ct m c (ix3 (bat t) (pos (blk t) p) d) := by
  blk_simp [iblk, idx t]
  entry_read
  pointwise
  blk_point [idx t, bat, pos, blk]

/-! ## The loads of a point -/

theorem ld_q (c : Dev nD) (t : Fin cfg0.N) (p : Fin 8) (r l : Fin 128) :
    (blkAt m c t).q p (ix2 r l) = pj m c (ix3 (bat t) (pos (blk t) r) ⟨4096 + (128 * p.val + l.val), by omega⟩) := by
  unfold blkAt blkOf
  simp only [View.readAt_eq_ld, Memref.IsWhole.read_unread]
  refine Eq.trans ?_ (q_blk m c t r ⟨128 * p.val + l.val, by omega⟩)
  unfold insAt
  pointwise

theorem ld_z (c : Dev nD) (t : Fin cfg0.N) (p : Fin 8) (r l : Fin 128) :
    (blkAt m c t).z p (ix2 r l) = pj m c (ix3 (bat t) (pos (blk t) r) ⟨5376 + (128 * p.val + l.val), by omega⟩) := by
  unfold blkAt blkOf
  simp only [View.readAt_eq_ld, Memref.IsWhole.read_unread]
  refine Eq.trans ?_ (z_blk m c t r ⟨128 * p.val + l.val, by omega⟩)
  unfold insAt
  pointwise

theorem ld_dc (c : Dev nD) (t : Fin cfg0.N) (p : Fin 8) (r l : Fin 128) :
    (blkAt m c t).dc p (ix2 r l) = ct m c (ix3 (bat t) (pos (blk t) r) ⟨128 * p.val + l.val, by omega⟩) := by
  unfold blkAt blkOf
  simp only [View.readAt_eq_ld, Memref.IsWhole.read_unread]
  refine Eq.trans ?_ (ct_blk m c t r ⟨128 * p.val + l.val, by omega⟩)
  unfold insAt
  pointwise

theorem ld_cc (c : Dev nD) (t : Fin cfg0.N) (r l : Fin 128) :
    (blkAt m c t).cc (ix2 r l) = cosT (pos (blk t) r) ⟨l.val % 32, by omega⟩ := by
  unfold blkAt blkOf
  simp only [View.readAt_eq_ld, Memref.IsWhole.read_unread]
  refine Eq.trans ?_ (c_blk m c t r l)
  unfold insAt
  pointwise

theorem ld_sc (c : Dev nD) (t : Fin cfg0.N) (r l : Fin 128) :
    (blkAt m c t).sc (ix2 r l) = if l.val % 64 < 32 then -sinT (pos (blk t) r) ⟨l.val % 32, by omega⟩ else sinT (pos (blk t) r) ⟨l.val % 32, by omega⟩ := by
  unfold blkAt blkOf
  simp only [View.readAt_eq_ld, Memref.IsWhole.read_unread]
  refine Eq.trans ?_ (s_blk m c t r l)
  unfold insAt
  pointwise

theorem ld_cp (c : Dev nD) (t : Fin cfg0.N) (r l : Fin 128) :
    (blkAt m c t).cp (ix2 r l) = cosT (pos (prv (blk t)) r) ⟨l.val % 32, by omega⟩ := by
  unfold blkAt blkOf
  simp only [View.readAt_eq_ld, Memref.IsWhole.read_unread]
  refine Eq.trans ?_ (cp_blk m c t r l)
  unfold insAt
  pointwise

theorem ld_sp (c : Dev nD) (t : Fin cfg0.N) (r l : Fin 128) :
    (blkAt m c t).sp (ix2 r l) = if l.val % 64 < 32 then -sinT (pos (prv (blk t)) r) ⟨l.val % 32, by omega⟩ else sinT (pos (prv (blk t)) r) ⟨l.val % 32, by omega⟩ := by
  unfold blkAt blkOf
  simp only [View.readAt_eq_ld, Memref.IsWhole.read_unread]
  refine Eq.trans ?_ (sp_blk m c t r l)
  unfold insAt
  pointwise

theorem ld_kc (c : Dev nD) (t : Fin cfg0.N) (r l : Fin 128) :
    (blkAt m c t).kc (ix2 r l) = pj m c (ix3 (bat t) (pos (blk t) r) ⟨5120 + l.val, by omega⟩) := by
  unfold blkAt blkOf
  simp only [View.readAt_eq_ld, Memref.IsWhole.read_unread]
  refine Eq.trans ?_ (kv_blk m c t r ⟨l.val, by omega⟩)
  unfold insAt
  pointwise

theorem ld_kp (c : Dev nD) (t : Fin cfg0.N) (r l : Fin 128) :
    (blkAt m c t).kp (ix2 r l) = pj m c (ix3 (bat t) (pos (prv (blk t)) r) ⟨5120 + l.val, by omega⟩) := by
  unfold blkAt blkOf
  simp only [View.readAt_eq_ld, Memref.IsWhole.read_unread]
  refine Eq.trans ?_ (kvp_blk m c t r ⟨l.val, by omega⟩)
  unfold insAt
  pointwise

theorem ld_vc (c : Dev nD) (t : Fin cfg0.N) (r l : Fin 128) :
    (blkAt m c t).vc (ix2 r l) = pj m c (ix3 (bat t) (pos (blk t) r) ⟨5120 + (128 + l.val), by omega⟩) := by
  unfold blkAt blkOf
  simp only [View.readAt_eq_ld, Memref.IsWhole.read_unread]
  refine Eq.trans ?_ (kv_blk m c t r ⟨128 + l.val, by omega⟩)
  unfold insAt
  pointwise

theorem ld_vp (c : Dev nD) (t : Fin cfg0.N) (r l : Fin 128) :
    (blkAt m c t).vp (ix2 r l) = pj m c (ix3 (bat t) (pos (prv (blk t)) r) ⟨5120 + (128 + l.val), by omega⟩) := by
  unfold blkAt blkOf
  simp only [View.readAt_eq_ld, Memref.IsWhole.read_unread]
  refine Eq.trans ?_ (kvp_blk m c t r ⟨128 + l.val, by omega⟩)
  unfold insAt
  pointwise

theorem ld_sk (c : Dev nD) (t : Fin cfg0.N) (h : Fin 16) :
    (blkAt m c t).sk h (ix2 0 0) = sks m c (ix1 h) := by
  unfold blkAt blkOf
  simp only [View.readAt_eq_ld, Memref.IsWhole.read_unread]
  refine Eq.trans ?_ (sk_blk m c t h 0)
  unfold insAt
  pointwise

theorem n_blk (c : Dev nD) (t : Fin cfg0.N) : (blkAt m c t).n = BitVec.ofNat 32 (blk t).val := by
  have h : ∀ t : Fin cfg0.N, Scalar.subi 15#32 (BitVec.ofNat 32 (grid0.coords t 1).val) = BitVec.ofNat 32 (15 - t.val % 16) :=
    (by decide +kernel : ∀ t : Fin grid0.N, _)
  exact h t

/-! ## A row of a head of a point -/

/-- The arguments by their axes. -/
def args (c : Dev nD) : Args where
  P b r l := pj m c (ix3 b r l)
  S h := sks m c (ix1 h)
  C b r l := ct m c (ix3 b r l)

theorem loads (c : Dev nD) (t : Fin cfg0.N) : Loads (blkAt m c t) (args m c) (bat t) (blk t) :=
  ⟨n_blk m c t, ld_q m c t, ld_z m c t, ld_dc m c t, ld_cc m c t, ld_sc m c t, ld_cp m c t, ld_sp m c t, ld_kc m c t, ld_kp m c t,
    ld_vc m c t, ld_vp m c t, ld_sk m c t⟩

end Cert.SwaBwdIdeal.Hand

end

end
-- ==== Proof.SwaResults.lean ====
/- The four results of the attention's backward kernel. -/
module

public import proofs.«01_k».proof.Proof.SwaKernel

@[expose] public section

set_option maxRecDepth 16384

noncomputable section

open Idealize.ShloMosaic Idealize.ShloMosaic.TcCoe Idealize.SL.Sem
open Idealize.ShloMosaic.Pipeline (Dat)

namespace Cert.SwaBwdIdeal.Hand

open Cert.SwaBwdIdeal Cert.SwaBwdIdeal.Gen Cert.SwaSpec

variable (m : (ℓ : Loc nD τ sig) → Buf (Elt Ideal) ℓ)

/-! ## What the lists of pieces hold -/

/-- A row for each head. -/
def rowsOf (f : Fin 8 → Fin 2 → FVec Ideal S1x128 .f32) (y : S16x128.Idx) : EReal :=
  f ⟨(y 0).val / 2, by have h : (y 0).val < 16 := (y 0).isLt; omega⟩ ⟨(y 0).val % 2, by omega⟩ (ix2 0 (y 1))

theorem rowsOf_head (f : Fin 8 → Fin 2 → FVec Ideal S1x128 .f32) (p : Fin 8) (hh : Fin 2) (l : Fin 128) :
    rowsOf f (ix2 (headOf p hh) l) = f p hh (ix2 0 l) := by
  have e1 : (⟨(headOf p hh).val / 2, by omega⟩ : Fin 8) = p := Fin.ext (by simp only [headOf]; omega)
  have e2 : (⟨(headOf p hh).val % 2, by omega⟩ : Fin 2) = hh := Fin.ext (by simp only [headOf]; omega)
  exact congrArg₂ (fun a b => f a b (ix2 0 l)) e1 e2

theorem rowR_emb (h : Fin 16) (r : Fin 1) (l : Fin 128) : ((rowR h).emb (ix2 r l : S1x128.Idx) : S16x128.Idx) = ix2 h l := by
  refine (eq_ix2 _).trans (congrArg₂ ix2 (Fin.ext ?_) (Fin.ext ?_))
  · show h.val + 1 * r.val = h.val
    omega
  · show 0 + 1 * l.val = l.val
    omega

theorem rowsOf_emb (f : Fin 8 → Fin 2 → FVec Ideal S1x128 .f32) (p : Fin 8) (hh : Fin 2) (x : S1x128.Idx) :
    f p hh x = rowsOf f ((rowR (headOf p hh)).emb x) := by
  obtain ⟨r, l, rfl⟩ : ∃ (r : Fin 1) (l : Fin 128), x = ix2 r l := ⟨x 0, x 1, eq_ix2 x⟩
  rw [rowR_emb]
  refine Eq.trans ?_ (rowsOf_head f p hh l).symm
  rw [show r = 0 from Fin.ext (by omega)]

theorem rows_cover (y : S16x128.Idx) : ∃ q ∈ order, y ∈ (rowR (headOf q.1 q.2)).set := by
  obtain ⟨r, l, rfl⟩ : ∃ (r : Fin 16) (l : Fin 128), y = ix2 r l := ⟨y 0, y 1, eq_ix2 y⟩
  have h : ∀ h : Fin 16, ∃ q ∈ order, headOf q.1 q.2 = h := by decide +kernel
  obtain ⟨q, hq, e⟩ := h r
  refine ⟨q, hq, ?_⟩
  rw [e, ← rowR_emb r 0 l]
  exact LoadRect.idx_mem _ _

theorem over_pieces (D : Blk) (row : Fin 16 → Vec Ideal S1x128 .f32) : ∀ l, View.PiecesOf (Val := Elt Ideal) (e := .f32)
    (rowsOf fun p hh => dskRow D p hh (row (headOf p hh))) (dskOver D row l)
  | [] => trivial
  | (p, hh) :: l => ⟨rowsOf_emb (fun p hh => dskRow D p hh (row (headOf p hh))) p hh, over_pieces D row l⟩

theorem over_cover (D : Blk) (row : Fin 16 → Vec Ideal S1x128 .f32) (y : S16x128.Idx) : ∀ l, (∃ q ∈ l, y ∈ (rowR (headOf q.1 q.2)).set)
    → ∃ p ∈ dskOver D row l, y ∈ p.1.set
  | [], h => absurd h (by simp)
  | (p, hh) :: l, h => by
    obtain ⟨q, hq, hy⟩ := h
    rcases List.mem_cons.mp hq with rfl | hq
    · exact ⟨_, List.mem_cons_self, hy⟩
    · obtain ⟨r, hr, hy⟩ := over_cover D row y l ⟨q, hq, hy⟩
      exact ⟨r, List.mem_cons_of_mem _ hr, hy⟩

/-- The zeros under the rows of the first point. -/
def fillD : List (View.Piece (Elt Ideal) S16x128 .f32) :=
  [⟨Rect.unit (s := S16x128) ![0, 0] S16x128.size inb_S16x128_S16x128_0_0, (k0_pay2 (F := Ideal) : FVec Ideal S16x128 .f32)⟩]

theorem fillD_canon : View.canon (Val := Elt Ideal) fillD = fun _ => (0 : EReal) := by
  refine (View.canon_cons_unit_lit _ _ _ (by decide)).trans ?_
  funext y
  obtain ⟨r, l, rfl⟩ : ∃ r l, y = ix2 r l := ⟨y 0, y 1, eq_ix2 y⟩
  pointwise [k0_pay2]

theorem headOf_inj : ∀ q q' : Fin 8 × Fin 2, headOf q.1 q.2 = headOf q'.1 q'.2 → q = q' := by decide +kernel

/-- A head's row is zero before it is stored. -/
theorem fresh_canon (D : Blk) (a : Memref Cert.SwaBwdIdeal.sig .tc .vmem S16x128 .f32) (q : Fin 8 × Fin 2) (x : S1x128.Idx) : ∀ l, q ∉ l →
    View.canon (Val := Elt Ideal) (dskFresh D a l) ((rowR (headOf q.1 q.2)).emb x) = (0 : EReal)
  | [], _ => congrFun fillD_canon _
  | (p, hh) :: l, h => by
    obtain ⟨r, c, rfl⟩ : ∃ (r : Fin 1) (c : Fin 128), x = ix2 r c := ⟨x 0, x 1, eq_ix2 x⟩
    refine (View.canon_cons_of_not_mem _ _ ?_).trans (fresh_canon D a q _ l fun hl => h (List.mem_cons_of_mem _ hl))
    intro hm
    refine h ((headOf_inj q (p, hh) ?_) ▸ List.mem_cons_self)
    rw [rowR_emb] at hm
    obtain ⟨h0, h1⟩ := (Rect.mem_set_unit (inb := inbD (headOf p hh))).1 hm 0
    exact Fin.ext (le_antisymm (Nat.lt_succ_iff.1 h1) h0)

theorem fresh_over (D : Blk) (a : Memref Cert.SwaBwdIdeal.sig .tc .vmem S16x128 .f32) : ∀ l : List (Fin 8 × Fin 2), l.Nodup →
    dskFresh D a l = dskOver D (fun _ => fun _ => (0 : EReal)) l ++ fillD
  | [], _ => rfl
  | (p, hh) :: l, h => by
    have hn := List.nodup_cons.1 h
    show (_ :: _) = (_ :: _)
    rw [fresh_over D a l hn.2]
    congr 2
    rw [← fresh_over D a l hn.2]
    have e : a.view.readCov (dskFresh D a l) (rowR (headOf p hh)).toLoadRect = fun _ => (0 : EReal) := by
      rw [View.readCov_eq_canon']
      exact funext fun x => fresh_canon D a (p, hh) x l hn.1
    rw [e]
    rfl

/-! ## A point's pieces -/

theorem outs_any (c : Dev nD) (t : Fin cfg0.N) : ∃ rows ck cv fill, outsAt0 m c t.val t.isLt = readFive (fiveOf (blkAt m c t) (memsAt t) rows ck cv fill) := by
  by_cases h1 : t.val % 16 = 0
  · by_cases h0 : t.val % 32 = 0
    · exact ⟨_, _, _, _, (outs_A m c t h0 h1).trans (congrArg readFive (runA_eq c _ _ _ _ _))⟩
    · exact ⟨_, _, _, _, (outs_C m c t h0 h1).trans (congrArg readFive (runC_eq c _ _ _ _ _ _))⟩
  · exact ⟨_, _, _, _, (outs_B m c t (by omega) h1).trans (congrArg readFive (runB_eq c _ _ _ _ _ _ _))⟩

theorem out_dq (c : Dev nD) (t : Fin cfg0.N) (p : Fin 8) (r l : Fin 128) :
    (outsAt0 m c t.val t.isLt).1 (ix2 r (stk p l)) = dqPair (blkAt m c t) p (ix2 r l) := by
  obtain ⟨rows, ck, cv, fill, e⟩ := outs_any m c t
  rw [e]
  exact (congrFun (View.read_writes_junk_eq_canon (Val := Elt Ideal) VO0_10 _) _).trans (cols_canon _ r p l)

theorem out_dz (c : Dev nD) (t : Fin cfg0.N) (p : Fin 8) (r l : Fin 128) :
    (outsAt0 m c t.val t.isLt).2.1 (ix2 r (stk p l)) = dzPair (blkAt m c t) p (ix2 r l) := by
  obtain ⟨rows, ck, cv, fill, e⟩ := outs_any m c t
  rw [e]
  exact (congrFun (View.read_writes_junk_eq_canon (Val := Elt Ideal) VO0_11 _) _).trans (cols_canon _ r p l)

/-! ## The queries' and the gates' gradients -/

def blkR (r : Fin 4096) : Fin 16 := ⟨r.val % 2048 / 128, by omega⟩
def posR (r : Fin 4096) : Fin 128 := ⟨r.val % 128, by omega⟩
def headC (l : Fin 1024) : Fin 16 := ⟨l.val / 64, by omega⟩
def dimC (l : Fin 1024) : Fin 64 := ⟨l.val % 64, by omega⟩

theorem blkR_rowOf (b : Fin 2) (n : Fin 16) (p : Fin 128) : blkR (rowOf b n p) = n := Fin.ext (by simp only [blkR, rowOf]; omega)
theorem posR_rowOf (b : Fin 2) (n : Fin 16) (p : Fin 128) : posR (rowOf b n p) = p := Fin.ext (by simp only [posR, rowOf]; omega)
theorem headC_stk (p : Fin 8) (hh : Fin 2) (d : Fin 64) : headC (stk p (lane hh d)) = headOf p hh := Fin.ext (by simp only [headC, stk, lane, headOf]; omega)
theorem dimC_stk (p : Fin 8) (hh : Fin 2) (d : Fin 64) : dimC (stk p (lane hh d)) = d := Fin.ext (by simp only [dimC, stk, lane]; omega)
theorem stk_surj (l : Fin 1024) : ∃ p hh d, l = stk p (lane hh d) :=
  ⟨⟨l.val / 128, by omega⟩, ⟨l.val % 128 / 64, by omega⟩, ⟨l.val % 64, by omega⟩, Fin.ext (by simp only [stk, lane]; omega)⟩

/-- An array of rows from its parts by sequence, block, row of the block, head and position. -/
def byHead (f : Fin 2 → Fin 16 → Fin 128 → Fin 16 → Fin 64 → EReal) (y : S4096x1024.Idx) : EReal :=
  f (rowB (y 0)) (blkR (y 0)) (posR (y 0)) (headC (y 1)) (dimC (y 1))

theorem byHead_at (f : Fin 2 → Fin 16 → Fin 128 → Fin 16 → Fin 64 → EReal) (b : Fin 2) (n : Fin 16) (r : Fin 128) (p : Fin 8) (hh : Fin 2) (d : Fin 64) :
    byHead f (ix2 (rowOf b n r) (stk p (lane hh d))) = f b n r (headOf p hh) d := by
  show f (rowB (rowOf b n r)) (blkR (rowOf b n r)) (posR (rowOf b n r)) (headC (stk p (lane hh d))) (dimC (stk p (lane hh d))) = _
  rw [rowB_rowOf, blkR_rowOf, posR_rowOf, headC_stk, dimC_stk]

theorem final10 (c : Dev nD) : (dats m 0 c).arrAt 10 (cfgs 0).N = byHead (args m c).dq := by
  refine (dats m 0 c).arrAt_eq_of_covers 10 _ (by decide +kernel) fun t _ y => ?_
  obtain ⟨r, l, rfl⟩ : ∃ (r : Fin 128) (l : Fin 1024), y = ix2 r l := ⟨y 0, y 1, eq_ix2 y⟩
  obtain ⟨p, hh, d, rfl⟩ := stk_surj l
  blk_simp
  rw [after0_10, out_dq, dqPair_at]
  refine (ropeBwd_lane _ _ _ (pos (blk t) r) r hh (fun d => ((args m c).att (bat t) (blk t) (headOf p hh) r).dq d) ((loads m c t).cc_at r) ((loads m c t).sc_at r)
    (fun d => by rw [dqRaw_at, (loads m c t).att_eq]) d).trans ?_
  refine (byHead_at (args m c).dq (bat t) (blk t) r p hh d).symm.trans (congrArg _ ?_)
  blk_ext [idx t, rowOf, bat, blk]

theorem final11 (c : Dev nD) : (dats m 0 c).arrAt 11 (cfgs 0).N = byHead (args m c).dz := by
  refine (dats m 0 c).arrAt_eq_of_covers 11 _ (by decide +kernel) fun t _ y => ?_
  obtain ⟨r, l, rfl⟩ : ∃ (r : Fin 128) (l : Fin 1024), y = ix2 r l := ⟨y 0, y 1, eq_ix2 y⟩
  obtain ⟨p, hh, d, rfl⟩ := stk_surj l
  blk_simp
  rw [after0_11, out_dz, dzPair_at, (loads m c t).att_eq, (loads m c t).dc_row, (loads m c t).z_row, (loads m c t).sg_row]
  refine Eq.trans ?_ ((byHead_at (args m c).dz (bat t) (blk t) r p hh d).symm.trans (congrArg _ ?_))
  · rfl
  blk_ext [idx t, rowOf, bat, blk]

/-! ## Two halves of 128 lanes -/

def dbl (e : Fin 2) (l : Fin 128) : Fin 256 := ⟨128 * e.val + l.val, by omega⟩

theorem loR_emb (r l : Fin 128) : (loR.emb (ix2 r l : S128x128.Idx) : S128x256.Idx) = ix2 r (dbl 0 l) := by
  refine (eq_ix2 _).trans (congrArg₂ ix2 (Fin.ext ?_) (Fin.ext ?_))
  · show 0 + 1 * r.val = r.val
    omega
  · show 0 + 1 * l.val = 128 * 0 + l.val
    omega
theorem hiR_emb (r l : Fin 128) : (hiR.emb (ix2 r l : S128x128.Idx) : S128x256.Idx) = ix2 r (dbl 1 l) := by
  refine (eq_ix2 _).trans (congrArg₂ ix2 (Fin.ext ?_) (Fin.ext ?_))
  · show 0 + 1 * r.val = r.val
    omega
  · show 128 + 1 * l.val = 128 * 1 + l.val
    omega

theorem halves_hi {e : EltTy} (a b : S128x128.Idx → Elt Ideal e) (L : List (View.Piece (Elt Ideal) S128x256 e)) (r l : Fin 128) :
    View.canon (Val := Elt Ideal) (⟨hiR, a⟩ :: ⟨loR, b⟩ :: L) (ix2 r (dbl 1 l)) = a (ix2 r l) := by
  rw [← hiR_emb]
  exact View.canon_cons_emb hiR a _ _
theorem halves_lo {e : EltTy} (a b : S128x128.Idx → Elt Ideal e) (L : List (View.Piece (Elt Ideal) S128x256 e)) (r l : Fin 128) :
    View.canon (Val := Elt Ideal) (⟨hiR, a⟩ :: ⟨loR, b⟩ :: L) (ix2 r (dbl 0 l)) = b (ix2 r l) := by
  refine (View.canon_cons_of_not_mem _ _ ?_).trans ?_
  · intro hm
    have h : 128 ≤ 128 * 0 + l.val := ((Rect.mem_set_unit (inb := inb_S128x256_S128x128_0_128)).1 hm 1).1
    omega
  · rw [← loR_emb]
    exact View.canon_cons_emb loR b _ _

theorem fillC_canon : View.canon (Val := Elt Ideal) fillC = fun _ => (0 : EReal) := by
  refine (View.canon_cons_unit_lit _ _ _ (by decide)).trans ?_
  funext y
  obtain ⟨r, l, rfl⟩ : ∃ r l, y = ix2 r l := ⟨y 0, y 1, eq_ix2 y⟩
  pointwise [k0_pay3]

/-! ## The keys' and values' gradients -/

/-- What the point before left for the rows of this block: nothing at a sequence's last block. -/
def cin (c : Dev nD) (t : Fin cfg0.N) (e : Fin 2) (r l : Fin 128) : EReal :=
  if t.val % 16 = 0 then 0 else (outsAt0 m c (t.val - 1) (by have := t.isLt; omega)).2.2.2.2 (ix2 r (dbl e l))

theorem outs_cin (c : Dev nD) (t : Fin cfg0.N) : ∃ rows ck cv fill, outsAt0 m c t.val t.isLt = readFive (fiveOf (blkAt m c t) (memsAt t) rows ck cv fill)
    ∧ (∀ r l, ck (ix2 r l) = cin m c t 0 r l) ∧ ∀ r l, cv (ix2 r l) = cin m c t 1 r l := by
  have hl : (memsAt t).a16.view.readCov fillC loR.toLoadRect = fun _ => (0 : EReal) := by
    rw [View.readCov_eq_canon', fillC_canon]
  have hh : (memsAt t).a16.view.readCov fillC hiR.toLoadRect = fun _ => (0 : EReal) := by
    rw [View.readCov_eq_canon', fillC_canon]
  by_cases h1 : t.val % 16 = 0
  · by_cases h0 : t.val % 32 = 0
    · exact ⟨_, _, _, _, (outs_A m c t h0 h1).trans (congrArg readFive (runA_eq c _ _ _ _ _)), fun r l => by rw [hl, cin, if_pos h1], fun r l => by rw [hh, cin, if_pos h1]⟩
    · exact ⟨_, _, _, _, (outs_C m c t h0 h1).trans (congrArg readFive (runC_eq c _ _ _ _ _ _)), fun r l => by rw [hl, cin, if_pos h1], fun r l => by rw [hh, cin, if_pos h1]⟩
  · refine ⟨_, _, _, _, (outs_B m c t (by omega) h1).trans (congrArg readFive (runB_eq c _ _ _ _ _ _ _)), fun r l => ?_, fun r l => ?_⟩
    · simp only [View.readAt_eq_ld, Memref.IsWhole.read_unread]
      rw [cin, if_neg h1, ← loR_emb]; rfl
    · simp only [View.readAt_eq_ld, Memref.IsWhole.read_unread]
      rw [cin, if_neg h1, ← hiR_emb]; rfl

theorem out_dk (c : Dev nD) (t : Fin cfg0.N) (r l : Fin 128) : (outsAt0 m c t.val t.isLt).2.2.1 (ix2 r (dbl 0 l))
    = ropeBwd (rowsHi (dkAt m c t)) (cast1 (blkAt m c t).cc) (cast1 (blkAt m c t).sc) (ix2 r l) + cin m c t 0 r l := by
  obtain ⟨rows, ck, cv, fill, e, hk, -⟩ := outs_cin m c t
  rw [e, ← hk, ← dkOut_at]
  exact (congrFun (View.read_writes_junk_eq_canon (Val := Elt Ideal) VO0_12 _) _).trans (halves_lo _ _ _ r l)

theorem out_dv (c : Dev nD) (t : Fin cfg0.N) (r l : Fin 128) : (outsAt0 m c t.val t.isLt).2.2.1 (ix2 r (dbl 1 l))
    = dvAt m c t (ix2 ⟨128 + r.val, by omega⟩ l) + cin m c t 1 r l := by
  obtain ⟨rows, ck, cv, fill, e, -, hv⟩ := outs_cin m c t
  rw [e, ← hv, ← dvOut_at]
  exact (congrFun (View.read_writes_junk_eq_canon (Val := Elt Ideal) VO0_12 _) _).trans (halves_hi _ _ _ r l)

theorem carry_dk (c : Dev nD) (t : Fin cfg0.N) (r l : Fin 128) : (outsAt0 m c t.val t.isLt).2.2.2.2 (ix2 r (dbl 0 l))
    = ropeBwd (rowsLo (dkAt m c t)) (cast1 (blkAt m c t).cp) (cast1 (blkAt m c t).sp) (ix2 r l) := by
  obtain ⟨rows, ck, cv, fill, e⟩ := outs_any m c t
  rw [e, ← dkCarry_at]
  exact (congrFun (View.read_writes_junk_eq_canon (Val := Elt Ideal) VS0_0 _) _).trans (halves_lo _ _ _ r l)

theorem carry_dv (c : Dev nD) (t : Fin cfg0.N) (r l : Fin 128) : (outsAt0 m c t.val t.isLt).2.2.2.2 (ix2 r (dbl 1 l))
    = dvAt m c t (ix2 ⟨r.val, by omega⟩ l) := by
  obtain ⟨rows, ck, cv, fill, e⟩ := outs_any m c t
  rw [e]
  exact (congrFun (View.read_writes_junk_eq_canon (Val := Elt Ideal) VS0_0 _) _).trans ((halves_hi _ _ _ r l).trans (dvCarry_at _ r l))

theorem head_hd (j : Fin 2) (g : Fin 8) : headOf (prOf j g) (hdOf g) = hd j g := Fin.ext (by simp only [headOf, prOf, hdOf, hd]; omega)

theorem dkAt_at (c : Dev nD) (t : Fin cfg0.N) (s : Fin 256) (j : Fin 2) (d : Fin 64) :
    dkAt m c t (ix2 s (lane j d)) = (args m c).dkW (bat t) (blk t) j s d := by
  unfold dkAt Args.dkW
  rw [dkSum_at]
  simp only [(loads m c t).att_eq, head_hd]
theorem dvAt_at (c : Dev nD) (t : Fin cfg0.N) (s : Fin 256) (j : Fin 2) (d : Fin 64) :
    dvAt m c t (ix2 s (lane j d)) = (args m c).dvW (bat t) (blk t) j s d := by
  unfold dvAt Args.dvW
  rw [dvSum_at]
  simp only [(loads m c t).att_eq, head_hd]

/-- The point before, within a sequence, works on the block after. -/
theorem before (t : Fin cfg0.N) (h : ¬t.val % 16 = 0) : ∃ (u : Fin cfg0.N) (hn : (blk t).val < 15), u.val = t.val - 1 ∧ bat u = bat t
    ∧ blk u = ⟨(blk t).val + 1, by omega⟩ ∧ prv (blk u) = blk t := by
  have := lt_of_lt_of_eq t.isLt N_0
  refine ⟨⟨t.val - 1, by have := t.isLt; omega⟩, ?_, rfl, Fin.ext ?_, Fin.ext ?_, Fin.ext ?_⟩ <;> simp only [blk, bat, prv] <;> omega

theorem cin_dk (c : Dev nD) (t : Fin cfg0.N) (r : Fin 128) (j : Fin 2) (d : Fin 64) : cin m c t 0 r (lane j d)
    = if h : (blk t).val < 15 then rotB (pos (blk t) r) ((args m c).dkW (bat t) ⟨(blk t).val + 1, by omega⟩ j ⟨r.val, by omega⟩) d else 0 := by
  unfold cin
  by_cases h : t.val % 16 = 0
  · rw [if_pos h, dif_neg (by simp only [blk]; omega)]
  · obtain ⟨u, hn, hu, hb, hk, hp⟩ := before t h
    rw [if_neg h, dif_pos hn]
    have e : outsAt0 m c (t.val - 1) (by have := t.isLt; omega) = outsAt0 m c u.val u.isLt := by congr 1; exact hu.symm
    rw [e, carry_dk]
    have h1 := (loads m c u).cp_at r
    have h2 := (loads m c u).sp_at r
    rw [hp] at h1 h2
    refine (ropeBwd_lane _ _ _ (pos (blk t) r) r j (fun d => (args m c).dkW (bat u) (blk u) j ⟨r.val, by omega⟩ d) h1 h2
      (fun d => by rw [rowsLo_at, dkAt_at]) d).trans ?_
    rw [hb, hk]

theorem cin_dv (c : Dev nD) (t : Fin cfg0.N) (r : Fin 128) (j : Fin 2) (d : Fin 64) : cin m c t 1 r (lane j d)
    = if h : (blk t).val < 15 then (args m c).dvW (bat t) ⟨(blk t).val + 1, by omega⟩ j ⟨r.val, by omega⟩ d else 0 := by
  unfold cin
  by_cases h : t.val % 16 = 0
  · rw [if_pos h, dif_neg (by simp only [blk]; omega)]
  · obtain ⟨u, hn, hu, hb, hk, hp⟩ := before t h
    rw [if_neg h, dif_pos hn]
    have e : outsAt0 m c (t.val - 1) (by have := t.isLt; omega) = outsAt0 m c u.val u.isLt := by congr 1; exact hu.symm
    rw [e, carry_dv, dvAt_at, hb, hk]

/-- The keys' gradients beside the values'. -/
def besides (f g : Fin 2 → Fin 16 → Fin 128 → Fin 2 → Fin 64 → EReal) (y : S4096x256.Idx) : EReal :=
  if (y 1).val < 128 then f (rowB (y 0)) (blkR (y 0)) (posR (y 0)) ⟨(y 1).val / 64 % 2, by omega⟩ ⟨(y 1).val % 64, by omega⟩
  else g (rowB (y 0)) (blkR (y 0)) (posR (y 0)) ⟨(y 1).val / 64 % 2, by omega⟩ ⟨(y 1).val % 64, by omega⟩

theorem besides_at (f g : Fin 2 → Fin 16 → Fin 128 → Fin 2 → Fin 64 → EReal) (b : Fin 2) (n : Fin 16) (r : Fin 128) (e j : Fin 2) (d : Fin 64) :
    besides f g (ix2 (rowOf b n r) (dbl e (lane j d))) = if e = 0 then f b n r j d else g b n r j d := by
  have hj : (⟨(dbl e (lane j d)).val / 64 % 2, by omega⟩ : Fin 2) = j := Fin.ext (by simp only [dbl, lane]; omega)
  have hd : (⟨(dbl e (lane j d)).val % 64, by omega⟩ : Fin 64) = d := Fin.ext (by simp only [dbl, lane]; omega)
  show (if (dbl e (lane j d)).val < 128 then f (rowB (rowOf b n r)) (blkR (rowOf b n r)) (posR (rowOf b n r)) ⟨(dbl e (lane j d)).val / 64 % 2, by omega⟩ ⟨(dbl e (lane j d)).val % 64, by omega⟩
    else g (rowB (rowOf b n r)) (blkR (rowOf b n r)) (posR (rowOf b n r)) ⟨(dbl e (lane j d)).val / 64 % 2, by omega⟩ ⟨(dbl e (lane j d)).val % 64, by omega⟩) = _
  rw [rowB_rowOf, blkR_rowOf, posR_rowOf, hj, hd]
  refine if_congr ?_ rfl rfl
  simp only [dbl, lane, Fin.ext_iff]
  show 128 * e.val + (64 * j.val + d.val) < 128 ↔ e.val = 0
  omega

theorem dbl_surj (l : Fin 256) : ∃ e j d, l = dbl e (lane j d) :=
  ⟨⟨l.val / 128, by omega⟩, ⟨l.val % 128 / 64, by omega⟩, ⟨l.val % 64, by omega⟩, Fin.ext (by simp only [dbl, lane]; omega)⟩

theorem final12 (c : Dev nD) : (dats m 0 c).arrAt 12 (cfgs 0).N = besides (args m c).dk (args m c).dv := by
  refine (dats m 0 c).arrAt_eq_of_covers 12 _ (by decide +kernel) fun t _ y => ?_
  obtain ⟨r, l, rfl⟩ : ∃ (r : Fin 128) (l : Fin 256), y = ix2 r l := ⟨y 0, y 1, eq_ix2 y⟩
  obtain ⟨e, j, d, rfl⟩ := dbl_surj l
  blk_simp
  rw [after0_12]
  refine Eq.trans ?_ ((besides_at (args m c).dk (args m c).dv (bat t) (blk t) r e j d).symm.trans (congrArg _ ?_))
  · obtain rfl | rfl : e = 0 ∨ e = 1 := by omega
    · rw [if_pos rfl, out_dk, cin_dk]
      refine congrArg (· + _) ?_
      exact ropeBwd_lane _ _ _ (pos (blk t) r) r j (fun d => (args m c).dkW (bat t) (blk t) j ⟨128 + r.val, by omega⟩ d) ((loads m c t).cc_at r) ((loads m c t).sc_at r)
        (fun d => by rw [rowsHi_at, dkAt_at]) d
    · rw [if_neg (by decide), out_dv, cin_dv, dvAt_at]; rfl
  blk_ext [idx t, rowOf, bat, blk]

/-! ## The sinks' gradients -/

theorem dskRow_row (c : Dev nD) (t : Fin cfg0.N) (p : Fin 8) (hh : Fin 2) (o : Vec Ideal S1x128 .f32) (l : Fin 128) :
    dskRow (blkAt m c t) p hh o (ix2 0 l) = o (ix2 0 l) + (args m c).dsk (bat t) (blk t) (headOf p hh) := by
  rw [dskRow_at]
  simp only [(loads m c t).att_eq]
  rfl

theorem head_surj (h : Fin 16) : ∃ p hh, h = headOf p hh := ⟨⟨h.val / 2, by omega⟩, ⟨h.val % 2, by omega⟩, Fin.ext (by simp only [headOf]; omega)⟩

theorem over_at (D : Blk) (row : Fin 16 → Vec Ideal S1x128 .f32) (L : List (View.Piece (Elt Ideal) S16x128 .f32)) (p : Fin 8) (hh : Fin 2) (l : Fin 128) :
    View.canon (Val := Elt Ideal) (dskOver D row order ++ L) (ix2 (headOf p hh) l) = dskRow D p hh (row (headOf p hh)) (ix2 0 l) :=
  (View.canon_append_of_piecesOf (Val := Elt Ideal) (e := .f32) _ L (dskOver D row order) (over_pieces D row order) _
    (over_cover D row _ order (rows_cover _))).trans (rowsOf_head _ p hh l)

theorem step13_A (c : Dev nD) (t : Fin cfg0.N) (h0 : t.val % 32 = 0) (h : Fin 16) (l : Fin 128) :
    (outsAt0 m c t.val t.isLt).2.2.2.1 (ix2 h l) = (args m c).dsk (bat t) (blk t) h := by
  obtain ⟨p, hh, rfl⟩ := head_surj h
  rw [outs_A m c t h0 (by omega), runA_eq]
  refine (congrFun (View.read_writes_junk_eq_canon (Val := Elt Ideal) VO0_13 _) _).trans ?_
  show View.canon (Val := Elt Ideal) (dskFresh _ _ order) _ = _
  rw [fresh_over _ _ order (by decide), over_at, show blkOf (grid0.coords t) (memsAt t) (insAt m c t) = blkAt m c t from rfl, dskRow_row, zero_add]

theorem over_read (c : Dev nD) (t : Fin cfg0.N) (o : Vec Ideal S16x128 .f32) (p : Fin 8) (hh : Fin 2) (l : Fin 128) :
    View.canon (Val := Elt Ideal) (dskOver (blkAt m c t) (fun h => View.readAt (Elt Ideal) (memsAt t).a15.view (rowR h).toLoadRect ((memsAt t).w15.unread o)) order)
      (ix2 (headOf p hh) l) = o (ix2 (headOf p hh) l) + (args m c).dsk (bat t) (blk t) (headOf p hh) := by
  refine (congrArg (fun L => View.canon (Val := Elt Ideal) L (ix2 (headOf p hh) l)) (List.append_nil _).symm).trans ((over_at _ _ [] p hh l).trans ?_)
  refine (dskRow_row m c t p hh _ l).trans (congrArg (· + _) ?_)
  simp only [View.readAt_eq_ld, Memref.IsWhole.read_unread]
  rw [← rowR_emb (headOf p hh) 0 l]; rfl

theorem step13_B (c : Dev nD) (t : Fin cfg0.N) (h0 : ¬t.val % 32 = 0) (h : Fin 16) (l : Fin 128) :
    (outsAt0 m c t.val t.isLt).2.2.2.1 (ix2 h l) = (outsAt0 m c (t.val - 1) (by have := t.isLt; omega)).2.2.2.1 (ix2 h l) + (args m c).dsk (bat t) (blk t) h := by
  obtain ⟨p, hh, rfl⟩ := head_surj h
  by_cases h1 : t.val % 16 = 0
  · rw [outs_C m c t h0 h1, runC_eq]
    exact (congrFun (View.read_writes_junk_eq_canon (Val := Elt Ideal) VO0_13 _) _).trans (over_read m c t _ p hh l)
  · rw [outs_B m c t h0 h1, runB_eq]
    exact (congrFun (View.read_writes_junk_eq_canon (Val := Elt Ideal) VO0_13 _) _).trans (over_read m c t _ p hh l)

/-- The points run over the blocks of the sequences. -/
theorem sum_points (f : Fin 2 → Fin 16 → EReal) : ∑ t : Fin cfg0.N, f (bat t) (blk t) = ∑ b, ∑ n, f b n := by
  rw [← Fintype.sum_prod_type' f]
  exact Fintype.sum_bijective (fun t => (bat t, blk t)) (by
    have h : Function.Bijective fun t : Fin 32 => ((⟨t.val / 16, by omega⟩, ⟨15 - t.val % 16, by omega⟩) : Fin 2 × Fin 16) := by decide +kernel
    exact h) _ _ fun _ => rfl

def tLast : Fin cfg0.N := ⟨31, by rw [show cfg0.N = 32 from N_0]; decide⟩

theorem final13 (c : Dev nD) : (dats m 0 c).arrAt 13 (cfgs 0).N = fun y : S16x128.Idx => ∑ b, ∑ n, (args m c).dsk b n (y 0) := by
  refine (dats m 0 c).arrAt_eq_of_after_last 13 tLast (by decide +kernel) _ fun j => ?_
  obtain ⟨h, l, rfl⟩ : ∃ (h : Fin 16) (l : Fin 128), j = ix2 h l := ⟨j 0, j 1, eq_ix2 j⟩
  blk_simp
  rw [after0_13, Pipeline.eq_sum_fin_of_reset_step_apply_last (fun n h => (outsAt0 m c n h).2.2.2.1) 32 (fun _ => 0)
    (fun t y => (args m c).dsk (bat t) (blk t) (y 0))
    (fun t h0 y => by
      obtain ⟨h, l, rfl⟩ : ∃ (h : Fin 16) (l : Fin 128), y = ix2 h l := ⟨y 0, y 1, eq_ix2 y⟩
      rw [step13_A m c t h0, zero_add]; rfl)
    (fun t h0 y => by
      obtain ⟨h, l, rfl⟩ : ∃ (h : Fin 16) (l : Fin 128), y = ix2 h l := ⟨y 0, y 1, eq_ix2 y⟩
      exact step13_B m c t h0 h l)
    (le_of_eq N_0) tLast rfl _, zero_add]
  exact sum_points fun b n => (args m c).dsk b n h

end Cert.SwaBwdIdeal.Hand

end

end
-- ==== Proof.SwaRow.lean ====
/- One row of the windowed attention, at real arguments: the softmax over the window and the sink differentiated
   as a quotient is the row's probabilities times what is left of the gradient over its mean, and the keys a row
   does not see have no part in it. -/
module

public import proofs.«01_k».proof.Proof.SwaSpec

@[expose] public section

noncomputable section

open Idealize.ShloMosaic

namespace Cert.SwaSpec

open Cert.Reals

theorem exp_real (x : ℝ) : Ideal.exp (x : EReal) = ((Real.exp x : ℝ) : EReal) := rfl
theorem exp_bot : Ideal.exp ⊥ = 0 := rfl

theorem eighth_real : eighth = ((1 / 8 : ℝ) : EReal) := by
  unfold eighth; simp [Ideal.ofBits, Ideal.ieee, -EReal.coe_mul]; norm_num

/-- A maximum of a bottom and extended reals below the top stays below the top. -/
theorem fold_max_ne_top {ι : Type} (s : Finset ι) {f : ι → EReal} (h : ∀ i, f i ≠ ⊤) : s.fold max ⊥ f ≠ ⊤ := by
  classical
  induction s using Finset.induction_on with
  | empty => simp
  | insert a s ha ih =>
    rw [Finset.fold_insert ha]
    intro e
    rcases max_choice (f a) (s.fold max ⊥ f) with c | c <;> rw [c] at e
    · exact h a e
    · exact ih e

namespace Att

variable (A : Att)

/-- The sum of the exponentials, and the values against the gradient of the output. -/
def Z : EReal := (∑ s, A.e s) + A.es
def dp (s : Fin 256) : EReal := ∑ d, A.g d * A.v s d

/-- What the division by the sum sends back to each exponential. -/
def back : EReal := -((∑ s, A.dp s * Ideal.div 1 (A.Z * A.Z) * A.e s) + 0 * Ideal.div 1 (A.Z * A.Z) * A.es)

/-- The row's arguments are real numbers. -/
structure Finite : Prop where
  q : ∀ d, IsReal (A.q d)
  k : ∀ s d, IsReal (A.k s d)
  v : ∀ s d, IsReal (A.v s d)
  g : ∀ d, IsReal (A.g d)
  σ : IsReal A.σ

/-! ## What a row does not see -/

section Masked

variable {A} {s : Fin 256} (h : A.m s ≠ true)

include h

theorem sc_masked : A.sc s = ⊥ := if_neg h
theorem e_masked : A.e s = 0 := by
  unfold e; rw [sc_masked h, sub_eq_add_neg, EReal.bot_add, exp_bot]
theorem p_masked : A.p s = 0 := by unfold p; rw [e_masked h, zero_mul]
theorem ds_masked : A.ds s = 0 := by unfold ds; rw [p_masked h, zero_mul, zero_mul]

end Masked

/-- Two rows that differ only in keys and values neither sees. -/
structure Same (A B : Att) : Prop where
  m : A.m = B.m
  q : A.q = B.q
  k : ∀ s, A.m s = true → A.k s = B.k s
  v : ∀ s, A.m s = true → A.v s = B.v s
  g : A.g = B.g
  σ : A.σ = B.σ

namespace Same

variable {A B : Att} (h : Same A B)

include h

theorem sc : A.sc = B.sc := by
  funext s
  unfold Att.sc
  by_cases c : A.m s = true
  · rw [if_pos c, if_pos (h.m ▸ c), h.k s c, h.q]
  · rw [if_neg c, if_neg (h.m ▸ c)]
theorem top : A.top = B.top := by unfold Att.top; rw [h.sc, h.σ]
theorem e : A.e = B.e := by funext s; unfold Att.e; rw [h.sc, h.top]
theorem es : A.es = B.es := by unfold Att.es; rw [h.σ, h.top]
theorem inv : A.inv = B.inv := by unfold Att.inv; rw [h.e, h.es]
theorem p : A.p = B.p := by funext s; unfold Att.p; rw [h.e, h.inv]
theorem ps : A.ps = B.ps := by unfold Att.ps; rw [h.es, h.inv]
theorem o : A.o = B.o := by
  funext d
  refine Finset.sum_congr rfl fun s _ => ?_
  by_cases c : A.m s = true
  · rw [h.v s c, h.p]
  · rw [p_masked c, p_masked (h.m ▸ c), mul_zero, mul_zero]
theorem δ : A.δ = B.δ := by unfold Att.δ; rw [h.g, h.o]
theorem ds : A.ds = B.ds := by
  funext s
  by_cases c : A.m s = true
  · unfold Att.ds; rw [h.p, h.v s c, h.g, h.δ]
  · rw [ds_masked c, ds_masked (h.m ▸ c)]
theorem dq : A.dq = B.dq := by
  funext d
  refine Finset.sum_congr rfl fun s _ => ?_
  by_cases c : A.m s = true
  · rw [h.k s c, h.ds]
  · rw [ds_masked c, ds_masked (h.m ▸ c), mul_zero, mul_zero]

end Same

/-! ## At real arguments -/

variable {A} (h : A.Finite)

include h

theorem top_real : IsReal A.top := by
  have hs : ∀ s, A.sc s ≠ ⊤ := fun s => by
    unfold sc
    split
    · obtain ⟨r, hr⟩ := (IsReal.sum Finset.univ fun d => (h.k s d).mul (h.q d)).mul ⟨_, eighth_real⟩
      rw [hr]; exact EReal.coe_ne_top r
    · exact bot_ne_top
  obtain ⟨x, hx⟩ := h.σ
  have ht : A.top ≠ ⊤ := by
    unfold top
    rcases max_choice (Finset.univ.fold max ⊥ A.sc) A.σ with c | c <;> rw [c]
    · exact fold_max_ne_top _ hs
    · rw [hx]; exact EReal.coe_ne_top x
  have hb : A.top ≠ ⊥ := fun e => by
    have : A.σ ≤ ⊥ := e ▸ le_max_right _ _
    rw [hx] at this
    exact absurd (le_bot_iff.mp this) (EReal.coe_ne_bot x)
  exact ⟨A.top.toReal, (EReal.coe_toReal ht hb).symm⟩

theorem e_real (s : Fin 256) : ∃ x : ℝ, 0 ≤ x ∧ A.e s = (x : EReal) := by
  obtain ⟨T, hT⟩ := top_real h
  by_cases c : A.m s = true
  · obtain ⟨r, hr⟩ := (IsReal.sum Finset.univ fun d => (h.k s d).mul (h.q d)).mul ⟨_, eighth_real⟩
    refine ⟨Real.exp (r - T), (Real.exp_pos _).le, ?_⟩
    unfold e sc
    rw [if_pos c, hr, hT, ← EReal.coe_sub, exp_real]
  · exact ⟨0, le_rfl, by rw [e_masked c, EReal.coe_zero]⟩

theorem es_real : ∃ x : ℝ, 0 < x ∧ A.es = (x : EReal) := by
  obtain ⟨T, hT⟩ := top_real h
  obtain ⟨x, hx⟩ := h.σ
  exact ⟨Real.exp (x - T), Real.exp_pos _, by unfold es; rw [hx, hT, ← EReal.coe_sub, exp_real]⟩

/-- The row in real numbers. -/
theorem reals : ∃ (E : Fin 256 → ℝ) (S z : ℝ) (v : Fin 256 → Fin 64 → ℝ) (g : Fin 64 → ℝ), z ≠ 0 ∧ A.e = (fun s => (E s : EReal)) ∧ A.es = (S : EReal)
    ∧ A.Z = (z : EReal) ∧ A.inv = ((1 / z : ℝ) : EReal) ∧ A.v = (fun s d => (v s d : EReal)) ∧ A.g = fun d => (g d : EReal) := by
  choose E hE0 hE using e_real h
  obtain ⟨S, hS0, hS⟩ := es_real h
  have hZ : (∑ s, A.e s) + A.es = ((∑ s, E s + S : ℝ) : EReal) := by
    rw [EReal.coe_add, ← sum_real, hS]; exact congrArg (· + _) (Finset.sum_congr rfl fun s _ => hE s)
  have hz : ∑ s, E s + S ≠ 0 := (add_pos_of_nonneg_of_pos (Finset.sum_nonneg fun s _ => hE0 s) hS0).ne'
  choose v hv using h.v
  obtain ⟨g, hg⟩ := lift h.g
  exact ⟨E, S, _, v, g, hz, funext hE, hS, hZ, by unfold inv; rw [hZ]; exact div_real 1 hz, funext fun s => funext (hv s), hg⟩

theorem div_Z (s : Fin 256) : Ideal.div (A.e s) A.Z = A.p s := by
  obtain ⟨E, S, z, v, g, hz, hE, hS, hZ, hi, hv, hg⟩ := reals h
  unfold p
  rw [hZ, hi, hE, div_real _ hz, ← EReal.coe_mul, mul_one_div]

theorem p_real (s : Fin 256) : IsReal (A.p s) := by
  obtain ⟨E, S, z, v, g, hz, hE, hS, hZ, hi, hv, hg⟩ := reals h
  unfold p
  rw [hi, hE]; exact (IsReal.coe _).mul (IsReal.coe _)

theorem o_real (d : Fin 64) : IsReal (A.o d) := IsReal.sum _ fun s => (h.v s d).mul (p_real h s)
theorem δ_real : IsReal A.δ := IsReal.sum _ fun d => (h.g d).mul (o_real h d)
theorem ps_real : IsReal A.ps := by
  obtain ⟨E, S, z, v, g, hz, hE, hS, hZ, hi, hv, hg⟩ := reals h
  unfold ps
  rw [hi, hS]; exact (IsReal.coe _).mul (IsReal.coe _)
theorem ds_real (s : Fin 256) : IsReal (A.ds s) :=
  ((p_real h s).mul ((IsReal.sum _ fun d => (h.v s d).mul (h.g d)).sub (δ_real h))).mul ⟨_, eighth_real⟩
theorem dq_real (d : Fin 64) : IsReal (A.dq d) := IsReal.sum _ fun s => (h.k s d).mul (ds_real h s)

/-- The product of the output with its gradient and what the division sends back, in real numbers. -/
theorem back_real : ∃ (E : Fin 256 → ℝ) (S z : ℝ) (dp : Fin 256 → ℝ), z ≠ 0 ∧ A.e = (fun s => (E s : EReal)) ∧ A.es = (S : EReal) ∧ A.Z = (z : EReal)
    ∧ A.inv = ((1 / z : ℝ) : EReal) ∧ A.dp = (fun s => (dp s : EReal)) ∧ A.δ = ((∑ s, dp s * E s / z : ℝ) : EReal)
    ∧ A.back = ((-(∑ s, dp s * E s / z) / z : ℝ) : EReal) := by
  obtain ⟨E, S, z, v, g, hz, hE, hS, hZ, hi, hv, hg⟩ := reals h
  have hdp : A.dp = fun s => ((∑ d, g d * v s d : ℝ) : EReal) := by
    funext s
    unfold dp
    rw [hg, hv]
    simp only [← EReal.coe_mul, sum_real]
  refine ⟨E, S, z, fun s => ∑ d, g d * v s d, hz, hE, hS, hZ, hi, hdp, ?_, ?_⟩
  · unfold δ o p
    rw [hg, hv, hE, hi]
    simp only [← EReal.coe_mul, sum_real]
    congr 1
    simp only [Finset.mul_sum, Finset.sum_mul, Finset.sum_div]
    rw [Finset.sum_comm]
    refine Finset.sum_congr rfl fun s _ => Finset.sum_congr rfl fun d _ => ?_
    field_simp
  · unfold back
    rw [hdp, hE, hZ, hS, ← EReal.coe_mul, ← EReal.coe_one, div_real _ (mul_ne_zero hz hz), ← EReal.coe_zero]
    simp only [← EReal.coe_mul, sum_real, ← EReal.coe_add, ← EReal.coe_neg]
    congr 1
    rw [zero_mul, zero_mul, add_zero, neg_div, Finset.sum_div]
    congr 1
    refine Finset.sum_congr rfl fun s _ => ?_
    field_simp

theorem ds_eq (s : Fin 256) : (Ideal.div (A.dp s) A.Z + A.back) * A.e s * eighth = A.ds s := by
  have e : (∑ d, A.v s d * A.g d) = A.dp s := Finset.sum_congr rfl fun d _ => mul_comm _ _
  obtain ⟨E, S, z, dp, hz, hE, hS, hZ, hi, hd, hδ, hb⟩ := back_real h
  unfold ds p
  rw [e, hb, hδ, hd, hE, hZ, hi, eighth_real, div_real _ hz]
  simp only [← EReal.coe_mul, ← EReal.coe_add, ← EReal.coe_sub]
  congr 1
  field_simp
  ring

theorem dsink_eq : (Ideal.div 0 A.Z + A.back) * A.es = -(A.ps * A.δ) := by
  obtain ⟨E, S, z, dp, hz, hE, hS, hZ, hi, hd, hδ, hb⟩ := back_real h
  unfold ps
  rw [hb, hδ, hS, hZ, hi, ← EReal.coe_zero, div_real _ hz]
  simp only [← EReal.coe_mul, ← EReal.coe_add, ← EReal.coe_neg]
  congr 1
  field_simp
  ring

end Att

/-! ## The rotation and the gates at real arguments -/

theorem ang_real (r : Fin 2048) (d : Fin 32) : IsReal (ang r d) := by
  have c1 : Ideal.ofBits .f32 0x461C4000#32 = ((10000 : ℝ) : EReal) := by simp [Ideal.ofBits, Ideal.ieee, -EReal.coe_mul]; norm_num
  have c2 : Ideal.ofBits .f32 0x42000000#32 = ((32 : ℝ) : EReal) := by simp [Ideal.ofBits, Ideal.ieee, -EReal.coe_mul]; norm_num
  have i : ∀ x : BitVec 32, IsReal (FloatOps.sitofp (F := Ideal) .f32 x) := fun x => ⟨_, rfl⟩
  obtain ⟨u, hu⟩ := i (BitVec.ofNat 32 d.val)
  refine (i _).mul ?_
  rw [c1, c2, hu, ← EReal.coe_neg, div_real _ (by norm_num)]
  exact ⟨_, rfl⟩

theorem cosT_real (r : Fin 2048) (d : Fin 32) : IsReal (cosT r d) := by
  obtain ⟨x, hx⟩ := ang_real r d
  unfold cosT; rw [hx]; exact ⟨_, rfl⟩
theorem sinT_real (r : Fin 2048) (d : Fin 32) : IsReal (sinT r d) := by
  obtain ⟨x, hx⟩ := ang_real r d
  unfold sinT; rw [hx]; exact ⟨_, rfl⟩
theorem cosH_real (r : Fin 2048) (d : Fin 64) : IsReal (cosH r d) := cosT_real _ _
theorem sinH_real (r : Fin 2048) (d : Fin 64) : IsReal (sinH r d) := by
  obtain ⟨x, hx⟩ := sinT_real r ⟨d.val % 32, by omega⟩
  unfold sinH; rw [hx]
  split
  · exact ⟨_, (EReal.coe_neg x).symm⟩
  · exact ⟨_, rfl⟩

theorem rot_real (r : Fin 2048) {x : Fin 64 → EReal} (h : ∀ d, IsReal (x d)) (d : Fin 64) : IsReal (rot r x d) :=
  ((h _).mul (cosH_real _ _)).add ((h _).mul (sinH_real _ _))

/-- The rotation's transpose takes sums to sums. -/
theorem rotB_add (r : Fin 2048) {x y : Fin 64 → EReal} (hx : ∀ d, IsReal (x d)) (hy : ∀ d, IsReal (y d)) (d : Fin 64) :
    rotB r (fun d => x d + y d) d = rotB r x d + rotB r y d := by
  obtain ⟨X, rfl⟩ := lift hx
  obtain ⟨Y, rfl⟩ := lift hy
  obtain ⟨c, hc⟩ := cosH_real r d
  obtain ⟨s, hs⟩ := sinH_real r (swp d)
  unfold rotB
  rw [hc, hs]
  simp only [← EReal.coe_mul, ← EReal.coe_add]
  congr 1
  ring

theorem sgm_real {x : EReal} : IsReal x → IsReal (sgm x)
  | ⟨r, hr⟩ => by
    unfold sgm
    rw [hr, ← EReal.coe_zero, ← EReal.coe_sub, exp_real, ← EReal.coe_one, ← EReal.coe_add, div_real _ (by positivity)]
    exact IsReal.coe _

/-- The gradient of a gate, the derivative of the gate's product written out. -/
theorem gate_eq {c o z : EReal} (hc : IsReal c) (ho : IsReal o) (hz : IsReal z) :
    o * c * sgm z + z * (o * c) * (sgm z * (1 - sgm z)) = c * o * (sgm z * (1 + z * (1 - sgm z))) := by
  obtain ⟨s, hs⟩ := sgm_real hz
  obtain ⟨c, rfl⟩ := hc
  obtain ⟨o, rfl⟩ := ho
  obtain ⟨z, rfl⟩ := hz
  rw [hs, ← EReal.coe_one]
  simp only [← EReal.coe_mul, ← EReal.coe_add, ← EReal.coe_sub]
  congr 1
  ring

/-! ## The arguments at real numbers -/

/-- What the attention reads of its arguments is real: the projections past the recurrence's, the sinks, the gradient. -/
structure Args.Finite (X : Args) : Prop where
  P : ∀ b r (l : Fin 6400), 4096 ≤ l.val → IsReal (X.P b r l)
  S : ∀ h, IsReal (X.S h)
  C : ∀ b r l, IsReal (X.C b r l)

namespace Args.Finite

variable {X : Args} (F : X.Finite) (b : Fin 2)

include F

theorem qv (r : Fin 2048) (h : Fin 16) : ∀ d, IsReal (X.qv b r h d) := rot_real r fun d => F.P _ _ _ (by simp only []; omega)
theorem kv (r : Fin 2048) (j : Fin 2) : ∀ d, IsReal (X.kv b r j d) := rot_real r fun d => F.P _ _ _ (by simp only []; omega)
theorem vv (r : Fin 2048) (j : Fin 2) (d : Fin 64) : IsReal (X.vv b r j d) := F.P _ _ _ (by simp only []; omega)
theorem zv (r : Fin 2048) (h : Fin 16) (d : Fin 64) : IsReal (X.zv b r h d) := F.P _ _ _ (by simp only []; omega)
theorem gv (r : Fin 2048) (h : Fin 16) (d : Fin 64) : IsReal (X.gv b r h d) := (F.C _ _ _).mul ((F.zv b r h d).mul (sgm_real (F.zv b r h d)))

theorem att (n h : Fin 16) (t : Fin 128) : (X.att b n h t).Finite where
  q := F.qv b _ _
  k s := F.kv b _ _
  v s := F.vv b _ _
  g := F.gv b _ _
  σ := F.S h

theorem dkW (n : Fin 16) (j : Fin 2) (s : Fin 256) (d : Fin 64) : IsReal (X.dkW b n j s d) :=
  IsReal.sum _ fun g => IsReal.sum _ fun t => (Att.ds_real (F.att b n (hd j g) t) s).mul (F.qv b _ _ d)

end Args.Finite

end Cert.SwaSpec

end

end
-- ==== Proof.SwaReads.lean ====
/- What the reference of the windowed attention's backward pass computes, read at an index: the
   rotated queries and keys, the windows, the scores. -/
module

public import proofs.«01_k».proof.Proof.SwaRow
public import proofs.«01_k».proof.Proof.Gen.SwaBwdRefIdeal.Run
public import Idealize.ShloMosaic.Lib.Claim
public import Idealize.ShloMosaic.Lib.WordCmp

@[expose] public section

set_option maxRecDepth 16384

noncomputable section

open Idealize.ShloMosaic Idealize.ShloMosaic.TcCoe Idealize.SL.Sem

namespace Cert.SwaBwdRefIdeal.Hand

open Cert.SwaBwdRefIdeal Cert.SwaBwdRefIdeal.Gen Cert.SwaBwdRefIdeal.Value Cert.SwaSpec Cert.Reals

/-! ## Reductions over the last of six axes, and over all but two -/

section Reductions

variable {n0 n1 n2 n3 n4 n5 : ℕ} (a : Fin n0) (b : Fin n1) (c : Fin n2) (d : Fin n3) (e : Fin n4)

theorem fiber_last (h : (⟨6, ![n0, n1, n2, n3, n4, n5]⟩ : Shape).ReducesTo [5] ⟨5, ![n0, n1, n2, n3, n4]⟩)
    (i : (⟨6, ![n0, n1, n2, n3, n4, n5]⟩ : Shape).Idx) : h.drop i = ix5 a b c d e ↔ ∃ k : Fin n5, ix6 a b c d e k = i := by
  constructor
  · intro p
    refine ⟨i 5, ?_⟩
    funext x; apply Fin.ext
    match x with
    | ⟨0, _⟩ => exact (congrArg Fin.val (congrFun p 0)).symm
    | ⟨1, _⟩ => exact (congrArg Fin.val (congrFun p 1)).symm
    | ⟨2, _⟩ => exact (congrArg Fin.val (congrFun p 2)).symm
    | ⟨3, _⟩ => exact (congrArg Fin.val (congrFun p 3)).symm
    | ⟨4, _⟩ => exact (congrArg Fin.val (congrFun p 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem add_last (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : EReal) :
    Ideal.hostReduceAdd h v init (ix5 a b c d e) = init + ∑ k, v (ix6 a b c d e k) :=
  congrArg (init + ·) (Finset.sum_filter_eq_sum_of_fiber _ (fun k : Fin n5 => ix6 a b c d e k) (fun _ _ p => congrFun p 5) (fiber_last a b c d e h) v)

theorem max_last {u : Shape} (h : (⟨6, ![n0, n1, n2, n3, n4, n5]⟩ : Shape).ReducesTo [5] ⟨5, ![n0, n1, n2, n3, n4]⟩)
    (v : (⟨6, ![n0, n1, n2, n3, n4, n5]⟩ : Shape).Idx → EReal) (init : u.Idx → EReal) (hu : 0 < u.numel) :
    Host.reduce (FloatOps.maximumf (F := Ideal) (φ := .f32)) v init h hu (ix5 a b c d e)
      = Finset.univ.fold max (init (Shape.Idx.first hu)) fun k => v (ix6 a b c d e k) :=
  (Host.reduce_eq_fold _ v init h hu _).trans
    (Finset.fold_filter_eq_fold_of_fiber max _ (fun k : Fin n5 => ix6 a b c d e k) (fun _ _ p => congrFun p 5) (fiber_last a b c d e h) _ v)

theorem add_outer (c : Fin n2) (d : Fin n3) (h : (⟨6, ![n0, n1, n2, n3, n4, n5]⟩ : Shape).ReducesTo [0, 1, 4, 5] ⟨2, ![n2, n3]⟩)
    (v : (⟨6, ![n0, n1, n2, n3, n4, n5]⟩ : Shape).Idx → EReal) (init : EReal) :
    Ideal.hostReduceAdd h v init (ix2 c d) = init + ∑ a : Fin n0, ∑ b : Fin n1, ∑ e : Fin n4, ∑ k : Fin n5, v (ix6 a b c d e k) := by
  refine congrArg (init + ·) ((Finset.sum_filter_eq_sum_of_fiber _ (fun k : Fin n0 × Fin n1 × Fin n4 × Fin n5 => ix6 k.1 k.2.1 c d k.2.2.1 k.2.2.2)
    (fun _ _ p => Prod.ext (congrFun p 0) (Prod.ext (congrFun p 1) (Prod.ext (congrFun p 4) (congrFun p 5))))
    (fun i => ⟨fun p => ⟨(i 0, i 1, i 4, i 5), ?_⟩, ?_⟩) v).trans ?_)
  · funext x; apply Fin.ext
    match x with
    | ⟨0, _⟩ => rfl
    | ⟨1, _⟩ => rfl
    | ⟨2, _⟩ => exact (congrArg Fin.val (congrFun p 0)).symm
    | ⟨3, _⟩ => exact (congrArg Fin.val (congrFun p 1)).symm
    | ⟨4, _⟩ => rfl
    | ⟨5, _⟩ => rfl
  · rintro ⟨k, rfl⟩
    funext x
    apply Fin.ext
    match x with
    | ⟨0, _⟩ => rfl
    | ⟨1, _⟩ => rfl
  · simp only [Fintype.sum_prod_type]

end Reductions

/-- The number the reference writes for a score that is not there. -/
theorem cBot : Ideal.ofBits .f32 0xFF800000#32 = ⊥ := by
  simp [Ideal.ofBits, Ideal.ieee]

/-- A value for every position of the window and one for the sink. -/
def col (x : Fin 256 → EReal) (y : EReal) (s : Fin 257) : EReal := if h : s.val < 256 then x ⟨s.val, h⟩ else y

theorem col_castSucc (x : Fin 256 → EReal) (y : EReal) (s : Fin 256) : col x y s.castSucc = x s := dif_pos s.isLt
theorem col_last (x : Fin 256 → EReal) (y : EReal) : col x y (Fin.last 256) = y := dif_neg (by simp)

theorem sum_col (x : Fin 256 → EReal) (y : EReal) : ∑ s, col x y s = (∑ s, x s) + y := by
  rw [Fin.sum_univ_castSucc, col_last]; simp only [col_castSucc]

theorem max_col (x : Fin 256 → EReal) (y : EReal) : Finset.univ.fold max ⊥ (col x y) = max (Finset.univ.fold max ⊥ x) y := by
  rw [Fin.univ_castSuccEmb, Finset.fold_cons, Finset.fold_map, col_last, max_comm]
  exact congrArg (fun f => max (Finset.univ.fold max ⊥ f) y) (funext fun s => col_castSucc x y s)

variable (V : Valuation τ sig (Elt Ideal))

/-- The arguments. -/
abbrev pj : FVec Ideal S2x2048x6400 .f32 := V (Proc.devRef .tc main_arg0)
abbrev sks : FVec Ideal S16 .f32 := V (Proc.devRef .tc main_arg1)
abbrev ct : FVec Ideal S2x2048x1024 .f32 := V (Proc.devRef .tc main_arg2)
def args : Args where
  P b r l := pj V (ix3 b r l)
  S h := sks V (ix1 h)
  C b r l := ct V (ix3 b r l)

/-! ## The rotated queries and keys, and the values -/

theorem head_eq (j : Fin 2) (g : Fin 8) (h : j.val * 8 + g.val < 16) : (⟨j.val * 8 + g.val, h⟩ : Fin 16) = hd j g := Fin.ext (by simp only [hd]; omega)

theorem rot_halves (r : Fin 2048) (x : Fin 64 → EReal) (d : Fin 64) :
    (if h : d.val < 32 then x d * cosT r ⟨d.val, h⟩ - x ⟨32 + d.val, by omega⟩ * sinT r ⟨d.val, h⟩
      else x ⟨32 + (d.val - 32), by omega⟩ * cosT r ⟨d.val - 32, by omega⟩ + x ⟨d.val - 32, by omega⟩ * sinT r ⟨d.val - 32, by omega⟩) = rot r x d := by
  unfold rot cosH sinH
  by_cases h : d.val < 32
  · have e1 : (⟨d.val % 32, by omega⟩ : Fin 32) = ⟨d.val, h⟩ := Fin.ext (by simp only []; omega)
    have e2 : swp d = ⟨32 + d.val, by omega⟩ := Fin.ext (by simp only [swp]; omega)
    rw [dif_pos h, if_pos h, e1, e2, sub_eq_add_neg, mul_neg]
  · have e1 : (⟨d.val % 32, by omega⟩ : Fin 32) = ⟨d.val - 32, by omega⟩ := Fin.ext (by simp only []; omega)
    have e2 : swp d = ⟨d.val - 32, by omega⟩ := Fin.ext (by simp only [swp]; omega)
    have e3 : (⟨32 + (d.val - 32), by omega⟩ : Fin 64) = d := Fin.ext (by simp only []; omega)
    rw [dif_neg h, if_neg h, e1, e2, e3]

theorem v5_at (b : Fin 2) (r : Fin 2048) (h : Fin 16) (d : Fin 64) :
    res_main_v5 V (ix4 b r h d) = (args V).P b r ⟨4096 + (hcol h d).val, by omega⟩ := by
  pointwise [res_main_v5]
  exact congrArg (fun l => pj V (ix3 b r l)) (Fin.ext (by simp only [hcol]; omega))

theorem v35_at (b : Fin 2) (r : Fin 2048) (j : Fin 2) (d : Fin 64) :
    res_main_v35 V (ix4 b r j d) = (args V).P b r ⟨5120 + (lane j d).val, by omega⟩ := by
  pointwise [res_main_v35]
  exact congrArg (fun l => pj V (ix3 b r l)) (Fin.ext (by simp only [lane]; omega))

theorem v17_at (r : Fin 2048) (d : Fin 32) : res_main_v17 V (ix2 r d) = ang r d := by
  pointwise [res_main_v17, res_main_v4, ang]

theorem v47_at (r : Fin 2048) (d : Fin 32) : res_main_v47 V (ix2 r d) = ang r d := by
  pointwise [res_main_v47, res_main_v4, ang]

theorem v66_at (b : Fin 2) (n : Fin 16) (t : Fin 128) (j : Fin 2) (g : Fin 8) (d : Fin 64) :
    res_main_v66 V (ix6 b n t j g d) = (args V).qv b (pos n t) (hd j g) d := by
  pointwise [res_main_v66, res_main_v22, res_main_v23, res_main_v19, res_main_v21, v17_at, v5_at]
  simp only [head_eq]
  exact rot_halves (pos n t) (fun d => (args V).P b (pos n t) ⟨4096 + (hcol (hd j g) d).val, by omega⟩) d

theorem v67_at (b : Fin 2) (n : Fin 16) (t : Fin 128) (j : Fin 2) (d : Fin 64) :
    res_main_v67 V (ix5 b n t j d) = (args V).kv b (pos n t) j d := by
  pointwise [res_main_v67, res_main_v52, res_main_v53, res_main_v49, res_main_v51, v47_at, v35_at]
  exact rot_halves (pos n t) (fun d => (args V).P b (pos n t) ⟨5120 + (lane j d).val, by omega⟩) d

theorem v68_at (b : Fin 2) (n : Fin 16) (t : Fin 128) (j : Fin 2) (d : Fin 64) :
    res_main_v68 V (ix5 b n t j d) = (args V).vv b (pos n t) j d := by
  pointwise [res_main_v68]
  exact congrArg (fun l => pj V (ix3 b (pos n t) l)) (Fin.ext (by simp only [lane]; omega))

theorem v3_at (b : Fin 2) (n : Fin 16) (t : Fin 128) (h : Fin 16) (d : Fin 64) :
    res_main_v3 V (ix3 b (pos n t) (hcol h d)) = (args V).zv b (pos n t) h d := by
  pointwise [res_main_v3]
  rfl

/-! ## A row as the reference has it: before the first block there are zeros -/

def kw (b : Fin 2) (n : Fin 16) (s : Fin 256) (j : Fin 2) (d : Fin 64) : EReal :=
  if s.val < 128 ∧ n.val < 1 then 0 else (args V).kv b (win n s) j d
def vw (b : Fin 2) (n : Fin 16) (s : Fin 256) (j : Fin 2) (d : Fin 64) : EReal :=
  if s.val < 128 ∧ n.val < 1 then 0 else (args V).vv b (win n s) j d

theorem window_eq (f : Fin 2048 → EReal) (n : Fin 16) (s : Fin 256) :
    (if h : s.val < 128 then (if h' : n.val < 1 then 0 else f (pos ⟨n.val - 1, by omega⟩ ⟨s.val, h⟩)) else f (pos n ⟨s.val - 128, by omega⟩))
      = if s.val < 128 ∧ n.val < 1 then 0 else f (win n s) := by
  unfold win
  by_cases h : s.val < 128
  · by_cases h' : n.val < 1
    · rw [dif_pos h, dif_pos h', if_pos ⟨h, h'⟩]
    · rw [dif_pos h, dif_neg h', if_neg fun c => h' c.2, dif_pos h]; rfl
  · rw [dif_neg h, if_neg fun c => h c.1, dif_neg h]

theorem v79_at (b : Fin 2) (n : Fin 16) (s : Fin 256) (j : Fin 2) (d : Fin 64) : res_main_v79 V (ix5 b n s j d) = kw V b n s j d := by
  pointwise [res_main_v79, v67_at]
  exact window_eq (fun r => (args V).kv b r j d) n s

theorem v80_at (b : Fin 2) (n : Fin 16) (s : Fin 256) (j : Fin 2) (d : Fin 64) : res_main_v80 V (ix5 b n s j d) = vw V b n s j d := by
  pointwise [res_main_v80, v68_at]
  exact window_eq (fun r => (args V).vv b r j d) n s

def row (b : Fin 2) (n : Fin 16) (j : Fin 2) (g : Fin 8) (t : Fin 128) : Att where
  m s := decide (t.val < s.val ∧ s.val ≤ t.val + 128 ∧ (128 ≤ s.val ∨ 0 < n.val))
  q := (args V).qv b (pos n t) (hd j g)
  k s := kw V b n s j
  v s := vw V b n s j
  g := (args V).gv b (pos n t) (hd j g)
  σ := (args V).S (hd j g)

theorem mask_words (n : Fin 16) (t : Fin 128) (s : Fin 256) : IntOp.andi
      (IntOp.andi
        (IntOp.cmpi CmpIPredicate.sge (IntOp.subi (IntOp.addi (BitVec.ofNat 32 t.val) 128#32) (BitVec.ofNat 32 s.val)) 0#32)
        (IntOp.cmpi CmpIPredicate.slt (IntOp.subi (IntOp.addi (BitVec.ofNat 32 t.val) 128#32) (BitVec.ofNat 32 s.val)) 128#32))
      (IntOp.cmpi CmpIPredicate.sge
        (IntOp.addi (IntOp.subi (IntOp.muli (BitVec.ofNat 32 n.val) 128#32) 128#32) (BitVec.ofNat 32 s.val)) 0#32)
    = BitVec.ofBool (decide (t.val < s.val ∧ s.val ≤ t.val + 128 ∧ (128 ≤ s.val ∨ 0 < n.val))) := by
  have hs := s.isLt
  have ht := t.isLt
  have hn := n.isLt
  have e128 : (128#32).toInt = 128 := by decide
  have e0 : (0#32).toInt = 0 := by decide
  have band : ∀ x y : Bool, (IntOp.andi (BitVec.ofBool x) (BitVec.ofBool y)) = BitVec.ofBool (x && y) := by decide
  have e1 : (IntOp.subi (IntOp.addi (BitVec.ofNat 32 t.val) 128#32) (BitVec.ofNat 32 s.val)).toInt = (t.val : ℤ) + 128 - s.val := by
    show (BitVec.ofNat 32 t.val + 128#32 - BitVec.ofNat 32 s.val).toInt = _
    simp only [BitVec.toInt_eq_toNat_cond, BitVec.toNat_sub, BitVec.toNat_add, BitVec.toNat_ofNat]
    omega
  have e2 : (IntOp.addi (IntOp.subi (IntOp.muli (BitVec.ofNat 32 n.val) 128#32) 128#32) (BitVec.ofNat 32 s.val)).toInt = (n.val : ℤ) * 128 - 128 + s.val := by
    show (BitVec.ofNat 32 n.val * 128#32 - 128#32 + BitVec.ofNat 32 s.val).toInt = _
    simp only [BitVec.toInt_eq_toNat_cond, BitVec.toNat_sub, BitVec.toNat_add, BitVec.toNat_mul, BitVec.toNat_ofNat]
    omega
  rw [WordCmp.cmpi_sge_eq, WordCmp.cmpi_sge_eq, WordCmp.cmpi_slt_eq, e1, e2, e128, e0, band, band]
  congr 1
  rw [Bool.eq_iff_iff]
  simp only [Bool.and_eq_true, decide_eq_true_eq]
  omega

theorem mask_at (b : Fin 2) (n : Fin 16) (j : Fin 2) (g : Fin 8) (t : Fin 128) (s : Fin 256) :
    res_main_v118_1 V (ix6 b n j g t s) = BitVec.ofBool ((row V b n j g t).m s) := by
  pointwise [res_main_v118_1, res_main_v93]
  exact mask_words n t s

theorem v122_at (b : Fin 2) (n : Fin 16) (j : Fin 2) (g : Fin 8) (t : Fin 128) (s : Fin 257) :
    res_main_v122 V (ix6 b n j g t s) = col (row V b n j g t).sc (row V b n j g t).σ s := by
  pointwise [res_main_v122, mask_at, v79_at, v66_at]
  simp only [head_eq]
  have e : (id (constant (F := Ideal) S_ .f32 0xFF800000#32) ix0 : EReal) = ⊥ := cBot
  rw [e]
  rfl

end Cert.SwaBwdRefIdeal.Hand

end

end
-- ==== Proof.SwaReference.lean ====
/- What the reference of the windowed attention's backward pass computes, after the scores: the
   softmax over the window and the sink, and the gradients. -/
module

public import proofs.«01_k».proof.Proof.SwaReads
public import Idealize.ShloMosaic.Lib.Claim

@[expose] public section

set_option maxRecDepth 16384

noncomputable section

open Idealize.ShloMosaic Idealize.ShloMosaic.TcCoe Idealize.SL.Sem

namespace Cert.SwaBwdRefIdeal.Hand

open Cert.SwaBwdRefIdeal Cert.SwaBwdRefIdeal.Gen Cert.SwaBwdRefIdeal.Value Cert.SwaSpec Cert.Reals

theorem select_ofBool (c : Bool) (x y : EReal) : Scalar.select (BitVec.ofBool c) x y = if c = true then x else y := by
  cases c <;> rfl

theorem next_block (f : Fin 16 → Fin 128 → EReal) (r : Fin 2048) (a : EReal) :
    (a + if h : r.val / 128 < 15 ∧ r.val % 128 < 128 then f ⟨1 + r.val / 128, by omega⟩ ⟨r.val % 128, h.2⟩ else 0)
      = a + if h : r.val / 128 < 15 then f ⟨r.val / 128 + 1, by omega⟩ ⟨r.val % 128, by omega⟩ else 0 := by
  refine congrArg (a + ·) ?_
  by_cases h : r.val / 128 < 15
  · have h' : r.val / 128 < 15 ∧ r.val % 128 < 128 := ⟨h, by omega⟩
    rw [dif_pos h', dif_pos h]
    exact congrArg (fun n => f n _) (Fin.ext (Nat.add_comm 1 _))
  · have h' : ¬(r.val / 128 < 15 ∧ r.val % 128 < 128) := fun c => h c.1
    rw [dif_neg h', dif_neg h]

variable (V : Valuation τ sig (Elt Ideal))

section Softmax

variable (b : Fin 2) (n : Fin 16) (j : Fin 2) (g : Fin 8) (t : Fin 128)

theorem v123_at : res_main_v123 V (ix5 b n j g t) = (row V b n j g t).top := by
  unfold res_main_v123
  rw [max_last]
  simp only [v122_at]
  rw [show constant (F := Ideal) S_ .f32 0xFF800000#32 (Shape.Idx.first h_S_) = (⊥ : EReal) from cBot]
  exact max_col _ _

theorem shifted_at (x : FVec Ideal S2x16x2x8x128x257 .f32) (y : FVec Ideal S2x16x2x8x128 .f32) (s : Fin 257) :
    Host.exp (subf x (broadcastInDim S2x16x2x8x128x257 ![0, 1, 2, 3, 4, 5] bcast_S2x16x2x8x128x1_S2x16x2x8x128x257_0_1_2_3_4_5
      (broadcastInDim S2x16x2x8x128x1 ![0, 1, 2, 3, 4] bcast_S2x16x2x8x128_S2x16x2x8x128x1_0_1_2_3_4
        (maximumf (broadcastInDim S2x16x2x8x128 ![] bcast_S_S2x16x2x8x128 (constant S_ .f32 0xFF800000#32)) y)))) (ix6 b n j g t s)
      = Ideal.exp (x (ix6 b n j g t s) - max (Ideal.ofBits .f32 0xFF800000#32) (y (ix5 b n j g t))) := by
  pointwise

theorem v143_at (s : Fin 257) : res_main_v143 V (ix6 b n j g t s) = col (row V b n j g t).e (row V b n j g t).es s := by
  refine (shifted_at b n j g t (res_main_v122 V) (res_main_v123 V) s).trans ?_
  rw [v122_at, v123_at, cBot, max_eq_right bot_le]
  unfold col
  by_cases h : s.val < 256
  · rw [dif_pos h, dif_pos h]; rfl
  · rw [dif_neg h, dif_neg h]; rfl

theorem v145_at (o : Fin 1) : res_main_v145 V (ix6 b n j g t o) = (row V b n j g t).Z := by
  pointwise [res_main_v145, add_last, v143_at]
  exact sum_col _ _

theorem v151_at (s : Fin 256) : res_main_v151 V (ix6 b n j g t s) = Ideal.div ((row V b n j g t).e s) (row V b n j g t).Z := by
  pointwise [res_main_v151, v143_at, v145_at]
  exact congrArg (Ideal.div · _) (dif_pos s.isLt)

theorem v155_2_at (r : Fin 2048) (l : Fin 1024) : res_main_v155_2 V (ix3 b r l) = sgm (res_main_v3 V (ix3 b r l)) := by
  pointwise [res_main_v155_2]
  unfold sgm
  rw [zero_sub]

theorem v161_at (d : Fin 64) : res_main_v161 V (ix6 b n j d g t) = (args V).gv b (pos n t) (hd j g) d := by
  pointwise [res_main_v161, res_main_v155_0, res_main_v3, v155_2_at]
  have e : (⟨j.val * 512 + g.val * 64 + d.val, by omega⟩ : Fin 1024) = hcol (hd j g) d := Fin.ext (by simp only [hcol, hd]; omega)
  have e' : (⟨5376 + (j.val * 512 + g.val * 64 + d.val), by omega⟩ : Fin 6400) = ⟨5376 + (hcol (hd j g) d).val, by omega⟩ :=
    Fin.ext (congrArg (5376 + ·) (congrArg Fin.val e))
  simp only [e, e']
  rfl

theorem v165_at (s : Fin 257) : res_main_v165 V (ix6 b n j g t s) = col (row V b n j g t).dp 0 s := by
  pointwise [res_main_v165, v161_at, v80_at]
  rfl

theorem v177_at (s : Fin 257) : res_main_v177 V (ix6 b n j g t s)
    = (Ideal.div (col (row V b n j g t).dp 0 s) (row V b n j g t).Z + (row V b n j g t).back) * col (row V b n j g t).e (row V b n j g t).es s := by
  pointwise [res_main_v177, add_last, v165_at, v145_at, v143_at]
  rw [Fin.sum_univ_one, Fin.sum_univ_castSucc]
  simp only [col_castSucc, col_last]
  rfl

end Softmax

/-! ## The rows the reference has are those of the attention -/

theorem grp_hd (j : Fin 2) (g : Fin 8) : grp (hd j g) = j := Fin.ext (by simp only [grp, hd]; omega)

theorem row_same (b : Fin 2) (n : Fin 16) (j : Fin 2) (g : Fin 8) (t : Fin 128) : (row V b n j g t).Same ((args V).att b n (hd j g) t) where
  m := rfl
  q := rfl
  k s c := by
    have c := of_decide_eq_true c
    show kw V b n s j = (args V).kv b (win n s) (grp (hd j g))
    rw [grp_hd]
    exact funext fun d => if_neg (by omega)
  v s c := by
    have c := of_decide_eq_true c
    show vw V b n s j = (args V).vv b (win n s) (grp (hd j g))
    rw [grp_hd]
    exact funext fun d => if_neg (by omega)
  g := rfl
  σ := rfl

variable {V} (F : (args V).Finite)

include F

theorem row_finite (b : Fin 2) (n : Fin 16) (j : Fin 2) (g : Fin 8) (t : Fin 128) : (row V b n j g t).Finite where
  q := F.qv b _ _
  k s d := by
    show IsReal (kw V b n s j d)
    unfold kw
    split
    · exact ⟨0, rfl⟩
    · exact F.kv b _ _ d
  v s d := by
    show IsReal (vw V b n s j d)
    unfold vw
    split
    · exact ⟨0, rfl⟩
    · exact F.vv b _ _ d
  g := F.gv b _ _
  σ := F.S _

/-! ## The output and the gradients, by window -/

theorem v154_at (b : Fin 2) (r : Fin 2048) (l : Fin 1024) :
    res_main_v154 V (ix3 b r l) = ((args V).att b ⟨r.val / 128, by omega⟩ ⟨l.val / 64, by omega⟩ ⟨r.val % 128, by omega⟩).o ⟨l.val % 64, by omega⟩ := by
  pointwise [res_main_v154, v80_at, v151_at]
  have e : hd ⟨l.val / 512, by omega⟩ ⟨l.val / 64 % 8, by omega⟩ = ⟨l.val / 64, by omega⟩ := Fin.ext (by simp only [hd]; omega)
  rw [← e, ← (row_same V b _ _ _ _).o]
  exact Finset.sum_congr (M := EReal) rfl fun s _ => congrArg _ (Att.div_Z (row_finite F b _ _ _ _) s)

theorem v164_at (b : Fin 2) (n : Fin 16) (s : Fin 256) (j : Fin 2) (d : Fin 64) : res_main_v164 V (ix5 b n s j d) = (args V).dvW b n j s d := by
  pointwise [res_main_v164, v161_at, v151_at]
  refine Finset.sum_congr (M := EReal) rfl fun g _ => Finset.sum_congr (M := EReal) rfl fun t _ => ?_
  rw [Att.div_Z (row_finite F b n j g t) s, mul_comm, (row_same V b n j g t).p]
  rfl

theorem v187_at (b : Fin 2) (n : Fin 16) (j : Fin 2) (s : Fin 256) (t : Fin 128) (g : Fin 8) :
    res_main_v187 V (ix6 b n j s t g) = ((args V).att b n (hd j g) t).ds s := by
  pointwise [res_main_v187, v177_at, mask_at, select_ofBool]
  rw [← (row_same V b n j g t).ds]
  by_cases c : (row V b n j g t).m s = true
  · rw [if_pos c, ← Att.ds_eq (row_finite F b n j g t) s]
    exact congrArg₂ (fun x y => (Ideal.div x _ + _) * y * eighth) (dif_pos s.isLt) (dif_pos s.isLt)
  · rw [if_neg c, zero_mul, Att.ds_masked c]

theorem v191_at (b : Fin 2) (n : Fin 16) (s : Fin 256) (j : Fin 2) (d : Fin 64) : res_main_v191 V (ix5 b n s j d) = (args V).dkW b n j s d := by
  pointwise [res_main_v191, v66_at, v187_at F]
  exact Finset.sum_comm (β := EReal)

theorem v206_at (b : Fin 2) (r : Fin 2048) (h : Fin 16) (d : Fin 64) :
    res_main_v206 V (ix4 b r h d) = ((args V).att b ⟨r.val / 128, by omega⟩ h ⟨r.val % 128, by omega⟩).dq d := by
  pointwise [res_main_v206, v79_at, v187_at F]
  have e : hd ⟨h.val / 8, by omega⟩ ⟨h.val % 8, by omega⟩ = h := Fin.ext (by simp only [hd]; omega)
  conv_rhs => rw [← e]
  rw [← (row_same V b _ _ _ _).dq, ← (row_same V b _ _ _ _).ds]
  exact Finset.sum_congr (M := EReal) rfl fun s _ => mul_comm (G := EReal) _ _

theorem v205_at (b : Fin 2) (r : Fin 2048) (j : Fin 2) (d : Fin 64) : res_main_v205 V (ix4 b r j d)
    = (args V).dkW b ⟨r.val / 128, by omega⟩ j ⟨128 + r.val % 128, by omega⟩ d
      + if h : r.val / 128 < 15 then (args V).dkW b ⟨r.val / 128 + 1, by omega⟩ j ⟨r.val % 128, by omega⟩ d else 0 := by
  pointwise [res_main_v205, res_main_v194, v191_at F]
  exact next_block (fun n p => (args V).dkW b n j ⟨p.val, by omega⟩ d) r _

end Cert.SwaBwdRefIdeal.Hand

end

end
-- ==== Proof.SwaGradients.lean ====
/- The results of the reference of the windowed attention's backward pass, read at an index. -/
module

public import proofs.«01_k».proof.Proof.SwaReference
public import Idealize.ShloMosaic.Lib.Claim

@[expose] public section

set_option maxRecDepth 16384

noncomputable section

open Idealize.ShloMosaic Idealize.ShloMosaic.TcCoe Idealize.SL.Sem

namespace Cert.SwaBwdRefIdeal.Hand

open Cert.SwaBwdRefIdeal Cert.SwaBwdRefIdeal.Gen Cert.SwaBwdRefIdeal.Value Cert.SwaSpec Cert.Reals

theorem turned (r : Fin 2048) (x : Fin 64 → EReal) (d : Fin 64) :
    ((if h : 32 ≤ d.val ∧ d.val - 32 < 32 then x ⟨32 + (d.val - 32), by omega⟩ * cosT r ⟨d.val - 32, h.2⟩ + -x ⟨d.val - 32, by omega⟩ * sinT r ⟨d.val - 32, h.2⟩ else 0)
      + if h : d.val < 32 then x ⟨32 + d.val, by omega⟩ * sinT r ⟨d.val, h⟩ + x d * cosT r ⟨d.val, h⟩ else 0) = rotB r x d := by
  unfold rotB cosH sinH
  by_cases h : d.val < 32
  · have h' : ¬(32 ≤ d.val ∧ d.val - 32 < 32) := by omega
    have e1 : (⟨d.val % 32, by omega⟩ : Fin 32) = ⟨d.val, h⟩ := Fin.ext (by simp only []; omega)
    have e2 : (⟨(swp d).val % 32, by omega⟩ : Fin 32) = ⟨d.val, h⟩ := Fin.ext (by simp only [swp]; omega)
    have e3 : swp d = ⟨32 + d.val, by omega⟩ := Fin.ext (by simp only [swp]; omega)
    have e4 : ¬(swp d).val < 32 := by rw [e3]; simp only []; omega
    rw [dif_neg h', dif_pos h, if_neg e4, e1, e2, e3, zero_add, add_comm]
  · have h' : 32 ≤ d.val ∧ d.val - 32 < 32 := by omega
    have e1 : (⟨d.val % 32, by omega⟩ : Fin 32) = ⟨d.val - 32, by omega⟩ := Fin.ext (by simp only []; omega)
    have e2 : (⟨(swp d).val % 32, by omega⟩ : Fin 32) = ⟨d.val - 32, by omega⟩ := Fin.ext (by simp only [swp]; omega)
    have e3 : swp d = ⟨d.val - 32, by omega⟩ := Fin.ext (by simp only [swp]; omega)
    have e4 : (swp d).val < 32 := by rw [e3]; simp only []; omega
    have e5 : (⟨32 + (d.val - 32), by omega⟩ : Fin 64) = d := Fin.ext (by simp only []; omega)
    rw [dif_pos h', dif_neg h, if_pos e4, e1, e2, e3, e5, add_zero, mul_neg, neg_mul]

/-- The rotation's transpose as the reference has it: each half of a head set beside zeros, and the two added. -/
def turnQ (w : FVec Ideal S2x2048x16x64 .f32) (c s : FVec Ideal S1x2048x1x32 .f32) : FVec Ideal S2x2048x16x64 .f32 :=
  addf (pad S2x2048x16x64 ![0, 0, 0, 32] ![0, 0, 0, 0] ![0, 0, 0, 0]
      (addf (mulf (extractStridedSlice S2x2048x16x32 ![0, 0, 0, 32] w slices_S2x2048x16x64_S2x2048x16x32_0_0_0_32) (broadcastInDim S2x2048x16x32 ![0, 1, 2, 3] bcast_S1x2048x1x32_S2x2048x16x32_0_1_2_3 c))
        (mulf (Host.negf (extractStridedSlice S2x2048x16x32 ![0, 0, 0, 0] w slices_S2x2048x16x64_S2x2048x16x32_0_0_0_0)) (broadcastInDim S2x2048x16x32 ![0, 1, 2, 3] bcast_S1x2048x1x32_S2x2048x16x32_0_1_2_3 s)))
      (constant S_ .f32 0x00000000#32) pads_S2x2048x16x32_S2x2048x16x64_000_000_000_3200 h_S_)
    (pad S2x2048x16x64 ![0, 0, 0, 0] ![0, 0, 0, 32] ![0, 0, 0, 0]
      (addf (mulf (extractStridedSlice S2x2048x16x32 ![0, 0, 0, 32] w slices_S2x2048x16x64_S2x2048x16x32_0_0_0_32) (broadcastInDim S2x2048x16x32 ![0, 1, 2, 3] bcast_S1x2048x1x32_S2x2048x16x32_0_1_2_3 s))
        (mulf (extractStridedSlice S2x2048x16x32 ![0, 0, 0, 0] w slices_S2x2048x16x64_S2x2048x16x32_0_0_0_0) (broadcastInDim S2x2048x16x32 ![0, 1, 2, 3] bcast_S1x2048x1x32_S2x2048x16x32_0_1_2_3 c)))
      (constant S_ .f32 0x00000000#32) pads_S2x2048x16x32_S2x2048x16x64_000_000_000_0320 h_S_)

theorem turnQ_at (w : FVec Ideal S2x2048x16x64 .f32) (c s : FVec Ideal S1x2048x1x32 .f32) (hc : ∀ r d, c (ix4 0 r 0 d) = cosT r d) (hs : ∀ r d, s (ix4 0 r 0 d) = sinT r d)
    (b : Fin 2) (r : Fin 2048) (h : Fin 16) (d : Fin 64) : turnQ w c s (ix4 b r h d) = rotB r (fun d => w (ix4 b r h d)) d := by
  pointwise [turnQ, hc, hs]
  exact turned r (fun d => w (ix4 b r h d)) d

def turnK (w : FVec Ideal S2x2048x2x64 .f32) (c s : FVec Ideal S1x2048x1x32 .f32) : FVec Ideal S2x2048x2x64 .f32 :=
  addf (pad S2x2048x2x64 ![0, 0, 0, 32] ![0, 0, 0, 0] ![0, 0, 0, 0]
      (addf (mulf (extractStridedSlice S2x2048x2x32 ![0, 0, 0, 32] w slices_S2x2048x2x64_S2x2048x2x32_0_0_0_32) (broadcastInDim S2x2048x2x32 ![0, 1, 2, 3] bcast_S1x2048x1x32_S2x2048x2x32_0_1_2_3 c))
        (mulf (Host.negf (extractStridedSlice S2x2048x2x32 ![0, 0, 0, 0] w slices_S2x2048x2x64_S2x2048x2x32_0_0_0_0)) (broadcastInDim S2x2048x2x32 ![0, 1, 2, 3] bcast_S1x2048x1x32_S2x2048x2x32_0_1_2_3 s)))
      (constant S_ .f32 0x00000000#32) pads_S2x2048x2x32_S2x2048x2x64_000_000_000_3200 h_S_)
    (pad S2x2048x2x64 ![0, 0, 0, 0] ![0, 0, 0, 32] ![0, 0, 0, 0]
      (addf (mulf (extractStridedSlice S2x2048x2x32 ![0, 0, 0, 32] w slices_S2x2048x2x64_S2x2048x2x32_0_0_0_32) (broadcastInDim S2x2048x2x32 ![0, 1, 2, 3] bcast_S1x2048x1x32_S2x2048x2x32_0_1_2_3 s))
        (mulf (extractStridedSlice S2x2048x2x32 ![0, 0, 0, 0] w slices_S2x2048x2x64_S2x2048x2x32_0_0_0_0) (broadcastInDim S2x2048x2x32 ![0, 1, 2, 3] bcast_S1x2048x1x32_S2x2048x2x32_0_1_2_3 c)))
      (constant S_ .f32 0x00000000#32) pads_S2x2048x2x32_S2x2048x2x64_000_000_000_0320 h_S_)

theorem turnK_at (w : FVec Ideal S2x2048x2x64 .f32) (c s : FVec Ideal S1x2048x1x32 .f32) (hc : ∀ r d, c (ix4 0 r 0 d) = cosT r d) (hs : ∀ r d, s (ix4 0 r 0 d) = sinT r d)
    (b : Fin 2) (r : Fin 2048) (h : Fin 2) (d : Fin 64) : turnK w c s (ix4 b r h d) = rotB r (fun d => w (ix4 b r h d)) d := by
  pointwise [turnK, hc, hs]
  exact turned r (fun d => w (ix4 b r h d)) d

/-- A window's gradient laid on its rows: the block's own half and the first half of the block after. -/
def laid (w : FVec Ideal S2x16x256x2x64 .f32) : FVec Ideal S2x2048x2x64 .f32 :=
  shapeCast _ (addf (extractStridedSlice S2x16x128x2x64 ![0, 0, 128, 0, 0] w slices_S2x16x256x2x64_S2x16x128x2x64_0_0_128_0_0)
    (pad S2x16x128x2x64 ![0, 0, 0, 0, 0] ![0, 1, 0, 0, 0] ![0, 0, 0, 0, 0]
      (extractStridedSlice S2x15x128x2x64 ![0, 1, 0, 0, 0] (extractStridedSlice S2x16x128x2x64 ![0, 0, 0, 0, 0] w slices_S2x16x256x2x64_S2x16x128x2x64_0_0_0_0_0)
        slices_S2x16x128x2x64_S2x15x128x2x64_0_1_0_0_0)
      (constant S_ .f32 0x00000000#32) pads_S2x15x128x2x64_S2x16x128x2x64_000_010_000_000_000 h_S_)) shapeCasts_S2x16x128x2x64_S2x2048x2x64

theorem laid_at (w : FVec Ideal S2x16x256x2x64 .f32) (b : Fin 2) (r : Fin 2048) (j : Fin 2) (d : Fin 64) : laid w (ix4 b r j d)
    = w (ix5 b ⟨r.val / 128, by omega⟩ ⟨128 + r.val % 128, by omega⟩ j d)
      + if h : r.val / 128 < 15 then w (ix5 b ⟨r.val / 128 + 1, by omega⟩ ⟨r.val % 128, by omega⟩ j d) else 0 := by
  pointwise [laid]
  exact next_block (fun n p => w (ix5 b n ⟨p.val, by omega⟩ j d)) r _

variable (V : Valuation τ sig (Elt Ideal))

/-- The results: the gradients of the queries, of the gates, of the keys beside the values, of the sinks. -/
def out0 : FVec Ideal S4096x1024 .bf16 :=
  truncf .bf16 (shapeCast S4096x1024 (shapeCast S2x2048x1024 (turnQ (res_main_v206 V) (res_main_v19 V) (res_main_v21 V)) shapeCasts_S2x2048x16x64_S2x2048x1024)
    shapeCasts_S2x2048x1024_S4096x1024) bitsLt_bf16_f32
def out1 : FVec Ideal S4096x1024 .bf16 :=
  truncf .bf16 (shapeCast _ (addf (mulf (res_main_v157 V) (res_main_v155_2 V))
    (mulf (mulf (res_main_v3 V) (res_main_v157 V)) (mulf (res_main_v155_2 V) (subf (broadcastInDim S2x2048x1024 ![] bcast_S_S2x2048x1024 (constant S_ .f32 0x3F800000#32)) (res_main_v155_2 V)))))
    shapeCasts_S2x2048x1024_S4096x1024) bitsLt_bf16_f32
def rows2 (w : FVec Ideal S2x2048x2x64 .f32) : FVec Ideal S4096x128 .f32 :=
  shapeCast S4096x128 (shapeCast S2x2048x128 w shapeCasts_S2x2048x2x64_S2x2048x128) shapeCasts_S2x2048x128_S4096x128
def out2 : FVec Ideal S4096x256 .bf16 :=
  truncf .bf16 (concatenate S4096x256 1 [⟨S4096x128, rows2 (turnK (laid (res_main_v191 V)) (res_main_v49 V) (res_main_v51 V))⟩, ⟨S4096x128, rows2 (laid (res_main_v164 V))⟩]
    concatenates_S4096x128_S4096x128_S4096x256_d1) bitsLt_bf16_f32
def out3 : FVec Ideal S16x128 .f32 :=
  broadcastInDim S16x128 ![0, 1] bcast_S16x1_S16x128_0_1 (broadcastInDim S16x1 ![0] bcast_S16_S16x1_0 (shapeCast _
    (Host.reduceAdd (broadcastInDim S1x1x2x8x1x1 ![2, 3] bcast_S2x8_S1x1x2x8x1x1_2_3
      (Host.reduceAdd (extractStridedSlice S2x16x2x8x128x1 ![0, 0, 0, 0, 0, 256] (res_main_v177 V) slices_S2x16x2x8x128x257_S2x16x2x8x128x1_0_0_0_0_0_256)
        (constant S_ .f32 0x00000000#32) reducesTo_S2x16x2x8x128x1_S2x8_d0_1_4_5 h_S_)) (constant S_ .f32 0x00000000#32) reducesTo_S1x1x2x8x1x1_S2x8_d0_1_4_5 h_S_)
    shapeCasts_S2x8_S16))

theorem v19_at (r : Fin 2048) (d : Fin 32) : res_main_v19 V (ix4 0 r 0 d) = cosT r d := by
  pointwise [res_main_v19, v17_at, cosT]
theorem v21_at (r : Fin 2048) (d : Fin 32) : res_main_v21 V (ix4 0 r 0 d) = sinT r d := by
  pointwise [res_main_v21, v17_at, sinT]
theorem v49_at (r : Fin 2048) (d : Fin 32) : res_main_v49 V (ix4 0 r 0 d) = cosT r d := by
  pointwise [res_main_v49, v47_at, cosT]
theorem v51_at (r : Fin 2048) (d : Fin 32) : res_main_v51 V (ix4 0 r 0 d) = sinT r d := by
  pointwise [res_main_v51, v47_at, sinT]

theorem pos_eq (r : Fin 4096) : (⟨r.val % 2048, by omega⟩ : Fin 2048) = pos ⟨r.val % 2048 / 128, by omega⟩ ⟨r.val % 128, by omega⟩ :=
  Fin.ext (by simp only [pos]; omega)
theorem in_block (r : Fin 4096) : (⟨r.val % 2048 % 128, by omega⟩ : Fin 128) = ⟨r.val % 128, by omega⟩ := Fin.ext (by simp only []; omega)
theorem hcol_eq (l : Fin 1024) : hcol ⟨l.val / 64, by omega⟩ ⟨l.val % 64, by omega⟩ = l := Fin.ext (by simp only [hcol]; omega)

theorem sum_neg_real {ι : Type} (s : Finset ι) {f : ι → EReal} (h : ∀ i, IsReal (f i)) : ∑ i ∈ s, -f i = 0 - ∑ i ∈ s, f i := by
  obtain ⟨g, rfl⟩ := lift h
  simp only [← EReal.coe_neg, sum_real, ← EReal.coe_zero, ← EReal.coe_sub]
  congr 1
  rw [zero_sub, Finset.sum_neg_distrib]

variable {V} (F : (args V).Finite)

include F

theorem dk_eq (b : Fin 2) (n : Fin 16) (p : Fin 128) (j : Fin 2) (d : Fin 64) :
    rotB (pos n p) (fun d => (args V).dkW b n j ⟨128 + p.val, by omega⟩ d
      + if h : n.val < 15 then (args V).dkW b ⟨n.val + 1, by omega⟩ j ⟨p.val, by omega⟩ d else 0) d = (args V).dk b n p j d := by
  unfold Args.dk
  by_cases h : n.val < 15
  · simp only [dif_pos h]
    exact rotB_add _ (F.dkW b _ _ _) (F.dkW b _ _ _) d
  · simp only [dif_neg h, add_zero]

theorem out0_at (r : Fin 4096) (l : Fin 1024) : out0 V (ix2 r l)
    = (args V).dq ⟨r.val / 2048, by omega⟩ ⟨r.val % 2048 / 128, by omega⟩ ⟨r.val % 128, by omega⟩ ⟨l.val / 64, by omega⟩ ⟨l.val % 64, by omega⟩ := by
  pointwise [out0, turnQ_at _ _ _ (v19_at V) (v21_at V), v206_at F]
  simp only [in_block, pos_eq]
  rfl

theorem out1_at (r : Fin 4096) (l : Fin 1024) : out1 V (ix2 r l)
    = (args V).dz ⟨r.val / 2048, by omega⟩ ⟨r.val % 2048 / 128, by omega⟩ ⟨r.val % 128, by omega⟩ ⟨l.val / 64, by omega⟩ ⟨l.val % 64, by omega⟩ := by
  pointwise [out1, res_main_v157, v154_at F, v155_2_at, res_main_v3]
  unfold Args.dz Args.zv
  simp only [in_block, pos_eq, hcol_eq]
  exact gate_eq (F.C _ _ _) (Att.o_real (F.att _ _ _ _) _) (F.P _ _ _ (by simp only []; omega))

theorem out2_at (r : Fin 4096) (l : Fin 256) : out2 V (ix2 r l) = if l.val < 128
    then (args V).dk ⟨r.val / 2048, by omega⟩ ⟨r.val % 2048 / 128, by omega⟩ ⟨r.val % 128, by omega⟩ ⟨l.val / 64 % 2, by omega⟩ ⟨l.val % 64, by omega⟩
    else (args V).dv ⟨r.val / 2048, by omega⟩ ⟨r.val % 2048 / 128, by omega⟩ ⟨r.val % 128, by omega⟩ ⟨l.val / 64 % 2, by omega⟩ ⟨l.val % 64, by omega⟩ := by
  pointwise [out2, rows2, turnK_at _ _ _ (v49_at V) (v51_at V), laid_at, v191_at F, v164_at F]
  simp only [pos_eq]
  by_cases h : l.val < 128
  · have ej : (⟨l.val / 64 % 2, by omega⟩ : Fin 2) = ⟨l.val / 64, by omega⟩ := Fin.ext (by simp only []; omega)
    rw [dif_pos h, if_pos h, ej, ← dk_eq F]
    have e1 : (⟨128 + r.val % 2048 % 128, by omega⟩ : Fin 256) = ⟨128 + r.val % 128, by omega⟩ := Fin.ext (by simp only []; omega)
    have e2 : (⟨r.val % 2048 % 128, by omega⟩ : Fin 256) = ⟨r.val % 128, by omega⟩ := Fin.ext (by simp only []; omega)
    simp only [e1, e2]
  · have ej : (⟨l.val / 64 % 2, by omega⟩ : Fin 2) = ⟨(l.val - 128) / 64, by omega⟩ := Fin.ext (by simp only []; omega)
    have ed : (⟨l.val % 64, by omega⟩ : Fin 64) = ⟨(l.val - 128) % 64, by omega⟩ := Fin.ext (by simp only []; omega)
    rw [dif_neg h, if_neg h, ej, ed]
    have e1 : (⟨128 + r.val % 2048 % 128, by omega⟩ : Fin 256) = ⟨128 + r.val % 128, by omega⟩ := Fin.ext (by simp only []; omega)
    have e2 : (⟨r.val % 2048 % 128, by omega⟩ : Fin 256) = ⟨r.val % 128, by omega⟩ := Fin.ext (by simp only []; omega)
    simp only [e1, e2]
    rfl

theorem out3_at (h : Fin 16) (l : Fin 128) : out3 V (ix2 h l) = ∑ b, ∑ n, (args V).dsk b n h := by
  pointwise [out3, add_outer, v177_at]
  have e : hd ⟨h.val / 8, by omega⟩ ⟨h.val % 8, by omega⟩ = h := Fin.ext (by simp only [hd]; omega)
  simp only [Fin.sum_univ_one]
  rw [show (256 : Fin 257) = Fin.last 256 from rfl]
  simp only [col_last]
  refine Finset.sum_congr rfl fun b _ => Finset.sum_congr rfl fun n _ => ?_
  unfold Args.dsk
  rw [← sum_neg_real _ fun t => (Att.ps_real (F.att b n h t)).mul (Att.δ_real (F.att b n h t))]
  refine Finset.sum_congr rfl fun t _ => ?_
  rw [Att.dsink_eq (row_finite F b n _ _ t), (row_same V b n _ _ t).ps, (row_same V b n _ _ t).δ, e]

end Cert.SwaBwdRefIdeal.Hand

end

end
-- ==== Proof.SwaClaim.lean ====
/- The windowed attention's backward pass and its reference compute the same function at finite arguments. -/
module

public import proofs.«01_k».proof.Defs
public import proofs.«01_k».proof.Proof.Finite
public import proofs.«01_k».proof.Proof.SwaResults
public import proofs.«01_k».proof.Proof.SwaGradients
public import proofs.«01_k».proof.Proof.Gen.SwaBwdIdeal.Value
public import proofs.«01_k».proof.Proof.Gen.Pre_swa_finite
public import Idealize.ShloMosaic.Lib.Claim

@[expose] public section

set_option maxRecDepth 16384

noncomputable section

open Idealize.ShloMosaic Idealize.ShloMosaic.TcCoe Idealize.SL.Sem

namespace Cert.Proof

open Cert.SwaSpec Cert.Reals

/-- The sinks' gradient, in each of the 128 columns the programs leave it in. -/
def swa_sinks (X : Args) : (⟨2, ![16, 128]⟩ : Shape).Idx → EReal := fun y => ∑ b, ∑ n, X.dsk b n (y 0)

/-! The reference's results in the layouts the kernel leaves its own in. -/

section
open Cert.SwaBwdRefIdeal Cert.SwaBwdRefIdeal.Hand
variable (V : Valuation τ sig (Elt Ideal)) {X : Args} (e : args V = X) (F : X.Finite)
include e F

theorem swa_out0 : out0 V = Cert.SwaBwdIdeal.Hand.byHead X.dq := by
  subst e
  funext y
  obtain ⟨r, l, rfl⟩ : ∃ (r : Fin 4096) (l : Fin 1024), y = ix2 r l := ⟨y 0, y 1, eq_ix2 y⟩
  exact out0_at F r l

theorem swa_out1 : out1 V = Cert.SwaBwdIdeal.Hand.byHead X.dz := by
  subst e
  funext y
  obtain ⟨r, l, rfl⟩ : ∃ (r : Fin 4096) (l : Fin 1024), y = ix2 r l := ⟨y 0, y 1, eq_ix2 y⟩
  exact out1_at F r l

theorem swa_out2 : out2 V = Cert.SwaBwdIdeal.Hand.besides X.dk X.dv := by
  subst e
  funext y
  obtain ⟨r, l, rfl⟩ : ∃ (r : Fin 4096) (l : Fin 256), y = ix2 r l := ⟨y 0, y 1, eq_ix2 y⟩
  exact out2_at F r l

theorem swa_out3 : out3 V = swa_sinks X := by
  subst e
  funext y
  obtain ⟨r, l, rfl⟩ : ∃ (r : Fin 16) (l : Fin 128), y = ix2 r l := ⟨y 0, y 1, eq_ix2 y⟩
  exact out3_at F r l

end

/-- What the reference leaves. -/
theorem swa_reference_run (m : (ℓ : Loc Cert.SwaBwdRefIdeal.nD Cert.SwaBwdRefIdeal.τ Cert.SwaBwdRefIdeal.sig) → Buf (Elt Ideal) ℓ) (g : Dev Cert.SwaBwdRefIdeal.nD → PrngReg) :
    θ_run (Cert.SwaBwdRefIdeal.defs (F := Ideal)) (onTc (τ := Cert.SwaBwdRefIdeal.τ) (Cert.SwaBwdRefIdeal.main (F := Ideal))) ⟨m, fun _ => 0, g⟩ (fun r => ∀ c : Dev Cert.SwaBwdRefIdeal.nD,
      r.2.mem ((c.tc : Thread Cert.SwaBwdRefIdeal.nD Cert.SwaBwdRefIdeal.τ).loc Cert.SwaBwdRefIdeal.main_v246) = Cert.SwaBwdRefIdeal.Hand.out0 (StableHlo.launchContents m c)
      ∧ r.2.mem ((c.tc : Thread Cert.SwaBwdRefIdeal.nD Cert.SwaBwdRefIdeal.τ).loc Cert.SwaBwdRefIdeal.main_v248) = Cert.SwaBwdRefIdeal.Hand.out1 (StableHlo.launchContents m c)
      ∧ r.2.mem ((c.tc : Thread Cert.SwaBwdRefIdeal.nD Cert.SwaBwdRefIdeal.τ).loc Cert.SwaBwdRefIdeal.main_v249) = Cert.SwaBwdRefIdeal.Hand.out2 (StableHlo.launchContents m c)
      ∧ r.2.mem ((c.tc : Thread Cert.SwaBwdRefIdeal.nD Cert.SwaBwdRefIdeal.τ).loc Cert.SwaBwdRefIdeal.main_v251) = Cert.SwaBwdRefIdeal.Hand.out3 (StableHlo.launchContents m c)
      ∧ r.2.mem ((c.tc : Thread Cert.SwaBwdRefIdeal.nD Cert.SwaBwdRefIdeal.τ).loc Cert.SwaBwdRefIdeal.main_arg0) = m ((c.tc : Thread Cert.SwaBwdRefIdeal.nD Cert.SwaBwdRefIdeal.τ).loc Cert.SwaBwdRefIdeal.main_arg0)
      ∧ r.2.mem ((c.tc : Thread Cert.SwaBwdRefIdeal.nD Cert.SwaBwdRefIdeal.τ).loc Cert.SwaBwdRefIdeal.main_arg1) = m ((c.tc : Thread Cert.SwaBwdRefIdeal.nD Cert.SwaBwdRefIdeal.τ).loc Cert.SwaBwdRefIdeal.main_arg1)
      ∧ r.2.mem ((c.tc : Thread Cert.SwaBwdRefIdeal.nD Cert.SwaBwdRefIdeal.τ).loc Cert.SwaBwdRefIdeal.main_arg2) = m ((c.tc : Thread Cert.SwaBwdRefIdeal.nD Cert.SwaBwdRefIdeal.τ).loc Cert.SwaBwdRefIdeal.main_arg2)) :=
  (θ_run Cert.SwaBwdRefIdeal.defs _ _).mono (fun r h c => ⟨(h c).1, (h c).2.1, (h c).2.2.1, (h c).2.2.2.1, (h c).2.2.2.2⟩) (Cert.SwaBwdRefIdeal.Value.run m g)

theorem swa_algebraic : Cert.algebraic_SwaBwdIdeal_SwaBwdRefIdeal_pre_swa_finite (hSwaBwdIdeal := Cert.SwaBwdIdeal.Gen.facts)
    (hSwaBwdRefIdeal := Cert.SwaBwdRefIdeal.Gen.facts) (hPre_swa_finite := Cert.Pre_swa_finite.Gen.facts) := by
  intro m g m' g' hpre hagree
  have F (c) : (Cert.SwaBwdIdeal.Hand.args m c).Finite :=
    ⟨fun b r l h => by
        have hl : (⟨4096 + (l.val - 4096), by omega⟩ : Fin 6400) = l := Fin.ext (by simp only []; omega)
        have h0 := isReal_of_test _ _ (hpre c).1 (ix3 b r ⟨l.val - 4096, by omega⟩)
        pointwise [] at h0
        rw [hl] at h0
        exact h0,
      fun h => isReal_of_test _ _ (hpre c).2.1 (ix1 h), fun b r l => isReal_of_test _ _ (hpre c).2.2 (ix3 b r l)⟩
  have e (c) : Cert.SwaBwdRefIdeal.Hand.args (StableHlo.launchContents m' c) = Cert.SwaBwdIdeal.Hand.args m c := by
    obtain ⟨e0, e1, e2⟩ := hagree c
    unfold Cert.SwaBwdRefIdeal.Hand.args Cert.SwaBwdIdeal.Hand.args
    congr 1
    · exact funext fun b => funext fun r => funext fun l => congrFun e0 (ix3 b r l)
    · exact funext fun h => congrFun e1 (ix1 h)
    · exact funext fun b => funext fun r => funext fun l => congrFun e2 (ix3 b r l)
  refine ⟨fun c => Cert.SwaBwdIdeal.Hand.byHead (Cert.SwaBwdIdeal.Hand.args m c).dq, fun c => Cert.SwaBwdIdeal.Hand.byHead (Cert.SwaBwdIdeal.Hand.args m c).dz,
    fun c => Cert.SwaBwdIdeal.Hand.besides (Cert.SwaBwdIdeal.Hand.args m c).dk (Cert.SwaBwdIdeal.Hand.args m c).dv,
    fun c => swa_sinks (Cert.SwaBwdIdeal.Hand.args m c), ?_, ?_⟩
  · exact (θ_run Cert.SwaBwdIdeal.defs _ _).mono (fun r h c => ⟨(h c).1.trans (Cert.SwaBwdIdeal.Hand.final10 m c), (h c).2.1.trans (Cert.SwaBwdIdeal.Hand.final11 m c),
      (h c).2.2.1.trans (Cert.SwaBwdIdeal.Hand.final12 m c), (h c).2.2.2.1.trans (Cert.SwaBwdIdeal.Hand.final13 m c), (h c).2.2.2.2⟩) (Cert.SwaBwdIdeal.Value.run_blocks m g)
  · exact (θ_run Cert.SwaBwdRefIdeal.defs _ _).mono (fun r h c => ⟨(h c).1.trans (swa_out0 _ (e c) (F c)), (h c).2.1.trans (swa_out1 _ (e c) (F c)),
      (h c).2.2.1.trans (swa_out2 _ (e c) (F c)), (h c).2.2.2.1.trans (swa_out3 _ (e c) (F c)), (h c).2.2.2.2⟩) (swa_reference_run m' g')

end Cert.Proof

end
-- ==== Proof.LossSpec.lean ====
/- The loss and its gradient, as functions of the layer's arrays: what both programs compute. -/
module

public import proofs.«01_k».proof.Proof.OutSpec

@[expose] public section

set_option maxRecDepth 16384

noncomputable section

open Idealize.ShloMosaic

namespace Cert.LossSpec

open Cert.Reals Cert.NormGrad Cert.OutSpec

/-- A sum of multiples by one real number that is not negative. -/
theorem sum_mul_const {ι : Type} (s : Finset ι) (f : ι → EReal) {k : ℝ} (hk : 0 ≤ k) : ∑ i ∈ s, f i * k = (∑ i ∈ s, f i) * k := by
  classical
  induction s using Finset.induction_on with
  | empty => simp
  | insert a t ha ih =>
    rw [Finset.sum_insert ha, Finset.sum_insert ha, ih,
      EReal.right_distrib_of_nonneg_of_ne_top (EReal.coe_nonneg.mpr hk) (EReal.coe_ne_top k)]

/-- The quotient by the width of a row. -/
theorem div_width (a : EReal) : Ideal.div a (Ideal.ofBits .f32 0x44800000#32) = a * ((1 / 1024 : ℝ) : EReal) := by
  rw [c1024, Ideal.div_coe (by norm_num)]

/-- The kernel's factor of the gradient and of the loss, and the factors of the squared error's derivative. -/
theorem cGrad : Ideal.ofBits .f32 0x3A800000#32 = ((1 / 1024 : ℝ) : EReal) := by
  simp [Ideal.ofBits, Ideal.ieee, -EReal.coe_mul]; norm_num
theorem cLoss : Ideal.ofBits .f32 0x3A000000#32 = ((1 / 2048 : ℝ) : EReal) := by
  simp [Ideal.ofBits, Ideal.ieee, -EReal.coe_mul]; norm_num
theorem cHalf : Ideal.ofBits .f32 0x3F000000#32 = ((1 / 2 : ℝ) : EReal) := by
  simp [Ideal.ofBits, Ideal.ieee, -EReal.coe_mul]; norm_num
theorem cOne : Ideal.ofBits .f32 0x3F800000#32 = ((1 : ℝ) : EReal) := by
  simp [Ideal.ofBits, Ideal.ieee, -EReal.coe_mul]; norm_num
theorem cTwo : Ideal.ofBits .f32 0x40000000#32 = ((2 : ℝ) : EReal) := by
  simp [Ideal.ofBits, Ideal.ieee, -EReal.coe_mul]; norm_num

variable (oh oa : A3) (w : A2) (x : A3) (g : A1) (tg : A3)

/-- The error of one row: the residual sum with the normed projection, less the target. -/
def err (b : Fin 2) (s : Fin 2048) (d : Fin 1024) : EReal :=
  x (ix3 b s d) + yRow oh oa w b s d * scale (yRow oh oa w b s) * g (ix1 d) - tg (ix3 b s d)

/-- The gradient of the loss with respect to the output. -/
def grad (i : (⟨2, ![4096, 1024]⟩ : Shape).Idx) : EReal :=
  err oh oa w x g tg (bat (i 0)) (pos (i 0)) (i 1) * Ideal.ofBits .f32 0x3A800000#32

/-- The projection before its norm. -/
def proj (i : (⟨2, ![4096, 1024]⟩ : Shape).Idx) : EReal := yRow oh oa w (bat (i 0)) (pos (i 0)) (i 1)

/-- The output projection's residual sum, with the projection normed: what the layer hands on. -/
def next (i : (⟨2, ![4096, 1024]⟩ : Shape).Idx) : EReal :=
  x (ix3 (bat (i 0)) (pos (i 0)) (i 1))
    + yRow oh oa w (bat (i 0)) (pos (i 0)) (i 1) * scale (yRow oh oa w (bat (i 0)) (pos (i 0))) * g (ix1 (i 1))

/-- The squared error of one row. -/
def sq (b : Fin 2) (s : Fin 2048) : EReal := ∑ d : Fin 1024, err oh oa w x g tg b s d * err oh oa w x g tg b s d

/-- The loss, in every entry of a small block. -/
def loss (_ : (⟨2, ![8, 128]⟩ : Shape).Idx) : EReal :=
  (∑ r : Fin 4096, sq oh oa w x g tg (bat r) (pos r)) * Ideal.ofBits .f32 0x3A000000#32

/-- The gradient by the chain rule of the squared error. -/
theorem grad_chain (e : EReal) :
    Ideal.div (Ideal.ofBits .f32 0x3F000000#32 * Ideal.ofBits .f32 0x3F800000#32) (Ideal.ofBits .f32 0x44800000#32)
      * (Ideal.ofBits .f32 0x40000000#32 * e) = e * Ideal.ofBits .f32 0x3A800000#32 := by
  rw [div_width, cHalf, cOne, cTwo, cGrad, mul_comm e, ← mul_assoc, ← EReal.coe_mul, ← EReal.coe_mul, ← EReal.coe_mul]
  norm_num

/-- The loss by the means of the rows. -/
theorem loss_means : Ideal.ofBits .f32 0x3F000000#32
      * ∑ b, ∑ s, Ideal.div (sq oh oa w x g tg b s) (Ideal.ofBits .f32 0x44800000#32)
    = (∑ r : Fin 4096, sq oh oa w x g tg (bat r) (pos r)) * Ideal.ofBits .f32 0x3A000000#32 := by
  rw [← sum_flat fun b s => Ideal.div (sq oh oa w x g tg b s) (Ideal.ofBits .f32 0x44800000#32)]
  simp only [div_width]
  rw [sum_mul_const _ _ (by norm_num), cHalf, cLoss, mul_comm, mul_assoc, ← EReal.coe_mul]
  norm_num

end Cert.LossSpec

end

end
-- ==== Proof.LossKernel.lean ====
/- What the kernel of the loss leaves in its three results. -/
module

public import proofs.«01_k».proof.Proof.LossSpec
public import proofs.«01_k».proof.Proof.Gen.LossBwdIdeal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.LossBwdIdeal.Hand

open Cert.LossBwdIdeal Cert.LossBwdIdeal.Gen Cert.NormGrad Cert.OutSpec Cert.LossSpec

/-! ## The arithmetic of one block -/

theorem proj_at (a b : FVec Ideal S512x1024 .bf16) (u v : FVec Ideal S1x1024x1024 .bf16) (p : Fin 512) (d : Fin 1024) :
    k0_pay5 (F := Ideal) a u b v (ix2 p d) = ∑ e : Fin 1024, a (ix2 p e) * u (ix3 0 e d) + ∑ e : Fin 1024, b (ix2 p e) * v (ix3 0 e d) := by
  pointwise [k0_pay5]

theorem out_at (a b : FVec Ideal S512x1024 .bf16) (u v : FVec Ideal S1x1024x1024 .bf16) (x : FVec Ideal S512x1024 .f32)
    (g : FVec Ideal S1x1024 .f32) (p : Fin 512) (d : Fin 1024) :
    k0_pay6 (F := Ideal) a u b v x g (ix2 p d)
      = x (ix2 p d) + k0_pay5 (F := Ideal) a u b v (ix2 p d) * scale (fun k => k0_pay5 (F := Ideal) a u b v (ix2 p k)) * g (ix2 0 d) := by
  generalize hy : k0_pay5 (F := Ideal) a u b v = y
  unfold k0_pay6
  rw [hy]
  pointwise [scale, meanSq]

theorem loss_at (o t : FVec Ideal S512x1024 .f32) (acc : FVec Ideal S8x128 .f32) (j0 : Fin 8) (j1 : Fin 128) :
    k0_pay3 (F := Ideal) o t acc (ix2 j0 j1)
      = acc (ix2 j0 j1) + (∑ p : Fin 512, ∑ d : Fin 1024, k0_pay1 (F := Ideal) o t (ix2 p d) * k0_pay1 (F := Ideal) o t (ix2 p d))
        * Ideal.ofBits .f32 0x3A000000#32 := by
  generalize hy : k0_pay1 (F := Ideal) o t = y
  unfold k0_pay3
  rw [hy]
  pointwise

theorem zero_at (j) : k0_pay4 (F := Ideal) j = 0 := by pointwise [k0_pay4]

/-! ## The blocks, as parts of the arguments -/

variable (m : (ℓ : Loc nD τ sig) → Buf (Elt Ideal) ℓ)

/-- The arguments. -/
abbrev oh (c : Dev nD) : A3 := m ((c.tc : Thread nD τ).loc main_arg0)
abbrev oa (c : Dev nD) : A3 := m ((c.tc : Thread nD τ).loc main_arg1)
abbrev wo (c : Dev nD) : A2 := m ((c.tc : Thread nD τ).loc main_arg2)
abbrev xr (c : Dev nD) : A3 := m ((c.tc : Thread nD τ).loc main_arg3)
abbrev gp (c : Dev nD) : A1 := m ((c.tc : Thread nD τ).loc main_arg4)
abbrev tg (c : Dev nD) : A3 := m ((c.tc : Thread nD τ).loc main_arg5)

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0]
    ∧ win0_6.index t = ![t.val, 0] ∧ win0_7.index t = ![t.val, 0] ∧ win0_8.index t = ![0, 0] :=
  (by decide +kernel : ∀ t : Fin grid0.N, _)

/-- Row `p` of the block of point `t`, as a row of the array. -/
def rowOf (t : Fin cfg0.N) (p : Fin 512) : Fin 4096 :=
  ⟨t.val * 512 + p, by have := lt_of_lt_of_eq t.isLt N_0; omega⟩

theorem ch_blk (c : Dev nD) (t : Fin cfg0.N) (p : Fin 512) (d : Fin 1024) :
    (show FVec Ideal S512x1024 .bf16 from iblk m c 0 t) (ix2 p d) = oh m c (ix3 (bat (rowOf t p)) (pos (rowOf t p)) d) := by
  blk_simp [iblk, idx t]
  entry_read
  pointwise
  blk_point [idx t, bat, pos, rowOf]

theorem ca_blk (c : Dev nD) (t : Fin cfg0.N) (p : Fin 512) (d : Fin 1024) :
    (show FVec Ideal S512x1024 .bf16 from iblk m c 1 t) (ix2 p d) = oa m c (ix3 (bat (rowOf t p)) (pos (rowOf t p)) d) := by
  blk_simp [iblk, idx t]
  entry_read
  pointwise
  blk_point [idx t, bat, pos, rowOf]

theorem w_blk (c : Dev nD) (t : Fin cfg0.N) (e : Fin 2048) (d : Fin 1024) :
    (show FVec Ideal S1x2048x1024 .bf16 from iblk m c 2 t) (ix3 0 e d) = wo m c (ix2 e d) := by
  blk_simp [iblk, idx t]
  entry_read
  pointwise
  blk_point [idx t]

theorem x_blk (c : Dev nD) (t : Fin cfg0.N) (p : Fin 512) (d : Fin 1024) :
    (show FVec Ideal S512x1024 .f32 from iblk m c 3 t) (ix2 p d) = xr m c (ix3 (bat (rowOf t p)) (pos (rowOf t p)) d) := by
  blk_simp [iblk, idx t]
  entry_read
  pointwise
  blk_point [idx t, bat, pos, rowOf]

theorem g_blk (c : Dev nD) (t : Fin cfg0.N) (d : Fin 1024) :
    (show FVec Ideal S1x1024 .f32 from iblk m c 4 t) (ix2 0 d) = gp m c (ix1 d) := by
  blk_simp [iblk, idx t]
  entry_read
  pointwise
  blk_point [idx t]

theorem tg_blk (c : Dev nD) (t : Fin cfg0.N) (p : Fin 512) (d : Fin 1024) :
    (show FVec Ideal S512x1024 .f32 from iblk m c 5 t) (ix2 p d) = tg m c (ix3 (bat (rowOf t p)) (pos (rowOf t p)) d) := by
  blk_simp [iblk, idx t]
  entry_read
  pointwise
  blk_point [idx t, bat, pos, rowOf]

section Weights

/-! Over any arrays that hold the two halves of the weights. -/

variable (c : Dev nD) (t : Fin cfg0.N) (u v : FVec Ideal S1x1024x1024 .bf16)
  (hu : ∀ e d : Fin 1024, u (ix3 0 e d) = wo m c (ix2 (lo e) d)) (hv : ∀ e d : Fin 1024, v (ix3 0 e d) = wo m c (ix2 (hi e) d))

include hu hv

theorem proj_blk (p : Fin 512) (d : Fin 1024) :
    k0_pay5 (F := Ideal) (iblk m c 0 t) u (iblk m c 1 t) v (ix2 p d)
      = yRow (oh m c) (oa m c) (wo m c) (bat (rowOf t p)) (pos (rowOf t p)) d := by
  refine (proj_at _ _ u v p d).trans (congrArg₂ (· + ·) ?_ ?_)
  · exact Finset.sum_congr rfl fun e _ => congrArg₂ (· * ·) (ch_blk m c t p e) (hu e d)
  · exact Finset.sum_congr rfl fun e _ => congrArg₂ (· * ·) (ca_blk m c t p e) (hv e d)

theorem err_blk (p : Fin 512) (d : Fin 1024) :
    k0_pay1 (F := Ideal) (k0_pay6 (iblk m c 0 t) u (iblk m c 1 t) v (iblk m c 3 t) (iblk m c 4 t)) (iblk m c 5 t) (ix2 p d)
      = err (oh m c) (oa m c) (wo m c) (xr m c) (gp m c) (tg m c) (bat (rowOf t p)) (pos (rowOf t p)) d := by
  have h : ∀ o t : FVec Ideal S512x1024 .f32, k0_pay1 (F := Ideal) o t (ix2 p d) = o (ix2 p d) - t (ix2 p d) := fun o t => by
    pointwise [k0_pay1]
  refine (h _ _).trans (congrArg₂ (· - ·) ((out_at _ _ u v _ _ p d).trans ?_) (tg_blk m c t p d))
  refine congrArg₂ (· + ·) (x_blk m c t p d) (congrArg₂ (· * ·) (congrArg₂ (· * ·) (proj_blk m c t u v hu hv p d) ?_) (g_blk m c t d))
  exact congrArg scale (funext fun k => proj_blk m c t u v hu hv p k)

theorem grad_blk (p : Fin 512) (d : Fin 1024) :
    k0_pay2 (F := Ideal) (k0_pay6 (iblk m c 0 t) u (iblk m c 1 t) v (iblk m c 3 t) (iblk m c 4 t)) (iblk m c 5 t) (ix2 p d)
      = grad (oh m c) (oa m c) (wo m c) (xr m c) (gp m c) (tg m c) (ix2 (rowOf t p) d) := by
  have h : ∀ o t : FVec Ideal S512x1024 .f32,
      k0_pay2 (F := Ideal) o t (ix2 p d) = k0_pay1 (F := Ideal) o t (ix2 p d) * Ideal.ofBits .f32 0x3A800000#32 := fun o t => by
    pointwise [k0_pay2]
  exact (h _ _).trans (congrArg (· * _) (err_blk m c t u v hu hv p d))

/-- What one point adds to the loss. -/
theorem loss_blk (acc : FVec Ideal S8x128 .f32) (j : S8x128.Idx) :
    k0_pay3 (F := Ideal) (k0_pay6 (iblk m c 0 t) u (iblk m c 1 t) v (iblk m c 3 t) (iblk m c 4 t)) (iblk m c 5 t) acc j
      = acc j + (∑ p : Fin 512, sq (oh m c) (oa m c) (wo m c) (xr m c) (gp m c) (tg m c) (bat (rowOf t p)) (pos (rowOf t p)))
        * Ideal.ofBits .f32 0x3A000000#32 := by
  idx_vars j
  refine (loss_at _ _ acc j0 j1).trans (congrArg (acc (ix2 j0 j1) + ·) (congrArg (· * _) ?_))
  refine Finset.sum_congr rfl fun p _ => Finset.sum_congr rfl fun d _ => ?_
  exact congrArg₂ (· * ·) (err_blk m c t u v hu hv p d) (err_blk m c t u v hu hv p d)

end Weights

/-! ## The three results -/

theorem final6 (c : Dev nD) : (dats m 0 c).arrAt 6 (cfgs 0).N = grad (oh m c) (oa m c) (wo m c) (xr m c) (gp m c) (tg m c) := by
  refine (dats m 0 c).arrAt_eq_of_covers 6 _ (by decide +kernel) fun t _ y => ?_
  obtain ⟨p, e, rfl⟩ : ∃ (p : Fin 512) (e : Fin 1024), y = ix2 p e := ⟨y 0, y 1, eq_ix2 y⟩
  blk_simp
  rw [after0_6]
  by_cases h : t.val % 8 = 0
  on_goal 1 => rw [outsAt0_A m c t h]
  on_goal 2 => rw [outsAt0_B m c t h]
  all_goals
    frame_out
    refine (grad_blk m c t _ _ (fun e d => ?_) (fun e d => ?_) p e).trans (congrArg _ ?_)
    · pointwise
      exact w_blk m c t _ d
    · pointwise
      exact w_blk m c t _ d
    · blk_ext [idx t, rowOf]

theorem final7 (c : Dev nD) : (dats m 0 c).arrAt 7 (cfgs 0).N = proj (oh m c) (oa m c) (wo m c) := by
  refine (dats m 0 c).arrAt_eq_of_covers 7 _ (by decide +kernel) fun t _ y => ?_
  obtain ⟨p, e, rfl⟩ : ∃ (p : Fin 512) (e : Fin 1024), y = ix2 p e := ⟨y 0, y 1, eq_ix2 y⟩
  blk_simp
  rw [after0_7]
  by_cases h : t.val % 8 = 0
  on_goal 1 => rw [outsAt0_A m c t h]
  on_goal 2 => rw [outsAt0_B m c t h]
  all_goals
    frame_out
    refine (proj_blk m c t _ _ (fun e d => ?_) (fun e d => ?_) p e).trans
      (congrArg (proj (oh m c) (oa m c) (wo m c)) (a₁ := ix2 (rowOf t p) e) ?_)
    · pointwise
      exact w_blk m c t _ d
    · pointwise
      exact w_blk m c t _ d
    · blk_ext [idx t, rowOf]

/-- What one point adds to the loss. -/
def lossTerm (c : Dev nD) (t : Fin cfg0.N) : EReal :=
  (∑ p : Fin 512, sq (oh m c) (oa m c) (wo m c) (xr m c) (gp m c) (tg m c) (bat (rowOf t p)) (pos (rowOf t p)))
    * Ideal.ofBits .f32 0x3A000000#32

theorem step_A (c : Dev nD) (t : Fin cfg0.N) (h : t.val % 8 = 0) (j : S8x128.Idx) :
    (outsAt0 m c t.val t.isLt).2.2 j = lossTerm m c t := by
  rw [outsAt0_A m c t h]
  frame_out
  refine (loss_blk m c t _ _ (fun e d => ?_) (fun e d => ?_) _ j).trans ?_
  · pointwise
    exact w_blk m c t _ d
  · pointwise
    exact w_blk m c t _ d
  · rw [zero_at, zero_add]
    rfl

theorem step_B (c : Dev nD) (t : Fin cfg0.N) (h : ¬ t.val % 8 = 0) (j : S8x128.Idx) :
    (outsAt0 m c t.val t.isLt).2.2 j = (outsAt0 m c (t.val - 1) (by have := t.isLt; omega)).2.2 j + lossTerm m c t := by
  rw [outsAt0_B m c t h]
  frame_out
  refine (loss_blk m c t _ _ (fun e d => ?_) (fun e d => ?_) _ j).trans rfl
  · pointwise
    exact w_blk m c t _ d
  · pointwise
    exact w_blk m c t _ d

theorem final8 (c : Dev nD) : (dats m 0 c).arrAt 8 (cfgs 0).N = loss (oh m c) (oa m c) (wo m c) (xr m c) (gp m c) (tg m c) := by
  refine (dats m 0 c).arrAt_eq_of_after_last 8 t0_7 (by decide +kernel) _ fun j => ?_
  blk_simp
  rw [after0_8, Pipeline.eq_sum_fin_of_reset_step_apply_last (fun n h => (outsAt0 m c n h).2.2) 8 (fun _ => 0) (fun t _ => lossTerm m c t)
    (fun t h j => by rw [step_A m c t h, zero_add])
    (fun t h j => step_B m c t h j)
    (le_of_eq N_0) t0_7 rfl j, zero_add]
  unfold lossTerm loss
  rw [cLoss, sum_mul_const _ _ (by norm_num)]
  exact congrArg (· * _) (Fin.sum_univ_tiles 8 512 rfl
    fun r => sq (oh m c) (oa m c) (wo m c) (xr m c) (gp m c) (tg m c) (bat r) (pos r)).symm

end Cert.LossBwdIdeal.Hand

end

end
-- ==== Proof.LossReference.lean ====
/- What the reference of the loss computes: the same loss and gradient. -/
module

public import proofs.«01_k».proof.Proof.LossSpec
public import proofs.«01_k».proof.Proof.Gen.LossBwdRefIdeal.Run
public import Idealize.ShloMosaic.Lib.Claim

@[expose] public section

set_option maxRecDepth 16384

noncomputable section

open Idealize.ShloMosaic Idealize.ShloMosaic.TcCoe Idealize.SL.Sem

namespace Cert.LossBwdRefIdeal.Hand

open Cert.LossBwdRefIdeal Cert.LossBwdRefIdeal.Gen Cert.NormGrad Cert.OutSpec Cert.LossSpec

section Terms

variable (oh oa : FVec Ideal S2x2048x1024 .f32) (w : FVec Ideal S2048x1024 .f32) (x : FVec Ideal S2x2048x1024 .f32) (g : FVec Ideal S1024 .f32)
  (t : FVec Ideal S2x2048x1024 .f32)

/-- The projection before its norm. -/
def tY : FVec Ideal S2x2048x1024 .f32 :=
  Host.dotGeneral dot_S2x2048x2048_S2048x1024_S2x2048x1024_2_0_01_1_n_n none
    (concatenate S2x2048x2048 2 [⟨S2x2048x1024, oh⟩, ⟨S2x2048x1024, oa⟩] concatenates_S2x2048x1024_S2x2048x1024_S2x2048x2048_d2) w

variable (y : FVec Ideal S2x2048x1024 .f32)

/-- The mean square of the rows, with the small number. -/
def tZ : FVec Ideal S2x2048x1 .f32 :=
  addf (Host.divf (broadcastInDim S2x2048x1 ![0, 1] bcast_S2x2048_S2x2048x1_0_1
      (Host.reduceAdd (mulf y y) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The residual sum less the target. -/
def tE : FVec Ideal S2x2048x1024 .f32 :=
  subf (addf x (mulf (mulf y (broadcastInDim S2x2048x1024 ![0, 1, 2] bcast_S2x2048x1_S2x2048x1024_0_1_2 (Host.rsqrt (tZ y))))
    (broadcastInDim S2x2048x1024 ![0, 1, 2] bcast_S1x1x1024_S2x2048x1024_0_1_2 (broadcastInDim S1x1x1024 ![2] bcast_S1024_S1x1x1024_2 g)))) t

variable (e : FVec Ideal S2x2048x1024 .f32)

/-- The gradient of the loss with respect to the output. -/
def tD : FVec Ideal S4096x1024 .f32 :=
  shapeCast S4096x1024 (mulf (broadcastInDim S2x2048x1024 ![0, 1] bcast_S2x2048_S2x2048x1024_0_1 (Host.divf
      (broadcastInDim S2x2048 ![] bcast_S_S2x2048 (mulf (constant S_ .f32 0x3F000000#32) (constant S_ .f32 0x3F800000#32)))
      (broadcastInDim S2x2048 ![] bcast_S_S2x2048 (constant S_ .f32 0x44800000#32))))
    (mulf (broadcastInDim S2x2048x1024 ![] bcast_S_S2x2048x1024 (constant S_ .f32 0x40000000#32)) e)) shapeCasts_S2x2048x1024_S4096x1024

/-- The loss, in every entry of a small block. -/
def tL : FVec Ideal S8x128 .f32 :=
  broadcastInDim S8x128 ![] bcast_S_S8x128 (mulf (constant S_ .f32 0x3F000000#32) (Host.reduceAdd (Host.divf
      (Host.reduceAdd (mulf e e) (constant S_ .f32 0x00000000#32) reducesTo_S2x2048x1024_S2x2048_d2 h_S_)
      (broadcastInDim S2x2048 ![] bcast_S_S2x2048 (constant S_ .f32 0x44800000#32)))
    (constant S_ .f32 0x00000000#32) reducesTo_S2x2048_S_d0_1 h_S_))

/-! ## The parts read at an index -/

theorem tY_at (b : Fin 2) (s : Fin 2048) (d : Fin 1024) : tY oh oa w (ix3 b s d) = yRow oh oa w b s d := by
  pointwise [tY, yRow]
  rfl

theorem tZ_at (b : Fin 2) (s : Fin 2048) (o : Fin 1) : tZ y (ix3 b s o) = meanSq fun k => y (ix3 b s k) := by
  pointwise [tZ, meanSq]

theorem tE_at (b : Fin 2) (s : Fin 2048) (d : Fin 1024) :
    tE x g t y (ix3 b s d) = x (ix3 b s d) + y (ix3 b s d) * scale (fun k => y (ix3 b s k)) * g (ix1 d) - t (ix3 b s d) := by
  pointwise [tE, tZ_at, scale]

theorem tD_at (r : Fin 4096) (d : Fin 1024) :
    tD e (ix2 r d) = e (ix3 (bat r) (pos r) d) * Ideal.ofBits .f32 0x3A800000#32 := by
  rw [← grad_chain]
  pointwise [tD, bat, pos]

theorem tL_at (j : Fin 8) (k : Fin 128) :
    tL e (ix2 j k) = Ideal.ofBits .f32 0x3F000000#32
      * ∑ b, ∑ s, Ideal.div (∑ d : Fin 1024, e (ix3 b s d) * e (ix3 b s d)) (Ideal.ofBits .f32 0x44800000#32) := by
  pointwise [tL]

/-! ## The results -/

/-- The error, of the arguments. -/
def rE : FVec Ideal S2x2048x1024 .f32 := tE x g t (tY oh oa w)

theorem rE_at (b : Fin 2) (s : Fin 2048) (d : Fin 1024) : rE oh oa w x g t (ix3 b s d) = err oh oa w x g t b s d := by
  unfold rE
  rw [tE_at]
  simp only [tY_at]
  rfl

theorem result0 : tD (rE oh oa w x g t) = grad oh oa w x g t := by
  funext i
  idx_vars i
  rw [tD_at, rE_at]
  rfl

theorem result1 : shapeCast S4096x1024 (tY oh oa w) shapeCasts_S2x2048x1024_S4096x1024 = proj oh oa w := by
  funext i
  idx_vars i
  pointwise [tY_at, proj]
  rfl

theorem result2 : tL (rE oh oa w x g t) = loss oh oa w x g t := by
  funext i
  idx_vars i
  rw [tL_at]
  simp only [rE_at]
  exact loss_means oh oa w x g t

end Terms

end Cert.LossBwdRefIdeal.Hand

end

end
-- ==== Proof.LossClaim.lean ====
/- The loss and its reference compute the same function. -/
module

public import proofs.«01_k».proof.Defs
public import proofs.«01_k».proof.Proof.LossKernel
public import proofs.«01_k».proof.Proof.LossReference

@[expose] public section

set_option maxRecDepth 16384

noncomputable section

open Idealize.ShloMosaic Idealize.ShloMosaic.TcCoe Idealize.SL.Sem

namespace Cert.Proof

open Cert.OutSpec Cert.LossSpec

section
open Cert.LossBwdRefIdeal Cert.LossBwdRefIdeal.Hand

/-- What the reference leaves. -/
theorem loss_reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v31)
        = tD (rE (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
      ∧ r.2.mem ((c.tc : Thread nD τ).loc main_v32)
        = shapeCast S4096x1024 (tY (m ((c.tc : Thread nD τ).loc main_arg0)) (m ((c.tc : Thread nD τ).loc main_arg1)) (m ((c.tc : Thread nD τ).loc main_arg2)))
          Gen.shapeCasts_S2x2048x1024_S4096x1024
      ∧ r.2.mem ((c.tc : Thread nD τ).loc main_v33)
        = tL (rE (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1, (h c).2.1, (h c).2.2.1, (h c).2.2.2⟩) (Value.run m g)

end

theorem loss_algebraic : Cert.algebraic_LossBwdIdeal_LossBwdRefIdeal (hLossBwdIdeal := Cert.LossBwdIdeal.Gen.facts)
    (hLossBwdRefIdeal := Cert.LossBwdRefIdeal.Gen.facts) := by
  intro m g m' g' _ hagree
  refine ⟨fun c => grad (Cert.LossBwdIdeal.Hand.oh m c) (Cert.LossBwdIdeal.Hand.oa m c) (Cert.LossBwdIdeal.Hand.wo m c)
      (Cert.LossBwdIdeal.Hand.xr m c) (Cert.LossBwdIdeal.Hand.gp m c) (Cert.LossBwdIdeal.Hand.tg m c),
    fun c => proj (Cert.LossBwdIdeal.Hand.oh m c) (Cert.LossBwdIdeal.Hand.oa m c) (Cert.LossBwdIdeal.Hand.wo m c),
    fun c => loss (Cert.LossBwdIdeal.Hand.oh m c) (Cert.LossBwdIdeal.Hand.oa m c) (Cert.LossBwdIdeal.Hand.wo m c)
      (Cert.LossBwdIdeal.Hand.xr m c) (Cert.LossBwdIdeal.Hand.gp m c) (Cert.LossBwdIdeal.Hand.tg m c), ?_, ?_⟩
  · exact (θ_run Cert.LossBwdIdeal.defs _ _).mono (fun r h c => ⟨(h c).1.trans (Cert.LossBwdIdeal.Hand.final6 m c),
      (h c).2.1.trans (Cert.LossBwdIdeal.Hand.final7 m c), (h c).2.2.1.trans (Cert.LossBwdIdeal.Hand.final8 m c), (h c).2.2.2⟩)
      (Cert.LossBwdIdeal.Value.run_blocks m g)
  · refine (θ_run Cert.LossBwdRefIdeal.defs _ _).mono (fun r h c => ?_) (loss_reference_run m' g')
    obtain ⟨e0, e1, e2, e3, e4, e5⟩ := hagree c
    refine ⟨(h c).1.trans ((Cert.LossBwdRefIdeal.Hand.result0 _ _ _ _ _ _).trans ?_), (h c).2.1.trans ((Cert.LossBwdRefIdeal.Hand.result1 _ _ _).trans ?_),
      (h c).2.2.1.trans ((Cert.LossBwdRefIdeal.Hand.result2 _ _ _ _ _ _).trans ?_), (h c).2.2.2⟩
    all_goals simp only [e0, e1, e2, e3, e4, e5]

end Cert.Proof

end

end
-- ==== Proof.SmallSpec.lean ====
/- The optimiser's step of the small parameters with the lower bounds' gradient: what both programs compute. -/
module

public import proofs.«01_k».proof.Proof.Reals

@[expose] public section

set_option maxRecDepth 16384

noncomputable section

open Idealize.ShloMosaic

namespace Cert.SmallSpec

open Cert.Reals

/-- Arrays [2, n] and [8, 1024]. -/
abbrev L (n : ℕ) := (⟨2, ![2, n]⟩ : Shape).Idx → EReal
abbrev P := (⟨2, ![8, 1024]⟩ : Shape).Idx → EReal

/-- The small parameters of the two layers, or one array of the same shapes for each: the two norms, the lower bounds, the heads' norm, the sinks. -/
structure Five where
  pre : L 1024
  post : L 1024
  lb : L 1024
  head : L 128
  sinks : L 16

/-- The heads' norm and the sinks side by side, with zeros behind. -/
def tail (X : Five) (b : Fin 2) (l : Fin 1024) : EReal :=
  if h : (l : ℕ) < 128 then X.head (ix2 b ⟨l, h⟩) else if k : (l : ℕ) < 144 then X.sinks (ix2 b ⟨l - 128, by omega⟩) else 0

/-- Four rows for each layer. -/
def packed (X : Five) (b : Fin 2) (q : Fin 4) (l : Fin 1024) : EReal :=
  match q with
  | 0 => X.pre (ix2 b l)
  | 1 => X.post (ix2 b l)
  | 2 => X.lb (ix2 b l)
  | 3 => tail X b l

/-- Row `q` of layer `b` in the packed array. -/
def row (b : Fin 2) (q : Fin 4) : Fin 8 := ⟨4 * b + q, by omega⟩

/-- Every row of the packed array is one of them. -/
theorem eq_row (r : Fin 8) : ∃ b q, r = row b q :=
  ⟨⟨r / 4, by omega⟩, ⟨r % 4, by omega⟩, Fin.ext (by show (r : ℕ) = 4 * (r / 4) + r % 4; omega)⟩

/-- The packed array. -/
def rows (X : Five) : P := fun i => packed X ⟨(i 0 : ℕ) / 4, by have : (i 0 : ℕ) < 8 := (i 0).isLt; omega⟩ ⟨(i 0 : ℕ) % 4, by omega⟩ (i 1)

theorem rows_at (X : Five) (b : Fin 2) (q : Fin 4) (l : Fin 1024) : rows X (ix2 (row b q) l) = packed X b q l := by
  show packed X ⟨(4 * (b : ℕ) + q) / 4, _⟩ ⟨(4 * (b : ℕ) + q) % 4, _⟩ l = packed X b q l
  congr 1
  · exact Fin.ext (by show (4 * (b : ℕ) + q) / 4 = b; omega)
  · exact Fin.ext (by show (4 * (b : ℕ) + q) % 4 = q; omega)

/-- An array is packed if each of its rows is. -/
theorem eq_rows {A : P} {X : Five} (h : ∀ b q l, A (ix2 (row b q) l) = packed X b q l) : A = rows X := by
  funext i
  obtain ⟨r, l, rfl⟩ : ∃ (r : Fin 8) (l : Fin 1024), i = ix2 r l := ⟨i 0, i 1, eq_ix2 i⟩
  obtain ⟨b, q, rfl⟩ := eq_row r
  rw [h, rows_at]

/-- Any function of entries, entry by entry of five arrays. -/
def map4 (f : EReal → EReal → EReal → EReal → EReal) (W G M V : Five) : Five where
  pre i := f (W.pre i) (G.pre i) (M.pre i) (V.pre i)
  post i := f (W.post i) (G.post i) (M.post i) (V.post i)
  lb i := f (W.lb i) (G.lb i) (M.lb i) (V.lb i)
  head i := f (W.head i) (G.head i) (M.head i) (V.head i)
  sinks i := f (W.sinks i) (G.sinks i) (M.sinks i) (V.sinks i)

theorem packed_map4 (f : EReal → EReal → EReal → EReal → EReal) (hf : f 0 0 0 0 = 0) (W G M V : Five) (b : Fin 2) (q : Fin 4)
    (l : Fin 1024) : packed (map4 f W G M V) b q l = f (packed W b q l) (packed G b q l) (packed M b q l) (packed V b q l) := by
  unfold packed
  match q with
  | 0 => rfl
  | 1 => rfl
  | 2 => rfl
  | 3 =>
    show tail _ b l = f (tail W b l) (tail G b l) (tail M b l) (tail V b l)
    unfold tail
    split
    · rfl
    · split
      · rfl
      · exact hf.symm

/-! ## The optimiser's step of one entry -/

/-- The first and second moments and the step, of the weight, its gradient and its two moments. -/
def momStep (_ g m _ : EReal) : EReal := Ideal.ofBits .f32 0x3F666666#32 * m + Ideal.ofBits .f32 0x3DCCCCCD#32 * g
def varStep (_ g _ v : EReal) : EReal := Ideal.ofBits .f32 0x3F7FBE77#32 * v + Ideal.ofBits .f32 0x3A83126F#32 * (g * g)
def deltaStep (w g m v : EReal) : EReal :=
  Ideal.ofBits .f32 0xBA83126F#32 * (Ideal.div (Ideal.div (momStep w g m v) (Ideal.ofBits .f32 0x3F26BD02#32))
    (Ideal.sqrt (Ideal.div (varStep w g m v) (Ideal.ofBits .f32 0x3C231ACC#32)) + Ideal.ofBits .f32 0x322BCC77#32)
    + Ideal.ofBits .f32 0x3C23D70A#32 * w)

theorem momStep_zero : momStep 0 0 0 0 = 0 := by simp [momStep]
theorem varStep_zero : varStep 0 0 0 0 = 0 := by simp [varStep]

theorem div_zero_real {b : ℝ} (h : b ≠ 0) : Ideal.div 0 (b : EReal) = 0 := by rw [Ideal.div_coe h, zero_mul]

theorem deltaStep_zero : deltaStep 0 0 0 0 = 0 := by
  have c1 : Ideal.ofBits .f32 0x3F26BD02#32 = ((10927362 / 2 ^ 24 : ℝ) : EReal) := by
    simp [Ideal.ofBits, Ideal.ieee, -EReal.coe_mul]; norm_num
  have c2 : Ideal.ofBits .f32 0x3C231ACC#32 = ((10689228 / 2 ^ 30 : ℝ) : EReal) := by
    simp [Ideal.ofBits, Ideal.ieee, -EReal.coe_mul]; norm_num
  have c3 : Ideal.ofBits .f32 0x322BCC77#32 = ((11258999 / 2 ^ 50 : ℝ) : EReal) := by
    simp [Ideal.ofBits, Ideal.ieee, -EReal.coe_mul]; norm_num
  have s0 : Ideal.sqrt 0 = 0 := by
    show (if (0 : ℝ) < 0 then (⊥ : EReal) else ((Real.sqrt 0 : ℝ) : EReal)) = 0
    simp
  unfold deltaStep
  rw [momStep_zero, varStep_zero, c1, c2, c3, div_zero_real (by norm_num), div_zero_real (by norm_num), s0, zero_add,
    div_zero_real (by norm_num), mul_zero, add_zero, mul_zero]

/-! ## The gradient of the lower bounds' parameters -/

/-- The two layers' shares at a column. -/
def part (w : L 1024) (b : Fin 2) (l : Fin 1024) : EReal :=
  Ideal.exp (w (ix2 b l) - max (w (ix2 0 l)) (w (ix2 1 l)))
def share (w : L 1024) (b : Fin 2) (l : Fin 1024) : EReal := Ideal.div (part w b l) (part w 0 l + part w 1 l)

/-- The gradient: the second layer's bound is the second share, the first layer's is zero. -/
def lbGrad (g w : L 1024) : L 1024 := fun i =>
  g (ix2 1 (i 1)) * share w 1 (i 1) * ((if (i 0 : ℕ) = 0 then 0 else 1) - share w (i 0) (i 1))

/-- The gradients that the step takes: the lower bounds' through their softmax. -/
def grads (G W : Five) : Five := { G with lb := lbGrad G.lb W.lb }

end Cert.SmallSpec

end

end
-- ==== Proof.SmallKernel.lean ====
/- What the kernel of the small parameters' update leaves in its four results. -/
module

public import proofs.«01_k».proof.Proof.SmallSpec
public import proofs.«01_k».proof.Proof.Gen.SmallUpdateIdeal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SmallUpdateIdeal.Hand

open Cert.SmallUpdateIdeal Cert.SmallUpdateIdeal.Gen Cert.SmallSpec

/-! ## The packed arrays -/

section Pack

variable (X : Five)

/-- One layer's row of an array, by itself. -/
def one0 (x : FVec Ideal S2x1024 .f32) : FVec Ideal S1x1024 .f32 :=
  broadcastInDim S1x1024 ![1] bcast_S1024_S1x1024_1 (shapeCast S1024 (extractStridedSlice S1x1024 ![0, 0] x slices_S2x1024_S1x1024_0_0) shapeCasts_S1x1024_S1024)
def one1 (x : FVec Ideal S2x1024 .f32) : FVec Ideal S1x1024 .f32 :=
  broadcastInDim S1x1024 ![1] bcast_S1024_S1x1024_1 (shapeCast S1024 (extractStridedSlice S1x1024 ![1, 0] x slices_S2x1024_S1x1024_1_0) shapeCasts_S1x1024_S1024)

/-- A row of 144 numbers with zeros behind. -/
def padded (x : FVec Ideal S144 .f32) : FVec Ideal S1x1024 .f32 :=
  broadcastInDim S1x1024 ![1] bcast_S1024_S1x1024_1 (pad S1024 ![0] ![880] ![0] x (sitofp (F := Ideal) .f32 (constantI S_ 32 0#32)) pads_S144_S1024_08800 h_S_)

def tail0 : FVec Ideal S144 .f32 :=
  concatenate S144 0 [⟨S128, shapeCast S128 (extractStridedSlice S1x128 ![0, 0] (X.head : FVec Ideal S2x128 .f32) slices_S2x128_S1x128_0_0) shapeCasts_S1x128_S128⟩,
    ⟨S16, shapeCast S16 (extractStridedSlice S1x16 ![0, 0] (X.sinks : FVec Ideal S2x16 .f32) slices_S2x16_S1x16_0_0) shapeCasts_S1x16_S16⟩] concatenates_S128_S16_S144_d0
def tail1 : FVec Ideal S144 .f32 :=
  concatenate S144 0 [⟨S128, shapeCast S128 (extractStridedSlice S1x128 ![1, 0] (X.head : FVec Ideal S2x128 .f32) slices_S2x128_S1x128_1_0) shapeCasts_S1x128_S128⟩,
    ⟨S16, shapeCast S16 (extractStridedSlice S1x16 ![1, 0] (X.sinks : FVec Ideal S2x16 .f32) slices_S2x16_S1x16_1_0) shapeCasts_S1x16_S16⟩] concatenates_S128_S16_S144_d0

/-- The packed array, as the kernel's host lines put it together. -/
def pack : FVec Ideal S8x1024 .f32 :=
  concatenate S8x1024 0 [⟨S1x1024, one0 X.pre⟩, ⟨S1x1024, one0 X.post⟩, ⟨S1x1024, one0 X.lb⟩, ⟨S1x1024, padded (tail0 X)⟩,
    ⟨S1x1024, one1 X.pre⟩, ⟨S1x1024, one1 X.post⟩, ⟨S1x1024, one1 X.lb⟩, ⟨S1x1024, padded (tail1 X)⟩]
    concatenates_S1x1024_S1x1024_S1x1024_S1x1024_S1x1024_S1x1024_S1x1024_S1x1024_S8x1024_d0

theorem one0_at (x : L 1024) (l : Fin 1024) : one0 x (ix2 0 l) = x (ix2 0 l) := by pointwise [one0]
theorem one1_at (x : L 1024) (l : Fin 1024) : one1 x (ix2 0 l) = x (ix2 1 l) := by pointwise [one1]

theorem padded_at (x : FVec Ideal S144 .f32) (l : Fin 1024) :
    padded x (ix2 0 l) = if h : (l : ℕ) < 144 then x (ix1 ⟨l, h⟩) else 0 := by
  have z : FloatOps.sitofp (F := Ideal) .f32 (0#32 : BitVec 32) = 0 := by
    show (((0#32 : BitVec 32).toInt : ℝ) : EReal) = 0
    simp
  pointwise [padded]
  rw [z]

theorem tail0_at (l : Fin 144) : tail0 X (ix1 l) = if h : (l : ℕ) < 128 then X.head (ix2 0 ⟨l, h⟩) else X.sinks (ix2 0 ⟨l - 128, by omega⟩) := by
  pointwise [tail0]

theorem tail1_at (l : Fin 144) : tail1 X (ix1 l) = if h : (l : ℕ) < 128 then X.head (ix2 1 ⟨l, h⟩) else X.sinks (ix2 1 ⟨l - 128, by omega⟩) := by
  pointwise [tail1]

theorem tail_of (x : FVec Ideal S144 .f32) {b : Fin 2}
    (h : ∀ l : Fin 144, x (ix1 l) = if h : (l : ℕ) < 128 then X.head (ix2 b ⟨l, h⟩) else X.sinks (ix2 b ⟨l - 128, by omega⟩)) (l : Fin 1024) :
    padded x (ix2 0 l) = tail X b l := by
  rw [padded_at]
  unfold tail
  by_cases k : (l : ℕ) < 144
  · rw [dif_pos k, h]
    simp only [dif_pos k]
  · rw [dif_neg k, dif_neg (by omega), dif_neg k]

theorem pack_at (b : Fin 2) (q : Fin 4) (l : Fin 1024) : pack X (ix2 (row b q) l) = packed X b q l := by
  fin_cases b <;> fin_cases q <;> pointwise [pack, row, packed, one0_at, one1_at]
  · exact tail_of X _ (tail0_at X) l
  · exact tail_of X _ (tail1_at X) l

end Pack

/-! ## The arithmetic of one entry -/

theorem mom_at (g m : FVec Ideal S8x1024 .f32) (r : Fin 8) (l : Fin 1024) (w v : EReal) :
    k0_pay1 (F := Ideal) g m (ix2 r l) = momStep w (g (ix2 r l)) (m (ix2 r l)) v := by
  pointwise [k0_pay1, momStep]

theorem var_at (g v : FVec Ideal S8x1024 .f32) (r : Fin 8) (l : Fin 1024) (w m : EReal) :
    k0_pay2 (F := Ideal) g v (ix2 r l) = varStep w (g (ix2 r l)) m (v (ix2 r l)) := by
  pointwise [k0_pay2, varStep]

theorem delta_at (w g m v : FVec Ideal S8x1024 .f32) (r : Fin 8) (l : Fin 1024) :
    k0_pay3 (F := Ideal) w g m v (ix2 r l) = deltaStep (w (ix2 r l)) (g (ix2 r l)) (m (ix2 r l)) (v (ix2 r l)) := by
  pointwise [k0_pay3, k0_pay2, k0_pay1, deltaStep, momStep, varStep]

/-- A choice by the number of the row. -/
theorem pick (r : Fin 8) (k : ℕ) (hk : k < 8) (x y : EReal) :
    Scalar.select (IntOp.cmpi CmpIPredicate.eq (BitVec.ofNat 32 (r : ℕ)) (BitVec.ofNat 32 k)) x y = if (r : ℕ) = k then x else y := by
  have h : (IntOp.cmpi CmpIPredicate.eq (BitVec.ofNat 32 (r : ℕ)) (BitVec.ofNat 32 k) = 1#1) ↔ (r : ℕ) = k := by
    interval_cases k <;> fin_cases r <;> decide
  unfold Scalar.select
  exact if_congr h rfl rfl

/-- The two layers' shares, of the packed rows. -/
def rowPart (w : FVec Ideal S8x1024 .f32) (r : Fin 8) (l : Fin 1024) : EReal :=
  Ideal.exp (w (ix2 r l) - max (w (ix2 2 l)) (w (ix2 6 l)))
def rowShare (w : FVec Ideal S8x1024 .f32) (r : Fin 8) (l : Fin 1024) : EReal :=
  Ideal.div (rowPart w r l) (rowPart w 2 l + rowPart w 6 l)

theorem grads_at (g w : FVec Ideal S8x1024 .f32) (r : Fin 8) (l : Fin 1024) :
    k0_pay5 (F := Ideal) g w (ix2 r l)
      = if (r : ℕ) = 6 then g (ix2 6 l) * rowShare w 6 l * (1 - rowShare w 6 l)
        else if (r : ℕ) = 2 then g (ix2 6 l) * rowShare w 6 l * (0 - rowShare w 2 l) else g (ix2 r l) := by
  rw [← pick r 2 (by omega), ← pick r 6 (by omega)]
  pointwise [k0_pay5, k0_pay4, rowShare, rowPart]

/-- The gradients with the lower bounds' rows replaced. -/
theorem grad_at (G W : Five) (b : Fin 2) (q : Fin 4) (l : Fin 1024) :
    k0_pay5 (F := Ideal) (pack G) (pack W) (ix2 (row b q) l) = packed (grads G W) b q l := by
  have h6 : pack G (ix2 6 l) = G.lb (ix2 1 l) := pack_at G 1 2 l
  have w2 : pack W (ix2 2 l) = W.lb (ix2 0 l) := pack_at W 0 2 l
  have w6 : pack W (ix2 6 l) = W.lb (ix2 1 l) := pack_at W 1 2 l
  have s2 : rowShare (pack W) 2 l = share W.lb 0 l := by unfold rowShare rowPart; rw [w2, w6]; rfl
  have s6 : rowShare (pack W) 6 l = share W.lb 1 l := by unfold rowShare rowPart; rw [w2, w6]; rfl
  rw [grads_at, h6, s2, s6, pack_at]
  fin_cases b <;> fin_cases q <;> rfl

/-! ## The four results -/

variable (m : (ℓ : Loc nD τ sig) → Buf (Elt Ideal) ℓ)

/-- The arguments: the gradients, the parameters and their two moments. -/
def gs (c : Dev nD) : Five := ⟨m ((c.tc : Thread nD τ).loc main_arg0), m ((c.tc : Thread nD τ).loc main_arg1),
  m ((c.tc : Thread nD τ).loc main_arg2), m ((c.tc : Thread nD τ).loc main_arg3), m ((c.tc : Thread nD τ).loc main_arg4)⟩
def ws (c : Dev nD) : Five := ⟨m ((c.tc : Thread nD τ).loc main_arg5), m ((c.tc : Thread nD τ).loc main_arg6),
  m ((c.tc : Thread nD τ).loc main_arg7), m ((c.tc : Thread nD τ).loc main_arg8), m ((c.tc : Thread nD τ).loc main_arg9)⟩
def ms (c : Dev nD) : Five := ⟨m ((c.tc : Thread nD τ).loc main_arg10), m ((c.tc : Thread nD τ).loc main_arg11),
  m ((c.tc : Thread nD τ).loc main_arg12), m ((c.tc : Thread nD τ).loc main_arg13), m ((c.tc : Thread nD τ).loc main_arg14)⟩
def vs (c : Dev nD) : Five := ⟨m ((c.tc : Thread nD τ).loc main_arg15), m ((c.tc : Thread nD τ).loc main_arg16),
  m ((c.tc : Thread nD τ).loc main_arg17), m ((c.tc : Thread nD τ).loc main_arg18), m ((c.tc : Thread nD τ).loc main_arg19)⟩

theorem entry0 (c : Dev nD) : Gen.V m c main_v32 = pack (gs m c) := by sl_kernel_rfl
theorem entry1 (c : Dev nD) : Gen.V m c main_v65 = pack (ws m c) := by sl_kernel_rfl
theorem entry2 (c : Dev nD) : Gen.V m c main_v98 = pack (ms m c) := by sl_kernel_rfl
theorem entry3 (c : Dev nD) : Gen.V m c main_v131 = pack (vs m c) := by sl_kernel_rfl

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] :=
  (by decide +kernel : ∀ t : Fin grid0.N, _)

set_option maxHeartbeats 1600000 in
theorem blks (c : Dev nD) (t : Fin cfg0.N) : (show FVec Ideal S8x1024 .f32 from iblk m c 0 t) = pack (gs m c)
    ∧ (show FVec Ideal S8x1024 .f32 from iblk m c 1 t) = pack (ws m c) ∧ (show FVec Ideal S8x1024 .f32 from iblk m c 2 t) = pack (ms m c)
    ∧ (show FVec Ideal S8x1024 .f32 from iblk m c 3 t) = pack (vs m c) := by
  refine ⟨funext fun i => ?_, funext fun i => ?_, funext fun i => ?_, funext fun i => ?_⟩
  all_goals
    idx_vars i
    blk_simp [iblk]
  on_goal 1 => rw [entry0]
  on_goal 2 => rw [entry1]
  on_goal 3 => rw [entry2]
  on_goal 4 => rw [entry3]
  all_goals
    refine congrArg _ ?_
    blk_ext [idx t]

/-- The gradients that the step takes, of the arguments. -/
def gw (c : Dev nD) : Five := grads (gs m c) (ws m c)

theorem grad_blk (c : Dev nD) (t : Fin cfg0.N) (b : Fin 2) (q : Fin 4) (l : Fin 1024) :
    k0_pay5 (F := Ideal) (iblk m c 0 t) (iblk m c 1 t) (ix2 (row b q) l) = packed (gw m c) b q l := by
  refine Eq.trans ?_ (grad_at (gs m c) (ws m c) b q l)
  exact congrArg₂ (fun g w => k0_pay5 (F := Ideal) g w (ix2 (row b q) l)) (blks m c t).1 (blks m c t).2.1

/-- The parts of one entry at the packed rows. -/
theorem packs_blk (c : Dev nD) (t : Fin cfg0.N) (b : Fin 2) (q : Fin 4) (l : Fin 1024) :
    k0_pay4 (F := Ideal) (iblk m c 1 t) (ix2 (row b q) l) = packed (ws m c) b q l
      ∧ k0_pay9 (F := Ideal) (iblk m c 0 t) (iblk m c 1 t) (iblk m c 2 t) (iblk m c 3 t) (ix2 (row b q) l) = packed (ms m c) b q l
      ∧ k0_pay10 (F := Ideal) (iblk m c 0 t) (iblk m c 1 t) (iblk m c 2 t) (iblk m c 3 t) (ix2 (row b q) l) = packed (vs m c) b q l := by
  have h4 : ∀ w : FVec Ideal S8x1024 .f32, k0_pay4 (F := Ideal) w (ix2 (row b q) l) = w (ix2 (row b q) l) := fun w => by pointwise [k0_pay4]
  have h9 : ∀ x y z w : FVec Ideal S8x1024 .f32, k0_pay9 (F := Ideal) x y z w (ix2 (row b q) l) = z (ix2 (row b q) l) := fun x y z w => by
    pointwise [k0_pay9, k0_pay6]
  have h10 : ∀ x y z w : FVec Ideal S8x1024 .f32, k0_pay10 (F := Ideal) x y z w (ix2 (row b q) l) = w (ix2 (row b q) l) := fun x y z w => by
    pointwise [k0_pay10, k0_pay7]
  obtain ⟨_, e1, e2, e3⟩ := blks m c t
  exact ⟨(h4 _).trans ((congrFun e1 _).trans (pack_at _ b q l)), (h9 _ _ _ _).trans ((congrFun e2 _).trans (pack_at _ b q l)),
    (h10 _ _ _ _).trans ((congrFun e3 _).trans (pack_at _ b q l))⟩

theorem grad8_blk (c : Dev nD) (t : Fin cfg0.N) (b : Fin 2) (q : Fin 4) (l : Fin 1024) :
    k0_pay8 (F := Ideal) (iblk m c 0 t) (iblk m c 1 t) (iblk m c 2 t) (iblk m c 3 t) (ix2 (row b q) l) = packed (gw m c) b q l := by
  refine Eq.trans ?_ (grad_blk m c t b q l)
  have h8 : ∀ x y z w : FVec Ideal S8x1024 .f32, k0_pay8 (F := Ideal) x y z w (ix2 (row b q) l) = k0_pay5 (F := Ideal) x y (ix2 (row b q) l) :=
    fun x y z w => by
      unfold k0_pay8
      frame_out
  exact h8 _ _ _ _

theorem final4 (c : Dev nD) : (dats m 0 c).arrAt 4 (cfgs 0).N = rows (gw m c) := by
  refine (dats m 0 c).arrAt_eq_of_covers 4 _ (by decide +kernel) fun t _ y => ?_
  obtain ⟨p, l, rfl⟩ : ∃ (p : Fin 8) (l : Fin 1024), y = ix2 p l := ⟨y 0, y 1, eq_ix2 y⟩
  obtain ⟨b, q, rfl⟩ := eq_row p
  blk_simp
  rw [after0_4]
  frame_out
  refine ((grad_blk m c t b q l).trans (rows_at _ b q l).symm).trans (congrArg (rows (gw m c)) (a₁ := ix2 (row b q) l) ?_)
  blk_ext [idx t]

theorem final5 (c : Dev nD) : (dats m 0 c).arrAt 5 (cfgs 0).N = rows (map4 deltaStep (ws m c) (gw m c) (ms m c) (vs m c)) := by
  refine (dats m 0 c).arrAt_eq_of_covers 5 _ (by decide +kernel) fun t _ y => ?_
  obtain ⟨p, l, rfl⟩ : ∃ (p : Fin 8) (l : Fin 1024), y = ix2 p l := ⟨y 0, y 1, eq_ix2 y⟩
  obtain ⟨b, q, rfl⟩ := eq_row p
  blk_simp
  rw [after0_5]
  frame_out
  refine ((delta_at _ _ _ _ (row b q) l).trans (Eq.trans ?_ ((rows_at _ b q l).trans (packed_map4 deltaStep deltaStep_zero _ _ _ _ b q l)).symm)).trans (congrArg (rows (map4 deltaStep (ws m c) (gw m c) (ms m c) (vs m c))) (a₁ := ix2 (row b q) l) ?_)
  · rw [(packs_blk m c t b q l).1, grad8_blk, (packs_blk m c t b q l).2.1, (packs_blk m c t b q l).2.2]
  blk_ext [idx t]

theorem final6 (c : Dev nD) : (dats m 0 c).arrAt 6 (cfgs 0).N = rows (map4 momStep (ws m c) (gw m c) (ms m c) (vs m c)) := by
  refine (dats m 0 c).arrAt_eq_of_covers 6 _ (by decide +kernel) fun t _ y => ?_
  obtain ⟨p, l, rfl⟩ : ∃ (p : Fin 8) (l : Fin 1024), y = ix2 p l := ⟨y 0, y 1, eq_ix2 y⟩
  obtain ⟨b, q, rfl⟩ := eq_row p
  blk_simp
  rw [after0_6]
  frame_out
  refine ((mom_at _ _ (row b q) l (packed (ws m c) b q l) (packed (vs m c) b q l)).trans (Eq.trans ?_ ((rows_at _ b q l).trans (packed_map4 momStep momStep_zero _ _ _ _ b q l)).symm)).trans (congrArg (rows (map4 momStep (ws m c) (gw m c) (ms m c) (vs m c))) (a₁ := ix2 (row b q) l) ?_)
  · rw [grad8_blk, (packs_blk m c t b q l).2.1]
  blk_ext [idx t]

theorem final7 (c : Dev nD) : (dats m 0 c).arrAt 7 (cfgs 0).N = rows (map4 varStep (ws m c) (gw m c) (ms m c) (vs m c)) := by
  refine (dats m 0 c).arrAt_eq_of_covers 7 _ (by decide +kernel) fun t _ y => ?_
  obtain ⟨p, l, rfl⟩ : ∃ (p : Fin 8) (l : Fin 1024), y = ix2 p l := ⟨y 0, y 1, eq_ix2 y⟩
  obtain ⟨b, q, rfl⟩ := eq_row p
  blk_simp
  rw [after0_7]
  frame_out
  refine ((var_at _ _ (row b q) l (packed (ws m c) b q l) (packed (ms m c) b q l)).trans (Eq.trans ?_ ((rows_at _ b q l).trans (packed_map4 varStep varStep_zero _ _ _ _ b q l)).symm)).trans (congrArg (rows (map4 varStep (ws m c) (gw m c) (ms m c) (vs m c))) (a₁ := ix2 (row b q) l) ?_)
  · rw [grad8_blk, (packs_blk m c t b q l).2.2]
  blk_ext [idx t]

end Cert.SmallUpdateIdeal.Hand

end

end
-- ==== Proof.SmallReference.lean ====
/- What the reference of the small parameters' update computes: the same four packed arrays. -/
module

public import proofs.«01_k».proof.Proof.SmallSpec
public import proofs.«01_k».proof.Proof.Gen.SmallUpdateRefIdeal.Run
public import Idealize.ShloMosaic.Lib.Claim

@[expose] public section

set_option maxRecDepth 16384

noncomputable section

open Idealize.ShloMosaic Idealize.ShloMosaic.TcCoe Idealize.SL.Sem

namespace Cert.SmallUpdateRefIdeal.Hand

open Cert.SmallUpdateRefIdeal Cert.SmallUpdateRefIdeal.Gen Cert.SmallSpec Cert.Reals

/-! ## The packing -/

section Pack

variable (a b c : FVec Ideal S2x1024 .f32) (h : FVec Ideal S2x128 .f32) (s : FVec Ideal S2x16 .f32)

/-- The heads' norm and the sinks side by side. -/
def tTail : FVec Ideal S2x1024 .f32 :=
  concatenate S2x1024 1 [⟨S2x128, h⟩, ⟨S2x16, s⟩, ⟨S2x880, broadcastInDim S2x880 ![] bcast_S_S2x880 (constant (F := Ideal) S_ .f32 0x00000000#32)⟩]
    concatenates_S2x128_S2x16_S2x880_S2x1024_d1

/-- Four arrays as the rows of one. -/
def tRows (d : FVec Ideal S2x1024 .f32) : FVec Ideal S2x4x1024 .f32 :=
  concatenate S2x4x1024 1 [⟨S2x1x1024, broadcastInDim S2x1x1024 ![0, 2] bcast_S2x1024_S2x1x1024_0_2 a⟩,
    ⟨S2x1x1024, broadcastInDim S2x1x1024 ![0, 2] bcast_S2x1024_S2x1x1024_0_2 b⟩,
    ⟨S2x1x1024, broadcastInDim S2x1x1024 ![0, 2] bcast_S2x1024_S2x1x1024_0_2 c⟩,
    ⟨S2x1x1024, broadcastInDim S2x1x1024 ![0, 2] bcast_S2x1024_S2x1x1024_0_2 d⟩]
    concatenates_S2x1x1024_S2x1x1024_S2x1x1024_S2x1x1024_S2x4x1024_d1

def tPack : FVec Ideal S8x1024 .f32 := shapeCast S8x1024 (tRows a b c (tTail h s)) shapeCasts_S2x4x1024_S8x1024

theorem tTail_at (i : Fin 2) (l : Fin 1024) : tTail h s (ix2 i l) = tail ⟨a, b, c, h, s⟩ i l := by
  have z : ∀ j, broadcastInDim S2x880 ![] bcast_S_S2x880 (constant (F := Ideal) S_ .f32 0x00000000#32) j = 0 := fun j => by
    pointwise []
  unfold tail
  pointwise [tTail]
  split
  · rfl
  · by_cases k : (l : ℕ) < 144
    · rw [dif_pos k, dif_pos (by omega)]
    · rw [dif_neg k, dif_neg (by omega)]

theorem tRows_at (d : FVec Ideal S2x1024 .f32) (i : Fin 2) (q : Fin 4) (l : Fin 1024) :
    tRows a b c d (ix3 i q l) = match q with | 0 => a (ix2 i l) | 1 => b (ix2 i l) | 2 => c (ix2 i l) | 3 => d (ix2 i l) := by
  fin_cases q
  all_goals pointwise [tRows]

theorem cast_at (x : FVec Ideal S2x4x1024 .f32) (i : Fin 2) (q : Fin 4) (l : Fin 1024) :
    shapeCast S8x1024 x shapeCasts_S2x4x1024_S8x1024 (ix2 (row i q) l) = x (ix3 i q l) := by
  pointwise [row]

theorem tPack_eq : tPack a b c h s = rows ⟨a, b, c, h, s⟩ := by
  refine eq_rows fun i q l => ?_
  unfold tPack
  rw [cast_at, tRows_at]
  match q with
  | 0 => rfl
  | 1 => rfl
  | 2 => rfl
  | 3 => exact tTail_at a b c h s i l

end Pack

/-! ## The steps, entry by entry -/

section Steps

variable {n : ℕ} (hb : S_.BroadcastsInDim ⟨2, ![2, n]⟩ ![]) (w g m v : FVec Ideal ⟨2, ![2, n]⟩ .f32)

def tMom : FVec Ideal ⟨2, ![2, n]⟩ .f32 :=
  addf (mulf (broadcastInDim ⟨2, ![2, n]⟩ ![] hb (constant S_ .f32 0x3F666666#32)) m)
    (mulf (broadcastInDim ⟨2, ![2, n]⟩ ![] hb (constant S_ .f32 0x3DCCCCCD#32)) g)
def tVar : FVec Ideal ⟨2, ![2, n]⟩ .f32 :=
  addf (mulf (broadcastInDim ⟨2, ![2, n]⟩ ![] hb (constant S_ .f32 0x3F7FBE77#32)) v)
    (mulf (broadcastInDim ⟨2, ![2, n]⟩ ![] hb (constant S_ .f32 0x3A83126F#32)) (mulf g g))
def tDelta (p q : FVec Ideal ⟨2, ![2, n]⟩ .f32) : FVec Ideal ⟨2, ![2, n]⟩ .f32 :=
  mulf (broadcastInDim ⟨2, ![2, n]⟩ ![] hb (constant S_ .f32 0xBA83126F#32)) (addf (Host.divf
    (Host.divf p (broadcastInDim ⟨2, ![2, n]⟩ ![] hb (constant S_ .f32 0x3F26BD02#32)))
    (addf (Host.sqrt (Host.divf q (broadcastInDim ⟨2, ![2, n]⟩ ![] hb (constant S_ .f32 0x3C231ACC#32))))
      (broadcastInDim ⟨2, ![2, n]⟩ ![] hb (constant S_ .f32 0x322BCC77#32))))
    (mulf (broadcastInDim ⟨2, ![2, n]⟩ ![] hb (constant S_ .f32 0x3C23D70A#32)) w))

theorem tMom_eq : tMom hb g m = fun i => momStep (w i) (g i) (m i) (v i) := rfl
theorem tVar_eq : tVar hb g v = fun i => varStep (w i) (g i) (m i) (v i) := rfl
theorem tDelta_eq : tDelta hb w (tMom hb g m) (tVar hb g v) = fun i => deltaStep (w i) (g i) (m i) (v i) := rfl

end Steps

/-! ## The gradient of the lower bounds' parameters -/

section Bounds

variable (g w : FVec Ideal S2x1024 .f32)

def tTop : FVec Ideal S1024 .f32 := Host.reduce FloatOps.maximumf w (constant S_ .f32 0xFF800000#32) reducesTo_S2x1024_S1024_d0 h_S_

def tPart : FVec Ideal S2x1024 .f32 :=
  Host.exp (subf w (broadcastInDim S2x1024 ![0, 1] bcast_S1x1024_S2x1024_0_1 (broadcastInDim S1x1024 ![1] bcast_S1024_S1x1024_1
    (maximumf (broadcastInDim S1024 ![] bcast_S_S1024 (constant S_ .f32 0xFF800000#32)) (tTop w)))))

variable (e : FVec Ideal S2x1024 .f32)

def tAll : FVec Ideal S1x1024 .f32 :=
  broadcastInDim S1x1024 ![1] bcast_S1024_S1x1024_1 (Host.reduceAdd e (constant S_ .f32 0x00000000#32) reducesTo_S2x1024_S1024_d0 h_S_)

/-- The gradient of the shares: of the sums of all rows so far, less the first. -/
def tFirst : FVec Ideal S2x1024 .f32 :=
  pad S2x1024 ![0, 0] ![1, 0] ![0, 0] (shapeCast S1x1024 (Host.reduceAdd (Host.negf g) (constant S_ .f32 0x00000000#32)
    reducesTo_S2x1024_S1024_d0 h_S_) shapeCasts_S1024_S1x1024) (constant S_ .f32 0x00000000#32) pads_S1x1024_S2x1024_010_000 h_S_
def tRest : FVec Ideal S2x1024 .f32 :=
  Host.reduceWindowAdd ![2, 1] ![1, 1] ![0, 0] ![1, 0] (shapeCast S2x1024 g shapeCasts_S2x1024_S2x1024)
    (broadcastInDim S_ ![] bcast_S_S_ (constant S_ .f32 0x00000000#32)) reduceWindows_S2x1024_S2x1024_w2s1p0_1_w1s1p0_0 h_S_
def tShares : FVec Ideal S2x1024 .f32 := addf (tFirst g) (tRest g)

variable (d : FVec Ideal S2x1024 .f32) (s : FVec Ideal S1x1024 .f32)

def tInner : FVec Ideal S1024 .f32 :=
  Host.reduceAdd (mulf (mulf d (broadcastInDim S2x1024 ![0, 1] bcast_S1x1024_S2x1024_0_1 (Host.divf
    (broadcastInDim S1x1024 ![] bcast_S_S1x1024 (constant S_ .f32 0x3F800000#32)) (mulf s s)))) e)
    (constant S_ .f32 0x00000000#32) reducesTo_S2x1024_S1024_d0 h_S_

def tBound : FVec Ideal S2x1024 .f32 :=
  mulf (addf (Host.divf d (broadcastInDim S2x1024 ![0, 1] bcast_S1x1024_S2x1024_0_1 s))
    (broadcastInDim S2x1024 ![1] bcast_S1024_S2x1024_1 (Host.reduceAdd (Host.negf (shapeCast S1x1024 (tInner e d s) shapeCasts_S1024_S1x1024))
      (constant S_ .f32 0x00000000#32) reducesTo_S1x1024_S1024_d0 h_S_))) e

def tLb : FVec Ideal S2x1024 .f32 := tBound (tPart w) (tShares g) (tAll (tPart w))

theorem low : Ideal.ofBits .f32 0xFF800000#32 = ⊥ := by simp [Ideal.ofBits, Ideal.ieee]

theorem tTop_at (l : Fin 1024) : tTop w (ix1 l) = max (w (ix2 0 l)) (w (ix2 1 l)) := by
  refine (Host.reduce_eq_fold _ w _ reducesTo_S2x1024_S1024_d0 h_S_ _).trans ?_
  refine (Shape.ReducesTo.fold_fiber_r2_a0 _ _ _ _ _).trans ?_
  show (Finset.univ : Finset (Fin 2)).fold max (Ideal.ofBits .f32 0xFF800000#32) (fun k => w (ix2 k l)) = _
  rw [low, show (Finset.univ : Finset (Fin 2)) = {0, 1} from rfl]
  simp

theorem tPart_at (b : Fin 2) (l : Fin 1024) : tPart w (ix2 b l) = part w b l := by
  pointwise [tPart, tTop_at, part, low]
  rw [max_eq_right bot_le]

theorem tAll_at (l : Fin 1024) : tAll e (ix2 0 l) = e (ix2 0 l) + e (ix2 1 l) := by
  pointwise [tAll]
  rw [Fin.sum_univ_two]

theorem tFirst_at0 (l : Fin 1024) : tFirst g (ix2 0 l) = - g (ix2 0 l) + - g (ix2 1 l) := by
  pointwise [tFirst]
  rw [Fin.sum_univ_two]
theorem tFirst_at1 (l : Fin 1024) : tFirst g (ix2 1 l) = 0 := by
  pointwise [tFirst]
theorem window_at (h : S2x1024.ReduceWindows ![2, 1] ![1, 1] ![0, 0] ![1, 0] S2x1024) (x : L 1024) (b : Fin 2) (l : Fin 1024) :
    Ideal.hostReduceWindowAdd ![2, 1] ![1, 1] ![0, 0] ![1, 0] h x 0 (ix2 b l)
      = if (b : ℕ) = 0 then x (ix2 0 l) + x (ix2 1 l) else x (ix2 1 l) := by
  unfold Ideal.hostReduceWindowAdd Host.reduceWindow
  have hf : ∀ (n : ℕ) (hn : n = 2) (f : EReal → Fin n → EReal) (z : EReal),
      (List.finRange n).foldl f z = f (f z ⟨0, by omega⟩) ⟨1, by omega⟩ := by
    rintro n rfl f z
    rfl
  refine (hf _ (by decide +kernel) _ _).trans ?_
  have r0 : ∀ n : Fin (Shape.numel ⟨2, ![2, 1]⟩), ∀ a, ((Shape.rowMajor ⟨2, ![2, 1]⟩).symm n a : ℕ) = ![(n : ℕ), 0] a := by decide +kernel
  have y0 : ∀ (P : Prop) [Decidable P] (u : P → EReal) (v w : EReal), (∀ p : P, u p = w) → P → dite P u (fun _ => v) = w := by
    intro P _ u v w h p
    rw [dif_pos p, h]
  have y1 : ∀ (P : Prop) [Decidable P] (u : P → EReal) (v : EReal), ¬ P → dite P u (fun _ => v) = v := by
    intro P _ u v h
    rw [dif_neg h]
  simp only [r0]
  have hl : (l : ℕ) < 1024 := l.isLt
  have inside : ∀ (q : Fin 2 → ℕ) (k : Fin 2), q 0 = (k : ℕ) → q 1 = l → ∀ a, ![0, 0] a ≤ q a ∧ q a - ![0, 0] a < S2x1024.size a := by
    intro q k h0 h1 a
    match a with
    | ⟨0, _⟩ => exact ⟨Nat.zero_le _, by show q 0 - 0 < 2; omega⟩
    | ⟨1, _⟩ => exact ⟨Nat.zero_le _, by show q 1 - 0 < 1024; omega⟩
  have point : ∀ (q : Fin 2 → ℕ) (k : Fin 2) (p : ∀ a, q a - ![0, 0] a < S2x1024.size a), q 0 = (k : ℕ) → q 1 = l →
      (fun a => (⟨q a - ![0, 0] a, p a⟩ : Fin (S2x1024.size a))) = ix2 k l := by
    intro q k p h0 h1
    funext a
    apply Fin.ext
    match a with
    | ⟨0, _⟩ => exact h0
    | ⟨1, _⟩ => exact h1
  fin_cases b
  · refine congrArg₂ (· + ·) ((zero_add _).trans (y0 _ _ _ _ (fun p => congrArg x (point _ 0 _ ?_ ?_)) (inside _ 0 ?_ ?_)))
      (y0 _ _ _ _ (fun p => congrArg x (point _ 1 _ ?_ ?_)) (inside _ 1 ?_ ?_))
    all_goals first | rfl | exact Nat.mul_one _
  · refine (congrArg₂ (· + ·) ((zero_add _).trans (y0 _ _ _ _ (fun p => congrArg x (point _ 1 _ ?_ ?_)) (inside _ 1 ?_ ?_)))
      (y1 _ _ _ fun p => Nat.lt_irrefl 2 (p 0).2)).trans (add_zero _)
    all_goals first | rfl | exact Nat.mul_one _

theorem tRest_at (b : Fin 2) (l : Fin 1024) :
    tRest g (ix2 b l) = if (b : ℕ) = 0 then g (ix2 0 l) + g (ix2 1 l) else g (ix2 1 l) := by
  have z : broadcastInDim S_ ![] bcast_S_S_ (constant (F := Ideal) S_ .f32 0x00000000#32) (Shape.Idx.first h_S_) = 0 := by pointwise []
  have k : shapeCast S2x1024 g shapeCasts_S2x1024_S2x1024 = g := by
    funext i
    idx_vars i
    pointwise []
  refine Eq.trans ?_ (window_at reduceWindows_S2x1024_S2x1024_w2s1p0_1_w1s1p0_0 g b l)
  refine congrFun (congrArg₂ (Ideal.hostReduceWindowAdd (s := S2x1024) (t := S2x1024) ![2, 1] ![1, 1] ![0, 0] ![1, 0]
    reduceWindows_S2x1024_S2x1024_w2s1p0_1_w1s1p0_0) k z) _

theorem tInner_at (l : Fin 1024) : tInner e d s (ix1 l) = d (ix2 0 l) * Ideal.div 1 (s (ix2 0 l) * s (ix2 0 l)) * e (ix2 0 l)
    + d (ix2 1 l) * Ideal.div 1 (s (ix2 0 l) * s (ix2 0 l)) * e (ix2 1 l) := by
  pointwise [tInner]
  rw [Fin.sum_univ_two]

theorem tBound_at (b : Fin 2) (l : Fin 1024) : tBound e d s (ix2 b l) = (Ideal.div (d (ix2 b l)) (s (ix2 0 l)) + - tInner e d s (ix1 l)) * e (ix2 b l) := by
  pointwise [tBound]
  simp

theorem part_real (hw : ∀ i, IsReal (w i)) (b : Fin 2) (l : Fin 1024) : ∃ x : ℝ, 0 < x ∧ part w b l = (x : EReal) := by
  obtain ⟨W, rfl⟩ := lift hw
  refine ⟨Real.exp (W (ix2 b l) - max (W (ix2 0 l)) (W (ix2 1 l))), Real.exp_pos _, ?_⟩
  show Ideal.exp ((W (ix2 b l) : EReal) - max (W (ix2 0 l) : EReal) (W (ix2 1 l) : EReal)) = _
  rw [← Monotone.map_max EReal.coe_strictMono.monotone, ← EReal.coe_sub]
  rfl

theorem tLb_eq (hg : ∀ i, IsReal (g i)) (hw : ∀ i, IsReal (w i)) : tLb g w = lbGrad g w := by
  funext i
  obtain ⟨b, l, rfl⟩ : ∃ (b : Fin 2) (l : Fin 1024), i = ix2 b l := ⟨i 0, i 1, eq_ix2 i⟩
  obtain ⟨x, hx, ex⟩ := part_real w hw 0 l
  obtain ⟨y, hy, ey⟩ := part_real w hw 1 l
  obtain ⟨p, hp⟩ := hg (ix2 0 l)
  obtain ⟨q, hq⟩ := hg (ix2 1 l)
  have hs : x + y ≠ 0 := by positivity
  have d0 : tShares g (ix2 0 l) = ((0 : ℝ) : EReal) := by
    show tFirst g (ix2 0 l) + tRest g (ix2 0 l) = _
    rw [tFirst_at0, tRest_at, if_pos (by decide), hp, hq, ← EReal.coe_neg, ← EReal.coe_neg, ← EReal.coe_add, ← EReal.coe_add, ← EReal.coe_add]
    congr 1
    ring
  have d1 : tShares g (ix2 1 l) = (q : EReal) := by
    show tFirst g (ix2 1 l) + tRest g (ix2 1 l) = _
    rw [tFirst_at1, tRest_at, if_neg (by decide), hq, zero_add]
  have e0 : tPart w (ix2 0 l) = (x : EReal) := (tPart_at w 0 l).trans ex
  have e1 : tPart w (ix2 1 l) = (y : EReal) := (tPart_at w 1 l).trans ey
  have sh : ∀ (b : Fin 2) (z : ℝ), part w b l = (z : EReal) → share w b l = ((z / (x + y) : ℝ) : EReal) := fun b z hz => by
    unfold share
    rw [hz, ex, ey, ← EReal.coe_add, div_real _ hs]
  have key : ∀ (b : Fin 2) (z u t : ℝ), tPart w (ix2 b l) = (z : EReal) → part w b l = (z : EReal) → tShares g (ix2 b l) = (u : EReal) →
      (if (b : ℕ) = 0 then (0 : EReal) else 1) = (t : EReal) → u = q * t → t = 0 ∨ z = y → tLb g w (ix2 b l) = lbGrad g w (ix2 b l) := by
    intro b z u t h1 h2 h3 h4 h5 h6
    show tLb g w (ix2 b l) = g (ix2 1 l) * share w 1 l * ((if (b : ℕ) = 0 then 0 else 1) - share w b l)
    unfold tLb
    rw [tBound_at, tInner_at, tAll_at, e0, e1, d0, d1, h1, h3, h4, sh b z h2, sh 1 y ey, hq, ← EReal.coe_add, ← EReal.coe_mul, ← EReal.coe_one,
      div_real _ hs, div_real _ (mul_ne_zero hs hs)]
    simp only [← EReal.coe_mul, ← EReal.coe_add, ← EReal.coe_neg, ← EReal.coe_sub]
    congr 1
    rw [h5]
    rcases h6 with rfl | rfl
    all_goals
      field_simp
      ring
  fin_cases b
  · exact key 0 x 0 0 e0 ex d0 (by simp) (by ring) (Or.inl rfl)
  · exact key 1 y q 1 e1 ey d1 (by simp) (by ring) (Or.inr rfl)

end Bounds

/-! ## The four packed results -/

section Results

variable (W G M V : Five)

def pG : FVec Ideal S8x1024 .f32 := tPack G.pre G.post (tLb G.lb W.lb) G.head G.sinks
def pM : FVec Ideal S8x1024 .f32 :=
  tPack (tMom bcast_S_S2x1024 G.pre M.pre) (tMom bcast_S_S2x1024 G.post M.post) (tMom bcast_S_S2x1024 (tLb G.lb W.lb) M.lb)
    (tMom bcast_S_S2x128 G.head M.head) (tMom bcast_S_S2x16 G.sinks M.sinks)
def pV : FVec Ideal S8x1024 .f32 :=
  tPack (tVar bcast_S_S2x1024 G.pre V.pre) (tVar bcast_S_S2x1024 G.post V.post) (tVar bcast_S_S2x1024 (tLb G.lb W.lb) V.lb)
    (tVar bcast_S_S2x128 G.head V.head) (tVar bcast_S_S2x16 G.sinks V.sinks)
def pD : FVec Ideal S8x1024 .f32 :=
  tPack (tDelta bcast_S_S2x1024 W.pre (tMom bcast_S_S2x1024 G.pre M.pre) (tVar bcast_S_S2x1024 G.pre V.pre))
    (tDelta bcast_S_S2x1024 W.post (tMom bcast_S_S2x1024 G.post M.post) (tVar bcast_S_S2x1024 G.post V.post))
    (tDelta bcast_S_S2x1024 W.lb (tMom bcast_S_S2x1024 (tLb G.lb W.lb) M.lb) (tVar bcast_S_S2x1024 (tLb G.lb W.lb) V.lb))
    (tDelta bcast_S_S2x128 W.head (tMom bcast_S_S2x128 G.head M.head) (tVar bcast_S_S2x128 G.head V.head))
    (tDelta bcast_S_S2x16 W.sinks (tMom bcast_S_S2x16 G.sinks M.sinks) (tVar bcast_S_S2x16 G.sinks V.sinks))

variable (hg : ∀ i, IsReal (G.lb i)) (hw : ∀ i, IsReal (W.lb i))
include hg hw

theorem pG_eq : pG W G = rows (grads G W) := by
  unfold pG
  rw [tLb_eq _ _ hg hw, tPack_eq]
  rfl
theorem pM_eq : pM W G M = rows (map4 momStep W (grads G W) M V) := by
  unfold pM
  rw [tLb_eq _ _ hg hw, tPack_eq]
  rfl
theorem pV_eq : pV W G V = rows (map4 varStep W (grads G W) M V) := by
  unfold pV
  rw [tLb_eq _ _ hg hw, tPack_eq]
  rfl
theorem pD_eq : pD W G M V = rows (map4 deltaStep W (grads G W) M V) := by
  unfold pD
  rw [tLb_eq _ _ hg hw, tPack_eq]
  rfl

end Results

end Cert.SmallUpdateRefIdeal.Hand

end

end
-- ==== Proof.SmallClaim.lean ====
/- The small parameters' update and its reference compute the same function. -/
module

public import proofs.«01_k».proof.Defs
public import proofs.«01_k».proof.Proof.Finite
public import proofs.«01_k».proof.Proof.Gen.Pre_small_finite
public import proofs.«01_k».proof.Proof.SmallKernel
public import proofs.«01_k».proof.Proof.SmallReference

@[expose] public section

set_option maxRecDepth 16384

noncomputable section

open Idealize.ShloMosaic Idealize.ShloMosaic.TcCoe Idealize.SL.Sem

namespace Cert.Proof

open Cert.SmallSpec Cert.Reals

section
open Cert.SmallUpdateRefIdeal Cert.SmallUpdateRefIdeal.Hand

/-- Five of the reference's arguments. -/
def five (m : (ℓ : Loc nD τ sig) → Buf (Elt Ideal) ℓ) (c : Dev nD) (k : Fin 4) : Five :=
  match k with
  | 0 => ⟨m ((c.tc : Thread nD τ).loc main_arg0), m ((c.tc : Thread nD τ).loc main_arg1), m ((c.tc : Thread nD τ).loc main_arg2),
    m ((c.tc : Thread nD τ).loc main_arg3), m ((c.tc : Thread nD τ).loc main_arg4)⟩
  | 1 => ⟨m ((c.tc : Thread nD τ).loc main_arg5), m ((c.tc : Thread nD τ).loc main_arg6), m ((c.tc : Thread nD τ).loc main_arg7),
    m ((c.tc : Thread nD τ).loc main_arg8), m ((c.tc : Thread nD τ).loc main_arg9)⟩
  | 2 => ⟨m ((c.tc : Thread nD τ).loc main_arg10), m ((c.tc : Thread nD τ).loc main_arg11), m ((c.tc : Thread nD τ).loc main_arg12),
    m ((c.tc : Thread nD τ).loc main_arg13), m ((c.tc : Thread nD τ).loc main_arg14)⟩
  | 3 => ⟨m ((c.tc : Thread nD τ).loc main_arg15), m ((c.tc : Thread nD τ).loc main_arg16), m ((c.tc : Thread nD τ).loc main_arg17),
    m ((c.tc : Thread nD τ).loc main_arg18), m ((c.tc : Thread nD τ).loc main_arg19)⟩

/-- What the reference leaves. -/
theorem small_reference_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      (r.2.mem ((c.tc : Thread nD τ).loc main_v178) = pG (five m c 1) (five m c 0)
      ∧ r.2.mem ((c.tc : Thread nD τ).loc main_v186) = pD (five m c 1) (five m c 0) (five m c 2) (five m c 3)
      ∧ r.2.mem ((c.tc : Thread nD τ).loc main_v194) = pM (five m c 1) (five m c 0) (five m c 2)
      ∧ r.2.mem ((c.tc : Thread nD τ).loc main_v202) = pV (five m c 1) (five m c 0) (five m c 3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)) :=
  (θ_run defs _ _).mono (fun r h c => ⟨⟨(h c).1, (h c).2.1, (h c).2.2.1, (h c).2.2.2.1⟩, (h c).2.2.2.2⟩) (Value.run m g)

end

theorem small_algebraic : Cert.algebraic_SmallUpdateIdeal_SmallUpdateRefIdeal_pre_small_finite (hSmallUpdateIdeal := Cert.SmallUpdateIdeal.Gen.facts)
    (hSmallUpdateRefIdeal := Cert.SmallUpdateRefIdeal.Gen.facts) (hPre_small_finite := Cert.Pre_small_finite.Gen.facts) := by
  intro m g m' g' hpre hagree
  refine ⟨fun c => rows (Cert.SmallUpdateIdeal.Hand.gw m c),
    fun c => rows (map4 deltaStep (Cert.SmallUpdateIdeal.Hand.ws m c) (Cert.SmallUpdateIdeal.Hand.gw m c) (Cert.SmallUpdateIdeal.Hand.ms m c) (Cert.SmallUpdateIdeal.Hand.vs m c)),
    fun c => rows (map4 momStep (Cert.SmallUpdateIdeal.Hand.ws m c) (Cert.SmallUpdateIdeal.Hand.gw m c) (Cert.SmallUpdateIdeal.Hand.ms m c) (Cert.SmallUpdateIdeal.Hand.vs m c)),
    fun c => rows (map4 varStep (Cert.SmallUpdateIdeal.Hand.ws m c) (Cert.SmallUpdateIdeal.Hand.gw m c) (Cert.SmallUpdateIdeal.Hand.ms m c) (Cert.SmallUpdateIdeal.Hand.vs m c)), ?_, ?_⟩
  · exact (θ_run Cert.SmallUpdateIdeal.defs _ _).mono (fun r h c => ⟨(h c).1.trans (Cert.SmallUpdateIdeal.Hand.final4 m c),
      (h c).2.1.trans (Cert.SmallUpdateIdeal.Hand.final5 m c), (h c).2.2.1.trans (Cert.SmallUpdateIdeal.Hand.final6 m c),
      (h c).2.2.2.1.trans (Cert.SmallUpdateIdeal.Hand.final7 m c), (h c).2.2.2.2⟩) (Cert.SmallUpdateIdeal.Value.run_blocks m g)
  · refine (θ_run Cert.SmallUpdateRefIdeal.defs _ _).mono (fun r h c => ?_) (small_reference_run m' g')
    have r0 := isReal_of_test _ _ (hpre c).1
    have r1 := isReal_of_test _ _ (hpre c).2
    obtain ⟨e0, e1, e2, e3, e4, e5, e6, e7, e8, e9, e10, e11, e12, e13, e14, e15, e16, e17, e18, e19⟩ := hagree c
    rw [← e2] at r0
    rw [← e7] at r1
    have f0 : five m' c 0 = Cert.SmallUpdateIdeal.Hand.gs m c := by unfold five Cert.SmallUpdateIdeal.Hand.gs; simp only [e0, e1, e2, e3, e4]
    have f1 : five m' c 1 = Cert.SmallUpdateIdeal.Hand.ws m c := by unfold five Cert.SmallUpdateIdeal.Hand.ws; simp only [e5, e6, e7, e8, e9]
    have f2 : five m' c 2 = Cert.SmallUpdateIdeal.Hand.ms m c := by unfold five Cert.SmallUpdateIdeal.Hand.ms; simp only [e10, e11, e12, e13, e14]
    have f3 : five m' c 3 = Cert.SmallUpdateIdeal.Hand.vs m c := by unfold five Cert.SmallUpdateIdeal.Hand.vs; simp only [e15, e16, e17, e18, e19]
    obtain ⟨⟨h0, h1, h2, h3⟩, hrest⟩ := h c
    refine ⟨h0.trans ((Cert.SmallUpdateRefIdeal.Hand.pG_eq _ _ r0 r1).trans ?_), h1.trans ((Cert.SmallUpdateRefIdeal.Hand.pD_eq _ _ _ _ r0 r1).trans ?_),
      h2.trans ((Cert.SmallUpdateRefIdeal.Hand.pM_eq _ _ _ (five m' c 3) r0 r1).trans ?_),
      h3.trans ((Cert.SmallUpdateRefIdeal.Hand.pV_eq _ _ (five m' c 2) _ r0 r1).trans ?_), hrest⟩
    all_goals
      rw [f0, f1]
      try rw [f2, f3]
      rfl

end Cert.Proof

end

end
-- ==== Proof.SwaFwdKernel.lean ====
/- What the attention's forward kernel leaves: the vectors its points load and store are those of the backward kernel's outputs. -/
module

public import proofs.«01_k».proof.Proof.Gen.SwaFwdIdeal.Value
public import proofs.«01_k».proof.Proof.SwaResults

@[expose] public section

set_option maxRecDepth 65536

noncomputable section

open Idealize.ShloMosaic Idealize.ShloMosaic.TcCoe Idealize.SL.Sem
open Idealize.ShloMosaic.Pipeline (Dat)

/-- The gated outputs. -/
def Cert.SwaSpec.Args.gated (X : Cert.SwaSpec.Args) (b : Fin 2) (n : Fin 16) (t : Fin 128) (h : Fin 16) (d : Fin 64) : EReal :=
  (X.att b n h t).o d * (X.zv b (Cert.SwaSpec.pos n t) h d * Cert.SwaSpec.sgm (X.zv b (Cert.SwaSpec.pos n t) h d))

namespace Cert.SwaFwdIdeal.Hand

open Cert.SwaFwdIdeal Cert.SwaFwdIdeal.Gen Cert.SwaSpec
open Cert.SwaBwdIdeal.Hand (Blk Loads V cast1 tr sg oPair attOf cols inbP inbS order3 order3_at rowB rowS rowOf rowB_rowOf rowS_rowOf headOf stk stk_surj
  byHead byHead_at cols_canon oPair_at tr_at)

/-- A pair's output, gated. -/
def catPair (D : Blk) (p : Fin 8) : FVec Ideal S128x128 .bf16 :=
  truncf .bf16 (mulf (tr (oPair D p)) (mulf (cast1 (D.z p)) (sg D p))) bitsLt_bf16_f32

theorem catPair_at (D : Blk) (p : Fin 8) (hh : Fin 2) (t : Fin 128) (d : Fin 64) : catPair D p (ix2 t (lane hh d))
    = (attOf D p hh t).o d * (cast1 (D.z p) (ix2 t (lane hh d)) * sg D p (ix2 t (lane hh d))) := by
  rw [← oPair_at, ← tr_at (oPair D p)]
  pointwise [catPair]

variable (m : (ℓ : Loc nD τ sig) → Buf (Elt Ideal) ℓ)

/-! ## The blocks, as parts of the arguments -/

/-- The arguments. -/
abbrev pj (c : Dev nD) : S2x2048x6400.Idx → EReal := m ((c.tc : Thread nD τ).loc main_arg0)
abbrev sks (c : Dev nD) : S16.Idx → EReal := m ((c.tc : Thread nD τ).loc main_arg1)

theorem idx : ∀ t : Fin cfg0.N, win0_0.index t = ![16 * (t.val / 16) + t.val % 16, 4] ∧ win0_1.index t = ![16 * (t.val / 16) + t.val % 16, 5]
    ∧ win0_2.index t = ![16 * (t.val / 16) + t.val % 16, 24] ∧ win0_3.index t = ![16 * (t.val / 16) + (t.val % 16 - 1), 24]
    ∧ win0_4.index t = ![0, 0] ∧ win0_5.index t = ![t.val % 16, 0] ∧ win0_6.index t = ![t.val % 16, 0]
    ∧ win0_7.index t = ![t.val % 16 - 1, 0] ∧ win0_8.index t = ![t.val % 16 - 1, 0] ∧ win0_9.index t = ![16 * (t.val / 16) + t.val % 16, 0] :=
  (by decide +kernel : ∀ t : Fin grid0.N, _)

/-- The sequence and the block of point `t`. -/
def bat (t : Fin cfg0.N) : Fin 2 := ⟨t.val / 16, by have := lt_of_lt_of_eq t.isLt N_0; omega⟩
def blk (t : Fin cfg0.N) : Fin 16 := ⟨t.val % 16, by omega⟩

theorem order_entry (c : Dev nD) : Gen.V m c main_v29 = shapeCast S4096x6400 (order3 (pj m c)) shapeCasts_S2x2048x6400_S4096x6400 := by
  sl_kernel_rfl

theorem orderB_at (c : Dev nD) (r : Fin 4096) (l : Fin 6400) : (Gen.V m c main_v29 : S4096x6400.Idx → EReal) (ix2 r l)
    = order3 (pj m c) (ix3 (rowB r) (rowS r) l) := by
  rw [order_entry]
  pointwise [rowB, rowS]

theorem cosE_at (c : Dev nD) (r : Fin 2048) (l : Fin 128) : (Gen.V m c main_v21 : S2048x128.Idx → EReal) (ix2 r l) = cosT r ⟨l.val % 32, by omega⟩ := by
  entry_read
  pointwise
  unfold cosT ang
  split
  · rw [show l.val % 64 = l.val % 32 by omega]
  · rw [show l.val % 64 - 32 = l.val % 32 by omega]

theorem sinE_at (c : Dev nD) (r : Fin 2048) (l : Fin 128) : (Gen.V m c main_v26 : S2048x128.Idx → EReal) (ix2 r l)
    = if l.val % 64 < 32 then -sinT r ⟨l.val % 32, by omega⟩ else sinT r ⟨l.val % 32, by omega⟩ := by
  entry_read
  pointwise
  unfold sinT ang
  split
  · rw [show l.val % 64 = l.val % 32 by omega]
  · rw [show l.val % 64 - 32 = l.val % 32 by omega]

theorem q_blk (c : Dev nD) (t : Fin cfg0.N) (p : Fin 128) (d : Fin 1024) :
    (show FVec Ideal S128x1024 .f32 from X0_0 m c t) (ix2 p d) = pj m c (ix3 (bat t) (pos (blk t) p) ⟨4096 + d.val, by omega⟩) := by
  have h : (show FVec Ideal S128x1024 .f32 from X0_0 m c t) (ix2 p d)
      = (Gen.V m c main_v29 : S4096x6400.Idx → EReal) (((cfg0.win 0).blk t).view.emb (fun a => ⟨(ix2 p d a).val, ((cfg0.win 0).moved_iff _ _).mp (moved0_0 t (ix2 p d)) a⟩)) := dif_pos (moved0_0 t _)
  have he : (((cfg0.win 0).blk t).view.emb (fun a => ⟨(ix2 p d a).val, ((cfg0.win 0).moved_iff _ _).mp (moved0_0 t (ix2 p d)) a⟩) : S4096x6400.Idx)
      = ix2 (rowOf (bat t) (blk t) p) ⟨4096 + d.val, by omega⟩ := by
    blk_ext [idx t, rowOf, bat, blk]
  rw [h, he, orderB_at, rowB_rowOf, rowS_rowOf, order3_at, dif_pos (by show 4096 + d.val < 5120; omega)]

theorem z_blk (c : Dev nD) (t : Fin cfg0.N) (p : Fin 128) (d : Fin 1024) :
    (show FVec Ideal S128x1024 .f32 from X0_1 m c t) (ix2 p d) = pj m c (ix3 (bat t) (pos (blk t) p) ⟨5376 + d.val, by omega⟩) := by
  have h : (show FVec Ideal S128x1024 .f32 from X0_1 m c t) (ix2 p d)
      = (Gen.V m c main_v29 : S4096x6400.Idx → EReal) (((cfg0.win 1).blk t).view.emb (fun a => ⟨(ix2 p d a).val, ((cfg0.win 1).moved_iff _ _).mp (moved0_1 t (ix2 p d)) a⟩)) := dif_pos (moved0_1 t _)
  have he : (((cfg0.win 1).blk t).view.emb (fun a => ⟨(ix2 p d a).val, ((cfg0.win 1).moved_iff _ _).mp (moved0_1 t (ix2 p d)) a⟩) : S4096x6400.Idx)
      = ix2 (rowOf (bat t) (blk t) p) ⟨5120 + d.val, by omega⟩ := by
    blk_ext [idx t, rowOf, bat, blk]
  rw [h, he, orderB_at, rowB_rowOf, rowS_rowOf, order3_at, dif_neg (by show ¬ 5120 + d.val < 5120; omega), dif_pos (by show 5120 + d.val < 6144; omega)]
  congr 2; apply Fin.ext; show 5120 + d.val + 256 = 5376 + d.val; omega

/-- The keys' and values' columns of a row. -/
theorem kvE_at (c : Dev nD) (b : Fin 2) (n : Fin 16) (p : Fin 128) (d : Fin 256) :
    (Gen.V m c main_v29 : S4096x6400.Idx → EReal) (ix2 (rowOf b n p) ⟨6144 + d.val, by omega⟩) = pj m c (ix3 b (pos n p) ⟨5120 + d.val, by omega⟩) := by
  rw [orderB_at, rowB_rowOf, rowS_rowOf, order3_at, dif_neg (by show ¬ 6144 + d.val < 5120; omega), dif_neg (by show ¬ 6144 + d.val < 6144; omega)]
  congr 2; apply Fin.ext; show 6144 + d.val - 1024 = 5120 + d.val; omega

theorem kv_blk (c : Dev nD) (t : Fin cfg0.N) (p : Fin 128) (d : Fin 256) :
    (show FVec Ideal S128x256 .f32 from iblk m c 2 t) (ix2 p d) = pj m c (ix3 (bat t) (pos (blk t) p) ⟨5120 + d.val, by omega⟩) := by
  blk_simp [iblk, idx t]
  refine Eq.trans (congrArg _ ?_) (kvE_at m c (bat t) (blk t) p d)
  blk_ext [idx t, rowOf, bat, blk]

theorem kvp_blk (c : Dev nD) (t : Fin cfg0.N) (p : Fin 128) (d : Fin 256) :
    (show FVec Ideal S128x256 .f32 from iblk m c 3 t) (ix2 p d) = pj m c (ix3 (bat t) (pos (prv (blk t)) p) ⟨5120 + d.val, by omega⟩) := by
  blk_simp [iblk, idx t]
  refine Eq.trans (congrArg _ ?_) (kvE_at m c (bat t) (prv (blk t)) p d)
  blk_ext [idx t, rowOf, bat, blk, prv]

theorem c_blk (c : Dev nD) (t : Fin cfg0.N) (p : Fin 128) (d : Fin 128) :
    (show FVec Ideal S128x128 .f32 from iblk m c 5 t) (ix2 p d) = cosT (pos (blk t) p) ⟨d.val % 32, by omega⟩ := by
  blk_simp [iblk, idx t]
  refine Eq.trans (congrArg _ ?_) (cosE_at m c (pos (blk t) p) d)
  blk_ext [idx t, pos, blk]

theorem s_blk (c : Dev nD) (t : Fin cfg0.N) (p : Fin 128) (d : Fin 128) :
    (show FVec Ideal S128x128 .f32 from iblk m c 6 t) (ix2 p d)
      = if d.val % 64 < 32 then -sinT (pos (blk t) p) ⟨d.val % 32, by omega⟩ else sinT (pos (blk t) p) ⟨d.val % 32, by omega⟩ := by
  blk_simp [iblk, idx t]
  refine Eq.trans (congrArg _ ?_) (sinE_at m c (pos (blk t) p) d)
  blk_ext [idx t, pos, blk]

theorem cp_blk (c : Dev nD) (t : Fin cfg0.N) (p : Fin 128) (d : Fin 128) :
    (show FVec Ideal S128x128 .f32 from iblk m c 7 t) (ix2 p d) = cosT (pos (prv (blk t)) p) ⟨d.val % 32, by omega⟩ := by
  blk_simp [iblk, idx t]
  refine Eq.trans (congrArg _ ?_) (cosE_at m c (pos (prv (blk t)) p) d)
  blk_ext [idx t, pos, blk, prv]

theorem sp_blk (c : Dev nD) (t : Fin cfg0.N) (p : Fin 128) (d : Fin 128) :
    (show FVec Ideal S128x128 .f32 from iblk m c 8 t) (ix2 p d)
      = if d.val % 64 < 32 then -sinT (pos (prv (blk t)) p) ⟨d.val % 32, by omega⟩ else sinT (pos (prv (blk t)) p) ⟨d.val % 32, by omega⟩ := by
  blk_simp [iblk, idx t]
  refine Eq.trans (congrArg _ ?_) (sinE_at m c (pos (prv (blk t)) p) d)
  blk_ext [idx t, pos, blk, prv]

theorem sk_blk (c : Dev nD) (t : Fin cfg0.N) (p : Fin 16) (d : Fin 128) :
    (show FVec Ideal S16x128 .f32 from iblk m c 4 t) (ix2 p d) = sks m c (ix1 p) := by
  blk_simp [iblk, idx t]
  entry_read
  pointwise
  blk_point [idx t, bat, pos, blk]

/-! ## The loads of a point -/

/-- A rectangle of a whole memref, at one of its positions. -/
theorem part_at {a b k l : ℕ} (A : Memref sig .tc .vmem ⟨2, ![a, b]⟩ .f32) (w : A.IsWhole) (x : Vec Ideal ⟨2, ![a, b]⟩ .f32) (o : Fin 2 → ℕ)
    (inb : ∀ i, o i + (![k, l] : Fin 2 → ℕ) i ≤ (⟨2, ![a, b]⟩ : Shape).size i) (i : Fin k) (j : Fin l) (i' : Fin a) (j' : Fin b)
    (hi : o 0 + i.val = i'.val) (hj : o 1 + j.val = j'.val) :
    View.readAt (Elt Ideal) A.view (Rect.unit (s := ⟨2, ![a, b]⟩) o ![k, l] inb).toLoadRect (w.unread x) (ix2 i j) = x (ix2 i' j') := by
  rw [View.readAt_eq_ld, Memref.IsWhole.read_unread]
  refine congrArg x ((eq_ix2 _).trans (congrArg₂ ix2 (Fin.ext ?_) (Fin.ext ?_)))
  · show o 0 + 1 * i.val = i'.val
    omega
  · show o 1 + 1 * j.val = j'.val
    omega

/-- The loads of point `t`: the backward kernel's, with no gradient. -/
def blkAt (c : Dev nD) (t : Fin cfg0.N) : Blk where
  n := BitVec.ofNat 32 (grid0.coords t 1).val
  q p := View.readAt (Elt Ideal) (ms0_0 t).view (Rect.unit (s := S128x1024) ![0, 128 * p.val] S128x128.size (inbP p)).toLoadRect ((hs0_0 t).unread (X0_0 m c t))
  z p := View.readAt (Elt Ideal) (ms0_1 t).view (Rect.unit (s := S128x1024) ![0, 128 * p.val] S128x128.size (inbP p)).toLoadRect ((hs0_1 t).unread (X0_1 m c t))
  dc _ := fun _ => (0 : EReal)
  cc := View.readAt (Elt Ideal) (ms0_5 t).view (Rect.unit (s := S128x128) ![0, 0] S128x128.size inb_S128x128_S128x128_0_0).toLoadRect ((hs0_5 t).unread (iblk m c 5 t))
  sc := View.readAt (Elt Ideal) (ms0_6 t).view (Rect.unit (s := S128x128) ![0, 0] S128x128.size inb_S128x128_S128x128_0_0).toLoadRect ((hs0_6 t).unread (iblk m c 6 t))
  cp := View.readAt (Elt Ideal) (ms0_7 t).view (Rect.unit (s := S128x128) ![0, 0] S128x128.size inb_S128x128_S128x128_0_0).toLoadRect ((hs0_7 t).unread (iblk m c 7 t))
  sp := View.readAt (Elt Ideal) (ms0_8 t).view (Rect.unit (s := S128x128) ![0, 0] S128x128.size inb_S128x128_S128x128_0_0).toLoadRect ((hs0_8 t).unread (iblk m c 8 t))
  kc := View.readAt (Elt Ideal) (ms0_2 t).view (Rect.unit (s := S128x256) ![0, 0] S128x128.size inb_S128x256_S128x128_0_0).toLoadRect ((hs0_2 t).unread (iblk m c 2 t))
  kp := View.readAt (Elt Ideal) (ms0_3 t).view (Rect.unit (s := S128x256) ![0, 0] S128x128.size inb_S128x256_S128x128_0_0).toLoadRect ((hs0_3 t).unread (iblk m c 3 t))
  vc := View.readAt (Elt Ideal) (ms0_2 t).view (Rect.unit (s := S128x256) ![0, 128] S128x128.size inb_S128x256_S128x128_0_128).toLoadRect ((hs0_2 t).unread (iblk m c 2 t))
  vp := View.readAt (Elt Ideal) (ms0_3 t).view (Rect.unit (s := S128x256) ![0, 128] S128x128.size inb_S128x256_S128x128_0_128).toLoadRect ((hs0_3 t).unread (iblk m c 3 t))
  sk h := View.readAt (Elt Ideal) (ms0_4 t).view (Rect.unit (s := S16x128) ![h.val, 0] S1x1.size (inbS h)).toLoadRect ((hs0_4 t).unread (iblk m c 4 t))

/-- The arguments by their axes. -/
def args (c : Dev nD) : Args where
  P b r l := pj m c (ix3 b r l)
  S h := sks m c (ix1 h)
  C _ _ _ := 0

theorem num_at (c : Dev nD) (t : Fin cfg0.N) : (blkAt m c t).n = BitVec.ofNat 32 (blk t).val := by
  have h : ∀ t : Fin cfg0.N, BitVec.ofNat 32 (grid0.coords t 1).val = BitVec.ofNat 32 (t.val % 16) := (by decide +kernel : ∀ t : Fin grid0.N, _)
  exact h t

set_option maxHeartbeats 3200000 in
theorem loads (c : Dev nD) (t : Fin cfg0.N) : Loads (blkAt m c t) (args m c) (bat t) (blk t) where
  num := num_at m c t
  q p r l := (part_at _ (hs0_0 t) _ _ _ r l r ⟨128 * p.val + l.val, by omega⟩ (Nat.zero_add _) rfl).trans (q_blk m c t r _)
  z p r l := (part_at _ (hs0_1 t) _ _ _ r l r ⟨128 * p.val + l.val, by omega⟩ (Nat.zero_add _) rfl).trans (z_blk m c t r _)
  dc _ _ _ := rfl
  cc r l := (part_at _ (hs0_5 t) _ _ _ r l r l (Nat.zero_add _) (Nat.zero_add _)).trans (c_blk m c t r l)
  sc r l := (part_at _ (hs0_6 t) _ _ _ r l r l (Nat.zero_add _) (Nat.zero_add _)).trans (s_blk m c t r l)
  cp r l := (part_at _ (hs0_7 t) _ _ _ r l r l (Nat.zero_add _) (Nat.zero_add _)).trans (cp_blk m c t r l)
  sp r l := (part_at _ (hs0_8 t) _ _ _ r l r l (Nat.zero_add _) (Nat.zero_add _)).trans (sp_blk m c t r l)
  kc r l := (part_at _ (hs0_2 t) _ _ _ r l r ⟨l.val, by omega⟩ (Nat.zero_add _) (Nat.zero_add _)).trans (kv_blk m c t r _)
  kp r l := (part_at _ (hs0_3 t) _ _ _ r l r ⟨l.val, by omega⟩ (Nat.zero_add _) (Nat.zero_add _)).trans (kvp_blk m c t r _)
  vc r l := (part_at _ (hs0_2 t) _ _ _ r l r ⟨128 + l.val, by omega⟩ (Nat.zero_add _) rfl).trans (kv_blk m c t r _)
  vp r l := (part_at _ (hs0_3 t) _ _ _ r l r ⟨128 + l.val, by omega⟩ (Nat.zero_add _) rfl).trans (kvp_blk m c t r _)
  sk h := (part_at _ (hs0_4 t) _ _ _ 0 0 h 0 rfl rfl).trans (sk_blk m c t h 0)

/-! ## The result -/

/-- Every point stores the gated outputs of its eight pairs. -/
theorem outs (c : Dev nD) (t : Fin cfg0.N) : outsAt0 m c t = VO0_9.read (Elt Ideal) (VO0_9.writes (Elt Ideal) VO0_9.junk (cols (catPair (blkAt m c t)))) := by
  sl_kernel_rfl

theorem outs_at (c : Dev nD) (t : Fin cfg0.N) (p : Fin 8) (r l : Fin 128) : outsAt0 m c t (ix2 r (stk p l)) = catPair (blkAt m c t) p (ix2 r l) := by
  rw [outs]
  exact (congrFun (View.read_writes_junk_eq_canon (Val := Elt Ideal) VO0_9 _) _).trans (cols_canon _ r p l)

theorem final (c : Dev nD) : (dats m 0 c).arrAt 9 (cfgs 0).N = byHead (args m c).gated := by
  refine (dats m 0 c).arrAt_eq_of_covers 9 _ (by decide +kernel) fun t _ y => ?_
  obtain ⟨r, l, rfl⟩ : ∃ (r : Fin 128) (l : Fin 1024), y = ix2 r l := ⟨y 0, y 1, eq_ix2 y⟩
  obtain ⟨p, hh, d, rfl⟩ := stk_surj l
  blk_simp
  rw [after0_9, outs_at, catPair_at, (loads m c t).att_eq, (loads m c t).z_row, (loads m c t).sg_row]
  refine Eq.trans ?_ ((byHead_at (args m c).gated (bat t) (blk t) r p hh d).symm.trans (congrArg _ ?_))
  · rfl
  blk_ext [idx t, rowOf, bat, blk]

end Cert.SwaFwdIdeal.Hand

end

end
-- ==== Proof.SwaFwdReference.lean ====
/- What the reference of the attention's forward pass computes: the outputs the backward pass's reference computes, gated. -/
module

public import proofs.«01_k».proof.Proof.SwaGradients
public import proofs.«01_k».proof.Proof.Gen.SwaFwdRefIdeal.Run
public import Idealize.ShloMosaic.Lib.Claim

@[expose] public section

set_option maxRecDepth 16384

noncomputable section

open Idealize.ShloMosaic Idealize.ShloMosaic.TcCoe Idealize.SL.Sem

namespace Cert.SwaBwdRefIdeal.Forward

open Cert.SwaBwdRefIdeal Cert.SwaBwdRefIdeal.Gen Cert.SwaBwdRefIdeal.Value Cert.SwaBwdRefIdeal.Hand Cert.SwaSpec Cert.Reals

/-- Buffers of the backward pass's reference that hold the projections and the sinks, and zero as the gradient. -/
def given (P : FVec Ideal S2x2048x6400 .f32) (S : FVec Ideal S16 .f32) : Valuation τ sig (Elt Ideal) :=
  Function.update (Function.update (Function.update (fun _ => Classical.choice inferInstance) (Proc.devRef .tc main_arg2)
    (fun _ => (0 : EReal) : FVec Ideal S2x2048x1024 .f32)) (Proc.devRef .tc main_arg1) S) (Proc.devRef .tc main_arg0) P

variable (P : FVec Ideal S2x2048x6400 .f32) (S : FVec Ideal S16 .f32)

theorem given_arg0 : given P S (Proc.devRef .tc main_arg0) = P := Function.update_self _ _ _
theorem given_arg1 : given P S (Proc.devRef .tc main_arg1) = S :=
  (Function.update_of_ne (by decide) _ _).trans (Function.update_self _ _ _)
theorem given_arg2 : given P S (Proc.devRef .tc main_arg2) = (fun _ => (0 : EReal) : FVec Ideal S2x2048x1024 .f32) :=
  (Function.update_of_ne (by decide) _ _).trans ((Function.update_of_ne (by decide) _ _).trans (Function.update_self _ _ _))

theorem given_args : args (given P S) = { P := fun b r l => P (ix3 b r l), S := fun h => S (ix1 h), C := fun _ _ _ => 0 } := by
  unfold args pj sks ct
  rw [given_arg0, given_arg1, given_arg2]

/-- The gated outputs, in rows. -/
def gated (o z s : FVec Ideal S2x2048x1024 .f32) : FVec Ideal S4096x1024 .bf16 :=
  truncf .bf16 (shapeCast S4096x1024 (mulf o (mulf z s)) shapeCasts_S2x2048x1024_S4096x1024) bitsLt_bf16_f32
def out (V : Valuation τ sig (Elt Ideal)) : FVec Ideal S4096x1024 .bf16 := gated (res_main_v154 V) (res_main_v3 V) (res_main_v155_2 V)

theorem gated_at (o z s : FVec Ideal S2x2048x1024 .f32) (r : Fin 4096) (l : Fin 1024) : gated o z s (ix2 r l)
    = o (ix3 ⟨r.val / 2048, by omega⟩ ⟨r.val % 2048, by omega⟩ l) * (z (ix3 ⟨r.val / 2048, by omega⟩ ⟨r.val % 2048, by omega⟩ l)
      * s (ix3 ⟨r.val / 2048, by omega⟩ ⟨r.val % 2048, by omega⟩ l)) := by
  pointwise [gated]

theorem z_at (V : Valuation τ sig (Elt Ideal)) (b : Fin 2) (r : Fin 2048) (l : Fin 1024) : res_main_v3 V (ix3 b r l)
    = (args V).zv b r ⟨l.val / 64, by omega⟩ ⟨l.val % 64, by omega⟩ := by
  pointwise [res_main_v3]
  exact congrArg (fun l => pj V (ix3 b r l)) (Fin.ext (by simp only [hcol]; omega))

theorem out_at {V : Valuation τ sig (Elt Ideal)} (F : (args V).Finite) (r : Fin 4096) (l : Fin 1024) : out V (ix2 r l)
    = ((args V).att ⟨r.val / 2048, by omega⟩ ⟨r.val % 2048 / 128, by omega⟩ ⟨l.val / 64, by omega⟩ ⟨r.val % 128, by omega⟩).o ⟨l.val % 64, by omega⟩
      * ((args V).zv ⟨r.val / 2048, by omega⟩ (pos ⟨r.val % 2048 / 128, by omega⟩ ⟨r.val % 128, by omega⟩) ⟨l.val / 64, by omega⟩ ⟨l.val % 64, by omega⟩
        * sgm ((args V).zv ⟨r.val / 2048, by omega⟩ (pos ⟨r.val % 2048 / 128, by omega⟩ ⟨r.val % 128, by omega⟩) ⟨l.val / 64, by omega⟩ ⟨l.val % 64, by omega⟩)) := by
  refine (gated_at _ _ _ r l).trans ?_
  rw [v154_at F, in_block, v155_2_at, z_at, ← pos_eq]

variable (m : (ℓ : Loc Cert.SwaFwdRefIdeal.nD Cert.SwaFwdRefIdeal.τ Cert.SwaFwdRefIdeal.sig) → Buf (Elt Ideal) ℓ) (c : Dev Cert.SwaFwdRefIdeal.nD)

/-- The reference's result, from buffers that hold its arguments. -/
theorem result : Cert.SwaFwdRefIdeal.Value.res_main_v139 m c = out (given (m ((c.tc : Thread Cert.SwaFwdRefIdeal.nD Cert.SwaFwdRefIdeal.τ).loc Cert.SwaFwdRefIdeal.main_arg0))
    (m ((c.tc : Thread Cert.SwaFwdRefIdeal.nD Cert.SwaFwdRefIdeal.τ).loc Cert.SwaFwdRefIdeal.main_arg1))) := by
  unfold Cert.SwaFwdRefIdeal.Value.res_main_v139
  generalize m ((c.tc : Thread Cert.SwaFwdRefIdeal.nD Cert.SwaFwdRefIdeal.τ).loc Cert.SwaFwdRefIdeal.main_arg0) = P
  generalize m ((c.tc : Thread Cert.SwaFwdRefIdeal.nD Cert.SwaFwdRefIdeal.τ).loc Cert.SwaFwdRefIdeal.main_arg1) = S
  sl_kernel_rfl

end Cert.SwaBwdRefIdeal.Forward

end
-- ==== Proof.SwaFwdClaim.lean ====
/- The windowed attention's forward pass and its reference compute the same function at finite arguments. -/
module

public import proofs.«01_k».proof.Defs
public import proofs.«01_k».proof.Proof.Finite
public import proofs.«01_k».proof.Proof.SwaFwdKernel
public import proofs.«01_k».proof.Proof.SwaFwdReference
public import proofs.«01_k».proof.Proof.Gen.Pre_swa_fwd_finite
public import Idealize.ShloMosaic.Lib.Claim

@[expose] public section

set_option maxRecDepth 16384

noncomputable section

open Idealize.ShloMosaic Idealize.ShloMosaic.TcCoe Idealize.SL.Sem

namespace Cert.Proof

open Cert.SwaSpec Cert.Reals

theorem swa_fwd_algebraic : Cert.algebraic_SwaFwdIdeal_SwaFwdRefIdeal_pre_swa_fwd_finite (hSwaFwdIdeal := Cert.SwaFwdIdeal.Gen.facts)
    (hSwaFwdRefIdeal := Cert.SwaFwdRefIdeal.Gen.facts) (hPre_swa_fwd_finite := Cert.Pre_swa_fwd_finite.Gen.facts) := by
  intro m g m' g' hpre hagree
  have F (c) : (Cert.SwaFwdIdeal.Hand.args m c).Finite :=
    ⟨fun b r l h => by
        have hl : (⟨4096 + (l.val - 4096), by omega⟩ : Fin 6400) = l := Fin.ext (by simp only []; omega)
        have h0 := isReal_of_test _ _ (hpre c).1 (ix3 b r ⟨l.val - 4096, by omega⟩)
        pointwise [] at h0
        rw [hl] at h0
        exact h0,
      fun h => isReal_of_test _ _ (hpre c).2 (ix1 h), fun _ _ _ => ⟨0, rfl⟩⟩
  have e (c) : Cert.SwaFwdRefIdeal.Value.res_main_v139 m' c = Cert.SwaBwdIdeal.Hand.byHead (Cert.SwaFwdIdeal.Hand.args m c).gated := by
    have a : Cert.SwaBwdRefIdeal.Hand.args (Cert.SwaBwdRefIdeal.Forward.given (m' ((c.tc : Thread Cert.SwaFwdRefIdeal.nD Cert.SwaFwdRefIdeal.τ).loc Cert.SwaFwdRefIdeal.main_arg0))
        (m' ((c.tc : Thread Cert.SwaFwdRefIdeal.nD Cert.SwaFwdRefIdeal.τ).loc Cert.SwaFwdRefIdeal.main_arg1))) = Cert.SwaFwdIdeal.Hand.args m c := by
      obtain ⟨e0, e1⟩ := hagree c
      refine (Cert.SwaBwdRefIdeal.Forward.given_args _ _).trans ?_
      unfold Cert.SwaFwdIdeal.Hand.args
      congr 1
      · exact funext fun b => funext fun r => funext fun l => congrFun e0 (ix3 b r l)
      · exact funext fun h => congrFun e1 (ix1 h)
    rw [Cert.SwaBwdRefIdeal.Forward.result m' c, ← a]
    funext y
    obtain ⟨r, l, rfl⟩ : ∃ (r : Fin 4096) (l : Fin 1024), y = ix2 r l := ⟨y 0, y 1, eq_ix2 y⟩
    exact Cert.SwaBwdRefIdeal.Forward.out_at (a ▸ F c) r l
  refine ⟨fun c => Cert.SwaBwdIdeal.Hand.byHead (Cert.SwaFwdIdeal.Hand.args m c).gated, ?_, ?_⟩
  · exact (θ_run Cert.SwaFwdIdeal.defs _ _).mono (fun r h c => ⟨(h c).1.trans (Cert.SwaFwdIdeal.Hand.final m c), (h c).2⟩) (Cert.SwaFwdIdeal.Value.run_blocks m g)
  · exact (θ_run Cert.SwaFwdRefIdeal.defs _ _).mono (fun r h c => ⟨(h c).1.trans (e c), (h c).2⟩) (Cert.SwaFwdRefIdeal.Value.run m' g')

end Cert.Proof

end
-- ==== Proof.OutFwdKernel.lean ====
/- What the kernel of the output projection leaves in its two results. -/
module

public import proofs.«01_k».proof.Proof.LossSpec
public import proofs.«01_k».proof.Proof.Gen.OutFwdIdeal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutFwdIdeal.Hand

open Cert.OutFwdIdeal Cert.OutFwdIdeal.Gen Cert.NormGrad Cert.OutSpec Cert.LossSpec

/-! ## The arithmetic of one block -/

theorem proj_at (a b : FVec Ideal S512x1024 .bf16) (u v : FVec Ideal S1x1024x1024 .bf16) (p : Fin 512) (d : Fin 1024) :
    k0_pay1 (F := Ideal) a u b v (ix2 p d) = ∑ e : Fin 1024, a (ix2 p e) * u (ix3 0 e d) + ∑ e : Fin 1024, b (ix2 p e) * v (ix3 0 e d) := by
  pointwise [k0_pay1]

theorem out_at (a b : FVec Ideal S512x1024 .bf16) (u v : FVec Ideal S1x1024x1024 .bf16) (x : FVec Ideal S512x1024 .f32)
    (g : FVec Ideal S1x1024 .f32) (p : Fin 512) (d : Fin 1024) :
    k0_pay2 (F := Ideal) a u b v x g (ix2 p d)
      = x (ix2 p d) + k0_pay1 (F := Ideal) a u b v (ix2 p d) * scale (fun k => k0_pay1 (F := Ideal) a u b v (ix2 p k)) * g (ix2 0 d) := by
  generalize hy : k0_pay1 (F := Ideal) a u b v = y
  unfold k0_pay2
  rw [hy]
  pointwise [scale, meanSq]

/-! ## The blocks, as parts of the arguments -/

variable (m : (ℓ : Loc nD τ sig) → Buf (Elt Ideal) ℓ)

/-- The arguments. -/
abbrev oh (c : Dev nD) : A3 := m ((c.tc : Thread nD τ).loc main_arg0)
abbrev oa (c : Dev nD) : A3 := m ((c.tc : Thread nD τ).loc main_arg1)
abbrev wo (c : Dev nD) : A2 := m ((c.tc : Thread nD τ).loc main_arg2)
abbrev xr (c : Dev nD) : A3 := m ((c.tc : Thread nD τ).loc main_arg3)
abbrev gp (c : Dev nD) : A1 := m ((c.tc : Thread nD τ).loc main_arg4)

theorem idx : ∀ t : Fin cfg0.N, win0_0.index t = ![t.val, 0] ∧ win0_1.index t = ![t.val, 0] ∧ win0_2.index t = ![0, 0, 0]
    ∧ win0_3.index t = ![t.val, 0] ∧ win0_4.index t = ![0, 0] ∧ win0_5.index t = ![t.val, 0] ∧ win0_6.index t = ![t.val, 0] :=
  (by decide +kernel : ∀ t : Fin grid0.N, _)

/-- Row `p` of the block of point `t`, as a row of the array. -/
def rowOf (t : Fin cfg0.N) (p : Fin 512) : Fin 4096 :=
  ⟨t.val * 512 + p, by have := lt_of_lt_of_eq t.isLt N_0; omega⟩

theorem ch_blk (c : Dev nD) (t : Fin cfg0.N) (p : Fin 512) (d : Fin 1024) :
    (show FVec Ideal S512x1024 .bf16 from iblk m c 0 t) (ix2 p d) = oh m c (ix3 (bat (rowOf t p)) (pos (rowOf t p)) d) := by
  blk_simp [iblk, idx t]
  entry_read
  pointwise
  blk_point [idx t, bat, pos, rowOf]

theorem ca_blk (c : Dev nD) (t : Fin cfg0.N) (p : Fin 512) (d : Fin 1024) :
    (show FVec Ideal S512x1024 .bf16 from iblk m c 1 t) (ix2 p d) = oa m c (ix3 (bat (rowOf t p)) (pos (rowOf t p)) d) := by
  blk_simp [iblk, idx t]
  entry_read
  pointwise
  blk_point [idx t, bat, pos, rowOf]

theorem w_blk (c : Dev nD) (t : Fin cfg0.N) (e : Fin 2048) (d : Fin 1024) :
    (show FVec Ideal S1x2048x1024 .bf16 from iblk m c 2 t) (ix3 0 e d) = wo m c (ix2 e d) := by
  blk_simp [iblk, idx t]
  entry_read
  pointwise
  blk_point [idx t]

theorem x_blk (c : Dev nD) (t : Fin cfg0.N) (p : Fin 512) (d : Fin 1024) :
    (show FVec Ideal S512x1024 .f32 from iblk m c 3 t) (ix2 p d) = xr m c (ix3 (bat (rowOf t p)) (pos (rowOf t p)) d) := by
  blk_simp [iblk, idx t]
  entry_read
  pointwise
  blk_point [idx t, bat, pos, rowOf]

theorem g_blk (c : Dev nD) (t : Fin cfg0.N) (d : Fin 1024) :
    (show FVec Ideal S1x1024 .f32 from iblk m c 4 t) (ix2 0 d) = gp m c (ix1 d) := by
  blk_simp [iblk, idx t]
  entry_read
  pointwise
  blk_point [idx t]

section Weights

/-! Over any arrays that hold the two halves of the weights. -/

variable (c : Dev nD) (t : Fin cfg0.N) (u v : FVec Ideal S1x1024x1024 .bf16)
  (hu : ∀ e d : Fin 1024, u (ix3 0 e d) = wo m c (ix2 (lo e) d)) (hv : ∀ e d : Fin 1024, v (ix3 0 e d) = wo m c (ix2 (hi e) d))

include hu hv

theorem proj_blk (p : Fin 512) (d : Fin 1024) :
    k0_pay1 (F := Ideal) (iblk m c 0 t) u (iblk m c 1 t) v (ix2 p d)
      = yRow (oh m c) (oa m c) (wo m c) (bat (rowOf t p)) (pos (rowOf t p)) d := by
  refine (proj_at _ _ u v p d).trans (congrArg₂ (· + ·) ?_ ?_)
  · exact Finset.sum_congr rfl fun e _ => congrArg₂ (· * ·) (ch_blk m c t p e) (hu e d)
  · exact Finset.sum_congr rfl fun e _ => congrArg₂ (· * ·) (ca_blk m c t p e) (hv e d)

theorem next_blk (p : Fin 512) (d : Fin 1024) :
    k0_pay2 (F := Ideal) (iblk m c 0 t) u (iblk m c 1 t) v (iblk m c 3 t) (iblk m c 4 t) (ix2 p d)
      = next (oh m c) (oa m c) (wo m c) (xr m c) (gp m c) (ix2 (rowOf t p) d) := by
  refine (out_at _ _ u v _ _ p d).trans ?_
  refine congrArg₂ (· + ·) (x_blk m c t p d) (congrArg₂ (· * ·) (congrArg₂ (· * ·) (proj_blk m c t u v hu hv p d) ?_) (g_blk m c t d))
  exact congrArg scale (funext fun k => proj_blk m c t u v hu hv p k)

end Weights

/-! ## The two results -/

theorem final5 (c : Dev nD) : (dats m 0 c).arrAt 5 (cfgs 0).N = next (oh m c) (oa m c) (wo m c) (xr m c) (gp m c) := by
  refine (dats m 0 c).arrAt_eq_of_covers 5 _ (by decide +kernel) fun t _ y => ?_
  obtain ⟨p, e, rfl⟩ : ∃ (p : Fin 512) (e : Fin 1024), y = ix2 p e := ⟨y 0, y 1, eq_ix2 y⟩
  blk_simp
  rw [after0_5]
  frame_out
  refine (next_blk m c t _ _ (fun e d => ?_) (fun e d => ?_) p e).trans (congrArg _ ?_)
  · pointwise
    exact w_blk m c t _ d
  · pointwise
    exact w_blk m c t _ d
  · blk_ext [idx t, rowOf]

theorem final6 (c : Dev nD) : (dats m 0 c).arrAt 6 (cfgs 0).N = proj (oh m c) (oa m c) (wo m c) := by
  refine (dats m 0 c).arrAt_eq_of_covers 6 _ (by decide +kernel) fun t _ y => ?_
  obtain ⟨p, e, rfl⟩ : ∃ (p : Fin 512) (e : Fin 1024), y = ix2 p e := ⟨y 0, y 1, eq_ix2 y⟩
  blk_simp
  rw [after0_6]
  frame_out
  refine (proj_blk m c t _ _ (fun e d => ?_) (fun e d => ?_) p e).trans
    (congrArg (proj (oh m c) (oa m c) (wo m c)) (a₁ := ix2 (rowOf t p) e) ?_)
  · pointwise
    exact w_blk m c t _ d
  · pointwise
    exact w_blk m c t _ d
  · blk_ext [idx t, rowOf]

end Cert.OutFwdIdeal.Hand

end

end
-- ==== Proof.OutFwdReference.lean ====
/- What the reference of the output projection computes: the same residual sum and projection. -/
module

public import proofs.«01_k».proof.Proof.LossSpec
public import proofs.«01_k».proof.Proof.Gen.OutFwdRefIdeal.Run
public import Idealize.ShloMosaic.Lib.Claim

@[expose] public section

set_option maxRecDepth 16384

noncomputable section

open Idealize.ShloMosaic Idealize.ShloMosaic.TcCoe Idealize.SL.Sem

namespace Cert.OutFwdRefIdeal.Hand

open Cert.OutFwdRefIdeal Cert.OutFwdRefIdeal.Gen Cert.NormGrad Cert.OutSpec Cert.LossSpec

section Terms

variable (oh oa : FVec Ideal S2x2048x1024 .f32) (w : FVec Ideal S2048x1024 .f32) (x : FVec Ideal S2x2048x1024 .f32) (g : FVec Ideal S1024 .f32)

/-- The projection before its norm. -/
def tY : FVec Ideal S2x2048x1024 .f32 :=
  Host.dotGeneral dot_S2x2048x2048_S2048x1024_S2x2048x1024_2_0_01_1_n_n none
    (concatenate S2x2048x2048 2 [⟨S2x2048x1024, oh⟩, ⟨S2x2048x1024, oa⟩] concatenates_S2x2048x1024_S2x2048x1024_S2x2048x2048_d2) w

variable (y : FVec Ideal S2x2048x1024 .f32)

/-- The mean square of the rows, with the small number. -/
def tZ : FVec Ideal S2x2048x1 .f32 :=
  addf (Host.divf (broadcastInDim S2x2048x1 ![0, 1] bcast_S2x2048_S2x2048x1_0_1
      (Host.reduceAdd (mulf y y) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The residual sum. -/
def tN : FVec Ideal S2x2048x1024 .f32 :=
  addf x (mulf (mulf y (broadcastInDim S2x2048x1024 ![0, 1, 2] bcast_S2x2048x1_S2x2048x1024_0_1_2 (Host.rsqrt (tZ y))))
    (broadcastInDim S2x2048x1024 ![0, 1, 2] bcast_S1x1x1024_S2x2048x1024_0_1_2 (broadcastInDim S1x1x1024 ![2] bcast_S1024_S1x1x1024_2 g)))

/-! ## The parts read at an index -/

theorem tY_at (b : Fin 2) (s : Fin 2048) (d : Fin 1024) : tY oh oa w (ix3 b s d) = yRow oh oa w b s d := by
  pointwise [tY, yRow]
  rfl

theorem tZ_at (b : Fin 2) (s : Fin 2048) (o : Fin 1) : tZ y (ix3 b s o) = meanSq fun k => y (ix3 b s k) := by
  pointwise [tZ, meanSq]

theorem tN_at (b : Fin 2) (s : Fin 2048) (d : Fin 1024) :
    tN x g y (ix3 b s d) = x (ix3 b s d) + y (ix3 b s d) * scale (fun k => y (ix3 b s k)) * g (ix1 d) := by
  pointwise [tN, tZ_at, scale]

/-! ## The results -/

theorem result0 : shapeCast S4096x1024 (tN x g (tY oh oa w)) shapeCasts_S2x2048x1024_S4096x1024 = next oh oa w x g := by
  funext i
  idx_vars i
  pointwise [tN_at, tY_at, next]
  rfl

theorem result1 : shapeCast S4096x1024 (tY oh oa w) shapeCasts_S2x2048x1024_S4096x1024 = proj oh oa w := by
  funext i
  idx_vars i
  pointwise [tY_at, proj]
  rfl

end Terms

end Cert.OutFwdRefIdeal.Hand

end

end
-- ==== Proof.OutFwdClaim.lean ====
/- The output projection, with its norm and the residual, and its reference compute the same function. -/
module

public import proofs.«01_k».proof.Defs
public import proofs.«01_k».proof.Proof.OutFwdKernel
public import proofs.«01_k».proof.Proof.OutFwdReference

@[expose] public section

set_option maxRecDepth 16384

noncomputable section

open Idealize.ShloMosaic Idealize.ShloMosaic.TcCoe Idealize.SL.Sem

namespace Cert.Proof

open Cert.OutSpec Cert.LossSpec

theorem out_fwd_algebraic : Cert.algebraic_OutFwdIdeal_OutFwdRefIdeal (hOutFwdIdeal := Cert.OutFwdIdeal.Gen.facts)
    (hOutFwdRefIdeal := Cert.OutFwdRefIdeal.Gen.facts) := by
  intro m g m' g' _ hagree
  refine ⟨fun c => next (Cert.OutFwdIdeal.Hand.oh m c) (Cert.OutFwdIdeal.Hand.oa m c) (Cert.OutFwdIdeal.Hand.wo m c)
      (Cert.OutFwdIdeal.Hand.xr m c) (Cert.OutFwdIdeal.Hand.gp m c),
    fun c => proj (Cert.OutFwdIdeal.Hand.oh m c) (Cert.OutFwdIdeal.Hand.oa m c) (Cert.OutFwdIdeal.Hand.wo m c), ?_, ?_⟩
  · exact (θ_run Cert.OutFwdIdeal.defs _ _).mono (fun r h c => ⟨(h c).1.trans (Cert.OutFwdIdeal.Hand.final5 m c),
      (h c).2.1.trans (Cert.OutFwdIdeal.Hand.final6 m c), (h c).2.2⟩) (Cert.OutFwdIdeal.Value.run_blocks m g)
  · refine (θ_run Cert.OutFwdRefIdeal.defs _ _).mono (fun r h c => ?_) (Cert.OutFwdRefIdeal.Value.run m' g')
    obtain ⟨e0, e1, e2, e3, e4⟩ := hagree c
    refine ⟨(h c).1.trans ((Cert.OutFwdRefIdeal.Hand.result0 _ _ _ _ _).trans ?_), (h c).2.1.trans ((Cert.OutFwdRefIdeal.Hand.result1 _ _ _).trans ?_), (h c).2.2⟩
    all_goals simp only [e0, e1, e2, e3, e4]

end Cert.Proof

end

end
-- ==== Proof.InFwdSpec.lean ====
/- The normed rows of the layer's input and their projection, as functions of the layer's arrays: what both programs compute. -/
module

public import proofs.«01_k».proof.Proof.OutSpec

@[expose] public section

noncomputable section

open Idealize.ShloMosaic

namespace Cert.InFwdSpec

open Cert.NormGrad Cert.OutSpec

/-- The weights of the input projection. -/
abbrev AI := (⟨2, ![1024, 6400]⟩ : Shape).Idx → EReal

/-- Where a column of the result stands in the weights: the attention's gate comes before its keys and values. -/
def column (j : Fin 6400) : Fin 6400 :=
  if j.val < 5120 then j else if h : j.val < 6144 then ⟨j + 256, by omega⟩ else ⟨j - 1024, by omega⟩

theorem column_val (j : Fin 6400) :
    (column j).val = if j.val < 5120 then j.val else if j.val < 6144 then j.val + 256 else j.val - 1024 := by
  unfold column
  split_ifs <;> rfl

variable (x : A3) (w : AI) (g : A1)

/-- The normed row. -/
def row (b : Fin 2) (s : Fin 2048) (d : Fin 1024) : EReal :=
  x (ix3 b s d) * scale (fun k => x (ix3 b s k)) * g (ix1 d)

def rows (i : (⟨2, ![4096, 1024]⟩ : Shape).Idx) : EReal := row x g (bat (i 0)) (pos (i 0)) (i 1)

/-- The projection, its columns in the kernel's order. -/
def projection (i : (⟨2, ![4096, 6400]⟩ : Shape).Idx) : EReal :=
  ∑ d : Fin 1024, row x g (bat (i 0)) (pos (i 0)) d * w (ix2 d (column (i 1)))

end Cert.InFwdSpec

end

end
-- ==== Proof.InFwdRun.lean ====
/- The run of the kernel of the input projection: the normed rows are made at the first of a block's five points and read again at the other four. -/
module

public import proofs.«01_k».proof.Proof.Gen.InFwdIdeal.Frame
public import Idealize.ShloMosaic.Lib.Pipeline.FrameBody
public import Idealize.ShloMosaic.Lib.Pipeline.Value
public import Idealize.ShloMosaic.Lib.Pipeline.ValueKit
public import Idealize.ShloMosaic.Lib.VecWindow
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.InFwdIdeal.Hand

open Cert.InFwdIdeal Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The normed rows of a block. -/
def normed (x : Vec F S1024x1024 .f32) (g : Vec F S1x1024 .f32) : Vec F S1024x1024 .bf16 :=
  have q : FVec F S1024 .f32 := multiReduction .add [1] S1024 (mulf x x) 0x00000000#32 reduces_S1024x1024_S1024 (.inl rfl) rfl
  have z : FVec F S1024x1 .f32 := addf (divf (shapeCast S1024x1 q shapeCasts_S1024_S1024x1) (broadcast S1024x1 (Scalar.ofBits .f32 0x44800000#32)))
    (broadcast S1024x1 (Scalar.ofBits .f32 0x358637BD#32))
  truncf .bf16 (mulf (mulf x (broadcastTo S1024x1024 (rsqrt z) broadcasts_S1024x1_S1024x1024))
    (broadcastTo S1024x1024 g broadcasts_S1x1024_S1024x1024)) bitsLt_bf16_f32

/-- Their product with a block of the weights. -/
def prod (h : Vec F S1024x1024 .bf16) (w : Vec F S1x1280x1024 .bf16) : Vec F S1024x1280 .f32 :=
  matmul (F := F) dot_S1024x1024_S1280x1024_S1024x1280_1_1_0_0_n_n none h (shapeCast S1280x1024 w shapeCasts_S1x1280x1024_S1280x1024)
    (constant S1024x1280 .f32 0x00000000#32)

/-- The block of the weights a point reads out of the first 5120 columns. -/
def part (x : Vec F S1x5120x1024 .bf16) (i : grid0.Coords) (h : k0_cond2 i = 1#1) : Vec F S1x1280x1024 .bf16 :=
  View.ld x (Rect.unit (s := S1x5120x1024) (k0_off1 i) S1x1280x1024.size (k0_off1_inb i h))

section Runs

variable (c : Dev nD) (i : grid0.Coords) (arg2 : Memref sig .tc .vmem S1024x1024 .f32) (harg2 : arg2.IsWhole) (arg3 : Memref sig .tc .vmem S1x1024 .f32) (harg3 : arg3.IsWhole)
  (arg4 : Memref sig .tc .vmem S1x5120x1024 .bf16) (harg4 : arg4.IsWhole) (arg5 : Memref sig .tc .vmem S1x1280x1024 .bf16) (harg5 : arg5.IsWhole)
  (arg6 : Memref sig .tc .vmem S1024x1280 .f32) (harg6 : arg6.IsWhole) (arg7 : Memref sig .tc .vmem S1024x1024 .bf16) (harg7 : arg7.IsWhole)
  (arg8 : Memref sig .tc .vmem S1024x1024 .bf16) (harg8 : arg8.IsWhole)
  (x0 : Vec F S1024x1024 .f32) (x1 : Vec F S1x1024 .f32) (x2 : Vec F S1x5120x1024 .bf16) (x3 : Vec F S1x1280x1024 .bf16) (h : Vec F S1024x1024 .bf16)

/-- The first point of a block of rows: the rows are normed, stored twice, and multiplied with the first columns. -/
theorem runA (hc0 : k0_cond1 i = 1#1) (hc1 : k0_cond2 i = 1#1) (hc2 : ¬k0_cond3 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (prod (normed x0 x1) (part x2 i hc1)) ∗ owns (c : Thread nD τ) arg7 fullShare (normed x0 x1)
          ∗ owns (c : Thread nD τ) arg8 fullShare (normed x0 x1)) -∗ K ⟨⟩))
      ⊢ wp frame (wpE (defs₀ (F := F)) Variants.none c none) E (cc0_in_proj i arg2 harg2 arg3 harg3 arg4 harg4 arg5 harg5 arg6 harg6 arg7 harg7 arg8 harg8) K := by
  unfold cc0_in_proj
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  subst hf0 hf1 hf2 hf3
  sl_exec (disch := first | sl_exact hc0 | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_full _ _ _ _ _).trans ?_
    frame_out [shapeCast_self]
    simp only [prod, part, normed, shapeCast_self]
  isplitl [H5]
  · iexists _; isplitr
    swap; · iexact H5
    ipureintro
    refine (View.read_writes_full _ _ _ _ _).trans ?_
    frame_out [shapeCast_self]
    simp only [prod, part, normed, shapeCast_self]
  iexists _; isplitr
  swap; · iexact HS0
  ipureintro
  refine (View.read_writes_full _ _ _ _ _).trans ?_
  frame_out [shapeCast_self]
  simp only [prod, part, normed, shapeCast_self]

/-- A later point whose columns are among the first 5120: the rows are read again. -/
theorem runB (hc0 : ¬k0_cond1 i = 1#1) (hc1 : k0_cond2 i = 1#1) (hc2 : ¬k0_cond3 i = 1#1) (E : Set ℕ) (K : PUnit → sProp 𝕄) :
    iprop(owns (c : Thread nD τ) arg4 fullShare x2 ∗ (∃ d, owns (c : Thread nD τ) arg6 fullShare d) ∗ owns (c : Thread nD τ) arg8 fullShare h
        ∗ (iprop(owns (c : Thread nD τ) arg4 fullShare x2 ∗ owns (c : Thread nD τ) arg6 fullShare (prod h (part x2 i hc1))
          ∗ owns (c : Thread nD τ) arg8 fullShare h) -∗ K ⟨⟩))
      ⊢ wp frame (wpE (defs₀ (F := F)) Variants.none c none) E (cc0_in_proj i arg2 harg2 arg3 harg3 arg4 harg4 arg5 harg5 arg6 harg6 arg7 harg7 arg8 harg8) K := by
  unfold cc0_in_proj
  unfold owns
  iintro ⟨⟨%f2, %hf2, H2⟩, ⟨%d4, %f4, -, H4⟩, ⟨%fs0, %hfs, HS0⟩, Hk⟩
  subst hf2 hfs
  sl_exec (disch := first | sl_exact hc0 | sl_exact hc1 | sl_exact hc2)
  sl_step
  iapply Hk
  isplitl [H2]
  · iexists f2; isplitr; · ipureintro; rfl
    iexact H2
  isplitl [H4]
  · iexists _; isplitr
    swap; · iexact H4
    ipureintro
    refine (View.read_writes_full _ _ _ _ _).trans ?_
    frame_out [shapeCast_self]
    simp only [prod, part, normed, shapeCast_self]
  iexists fs0; isplitr; · ipureintro; rfl
  iexact HS0

/-- The last point of a block: its columns come from the other array of weights. -/
theorem runC (hc0 : ¬k0_cond1 i = 1#1) (hc1 : ¬k0_cond2 i = 1#1) (hc2 : k0_cond3 i = 1#1) (E : Set ℕ) (K : PUnit → sProp 𝕄) :
    iprop(owns (c : Thread nD τ) arg5 fullShare x3 ∗ (∃ d, owns (c : Thread nD τ) arg6 fullShare d) ∗ owns (c : Thread nD τ) arg8 fullShare h
        ∗ (iprop(owns (c : Thread nD τ) arg5 fullShare x3 ∗ owns (c : Thread nD τ) arg6 fullShare (prod h x3)
          ∗ owns (c : Thread nD τ) arg8 fullShare h) -∗ K ⟨⟩))
      ⊢ wp frame (wpE (defs₀ (F := F)) Variants.none c none) E (cc0_in_proj i arg2 harg2 arg3 harg3 arg4 harg4 arg5 harg5 arg6 harg6 arg7 harg7 arg8 harg8) K := by
  unfold cc0_in_proj
  unfold owns
  iintro ⟨⟨%f3, %hf3, H3⟩, ⟨%d4, %f4, -, H4⟩, ⟨%fs0, %hfs, HS0⟩, Hk⟩
  subst hf3 hfs
  sl_exec (disch := first | sl_exact hc0 | sl_exact hc1 | sl_exact hc2)
  sl_step
  iapply Hk
  isplitl [H3]
  · iexists f3; isplitr; · ipureintro; rfl
    iexact H3
  isplitl [H4]
  · iexists _; isplitr
    swap; · iexact H4
    ipureintro
    refine (View.read_writes_full _ _ _ _ _).trans ?_
    frame_out [shapeCast_self]
    simp only [prod, part, normed, shapeCast_self]
  iexists fs0; isplitr; · ipureintro; rfl
  iexact HS0

end Runs

end Cert.InFwdIdeal.Hand

end

end
-- ==== Proof.InFwdFrame.lean ====
/- The frame of the input projection: the rows normed at a block's first point stay in the scratch and in the second result's buffer. -/
module

public import proofs.«01_k».proof.Proof.InFwdRun
public import proofs.«01_k».proof.Proof.Gen.InFwd
public import Idealize.ShloMosaic.Lib.Pipeline.TableIdle

@[expose] public section

set_option maxRecDepth 16384

noncomputable section

namespace Cert.InFwdIdeal.Hand

open Cert.InFwdIdeal Cert.InFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points do what -/

theorem norms : ∀ t : Fin cfg0.N, k0_cond1 (grid0.coords t) = 1#1 ↔ t.val % 5 = 0 :=
  (by decide +kernel : ∀ t : Fin grid0.N, _)
theorem fromFirst : ∀ t : Fin cfg0.N, k0_cond2 (grid0.coords t) = 1#1 ↔ t.val % 5 ≠ 4 :=
  (by decide +kernel : ∀ t : Fin grid0.N, _)
theorem fromTail : ∀ t : Fin cfg0.N, k0_cond3 (grid0.coords t) = 1#1 ↔ t.val % 5 = 4 :=
  (by decide +kernel : ∀ t : Fin grid0.N, _)
theorem stores4 : ∀ t : Fin cfg0.N, cfg0.idle 4 (grid0.coords t) = false :=
  (by decide +kernel : ∀ t : Fin grid0.N, _)
theorem idle5 : ∀ t : Fin cfg0.N, cfg0.idle 5 (grid0.coords t) = !(t.val % 5 == 0) :=
  (by decide +kernel : ∀ t : Fin grid0.N, _)
theorem flush5 : ∀ t : Fin cfg0.N, (cfg0.win 5).flush t = (t.val % 5 == 4) :=
  (by decide +kernel : ∀ t : Fin grid0.N, _)

/-- The second result's buffer holds nothing of the body's just before a block's first point. -/
theorem fresh5 (n : ℕ) (h : n ≤ cfg0.N) : cfg0.fresh 5 n = (n % 5 == 0) :=
  cfg0.fresh_tab 5 (fun n => n % 5 == 0) rfl (by decide +kernel : ∀ t : Fin grid0.N, _) n h

/-! ## What the buffers hold after a point -/

variable (m : (ℓ : Loc nD τ sig) → Buf (Elt F) ℓ) (ρ : Dev nD → PrngReg)

/-- The first point of the block of rows that point `t` works on. -/
def first (t : Fin cfg0.N) : Fin cfg0.N := ⟨t.val - t.val % 5, Nat.lt_of_le_of_lt (Nat.sub_le _ _) t.isLt⟩

theorem first_self (t : Fin cfg0.N) (h : t.val % 5 = 0) : first t = t := Fin.ext (by simp only [first]; omega)

theorem first_pred (t : Fin cfg0.N) (h : t.val % 5 ≠ 0) (hn : t.val - 1 < cfg0.N) : first ⟨t.val - 1, hn⟩ = first t :=
  Fin.ext (by simp only [first]; omega)

/-- The normed rows of point `t`'s block. -/
def kept (c : Dev nD) (t : Fin cfg0.N) : Vec F S1024x1024 .bf16 := normed (iblk m c 0 (first t)) (iblk m c 1 (first t))

/-- The product a point stores. -/
def made (c : Dev nD) (t : Fin cfg0.N) : Vec F S1024x1280 .f32 :=
  if h : k0_cond2 (grid0.coords t) = 1#1 then prod (kept m c t) (part (X0_2 m c t) (grid0.coords t) h) else prod (kept m c t) (iblk m c 3 t)

/-- Before point `n`: the scratch at what the point before left, at anything before the first. -/
def carried (c : Dev nD) : (n : ℕ) → n ≤ cfg0.N → sProp 𝕄
  | 0, _ => Pipeline.ΦA spec0 c
  | n + 1, hn => iprop(owns (c : Thread nD τ) (Memref.whole cc0_scratch0) fullShare (kept m c ⟨n, hn⟩) ∗ ∃ r, prngReg c r)

theorem carried_zero (c : Dev nD) (n : ℕ) (h : n ≤ cfg0.N) (hz : n = 0) : carried m c n h
    = iprop((∃ d, owns (c : Thread nD τ) (Memref.whole cc0_scratch0) fullShare d) ∗ ∃ r, prngReg c r) := by
  subst hz
  unfold carried Pipeline.ΦA
  rw [scopedRest0_eq]
  simp only [owns_whole]
  try rfl

theorem carried_pos (c : Dev nD) (n : ℕ) (h : n ≤ cfg0.N) (hz : n ≠ 0) : carried m c n h
    = iprop(owns (c : Thread nD τ) (Memref.whole cc0_scratch0) fullShare (kept m c ⟨n - 1, by omega⟩) ∗ ∃ r, prngReg c r) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => made m c t
    | ⟨5, _⟩ => kept m c t
  Φ t := carried m c t.val (Nat.le_of_lt_succ t.isLt)
  q _ := fullShare
  owed _ := 0

theorem arrays (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = X0_2 m c t := by dsimp only [dats]
theorem after3 (c : Dev nD) (t : Fin cfg0.N) : (dats m 0 c).after 3 t = iblk m c 3 t := by dsimp only [dats]
theorem after4 (c : Dev nD) (t : Fin cfg0.N) : (dats m 0 c).after 4 t = made m c t := by dsimp only [dats]
theorem after5 (c : Dev nD) (t : Fin cfg0.N) : (dats m 0 c).after 5 t = kept m c t := by dsimp only [dats]

theorem before0 (c : Dev nD) (t : Fin cfg0.N) (d) : (dats m 0 c).before 0 t d = iblk m c 0 t :=
  before0_0_of m (dats m 0 c) (arrays m c 0) (after0 m c) t d
theorem before1 (c : Dev nD) (t : Fin cfg0.N) (d) : (dats m 0 c).before 1 t d = iblk m c 1 t :=
  before0_1_of m (dats m 0 c) (arrays m c 1) (after1 m c) t d
theorem before2 (c : Dev nD) (t : Fin cfg0.N) (d) : (dats m 0 c).before 2 t d = X0_2 m c t :=
  before0_2_of m (dats m 0 c) (arrays m c 2) (after2 m c) t d
theorem before3 (c : Dev nD) (t : Fin cfg0.N) (d) : (dats m 0 c).before 3 t d = iblk m c 3 t :=
  before0_3_of m (dats m 0 c) (arrays m c 3) (after3 m c) t d

theorem kept_pred (c : Dev nD) (t : Fin cfg0.N) (h : t.val % 5 ≠ 0) (hn : t.val - 1 < cfg0.N) : kept m c ⟨t.val - 1, hn⟩ = kept m c t := by
  unfold kept
  rw [first_pred t h hn]

/-- At a later point of a block the second result's buffer still holds the normed rows. -/
theorem before5 (c : Dev nD) (t : Fin cfg0.N) (h : t.val % 5 ≠ 0) (d) : (dats m 0 c).before 5 t d = kept m c t := by
  have hf : ∀ s : Fin cfg0.N, cfg0.fresh 5 s.val = false → s.val % 5 ≠ 0 := fun s hs => by
    rw [fresh5 s.val (Nat.le_of_lt s.isLt)] at hs
    simpa using hs
  have ht : cfg0.fresh 5 t.val = false := by
    rw [fresh5 t.val (Nat.le_of_lt t.isLt)]
    simpa using h
  rw [(dats m 0 c).before_out_traj 5 rfl (fun _ _ => rfl) (fun s _ _ hs => by
    rw [after5, after5, kept_pred m c s (hf s hs)]) t.val t rfl d, ht, if_neg Bool.false_ne_true, after5, kept_pred m c t h]

/-! ## The body at a point -/

abbrev pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

abbrev post (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t)

theorem leaves0 (c : Dev nD) (t : Fin cfg0.N) : (dats m 0 c).leavesExact 0 t = owns (c : Thread nD τ) (st0_0 t) fullShare (iblk m c 0 t) := by
  unfold Dat.leavesExact; rw [show cfg0.idle 0 (cfg0.grid.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (cfg0.grid.coords t) = false from rfl, after1]
theorem leaves2 (c : Dev nD) (t : Fin cfg0.N) : (dats m 0 c).leavesExact 2 t = owns (c : Thread nD τ) (st0_2 t) fullShare (X0_2 m c t) := by
  unfold Dat.leavesExact; rw [show cfg0.idle 2 (cfg0.grid.coords t) = false from rfl, after2]
theorem leaves3 (c : Dev nD) (t : Fin cfg0.N) : (dats m 0 c).leavesExact 3 t = owns (c : Thread nD τ) (st0_3 t) fullShare (iblk m c 3 t) := by
  unfold Dat.leavesExact; rw [show cfg0.idle 3 (cfg0.grid.coords t) = false from rfl, after3]
theorem leaves4 (c : Dev nD) (t : Fin cfg0.N) : (dats m 0 c).leavesExact 4 t = owns (c : Thread nD τ) (st0_4 t) fullShare (made m c t) := by
  unfold Dat.leavesExact; rw [show cfg0.idle 4 (cfg0.grid.coords t) = false from stores4 t, after4]

/-- The second result's buffer holds the normed rows after every point, stored there or not. -/
theorem leaves5 (c : Dev nD) (t : Fin cfg0.N) :
    (owns (c : Thread nD τ) (st0_5 t) fullShare (kept m c t) : sProp 𝕄) ⊢ (dats m 0 c).leavesExact 5 t := by
  by_cases h : t.val % 5 = 0
  · unfold Dat.leavesExact
    rw [show cfg0.idle 5 (cfg0.grid.coords t) = false from by rw [show cfg0.grid.coords t = grid0.coords t from rfl, idle5 t, h]; rfl, after5]
  · have hi : cfg0.idle 5 (cfg0.grid.coords t) = true := by
      rw [show cfg0.grid.coords t = grid0.coords t from rfl, idle5 t]
      simpa using h
    by_cases h4 : t.val % 5 = 4
    · unfold Dat.leavesExact
      rw [hi, show (cfg0.win 5).flush t = true from by rw [flush5 t, h4]; rfl, after5]
    · rw [(dats m 0 c).leavesExact_idle 5 t hi (by rw [flush5 t]; simpa using h4)]
      simp only [before5 m c t h]
      iintro H
      iexists (fun _ => Classical.choice inferInstance)
      iexact H

set_option maxHeartbeats 1600000 in
theorem sound (c : Dev nD) (t : Fin cfg0.N) :
    pre m c t ⊢ wp frame (wpE (defs₀ (F := F)) Variants.none c none) Set.univ (bodyAt0 t) (fun _ => post m c t) := by
  unfold bodyAt0
  unfold pre post
  simp only [before0, before1, before2, before3, leaves0, leaves1, leaves2, leaves3, leaves4]
  rw [show (dats m 0 c).owesAt () t.succ = (dats m 0 c).owesAt () t.castSucc from rfl]
  rw [show (dats m 0 c).Φ t.succ = iprop(owns (c : Thread nD τ) (Memref.whole cc0_scratch0) fullShare (kept m c t) ∗ ∃ r, prngReg c r) from rfl]
  rw [show (dats m 0 c).Φ t.castSucc = carried m c t.val (Nat.le_of_lt t.isLt) from rfl]
  by_cases h0 : t.val % 5 = 0
  · have hany : (carried m c t.val (Nat.le_of_lt t.isLt) : sProp 𝕄)
        ⊢ iprop((∃ d, owns (c : Thread nD τ) (Memref.whole cc0_scratch0) fullShare d) ∗ ∃ r, prngReg c r) := by
      by_cases hz : t.val = 0
      · rw [carried_zero m c _ _ hz]
      · rw [carried_pos m c _ _ hz]
        iintro ⟨H, Hg⟩
        isplitl [H]
        · iexists _; iexact H
        iexact Hg
    have hk : kept m c t = normed (iblk m c 0 t) (iblk m c 1 t) := by
      unfold kept
      rw [first_self t h0]
    have h2 : k0_cond2 (grid0.coords t) = 1#1 := (fromFirst t).mpr (by omega)
    have hm : made m c t = prod (normed (iblk m c 0 t) (iblk m c 1 t)) (part (X0_2 m c t) (grid0.coords t) h2) := by
      unfold made
      rw [dif_pos h2, hk]
    rw [hm]
    iintro ⟨HΦ, Ho, ⟨%d0, H0⟩, ⟨%d1, H1⟩, ⟨%d2, H2⟩, ⟨%d3, H3⟩, ⟨%d4, H4⟩, ⟨%d5, H5⟩⟩
    ihave HΦ := hany $$ HΦ
    icases HΦ with ⟨HS, Hg⟩
    iapply (runA c (grid0.coords t) _ _ _ _ _ _ _ _ _ _ _ _ _ _ (iblk m c 0 t) (iblk m c 1 t) (X0_2 m c t) (iblk m c 3 t)
      ((norms t).mpr h0) h2 (fun h => by have := (fromTail t).mp h; omega) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    rw [← hk]
    iintro ⟨H0, H1, H2, H3, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iapply (leaves5 m c t)
    iexact H5
  · have hz : t.val ≠ 0 := fun h => h0 (by rw [h])
    rw [carried_pos m c _ _ hz, kept_pred m c t h0]
    simp only [before5 m c t h0]
    by_cases h4 : t.val % 5 = 4
    · have h2 : ¬k0_cond2 (grid0.coords t) = 1#1 := fun h => (fromFirst t).mp h h4
      have hm : made m c t = prod (kept m c t) (iblk m c 3 t) := by
        unfold made
        rw [dif_neg h2]
      rw [hm]
      iintro ⟨⟨HS, Hg⟩, Ho, ⟨%d0, H0⟩, ⟨%d1, H1⟩, ⟨%d2, H2⟩, ⟨%d3, H3⟩, ⟨%d4, H4⟩, ⟨%d5, H5⟩⟩
      iapply (runC c (grid0.coords t) _ _ _ _ _ _ _ _ _ _ _ _ _ _ (iblk m c 3 t) (kept m c t)
        (fun h => h0 ((norms t).mp h)) h2 ((fromTail t).mpr h4) Set.univ _)
      isplitl [H3]; · iexact H3
      isplitl [H4]; · iexists _; iexact H4
      isplitl [HS]; · iexact HS
      iintro ⟨H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iapply (leaves5 m c t)
      iexact H5
    · have h2 : k0_cond2 (grid0.coords t) = 1#1 := (fromFirst t).mpr h4
      have hm : made m c t = prod (kept m c t) (part (X0_2 m c t) (grid0.coords t) h2) := by
        unfold made
        rw [dif_pos h2]
      rw [hm]
      iintro ⟨⟨HS, Hg⟩, Ho, ⟨%d0, H0⟩, ⟨%d1, H1⟩, ⟨%d2, H2⟩, ⟨%d3, H3⟩, ⟨%d4, H4⟩, ⟨%d5, H5⟩⟩
      iapply (runB c (grid0.coords t) _ _ _ _ _ _ _ _ _ _ _ _ _ _ (X0_2 m c t) (kept m c t)
        (fun h => h0 ((norms t).mp h)) h2 (fun h => h4 ((fromTail t).mp h)) Set.univ _)
      isplitl [H2]; · iexact H2
      isplitl [H4]; · iexists _; iexact H4
      isplitl [HS]; · iexact HS
      iintro ⟨H2, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iapply (leaves5 m c t)
      iexact H5

theorem tableRow (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, tableRow]
  exact triple_restated (sound m c t) rfl .rfl fun _ => .rfl

theorem enter (c : Dev nD) : Pipeline.ΦA spec0 c ⊢ (dats m 0 c).Φ 0 := Idealize.SL.BI.Entails.refl _

theorem leave (c : Dev nD) : (dats m 0 c).Φ (Fin.last cfg0.N) ⊢ Pipeline.ΦA spec0 c := by
  rw [show (dats m 0 c).Φ (Fin.last cfg0.N) = carried m c cfg0.N le_rfl from rfl, carried_pos m c _ _ (by have : cfg0.N = 20 := N_0; omega),
    show (Pipeline.ΦA spec0 c : sProp 𝕄) = carried m c 0 (Nat.zero_le _) from rfl, carried_zero m c 0 _ rfl]
  iintro ⟨HS, Hg⟩
  isplitl [HS]
  · iexists _; iexact HS
  iexact Hg

/-! ## The run -/

set_option backward.isDefEq.respectTransparency.types false in
theorem runs : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays m) (hin := enter m) (hout := leave m)

theorem ends : θ_run defs (onTc (τ := τ) (main (F := F))) (s₀ m ρ) (Pipeline.FramePost cfgs (dats m) 0 (V m)) :=
  (θ_run defs _ _).mono (fun _ h => h.1) (runs m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (arrays m) (ends m ρ)) ((θ_run defs _ _).mono (fun _ h => h.2) (runs m ρ))

end Cert.InFwdIdeal.Hand

end
-- ==== Proof.InFwdKernel.lean ====
/- What the kernel of the input projection leaves in its two results. -/
module

public import proofs.«01_k».proof.Proof.InFwdSpec
public import proofs.«01_k».proof.Proof.InFwdFrame
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InFwdIdeal.Hand

open Cert.InFwdIdeal Cert.InFwdIdeal.Gen Cert.NormGrad Cert.OutSpec Cert.InFwdSpec

/-! ## The arithmetic of one block -/

theorem normed_at (x : FVec Ideal S1024x1024 .f32) (g : FVec Ideal S1x1024 .f32) (p d : Fin 1024) :
    normed (F := Ideal) x g (ix2 p d) = x (ix2 p d) * scale (fun k => x (ix2 p k)) * g (ix2 0 d) := by
  pointwise [normed, scale, meanSq]

theorem prod_at (h : FVec Ideal S1024x1024 .bf16) (w : FVec Ideal S1x1280x1024 .bf16) (p : Fin 1024) (j : Fin 1280) :
    prod (F := Ideal) h w (ix2 p j) = ∑ d : Fin 1024, h (ix2 p d) * w (ix3 0 j d) := by
  pointwise [prod]

/-! ## The blocks, as parts of the arguments -/

variable (m : (ℓ : Loc nD τ sig) → Buf (Elt Ideal) ℓ)

/-- The arguments. -/
abbrev xs (c : Dev nD) : A3 := m ((c.tc : Thread nD τ).loc main_arg0)
abbrev wi (c : Dev nD) : AI := m ((c.tc : Thread nD τ).loc main_arg1)
abbrev gp (c : Dev nD) : A1 := m ((c.tc : Thread nD τ).loc main_arg2)

theorem idx : ∀ t : Fin cfg0.N, win0_0.index t = ![t.val / 5, 0] ∧ win0_1.index t = ![0, 0] ∧ win0_2.index t = ![0, 0, 0]
    ∧ win0_3.index t = ![0, 0, 0] ∧ win0_4.index t = ![t.val / 5, t.val % 5] ∧ win0_5.index t = ![t.val / 5, 0] :=
  (by decide +kernel : ∀ t : Fin grid0.N, _)

/-- Where a point's part of the first 5120 columns begins. -/
theorem begins : ∀ t : Fin cfg0.N, k0_off1 (grid0.coords t) = ![0, t.val % 5 * 1280, 0] :=
  (by decide +kernel : ∀ t : Fin grid0.N, _)

/-- Row `p` of the block of point `t`, as a row of the array. -/
def rowOf (t : Fin cfg0.N) (p : Fin 1024) : Fin 4096 :=
  ⟨t.val / 5 * 1024 + p, by have := lt_of_lt_of_eq t.isLt N_0; omega⟩

/-- Column `j` of the block of point `t`, as a column of the result. -/
def colOf (t : Fin cfg0.N) (j : Fin 1280) : Fin 6400 := ⟨t.val % 5 * 1280 + j, by omega⟩

theorem x_blk (c : Dev nD) (t : Fin cfg0.N) (p d : Fin 1024) :
    (show FVec Ideal S1024x1024 .f32 from iblk m c 0 (first t)) (ix2 p d) = xs m c (ix3 (bat (rowOf t p)) (pos (rowOf t p)) d) := by
  have hf : (first t).val / 5 = t.val / 5 := by simp only [first]; omega
  blk_simp [iblk, idx (first t)]
  entry_read
  pointwise
  blk_point [idx (first t), bat, pos, rowOf, hf]

theorem g_blk (c : Dev nD) (t : Fin cfg0.N) (d : Fin 1024) :
    (show FVec Ideal S1x1024 .f32 from iblk m c 1 t) (ix2 0 d) = gp m c (ix1 d) := by
  blk_simp [iblk, idx t]
  entry_read
  pointwise
  blk_point [idx t]

theorem w_blk (c : Dev nD) (t : Fin cfg0.N) (e : Fin 5120) (d : Fin 1024) :
    (show FVec Ideal S1x5120x1024 .bf16 from X0_2 m c t) (ix3 0 e d) = wi m c (ix2 d ⟨e, by omega⟩) := by
  show X0_2 m c t (ix3 0 e d) = _
  unfold X0_2 Pipeline.Window.fill
  rw [dif_pos (moved0_2 t _)]
  blk_simp [iblk, idx t]
  entry_read
  pointwise
  blk_point [idx t]

theorem tail_blk (c : Dev nD) (t : Fin cfg0.N) (j : Fin 1280) (d : Fin 1024) :
    (show FVec Ideal S1x1280x1024 .bf16 from iblk m c 3 t) (ix3 0 j d) = wi m c (ix2 d (column ⟨5120 + j, by omega⟩)) := by
  blk_simp [iblk, idx t]
  entry_read
  rw [show ((View.whole main_v5).slice (win0_3.rect t)).emb (ix3 0 j d) = ix3 0 j d from by blk_ext [idx t]]
  pointwise
  split_ifs
  all_goals
    refine congrArg (fun k => wi m c (ix2 d k)) (Fin.ext ?_)
    rw [column_val]
    dsimp only
    split_ifs <;> omega

theorem kept_at (c : Dev nD) (t : Fin cfg0.N) (p d : Fin 1024) :
    kept m c t (ix2 p d) = row (xs m c) (gp m c) (bat (rowOf t p)) (pos (rowOf t p)) d := by
  refine (normed_at _ _ p d).trans ?_
  unfold row
  exact congrArg₂ (· * ·) (congrArg₂ (· * ·) (x_blk m c t p d) (congrArg scale (funext fun k => x_blk m c t p k))) (g_blk m c _ d)

theorem part_at (c : Dev nD) (t : Fin cfg0.N) (h : k0_cond2 (grid0.coords t) = 1#1) (j : Fin 1280) (d : Fin 1024) :
    part (X0_2 m c t) (grid0.coords t) h (ix3 0 j d) = wi m c (ix2 d (column (colOf t j))) := by
  have hlt : t.val % 5 * 1280 + j.val < 5120 := by have := (fromFirst t).mp h; omega
  refine Eq.trans ?_ ((w_blk m c t ⟨t.val % 5 * 1280 + j, hlt⟩ d).trans ?_)
  · unfold part
    rw [View.ld_unit]
    refine congrArg (X0_2 m c t) (funext fun a => Fin.ext ?_)
    show k0_off1 (grid0.coords t) a + (ix3 0 j d a).val = _
    rw [begins t]
    fin_cases a <;> simp
  · unfold column colOf
    rw [if_pos hlt]

theorem made_at (c : Dev nD) (t : Fin cfg0.N) (p : Fin 1024) (j : Fin 1280) :
    made m c t (ix2 p j) = projection (xs m c) (wi m c) (gp m c) (ix2 (rowOf t p) (colOf t j)) := by
  unfold made
  by_cases h : k0_cond2 (grid0.coords t) = 1#1
  · rw [dif_pos h]
    exact (prod_at _ _ p j).trans (Finset.sum_congr rfl fun d _ => congrArg₂ (· * ·) (kept_at m c t p d) (part_at m c t h j d))
  · rw [dif_neg h]
    have h4 : t.val % 5 = 4 := by
      by_contra hn
      exact h ((fromFirst t).mpr hn)
    have hc : colOf t j = ⟨5120 + j, by omega⟩ := Fin.ext (by simp only [colOf]; omega)
    rw [hc]
    exact (prod_at _ _ p j).trans (Finset.sum_congr rfl fun d _ => congrArg₂ (· * ·) (kept_at m c t p d) (tail_blk m c t j d))

/-! ## The two results -/

theorem final4 (c : Dev nD) : (dats m 0 c).arrAt 4 (cfgs 0).N = projection (xs m c) (wi m c) (gp m c) := by
  refine (dats m 0 c).arrAt_eq_of_covers 4 _ (by decide +kernel) fun t _ y => ?_
  obtain ⟨p, e, rfl⟩ : ∃ (p : Fin 1024) (e : Fin 1280), y = ix2 p e := ⟨y 0, y 1, eq_ix2 y⟩
  blk_simp
  rw [after4]
  refine (made_at m c t p e).trans (congrArg _ ?_)
  blk_ext [idx t, rowOf, colOf]

theorem final5 (c : Dev nD) : (dats m 0 c).arrAt 5 (cfgs 0).N = rows (xs m c) (gp m c) := by
  refine (dats m 0 c).arrAt_eq_of_covers 5 _ (by decide +kernel) fun t _ y => ?_
  obtain ⟨p, e, rfl⟩ : ∃ (p : Fin 1024) (e : Fin 1024), y = ix2 p e := ⟨y 0, y 1, eq_ix2 y⟩
  blk_simp
  rw [after5]
  refine (kept_at m c t p e).trans (congrArg (rows (xs m c) (gp m c)) (a₁ := ix2 (rowOf t p) e) ?_)
  blk_ext [idx t, rowOf]

theorem results (ρ : Dev nD → PrngReg) : θ_run defs (onTc (τ := τ) (main (F := Ideal))) ⟨m, fun _ => 0, ρ⟩ fun r => ∀ c : Dev nD,
      r.2.mem ((c.tc : Thread nD τ).loc main_v8_0) = projection (xs m c) (wi m c) (gp m c)
      ∧ r.2.mem ((c.tc : Thread nD τ).loc main_v8_1) = rows (xs m c) (gp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 4).trans (final4 m c), ((h.1 c).1 5).trans (final5 m c), h.2.1 c⟩)
    (θ_run_and (ends m ρ) (frame m ρ))

end Cert.InFwdIdeal.Hand

end

end
-- ==== Proof.InFwdReference.lean ====
/- What the reference of the input projection computes: the same normed rows and projection. -/
module

public import proofs.«01_k».proof.Proof.InFwdSpec
public import proofs.«01_k».proof.Proof.Gen.InFwdRefIdeal.Run
public import Idealize.ShloMosaic.Lib.Claim

@[expose] public section

set_option maxRecDepth 16384

noncomputable section

open Idealize.ShloMosaic Idealize.ShloMosaic.TcCoe Idealize.SL.Sem

namespace Cert.InFwdRefIdeal.Hand

open Cert.InFwdRefIdeal Cert.InFwdRefIdeal.Gen Cert.NormGrad Cert.OutSpec Cert.InFwdSpec

variable (x : FVec Ideal S2x2048x1024 .f32) (w : FVec Ideal S1024x6400 .f32) (g : FVec Ideal S1024 .f32)

/-- The mean square of the rows, with the small number. -/
def tZ : FVec Ideal S2x2048x1 .f32 :=
  addf (Host.divf (broadcastInDim S2x2048x1 ![0, 1] bcast_S2x2048_S2x2048x1_0_1
      (Host.reduceAdd (mulf x x) (constant S_ .f32 0x00000000#32) reducesTo_S2x2048x1024_S2x2048_d2 h_S_))
    (broadcastInDim S2x2048x1 ![] bcast_S_S2x2048x1 (constant S_ .f32 0x44800000#32)))
    (broadcastInDim S2x2048x1 ![] bcast_S_S2x2048x1 (constant S_ .f32 0x358637BD#32))

/-- The normed rows. -/
def tH : FVec Ideal S2x2048x1024 .f32 :=
  mulf (mulf x (broadcastInDim S2x2048x1024 ![0, 1, 2] bcast_S2x2048x1_S2x2048x1024_0_1_2 (Host.rsqrt (tZ x))))
    (broadcastInDim S2x2048x1024 ![0, 1, 2] bcast_S1x1x1024_S2x2048x1024_0_1_2 (broadcastInDim S1x1x1024 ![2] bcast_S1024_S1x1x1024_2 g))

/-- The projection. -/
def tP : FVec Ideal S2x2048x6400 .f32 :=
  Host.dotGeneral dot_S2x2048x1024_S1024x6400_S2x2048x6400_2_0_01_1_n_n none (tH x g) w

/-- Its columns in the kernel's order. -/
def tO (p : FVec Ideal S2x2048x6400 .f32) : FVec Ideal S2x2048x6400 .f32 :=
  concatenate S2x2048x6400 2
    [⟨S2x2048x5120, extractStridedSlice S2x2048x5120 ![0, 0, 0] p slices_S2x2048x6400_S2x2048x5120_0_0_0⟩,
     ⟨S2x2048x1024, extractStridedSlice S2x2048x1024 ![0, 0, 5376] p slices_S2x2048x6400_S2x2048x1024_0_0_5376⟩,
     ⟨S2x2048x256, extractStridedSlice S2x2048x256 ![0, 0, 5120] p slices_S2x2048x6400_S2x2048x256_0_0_5120⟩]
    concatenates_S2x2048x5120_S2x2048x1024_S2x2048x256_S2x2048x6400_d2

theorem tZ_at (b : Fin 2) (s : Fin 2048) (o : Fin 1) : tZ x (ix3 b s o) = meanSq fun k => x (ix3 b s k) := by
  pointwise [tZ, meanSq]

theorem tH_at (b : Fin 2) (s : Fin 2048) (d : Fin 1024) : tH x g (ix3 b s d) = row x g b s d := by
  pointwise [tH, tZ_at, scale, row]

theorem tP_at (b : Fin 2) (s : Fin 2048) (j : Fin 6400) :
    tP x w g (ix3 b s j) = ∑ d : Fin 1024, row x g b s d * w (ix2 d j) := by
  pointwise [tP, tH_at]

theorem tO_at (p : FVec Ideal S2x2048x6400 .f32) (b : Fin 2) (s : Fin 2048) (j : Fin 6400) :
    tO p (ix3 b s j) = p (ix3 b s (column j)) := by
  pointwise [tO]
  split_ifs
  all_goals
    refine congrArg (fun k => p (ix3 b s k)) (Fin.ext ?_)
    rw [column_val]
    try dsimp only
    split_ifs <;> omega

theorem result0 : shapeCast S4096x6400 (tO (tP x w g)) shapeCasts_S2x2048x6400_S4096x6400 = projection x w g := by
  funext i
  idx_vars i
  pointwise [tO_at, tP_at, projection]
  rfl

theorem result1 : truncf .bf16 (shapeCast S4096x1024 (tH x g) shapeCasts_S2x2048x1024_S4096x1024) bitsLt_bf16_f32 = rows x g := by
  funext i
  idx_vars i
  pointwise [tH_at, rows]
  rfl

end Cert.InFwdRefIdeal.Hand

end

end
-- ==== Proof.InFwdClaim.lean ====
/- The input projection, with the norm before it, and its reference compute the same function. -/
module

public import proofs.«01_k».proof.Defs
public import proofs.«01_k».proof.Proof.InFwdKernel
public import proofs.«01_k».proof.Proof.InFwdReference

@[expose] public section

set_option maxRecDepth 16384

noncomputable section

open Idealize.ShloMosaic Idealize.ShloMosaic.TcCoe Idealize.SL.Sem

namespace Cert.Proof

open Cert.InFwdSpec

/-- The kernel's program and its ideal one are the same text, so the one's frame is the other's. -/
theorem in_fwd_frame : Cert.quiescent_InFwd (hInFwd := Cert.InFwd.Gen.facts) := by
  intro m g _
  have hd : Cert.InFwd.defs (F := Bits) = Cert.InFwdIdeal.defs (F := Bits) := by sl_kernel_rfl
  have hm : Cert.InFwd.main (F := Bits) = Cert.InFwdIdeal.main (F := Bits) := by sl_kernel_rfl
  rw [hd, hm]
  exact Cert.InFwdIdeal.Hand.frame (F := Bits) m g

theorem in_fwd_algebraic : Cert.algebraic_InFwdIdeal_InFwdRefIdeal (hInFwdIdeal := Cert.InFwdIdeal.Gen.facts)
    (hInFwdRefIdeal := Cert.InFwdRefIdeal.Gen.facts) := by
  intro m g m' g' _ hagree
  refine ⟨fun c => projection (Cert.InFwdIdeal.Hand.xs m c) (Cert.InFwdIdeal.Hand.wi m c) (Cert.InFwdIdeal.Hand.gp m c),
    fun c => rows (Cert.InFwdIdeal.Hand.xs m c) (Cert.InFwdIdeal.Hand.gp m c), Cert.InFwdIdeal.Hand.results m g, ?_⟩
  refine (θ_run Cert.InFwdRefIdeal.defs _ _).mono (fun r h c => ?_) (Cert.InFwdRefIdeal.Value.run m' g')
  obtain ⟨e0, e1, e2⟩ := hagree c
  refine ⟨(h c).1.trans ((Cert.InFwdRefIdeal.Hand.result0 _ _ _).trans ?_), (h c).2.1.trans ((Cert.InFwdRefIdeal.Hand.result1 _ _).trans ?_), (h c).2.2⟩
  all_goals simp only [e0, e1, e2]

end Cert.Proof

end

end
-- ==== Proof.lean ====
/- The assembled proof: every claim from the run of its program and the equations of the modules beside this file. -/
module

public import proofs.«01_k».proof.Defs
public import proofs.«01_k».proof.Proof.Gen.OutBwdIdeal.Value
public import proofs.«01_k».proof.Proof.Gen.OutBwdRefIdeal.Run
public import proofs.«01_k».proof.Proof.Gen.OutBwd
public import proofs.«01_k».proof.Proof.Gen.OutBwd.Skeleton
public import proofs.«01_k».proof.Proof.Gen.OutBwd.Launch
public import proofs.«01_k».proof.Proof.Gen.OutBwd.Points
public import proofs.«01_k».proof.Proof.Gen.OutBwd.Frame
public import proofs.«01_k».proof.Proof.Gen.OutBwdIdeal
public import proofs.«01_k».proof.Proof.Gen.OutBwdIdeal.Skeleton
public import proofs.«01_k».proof.Proof.Gen.OutBwdIdeal.Launch
public import proofs.«01_k».proof.Proof.Gen.OutBwdIdeal.Points
public import proofs.«01_k».proof.Proof.Gen.OutBwdIdeal.Frame
public import proofs.«01_k».proof.Proof.Gen.OutBwdRefIdeal
public import proofs.«01_k».proof.Proof.Gen.Pre_out_finite
public import proofs.«01_k».proof.Proof.Gen.InBwdIdeal.Value
public import proofs.«01_k».proof.Proof.Gen.InBwd
public import proofs.«01_k».proof.Proof.Gen.InBwd.Frame
public import proofs.«01_k».proof.Proof.Gen.InBwdIdeal.Frame
public import proofs.«01_k».proof.Proof.Gen.Pre_in_finite
public import proofs.«01_k».proof.Proof.Gen.InBwdRefIdeal.Run
public import proofs.«01_k».proof.Proof.Gen.SwaBwdIdeal.Value
public import proofs.«01_k».proof.Proof.Gen.SwaBwd
public import proofs.«01_k».proof.Proof.Gen.SwaBwd.Frame
public import proofs.«01_k».proof.Proof.Gen.SwaBwdIdeal.Frame
public import proofs.«01_k».proof.Proof.Gen.Pre_swa_finite
public import proofs.«01_k».proof.Proof.Gen.SwaBwdRefIdeal.Run
public import proofs.«01_k».proof.Proof.Gen.LossBwdIdeal.Value
public import proofs.«01_k».proof.Proof.Gen.LossBwd
public import proofs.«01_k».proof.Proof.Gen.LossBwd.Frame
public import proofs.«01_k».proof.Proof.Gen.LossBwdIdeal.Frame
public import proofs.«01_k».proof.Proof.Gen.LossBwdRefIdeal.Run
public import proofs.«01_k».proof.Proof.Gen.SmallUpdateIdeal.Value
public import proofs.«01_k».proof.Proof.Gen.SmallUpdate
public import proofs.«01_k».proof.Proof.Gen.SmallUpdate.Frame
public import proofs.«01_k».proof.Proof.Gen.SmallUpdateIdeal.Frame
public import proofs.«01_k».proof.Proof.Gen.SmallUpdateRefIdeal.Run
public import proofs.«01_k».proof.Proof.Gen.Pre_small_finite
public import proofs.«01_k».proof.Proof.Gen.HgrnBwd
public import proofs.«01_k».proof.Proof.Gen.HgrnBwd.Frame
public import proofs.«01_k».proof.Proof.Gen.HgrnBwdIdeal.Frame
public import proofs.«01_k».proof.Proof.Gen.SwaFwdIdeal.Value
public import proofs.«01_k».proof.Proof.Gen.SwaFwd
public import proofs.«01_k».proof.Proof.Gen.SwaFwd.Frame
public import proofs.«01_k».proof.Proof.Gen.SwaFwdIdeal.Frame
public import proofs.«01_k».proof.Proof.Gen.Pre_swa_fwd_finite
public import proofs.«01_k».proof.Proof.Gen.SwaFwdRefIdeal.Run
public import proofs.«01_k».proof.Proof.Gen.OutFwdIdeal.Value
public import proofs.«01_k».proof.Proof.Gen.OutFwd
public import proofs.«01_k».proof.Proof.Gen.OutFwd.Frame
public import proofs.«01_k».proof.Proof.Gen.OutFwdIdeal.Frame
public import proofs.«01_k».proof.Proof.Gen.OutFwdRefIdeal.Run
public import proofs.«01_k».proof.Proof.Gen.HgrnFwd
public import proofs.«01_k».proof.Proof.Gen.HgrnFwd.Frame
public import proofs.«01_k».proof.Proof.Gen.HgrnFwdIdeal.Frame
public import proofs.«01_k».proof.Proof.Gen.InFwd
public import proofs.«01_k».proof.Proof.Gen.InFwdIdeal.Frame
public import proofs.«01_k».proof.Proof.Gen.InFwdRefIdeal.Run
public import proofs.«01_k».proof.Proof.OutClaim
public import proofs.«01_k».proof.Proof.InClaim
public import proofs.«01_k».proof.Proof.SwaClaim
public import proofs.«01_k».proof.Proof.LossClaim
public import proofs.«01_k».proof.Proof.SmallClaim
public import proofs.«01_k».proof.Proof.SwaFwdClaim
public import proofs.«01_k».proof.Proof.OutFwdClaim
public import proofs.«01_k».proof.Proof.InFwdClaim
public import Idealize.ShloMosaic.Lib.Claim
public import Idealize.ShloMosaic.Adequacy
public import Idealize.ShloMosaic.Init

@[expose] public section

noncomputable section

namespace Cert.Proof

open Idealize.ShloMosaic Idealize.SL.Sem

theorem out_reference_frame : Cert.quiescent_OutBwdRefIdeal (hOutBwdRefIdeal := Cert.OutBwdRefIdeal.Gen.facts) := by
  intro m g _
  exact (θ_run Cert.OutBwdRefIdeal.defs _ _).mono (fun r h => ⟨fun c => (h c).2.2.2.2, sem_eq_zero_of_no_sems (by decide) r.2⟩)
    (Cert.OutBwdRefIdeal.Value.run m g)

theorem in_reference_frame : Cert.quiescent_InBwdRefIdeal (hInBwdRefIdeal := Cert.InBwdRefIdeal.Gen.facts) := by
  intro m g _
  exact (θ_run Cert.InBwdRefIdeal.defs _ _).mono (fun r h => ⟨fun c => (h c).2.2, sem_eq_zero_of_no_sems (by decide) r.2⟩)
    (Cert.InBwdRefIdeal.Value.run m g)

theorem swa_reference_frame : Cert.quiescent_SwaBwdRefIdeal (hSwaBwdRefIdeal := Cert.SwaBwdRefIdeal.Gen.facts) := by
  intro m g _
  exact (θ_run Cert.SwaBwdRefIdeal.defs _ _).mono (fun r h => ⟨fun c => (h c).2.2.2.2, sem_eq_zero_of_no_sems (by decide) r.2⟩)
    (Cert.SwaBwdRefIdeal.Value.run m g)

theorem loss_reference_frame : Cert.quiescent_LossBwdRefIdeal (hLossBwdRefIdeal := Cert.LossBwdRefIdeal.Gen.facts) := by
  intro m g _
  exact (θ_run Cert.LossBwdRefIdeal.defs _ _).mono (fun r h => ⟨fun c => (h c).2.2.2, sem_eq_zero_of_no_sems (by decide) r.2⟩)
    (Cert.LossBwdRefIdeal.Value.run m g)

theorem small_reference_frame : Cert.quiescent_SmallUpdateRefIdeal (hSmallUpdateRefIdeal := Cert.SmallUpdateRefIdeal.Gen.facts) := by
  intro m g _
  exact (θ_run Cert.SmallUpdateRefIdeal.defs _ _).mono (fun r h => ⟨fun c => (h c).2.2.2.2, sem_eq_zero_of_no_sems (by decide) r.2⟩)
    (Cert.SmallUpdateRefIdeal.Value.run m g)

theorem swa_fwd_reference_frame : Cert.quiescent_SwaFwdRefIdeal (hSwaFwdRefIdeal := Cert.SwaFwdRefIdeal.Gen.facts) := by
  intro m g _
  exact (θ_run Cert.SwaFwdRefIdeal.defs _ _).mono (fun r h => ⟨fun c => (h c).2, sem_eq_zero_of_no_sems (by decide) r.2⟩)
    (Cert.SwaFwdRefIdeal.Value.run m g)

theorem out_fwd_reference_frame : Cert.quiescent_OutFwdRefIdeal (hOutFwdRefIdeal := Cert.OutFwdRefIdeal.Gen.facts) := by
  intro m g _
  exact (θ_run Cert.OutFwdRefIdeal.defs _ _).mono (fun r h => ⟨fun c => (h c).2.2, sem_eq_zero_of_no_sems (by decide) r.2⟩)
    (Cert.OutFwdRefIdeal.Value.run m g)

theorem in_fwd_reference_frame : Cert.quiescent_InFwdRefIdeal (hInFwdRefIdeal := Cert.InFwdRefIdeal.Gen.facts) := by
  intro m g _
  exact (θ_run Cert.InFwdRefIdeal.defs _ _).mono (fun r h => ⟨fun c => (h c).2.2, sem_eq_zero_of_no_sems (by decide) r.2⟩)
    (Cert.InFwdRefIdeal.Value.run m g)

/-- The mask's literal, read as −∞. -/
theorem swa_preserves : Cert.preserves_SwaBwd_SwaBwdIdeal := IdealRules.named_const.statement Cert.SwaBwdIdeal.κ "mask" .f32 0xF149F2CA#32 ⊥ rfl
theorem swa_fwd_preserves : Cert.preserves_SwaFwd_SwaFwdIdeal := IdealRules.named_const.statement Cert.SwaFwdIdeal.κ "mask" .f32 0xF149F2CA#32 ⊥ rfl

theorem claim : Cert.Claim := ⟨Cert.OutBwd.Gen.facts, Cert.OutBwdIdeal.Gen.facts, Cert.OutBwdRefIdeal.Gen.facts,
  Cert.InBwd.Gen.facts, Cert.InBwdIdeal.Gen.facts, Cert.InBwdRefIdeal.Gen.facts,
  Cert.SwaBwd.Gen.facts, Cert.SwaBwdIdeal.Gen.facts, Cert.SwaBwdRefIdeal.Gen.facts,
  Cert.LossBwd.Gen.facts, Cert.LossBwdIdeal.Gen.facts, Cert.LossBwdRefIdeal.Gen.facts,
  Cert.SmallUpdate.Gen.facts, Cert.SmallUpdateIdeal.Gen.facts, Cert.SmallUpdateRefIdeal.Gen.facts,
  Cert.HgrnBwd.Gen.facts, Cert.HgrnBwdIdeal.Gen.facts,
  Cert.SwaFwd.Gen.facts, Cert.SwaFwdIdeal.Gen.facts, Cert.SwaFwdRefIdeal.Gen.facts,
  Cert.OutFwd.Gen.facts, Cert.OutFwdIdeal.Gen.facts, Cert.OutFwdRefIdeal.Gen.facts,
  Cert.HgrnFwd.Gen.facts, Cert.HgrnFwdIdeal.Gen.facts,
  Cert.InFwd.Gen.facts, Cert.InFwdIdeal.Gen.facts, Cert.InFwdRefIdeal.Gen.facts,
  Cert.Pre_out_finite.Gen.facts, Cert.Pre_in_finite.Gen.facts, Cert.Pre_swa_finite.Gen.facts, Cert.Pre_small_finite.Gen.facts,
  Cert.Pre_swa_fwd_finite.Gen.facts,
  fun m ρ _ => Cert.OutBwd.Gen.frame m ρ, fun m ρ _ => Cert.OutBwdIdeal.Gen.frame m ρ, fun m ρ _ => Cert.OutBwdIdeal.Gen.frame m ρ,
  out_reference_frame, fun m ρ _ => out_reference_frame m ρ trivial,
  fun m ρ _ => Cert.InBwd.Gen.frame m ρ, fun m ρ _ => Cert.InBwdIdeal.Gen.frame m ρ, fun m ρ _ => Cert.InBwdIdeal.Gen.frame m ρ,
  in_reference_frame, fun m ρ _ => in_reference_frame m ρ trivial,
  fun m ρ _ => Cert.SwaBwd.Gen.frame m ρ, fun m ρ _ => Cert.SwaBwdIdeal.Gen.frame m ρ, fun m ρ _ => Cert.SwaBwdIdeal.Gen.frame m ρ,
  swa_reference_frame, fun m ρ _ => swa_reference_frame m ρ trivial,
  fun m ρ _ => Cert.LossBwd.Gen.frame m ρ, fun m ρ _ => Cert.LossBwdIdeal.Gen.frame m ρ, loss_reference_frame,
  fun m ρ _ => Cert.SmallUpdate.Gen.frame m ρ, fun m ρ _ => Cert.SmallUpdateIdeal.Gen.frame m ρ, fun m ρ _ => Cert.SmallUpdateIdeal.Gen.frame m ρ,
  small_reference_frame, fun m ρ _ => small_reference_frame m ρ trivial,
  fun m ρ _ => Cert.HgrnBwd.Gen.frame m ρ, fun m ρ _ => Cert.HgrnBwdIdeal.Gen.frame m ρ,
  fun m ρ _ => Cert.SwaFwd.Gen.frame m ρ, fun m ρ _ => Cert.SwaFwdIdeal.Gen.frame m ρ, fun m ρ _ => Cert.SwaFwdIdeal.Gen.frame m ρ,
  swa_fwd_reference_frame, fun m ρ _ => swa_fwd_reference_frame m ρ trivial,
  fun m ρ _ => Cert.OutFwd.Gen.frame m ρ, fun m ρ _ => Cert.OutFwdIdeal.Gen.frame m ρ, out_fwd_reference_frame,
  fun m ρ _ => Cert.HgrnFwd.Gen.frame m ρ, fun m ρ _ => Cert.HgrnFwdIdeal.Gen.frame m ρ,
  in_fwd_frame, fun m ρ _ => Cert.InFwdIdeal.Hand.frame m ρ, in_fwd_reference_frame,
  trivial, out_algebraic, trivial, in_algebraic, swa_preserves, swa_algebraic,
  trivial, loss_algebraic, trivial, small_algebraic, trivial, swa_fwd_preserves, swa_fwd_algebraic,
  trivial, out_fwd_algebraic, trivial, trivial, in_fwd_algebraic⟩

end Cert.Proof

end
